-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_conv_finite [hPre_conv_finite : Cert.Pre_conv_finite.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2))).1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2))).2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2))).2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))).1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))).2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))).2.2 = (fun _ => 1#1)

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_XgradKernel (m : (ℓ : Loc Cert.XgradKernel.nD Cert.XgradKernel.τ Cert.XgradKernel.sig) → Buf (Elt Bits) ℓ) : Prop :=
  True

def Pre_XgradKernelIdeal (m : (ℓ : Loc Cert.XgradKernelIdeal.nD Cert.XgradKernelIdeal.τ Cert.XgradKernelIdeal.sig) → Buf (Elt Ideal) ℓ) : Prop :=
  True

def Pre_XgradRefIdeal (m : (ℓ : Loc Cert.XgradRefIdeal.nD Cert.XgradRefIdeal.τ Cert.XgradRefIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_GoutKernel (m : (ℓ : Loc Cert.GoutKernel.nD Cert.GoutKernel.τ Cert.GoutKernel.sig) → Buf (Elt Bits) ℓ) : Prop :=
  True

def Pre_GoutKernelIdeal (m : (ℓ : Loc Cert.GoutKernelIdeal.nD Cert.GoutKernelIdeal.τ Cert.GoutKernelIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_GprojKernel (m : (ℓ : Loc Cert.GprojKernel.nD Cert.GprojKernel.τ Cert.GprojKernel.sig) → Buf (Elt Bits) ℓ) : Prop :=
  True

def Pre_GprojKernelIdeal (m : (ℓ : Loc Cert.GprojKernelIdeal.nD Cert.GprojKernelIdeal.τ Cert.GprojKernelIdeal.sig) → Buf (Elt Ideal) ℓ) : Prop :=
  True

def Pre_GprojRefIdeal (m : (ℓ : Loc Cert.GprojRefIdeal.nD Cert.GprojRefIdeal.τ Cert.GprojRefIdeal.sig) → Buf (Elt Ideal) ℓ) : Prop :=
  True

def Pre_DpKernel (m : (ℓ : Loc Cert.DpKernel.nD Cert.DpKernel.τ Cert.DpKernel.sig) → Buf (Elt Bits) ℓ) : Prop :=
  True

def Pre_DpKernelIdeal (m : (ℓ : Loc Cert.DpKernelIdeal.nD Cert.DpKernelIdeal.τ Cert.DpKernelIdeal.sig) → Buf (Elt Ideal) ℓ) : Prop :=
  True

def Pre_DpRefIdeal (m : (ℓ : Loc Cert.DpRefIdeal.nD Cert.DpRefIdeal.τ Cert.DpRefIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvKernelIdeal_pre_conv_finite [hConvKernelIdeal : Cert.ConvKernelIdeal.Facts] [hPre_conv_finite : Cert.Pre_conv_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_conv_finite m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_XgradKernel [hXgradKernel : Cert.XgradKernel.Facts] : Prop :=
  ∀ (m : (ℓ : Loc Cert.XgradKernel.nD Cert.XgradKernel.τ Cert.XgradKernel.sig) → Buf (Elt Bits) ℓ) (g : Dev Cert.XgradKernel.nD → PrngReg), Pre_XgradKernel m →
    θ_run (Cert.XgradKernel.defs (F := Bits)) (onTc (τ := Cert.XgradKernel.τ) (Cert.XgradKernel.main (F := Bits))) ⟨m, fun _ => 0, g⟩ (fun r => (∀ c : Dev Cert.XgradKernel.nD,
      r.2.mem ((c.tc : Thread Cert.XgradKernel.nD Cert.XgradKernel.τ).loc Cert.XgradKernel.main_arg0) = m ((c.tc : Thread Cert.XgradKernel.nD Cert.XgradKernel.τ).loc Cert.XgradKernel.main_arg0)
      ∧ r.2.mem ((c.tc : Thread Cert.XgradKernel.nD Cert.XgradKernel.τ).loc Cert.XgradKernel.main_arg1) = m ((c.tc : Thread Cert.XgradKernel.nD Cert.XgradKernel.τ).loc Cert.XgradKernel.main_arg1)
      ∧ r.2.mem ((c.tc : Thread Cert.XgradKernel.nD Cert.XgradKernel.τ).loc Cert.XgradKernel.main_arg2) = m ((c.tc : Thread Cert.XgradKernel.nD Cert.XgradKernel.τ).loc Cert.XgradKernel.main_arg2))
      ∧ r.2.sem = fun _ => 0)

def quiescent_XgradKernelIdeal [hXgradKernelIdeal : Cert.XgradKernelIdeal.Facts] : Prop :=
  ∀ (m : (ℓ : Loc Cert.XgradKernelIdeal.nD Cert.XgradKernelIdeal.τ Cert.XgradKernelIdeal.sig) → Buf (Elt Ideal) ℓ) (g : Dev Cert.XgradKernelIdeal.nD → PrngReg), Pre_XgradKernelIdeal m →
    θ_run (Cert.XgradKernelIdeal.defs (F := Ideal)) (onTc (τ := Cert.XgradKernelIdeal.τ) (Cert.XgradKernelIdeal.main (F := Ideal))) ⟨m, fun _ => 0, g⟩ (fun r => (∀ c : Dev Cert.XgradKernelIdeal.nD,
      r.2.mem ((c.tc : Thread Cert.XgradKernelIdeal.nD Cert.XgradKernelIdeal.τ).loc Cert.XgradKernelIdeal.main_arg0) = m ((c.tc : Thread Cert.XgradKernelIdeal.nD Cert.XgradKernelIdeal.τ).loc Cert.XgradKernelIdeal.main_arg0)
      ∧ r.2.mem ((c.tc : Thread Cert.XgradKernelIdeal.nD Cert.XgradKernelIdeal.τ).loc Cert.XgradKernelIdeal.main_arg1) = m ((c.tc : Thread Cert.XgradKernelIdeal.nD Cert.XgradKernelIdeal.τ).loc Cert.XgradKernelIdeal.main_arg1)
      ∧ r.2.mem ((c.tc : Thread Cert.XgradKernelIdeal.nD Cert.XgradKernelIdeal.τ).loc Cert.XgradKernelIdeal.main_arg2) = m ((c.tc : Thread Cert.XgradKernelIdeal.nD Cert.XgradKernelIdeal.τ).loc Cert.XgradKernelIdeal.main_arg2))
      ∧ r.2.sem = fun _ => 0)

def quiescent_XgradRefIdeal [hXgradRefIdeal : Cert.XgradRefIdeal.Facts] : Prop :=
  ∀ (m : (ℓ : Loc Cert.XgradRefIdeal.nD Cert.XgradRefIdeal.τ Cert.XgradRefIdeal.sig) → Buf (Elt Ideal) ℓ) (g : Dev Cert.XgradRefIdeal.nD → PrngReg), Pre_XgradRefIdeal m →
    θ_run (Cert.XgradRefIdeal.defs (F := Ideal)) (onTc (τ := Cert.XgradRefIdeal.τ) (Cert.XgradRefIdeal.main (F := Ideal))) ⟨m, fun _ => 0, g⟩ (fun r => (∀ c : Dev Cert.XgradRefIdeal.nD,
      r.2.mem ((c.tc : Thread Cert.XgradRefIdeal.nD Cert.XgradRefIdeal.τ).loc Cert.XgradRefIdeal.main_arg0) = m ((c.tc : Thread Cert.XgradRefIdeal.nD Cert.XgradRefIdeal.τ).loc Cert.XgradRefIdeal.main_arg0)
      ∧ r.2.mem ((c.tc : Thread Cert.XgradRefIdeal.nD Cert.XgradRefIdeal.τ).loc Cert.XgradRefIdeal.main_arg1) = m ((c.tc : Thread Cert.XgradRefIdeal.nD Cert.XgradRefIdeal.τ).loc Cert.XgradRefIdeal.main_arg1)
      ∧ r.2.mem ((c.tc : Thread Cert.XgradRefIdeal.nD Cert.XgradRefIdeal.τ).loc Cert.XgradRefIdeal.main_arg2) = m ((c.tc : Thread Cert.XgradRefIdeal.nD Cert.XgradRefIdeal.τ).loc Cert.XgradRefIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_GoutKernel [hGoutKernel : Cert.GoutKernel.Facts] : Prop :=
  ∀ (m : (ℓ : Loc Cert.GoutKernel.nD Cert.GoutKernel.τ Cert.GoutKernel.sig) → Buf (Elt Bits) ℓ) (g : Dev Cert.GoutKernel.nD → PrngReg), Pre_GoutKernel m →
    θ_run (Cert.GoutKernel.defs (F := Bits)) (onTc (τ := Cert.GoutKernel.τ) (Cert.GoutKernel.main (F := Bits))) ⟨m, fun _ => 0, g⟩ (fun r => (∀ c : Dev Cert.GoutKernel.nD,
      r.2.mem ((c.tc : Thread Cert.GoutKernel.nD Cert.GoutKernel.τ).loc Cert.GoutKernel.main_arg0) = m ((c.tc : Thread Cert.GoutKernel.nD Cert.GoutKernel.τ).loc Cert.GoutKernel.main_arg0)
      ∧ r.2.mem ((c.tc : Thread Cert.GoutKernel.nD Cert.GoutKernel.τ).loc Cert.GoutKernel.main_arg1) = m ((c.tc : Thread Cert.GoutKernel.nD Cert.GoutKernel.τ).loc Cert.GoutKernel.main_arg1))
      ∧ r.2.sem = fun _ => 0)

def quiescent_GoutKernelIdeal [hGoutKernelIdeal : Cert.GoutKernelIdeal.Facts] : Prop :=
  ∀ (m : (ℓ : Loc Cert.GoutKernelIdeal.nD Cert.GoutKernelIdeal.τ Cert.GoutKernelIdeal.sig) → Buf (Elt Ideal) ℓ) (g : Dev Cert.GoutKernelIdeal.nD → PrngReg), Pre_GoutKernelIdeal m →
    θ_run (Cert.GoutKernelIdeal.defs (F := Ideal)) (onTc (τ := Cert.GoutKernelIdeal.τ) (Cert.GoutKernelIdeal.main (F := Ideal))) ⟨m, fun _ => 0, g⟩ (fun r => (∀ c : Dev Cert.GoutKernelIdeal.nD,
      r.2.mem ((c.tc : Thread Cert.GoutKernelIdeal.nD Cert.GoutKernelIdeal.τ).loc Cert.GoutKernelIdeal.main_arg0) = m ((c.tc : Thread Cert.GoutKernelIdeal.nD Cert.GoutKernelIdeal.τ).loc Cert.GoutKernelIdeal.main_arg0)
      ∧ r.2.mem ((c.tc : Thread Cert.GoutKernelIdeal.nD Cert.GoutKernelIdeal.τ).loc Cert.GoutKernelIdeal.main_arg1) = m ((c.tc : Thread Cert.GoutKernelIdeal.nD Cert.GoutKernelIdeal.τ).loc Cert.GoutKernelIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_GprojKernel [hGprojKernel : Cert.GprojKernel.Facts] : Prop :=
  ∀ (m : (ℓ : Loc Cert.GprojKernel.nD Cert.GprojKernel.τ Cert.GprojKernel.sig) → Buf (Elt Bits) ℓ) (g : Dev Cert.GprojKernel.nD → PrngReg), Pre_GprojKernel m →
    θ_run (Cert.GprojKernel.defs (F := Bits)) (onTc (τ := Cert.GprojKernel.τ) (Cert.GprojKernel.main (F := Bits))) ⟨m, fun _ => 0, g⟩ (fun r => (∀ c : Dev Cert.GprojKernel.nD,
      r.2.mem ((c.tc : Thread Cert.GprojKernel.nD Cert.GprojKernel.τ).loc Cert.GprojKernel.main_arg0) = m ((c.tc : Thread Cert.GprojKernel.nD Cert.GprojKernel.τ).loc Cert.GprojKernel.main_arg0)
      ∧ r.2.mem ((c.tc : Thread Cert.GprojKernel.nD Cert.GprojKernel.τ).loc Cert.GprojKernel.main_arg1) = m ((c.tc : Thread Cert.GprojKernel.nD Cert.GprojKernel.τ).loc Cert.GprojKernel.main_arg1))
      ∧ r.2.sem = fun _ => 0)

def quiescent_GprojKernelIdeal [hGprojKernelIdeal : Cert.GprojKernelIdeal.Facts] : Prop :=
  ∀ (m : (ℓ : Loc Cert.GprojKernelIdeal.nD Cert.GprojKernelIdeal.τ Cert.GprojKernelIdeal.sig) → Buf (Elt Ideal) ℓ) (g : Dev Cert.GprojKernelIdeal.nD → PrngReg), Pre_GprojKernelIdeal m →
    θ_run (Cert.GprojKernelIdeal.defs (F := Ideal)) (onTc (τ := Cert.GprojKernelIdeal.τ) (Cert.GprojKernelIdeal.main (F := Ideal))) ⟨m, fun _ => 0, g⟩ (fun r => (∀ c : Dev Cert.GprojKernelIdeal.nD,
      r.2.mem ((c.tc : Thread Cert.GprojKernelIdeal.nD Cert.GprojKernelIdeal.τ).loc Cert.GprojKernelIdeal.main_arg0) = m ((c.tc : Thread Cert.GprojKernelIdeal.nD Cert.GprojKernelIdeal.τ).loc Cert.GprojKernelIdeal.main_arg0)
      ∧ r.2.mem ((c.tc : Thread Cert.GprojKernelIdeal.nD Cert.GprojKernelIdeal.τ).loc Cert.GprojKernelIdeal.main_arg1) = m ((c.tc : Thread Cert.GprojKernelIdeal.nD Cert.GprojKernelIdeal.τ).loc Cert.GprojKernelIdeal.main_arg1))
      ∧ r.2.sem = fun _ => 0)

def quiescent_GprojRefIdeal [hGprojRefIdeal : Cert.GprojRefIdeal.Facts] : Prop :=
  ∀ (m : (ℓ : Loc Cert.GprojRefIdeal.nD Cert.GprojRefIdeal.τ Cert.GprojRefIdeal.sig) → Buf (Elt Ideal) ℓ) (g : Dev Cert.GprojRefIdeal.nD → PrngReg), Pre_GprojRefIdeal m →
    θ_run (Cert.GprojRefIdeal.defs (F := Ideal)) (onTc (τ := Cert.GprojRefIdeal.τ) (Cert.GprojRefIdeal.main (F := Ideal))) ⟨m, fun _ => 0, g⟩ (fun r => (∀ c : Dev Cert.GprojRefIdeal.nD,
      r.2.mem ((c.tc : Thread Cert.GprojRefIdeal.nD Cert.GprojRefIdeal.τ).loc Cert.GprojRefIdeal.main_arg0) = m ((c.tc : Thread Cert.GprojRefIdeal.nD Cert.GprojRefIdeal.τ).loc Cert.GprojRefIdeal.main_arg0)
      ∧ r.2.mem ((c.tc : Thread Cert.GprojRefIdeal.nD Cert.GprojRefIdeal.τ).loc Cert.GprojRefIdeal.main_arg1) = m ((c.tc : Thread Cert.GprojRefIdeal.nD Cert.GprojRefIdeal.τ).loc Cert.GprojRefIdeal.main_arg1))
      ∧ r.2.sem = fun _ => 0)

def quiescent_DpKernel [hDpKernel : Cert.DpKernel.Facts] : Prop :=
  ∀ (m : (ℓ : Loc Cert.DpKernel.nD Cert.DpKernel.τ Cert.DpKernel.sig) → Buf (Elt Bits) ℓ) (g : Dev Cert.DpKernel.nD → PrngReg), Pre_DpKernel m →
    θ_run (Cert.DpKernel.defs (F := Bits)) (onTc (τ := Cert.DpKernel.τ) (Cert.DpKernel.main (F := Bits))) ⟨m, fun _ => 0, g⟩ (fun r => (∀ c : Dev Cert.DpKernel.nD,
      r.2.mem ((c.tc : Thread Cert.DpKernel.nD Cert.DpKernel.τ).loc Cert.DpKernel.main_arg0) = m ((c.tc : Thread Cert.DpKernel.nD Cert.DpKernel.τ).loc Cert.DpKernel.main_arg0)
      ∧ r.2.mem ((c.tc : Thread Cert.DpKernel.nD Cert.DpKernel.τ).loc Cert.DpKernel.main_arg1) = m ((c.tc : Thread Cert.DpKernel.nD Cert.DpKernel.τ).loc Cert.DpKernel.main_arg1))
      ∧ r.2.sem = fun _ => 0)

def quiescent_DpKernelIdeal [hDpKernelIdeal : Cert.DpKernelIdeal.Facts] : Prop :=
  ∀ (m : (ℓ : Loc Cert.DpKernelIdeal.nD Cert.DpKernelIdeal.τ Cert.DpKernelIdeal.sig) → Buf (Elt Ideal) ℓ) (g : Dev Cert.DpKernelIdeal.nD → PrngReg), Pre_DpKernelIdeal m →
    θ_run (Cert.DpKernelIdeal.defs (F := Ideal)) (onTc (τ := Cert.DpKernelIdeal.τ) (Cert.DpKernelIdeal.main (F := Ideal))) ⟨m, fun _ => 0, g⟩ (fun r => (∀ c : Dev Cert.DpKernelIdeal.nD,
      r.2.mem ((c.tc : Thread Cert.DpKernelIdeal.nD Cert.DpKernelIdeal.τ).loc Cert.DpKernelIdeal.main_arg0) = m ((c.tc : Thread Cert.DpKernelIdeal.nD Cert.DpKernelIdeal.τ).loc Cert.DpKernelIdeal.main_arg0)
      ∧ r.2.mem ((c.tc : Thread Cert.DpKernelIdeal.nD Cert.DpKernelIdeal.τ).loc Cert.DpKernelIdeal.main_arg1) = m ((c.tc : Thread Cert.DpKernelIdeal.nD Cert.DpKernelIdeal.τ).loc Cert.DpKernelIdeal.main_arg1))
      ∧ r.2.sem = fun _ => 0)

def quiescent_DpRefIdeal [hDpRefIdeal : Cert.DpRefIdeal.Facts] : Prop :=
  ∀ (m : (ℓ : Loc Cert.DpRefIdeal.nD Cert.DpRefIdeal.τ Cert.DpRefIdeal.sig) → Buf (Elt Ideal) ℓ) (g : Dev Cert.DpRefIdeal.nD → PrngReg), Pre_DpRefIdeal m →
    θ_run (Cert.DpRefIdeal.defs (F := Ideal)) (onTc (τ := Cert.DpRefIdeal.τ) (Cert.DpRefIdeal.main (F := Ideal))) ⟨m, fun _ => 0, g⟩ (fun r => (∀ c : Dev Cert.DpRefIdeal.nD,
      r.2.mem ((c.tc : Thread Cert.DpRefIdeal.nD Cert.DpRefIdeal.τ).loc Cert.DpRefIdeal.main_arg0) = m ((c.tc : Thread Cert.DpRefIdeal.nD Cert.DpRefIdeal.τ).loc Cert.DpRefIdeal.main_arg0)
      ∧ r.2.mem ((c.tc : Thread Cert.DpRefIdeal.nD Cert.DpRefIdeal.τ).loc Cert.DpRefIdeal.main_arg1) = m ((c.tc : Thread Cert.DpRefIdeal.nD Cert.DpRefIdeal.τ).loc Cert.DpRefIdeal.main_arg1))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_ConvKernel_ConvKernelIdeal : Prop :=
  True

def algebraic_ConvKernelIdeal_ConvRefIdeal_pre_conv_finite [hConvKernelIdeal : Cert.ConvKernelIdeal.Facts] [hConvRefIdeal : Cert.ConvRefIdeal.Facts] [hPre_conv_finite : Cert.Pre_conv_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvKernelIdeal_conv_finite m →
    (∀ c : Dev Cert.ConvKernelIdeal.nD,
      m' ((c.tc : Thread Cert.ConvRefIdeal.nD Cert.ConvRefIdeal.τ).loc Cert.ConvRefIdeal.main_arg0) = m ((c.tc : Thread Cert.ConvKernelIdeal.nD Cert.ConvKernelIdeal.τ).loc Cert.ConvKernelIdeal.main_arg0)
      ∧ m' ((c.tc : Thread Cert.ConvRefIdeal.nD Cert.ConvRefIdeal.τ).loc Cert.ConvRefIdeal.main_arg1) = m ((c.tc : Thread Cert.ConvKernelIdeal.nD Cert.ConvKernelIdeal.τ).loc Cert.ConvKernelIdeal.main_arg1)
      ∧ m' ((c.tc : Thread Cert.ConvRefIdeal.nD Cert.ConvRefIdeal.τ).loc Cert.ConvRefIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v0_0)) (v1 : (c : Dev Cert.ConvKernelIdeal.nD) → Buf (Elt Ideal) ((c.tc : Thread Cert.ConvKernelIdeal.nD Cert.ConvKernelIdeal.τ).loc Cert.ConvKernelIdeal.main_v0_1)) (v2 : (c : Dev Cert.ConvKernelIdeal.nD) → Buf (Elt Ideal) ((c.tc : Thread Cert.ConvKernelIdeal.nD Cert.ConvKernelIdeal.τ).loc Cert.ConvKernelIdeal.main_v0_2)) (v3 : (c : Dev Cert.ConvKernelIdeal.nD) → Buf (Elt Ideal) ((c.tc : Thread Cert.ConvKernelIdeal.nD Cert.ConvKernelIdeal.τ).loc Cert.ConvKernelIdeal.main_v0_3)) (v4 : (c : Dev Cert.ConvKernelIdeal.nD) → Buf (Elt Ideal) ((c.tc : Thread Cert.ConvKernelIdeal.nD Cert.ConvKernelIdeal.τ).loc Cert.ConvKernelIdeal.main_v0_4)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_0) = v0 c
          ∧ r.2.mem ((c.tc : Thread Cert.ConvKernelIdeal.nD Cert.ConvKernelIdeal.τ).loc Cert.ConvKernelIdeal.main_v0_1) = v1 c
          ∧ r.2.mem ((c.tc : Thread Cert.ConvKernelIdeal.nD Cert.ConvKernelIdeal.τ).loc Cert.ConvKernelIdeal.main_v0_2) = v2 c
          ∧ r.2.mem ((c.tc : Thread Cert.ConvKernelIdeal.nD Cert.ConvKernelIdeal.τ).loc Cert.ConvKernelIdeal.main_v0_3) = v3 c
          ∧ r.2.mem ((c.tc : Thread Cert.ConvKernelIdeal.nD Cert.ConvKernelIdeal.τ).loc Cert.ConvKernelIdeal.main_v0_4) = v4 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v71) = v0 c
          ∧ r.2.mem ((c.tc : Thread Cert.ConvRefIdeal.nD Cert.ConvRefIdeal.τ).loc Cert.ConvRefIdeal.main_v72) = v1 c
          ∧ r.2.mem ((c.tc : Thread Cert.ConvRefIdeal.nD Cert.ConvRefIdeal.τ).loc Cert.ConvRefIdeal.main_v73) = v2 c
          ∧ r.2.mem ((c.tc : Thread Cert.ConvRefIdeal.nD Cert.ConvRefIdeal.τ).loc Cert.ConvRefIdeal.main_v74) = v3 c
          ∧ r.2.mem ((c.tc : Thread Cert.ConvRefIdeal.nD Cert.ConvRefIdeal.τ).loc Cert.ConvRefIdeal.main_v75) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_WgradKernel_WgradKernelIdeal : Prop :=
  True

def algebraic_WgradKernelIdeal_WgradRefIdeal [hWgradKernelIdeal : Cert.WgradKernelIdeal.Facts] [hWgradRefIdeal : Cert.WgradRefIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradKernelIdeal m →
    (∀ c : Dev Cert.WgradKernelIdeal.nD,
      m' ((c.tc : Thread Cert.WgradRefIdeal.nD Cert.WgradRefIdeal.τ).loc Cert.WgradRefIdeal.main_arg0) = m ((c.tc : Thread Cert.WgradKernelIdeal.nD Cert.WgradKernelIdeal.τ).loc Cert.WgradKernelIdeal.main_arg0)
      ∧ m' ((c.tc : Thread Cert.WgradRefIdeal.nD Cert.WgradRefIdeal.τ).loc Cert.WgradRefIdeal.main_arg1) = m ((c.tc : Thread Cert.WgradKernelIdeal.nD Cert.WgradKernelIdeal.τ).loc Cert.WgradKernelIdeal.main_arg1)) →
    ∃ (v0 : (c : Dev Cert.WgradKernelIdeal.nD) → Buf (Elt Ideal) ((c.tc : Thread Cert.WgradKernelIdeal.nD Cert.WgradKernelIdeal.τ).loc Cert.WgradKernelIdeal.main_v2)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v2) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v4) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_XgradKernel_XgradKernelIdeal : Prop :=
  True

def algebraic_XgradKernelIdeal_XgradRefIdeal [hXgradKernelIdeal : Cert.XgradKernelIdeal.Facts] [hXgradRefIdeal : Cert.XgradRefIdeal.Facts] : Prop :=
  ∀ (m : (ℓ : Loc Cert.XgradKernelIdeal.nD Cert.XgradKernelIdeal.τ Cert.XgradKernelIdeal.sig) → Buf (Elt Ideal) ℓ) (g : Dev Cert.XgradKernelIdeal.nD → PrngReg)
    (m' : (ℓ : Loc Cert.XgradRefIdeal.nD Cert.XgradRefIdeal.τ Cert.XgradRefIdeal.sig) → Buf (Elt Ideal) ℓ) (g' : Dev Cert.XgradRefIdeal.nD → PrngReg), Pre_XgradKernelIdeal m →
    (∀ c : Dev Cert.XgradKernelIdeal.nD,
      m' ((c.tc : Thread Cert.XgradRefIdeal.nD Cert.XgradRefIdeal.τ).loc Cert.XgradRefIdeal.main_arg0) = m ((c.tc : Thread Cert.XgradKernelIdeal.nD Cert.XgradKernelIdeal.τ).loc Cert.XgradKernelIdeal.main_arg0)
      ∧ m' ((c.tc : Thread Cert.XgradRefIdeal.nD Cert.XgradRefIdeal.τ).loc Cert.XgradRefIdeal.main_arg1) = m ((c.tc : Thread Cert.XgradKernelIdeal.nD Cert.XgradKernelIdeal.τ).loc Cert.XgradKernelIdeal.main_arg1)
      ∧ m' ((c.tc : Thread Cert.XgradRefIdeal.nD Cert.XgradRefIdeal.τ).loc Cert.XgradRefIdeal.main_arg2) = m ((c.tc : Thread Cert.XgradKernelIdeal.nD Cert.XgradKernelIdeal.τ).loc Cert.XgradKernelIdeal.main_arg2)) →
    ∃ (v0 : (c : Dev Cert.XgradKernelIdeal.nD) → Buf (Elt Ideal) ((c.tc : Thread Cert.XgradKernelIdeal.nD Cert.XgradKernelIdeal.τ).loc Cert.XgradKernelIdeal.main_v3)),
      θ_run (Cert.XgradKernelIdeal.defs (F := Ideal)) (onTc (τ := Cert.XgradKernelIdeal.τ) (Cert.XgradKernelIdeal.main (F := Ideal))) ⟨m, fun _ => 0, g⟩ (fun r => ∀ c : Dev Cert.XgradKernelIdeal.nD,
          r.2.mem ((c.tc : Thread Cert.XgradKernelIdeal.nD Cert.XgradKernelIdeal.τ).loc Cert.XgradKernelIdeal.main_v3) = v0 c
          ∧ r.2.mem ((c.tc : Thread Cert.XgradKernelIdeal.nD Cert.XgradKernelIdeal.τ).loc Cert.XgradKernelIdeal.main_arg0) = m ((c.tc : Thread Cert.XgradKernelIdeal.nD Cert.XgradKernelIdeal.τ).loc Cert.XgradKernelIdeal.main_arg0)
          ∧ r.2.mem ((c.tc : Thread Cert.XgradKernelIdeal.nD Cert.XgradKernelIdeal.τ).loc Cert.XgradKernelIdeal.main_arg1) = m ((c.tc : Thread Cert.XgradKernelIdeal.nD Cert.XgradKernelIdeal.τ).loc Cert.XgradKernelIdeal.main_arg1)
          ∧ r.2.mem ((c.tc : Thread Cert.XgradKernelIdeal.nD Cert.XgradKernelIdeal.τ).loc Cert.XgradKernelIdeal.main_arg2) = m ((c.tc : Thread Cert.XgradKernelIdeal.nD Cert.XgradKernelIdeal.τ).loc Cert.XgradKernelIdeal.main_arg2))
      ∧ θ_run (Cert.XgradRefIdeal.defs (F := Ideal)) (onTc (τ := Cert.XgradRefIdeal.τ) (Cert.XgradRefIdeal.main (F := Ideal))) ⟨m', fun _ => 0, g'⟩ (fun r => ∀ c : Dev Cert.XgradRefIdeal.nD,
          r.2.mem ((c.tc : Thread Cert.XgradRefIdeal.nD Cert.XgradRefIdeal.τ).loc Cert.XgradRefIdeal.main_v7) = v0 c
          ∧ r.2.mem ((c.tc : Thread Cert.XgradRefIdeal.nD Cert.XgradRefIdeal.τ).loc Cert.XgradRefIdeal.main_arg0) = m' ((c.tc : Thread Cert.XgradRefIdeal.nD Cert.XgradRefIdeal.τ).loc Cert.XgradRefIdeal.main_arg0)
          ∧ r.2.mem ((c.tc : Thread Cert.XgradRefIdeal.nD Cert.XgradRefIdeal.τ).loc Cert.XgradRefIdeal.main_arg1) = m' ((c.tc : Thread Cert.XgradRefIdeal.nD Cert.XgradRefIdeal.τ).loc Cert.XgradRefIdeal.main_arg1)
          ∧ r.2.mem ((c.tc : Thread Cert.XgradRefIdeal.nD Cert.XgradRefIdeal.τ).loc Cert.XgradRefIdeal.main_arg2) = m' ((c.tc : Thread Cert.XgradRefIdeal.nD Cert.XgradRefIdeal.τ).loc Cert.XgradRefIdeal.main_arg2))

def preserves_ProjKernel_ProjKernelIdeal : Prop :=
  True

def algebraic_ProjKernelIdeal_ProjRefIdeal [hProjKernelIdeal : Cert.ProjKernelIdeal.Facts] [hProjRefIdeal : Cert.ProjRefIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjKernelIdeal m →
    (∀ c : Dev Cert.ProjKernelIdeal.nD,
      m' ((c.tc : Thread Cert.ProjRefIdeal.nD Cert.ProjRefIdeal.τ).loc Cert.ProjRefIdeal.main_arg0) = m ((c.tc : Thread Cert.ProjKernelIdeal.nD Cert.ProjKernelIdeal.τ).loc Cert.ProjKernelIdeal.main_arg0)
      ∧ m' ((c.tc : Thread Cert.ProjRefIdeal.nD Cert.ProjRefIdeal.τ).loc Cert.ProjRefIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v3)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v3) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_GoutKernel_GoutKernelIdeal : Prop :=
  True

def algebraic_GoutKernelIdeal_GoutRefIdeal [hGoutKernelIdeal : Cert.GoutKernelIdeal.Facts] [hGoutRefIdeal : Cert.GoutRefIdeal.Facts] : Prop :=
  ∀ (m : (ℓ : Loc Cert.GoutKernelIdeal.nD Cert.GoutKernelIdeal.τ Cert.GoutKernelIdeal.sig) → Buf (Elt Ideal) ℓ) (g : Dev Cert.GoutKernelIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutKernelIdeal m →
    (∀ c : Dev Cert.GoutKernelIdeal.nD,
      m' ((c.tc : Thread Cert.GoutRefIdeal.nD Cert.GoutRefIdeal.τ).loc Cert.GoutRefIdeal.main_arg0) = m ((c.tc : Thread Cert.GoutKernelIdeal.nD Cert.GoutKernelIdeal.τ).loc Cert.GoutKernelIdeal.main_arg0)
      ∧ m' ((c.tc : Thread Cert.GoutRefIdeal.nD Cert.GoutRefIdeal.τ).loc Cert.GoutRefIdeal.main_arg1) = m ((c.tc : Thread Cert.GoutKernelIdeal.nD Cert.GoutKernelIdeal.τ).loc Cert.GoutKernelIdeal.main_arg1)) →
    ∃ (v0 : (c : Dev Cert.GoutKernelIdeal.nD) → Buf (Elt Ideal) ((c.tc : Thread Cert.GoutKernelIdeal.nD Cert.GoutKernelIdeal.τ).loc Cert.GoutKernelIdeal.main_v2)),
      θ_run (Cert.GoutKernelIdeal.defs (F := Ideal)) (onTc (τ := Cert.GoutKernelIdeal.τ) (Cert.GoutKernelIdeal.main (F := Ideal))) ⟨m, fun _ => 0, g⟩ (fun r => ∀ c : Dev Cert.GoutKernelIdeal.nD,
          r.2.mem ((c.tc : Thread Cert.GoutKernelIdeal.nD Cert.GoutKernelIdeal.τ).loc Cert.GoutKernelIdeal.main_v2) = v0 c
          ∧ r.2.mem ((c.tc : Thread Cert.GoutKernelIdeal.nD Cert.GoutKernelIdeal.τ).loc Cert.GoutKernelIdeal.main_arg0) = m ((c.tc : Thread Cert.GoutKernelIdeal.nD Cert.GoutKernelIdeal.τ).loc Cert.GoutKernelIdeal.main_arg0)
          ∧ r.2.mem ((c.tc : Thread Cert.GoutKernelIdeal.nD Cert.GoutKernelIdeal.τ).loc Cert.GoutKernelIdeal.main_arg1) = m ((c.tc : Thread Cert.GoutKernelIdeal.nD Cert.GoutKernelIdeal.τ).loc Cert.GoutKernelIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v3) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_GprojKernel_GprojKernelIdeal : Prop :=
  True

def algebraic_GprojKernelIdeal_GprojRefIdeal [hGprojKernelIdeal : Cert.GprojKernelIdeal.Facts] [hGprojRefIdeal : Cert.GprojRefIdeal.Facts] : Prop :=
  ∀ (m : (ℓ : Loc Cert.GprojKernelIdeal.nD Cert.GprojKernelIdeal.τ Cert.GprojKernelIdeal.sig) → Buf (Elt Ideal) ℓ) (g : Dev Cert.GprojKernelIdeal.nD → PrngReg)
    (m' : (ℓ : Loc Cert.GprojRefIdeal.nD Cert.GprojRefIdeal.τ Cert.GprojRefIdeal.sig) → Buf (Elt Ideal) ℓ) (g' : Dev Cert.GprojRefIdeal.nD → PrngReg), Pre_GprojKernelIdeal m →
    (∀ c : Dev Cert.GprojKernelIdeal.nD,
      m' ((c.tc : Thread Cert.GprojRefIdeal.nD Cert.GprojRefIdeal.τ).loc Cert.GprojRefIdeal.main_arg0) = m ((c.tc : Thread Cert.GprojKernelIdeal.nD Cert.GprojKernelIdeal.τ).loc Cert.GprojKernelIdeal.main_arg0)
      ∧ m' ((c.tc : Thread Cert.GprojRefIdeal.nD Cert.GprojRefIdeal.τ).loc Cert.GprojRefIdeal.main_arg1) = m ((c.tc : Thread Cert.GprojKernelIdeal.nD Cert.GprojKernelIdeal.τ).loc Cert.GprojKernelIdeal.main_arg1)) →
    ∃ (v0 : (c : Dev Cert.GprojKernelIdeal.nD) → Buf (Elt Ideal) ((c.tc : Thread Cert.GprojKernelIdeal.nD Cert.GprojKernelIdeal.τ).loc Cert.GprojKernelIdeal.main_v2)),
      θ_run (Cert.GprojKernelIdeal.defs (F := Ideal)) (onTc (τ := Cert.GprojKernelIdeal.τ) (Cert.GprojKernelIdeal.main (F := Ideal))) ⟨m, fun _ => 0, g⟩ (fun r => ∀ c : Dev Cert.GprojKernelIdeal.nD,
          r.2.mem ((c.tc : Thread Cert.GprojKernelIdeal.nD Cert.GprojKernelIdeal.τ).loc Cert.GprojKernelIdeal.main_v2) = v0 c
          ∧ r.2.mem ((c.tc : Thread Cert.GprojKernelIdeal.nD Cert.GprojKernelIdeal.τ).loc Cert.GprojKernelIdeal.main_arg0) = m ((c.tc : Thread Cert.GprojKernelIdeal.nD Cert.GprojKernelIdeal.τ).loc Cert.GprojKernelIdeal.main_arg0)
          ∧ r.2.mem ((c.tc : Thread Cert.GprojKernelIdeal.nD Cert.GprojKernelIdeal.τ).loc Cert.GprojKernelIdeal.main_arg1) = m ((c.tc : Thread Cert.GprojKernelIdeal.nD Cert.GprojKernelIdeal.τ).loc Cert.GprojKernelIdeal.main_arg1))
      ∧ θ_run (Cert.GprojRefIdeal.defs (F := Ideal)) (onTc (τ := Cert.GprojRefIdeal.τ) (Cert.GprojRefIdeal.main (F := Ideal))) ⟨m', fun _ => 0, g'⟩ (fun r => ∀ c : Dev Cert.GprojRefIdeal.nD,
          r.2.mem ((c.tc : Thread Cert.GprojRefIdeal.nD Cert.GprojRefIdeal.τ).loc Cert.GprojRefIdeal.main_v3) = v0 c
          ∧ r.2.mem ((c.tc : Thread Cert.GprojRefIdeal.nD Cert.GprojRefIdeal.τ).loc Cert.GprojRefIdeal.main_arg0) = m' ((c.tc : Thread Cert.GprojRefIdeal.nD Cert.GprojRefIdeal.τ).loc Cert.GprojRefIdeal.main_arg0)
          ∧ r.2.mem ((c.tc : Thread Cert.GprojRefIdeal.nD Cert.GprojRefIdeal.τ).loc Cert.GprojRefIdeal.main_arg1) = m' ((c.tc : Thread Cert.GprojRefIdeal.nD Cert.GprojRefIdeal.τ).loc Cert.GprojRefIdeal.main_arg1))

def preserves_DpKernel_DpKernelIdeal : Prop :=
  True

def algebraic_DpKernelIdeal_DpRefIdeal [hDpKernelIdeal : Cert.DpKernelIdeal.Facts] [hDpRefIdeal : Cert.DpRefIdeal.Facts] : Prop :=
  ∀ (m : (ℓ : Loc Cert.DpKernelIdeal.nD Cert.DpKernelIdeal.τ Cert.DpKernelIdeal.sig) → Buf (Elt Ideal) ℓ) (g : Dev Cert.DpKernelIdeal.nD → PrngReg)
    (m' : (ℓ : Loc Cert.DpRefIdeal.nD Cert.DpRefIdeal.τ Cert.DpRefIdeal.sig) → Buf (Elt Ideal) ℓ) (g' : Dev Cert.DpRefIdeal.nD → PrngReg), Pre_DpKernelIdeal m →
    (∀ c : Dev Cert.DpKernelIdeal.nD,
      m' ((c.tc : Thread Cert.DpRefIdeal.nD Cert.DpRefIdeal.τ).loc Cert.DpRefIdeal.main_arg0) = m ((c.tc : Thread Cert.DpKernelIdeal.nD Cert.DpKernelIdeal.τ).loc Cert.DpKernelIdeal.main_arg0)
      ∧ m' ((c.tc : Thread Cert.DpRefIdeal.nD Cert.DpRefIdeal.τ).loc Cert.DpRefIdeal.main_arg1) = m ((c.tc : Thread Cert.DpKernelIdeal.nD Cert.DpKernelIdeal.τ).loc Cert.DpKernelIdeal.main_arg1)) →
    ∃ (v0 : (c : Dev Cert.DpKernelIdeal.nD) → Buf (Elt Ideal) ((c.tc : Thread Cert.DpKernelIdeal.nD Cert.DpKernelIdeal.τ).loc Cert.DpKernelIdeal.main_v2)),
      θ_run (Cert.DpKernelIdeal.defs (F := Ideal)) (onTc (τ := Cert.DpKernelIdeal.τ) (Cert.DpKernelIdeal.main (F := Ideal))) ⟨m, fun _ => 0, g⟩ (fun r => ∀ c : Dev Cert.DpKernelIdeal.nD,
          r.2.mem ((c.tc : Thread Cert.DpKernelIdeal.nD Cert.DpKernelIdeal.τ).loc Cert.DpKernelIdeal.main_v2) = v0 c
          ∧ r.2.mem ((c.tc : Thread Cert.DpKernelIdeal.nD Cert.DpKernelIdeal.τ).loc Cert.DpKernelIdeal.main_arg0) = m ((c.tc : Thread Cert.DpKernelIdeal.nD Cert.DpKernelIdeal.τ).loc Cert.DpKernelIdeal.main_arg0)
          ∧ r.2.mem ((c.tc : Thread Cert.DpKernelIdeal.nD Cert.DpKernelIdeal.τ).loc Cert.DpKernelIdeal.main_arg1) = m ((c.tc : Thread Cert.DpKernelIdeal.nD Cert.DpKernelIdeal.τ).loc Cert.DpKernelIdeal.main_arg1))
      ∧ θ_run (Cert.DpRefIdeal.defs (F := Ideal)) (onTc (τ := Cert.DpRefIdeal.τ) (Cert.DpRefIdeal.main (F := Ideal))) ⟨m', fun _ => 0, g'⟩ (fun r => ∀ c : Dev Cert.DpRefIdeal.nD,
          r.2.mem ((c.tc : Thread Cert.DpRefIdeal.nD Cert.DpRefIdeal.τ).loc Cert.DpRefIdeal.main_v2) = v0 c
          ∧ r.2.mem ((c.tc : Thread Cert.DpRefIdeal.nD Cert.DpRefIdeal.τ).loc Cert.DpRefIdeal.main_arg0) = m' ((c.tc : Thread Cert.DpRefIdeal.nD Cert.DpRefIdeal.τ).loc Cert.DpRefIdeal.main_arg0)
          ∧ r.2.mem ((c.tc : Thread Cert.DpRefIdeal.nD Cert.DpRefIdeal.τ).loc Cert.DpRefIdeal.main_arg1) = m' ((c.tc : Thread Cert.DpRefIdeal.nD Cert.DpRefIdeal.τ).loc Cert.DpRefIdeal.main_arg1))

def preserves_BranchKernel_BranchKernelIdeal : Prop :=
  True

def algebraic_BranchKernelIdeal_BranchRefIdeal [hBranchKernelIdeal : Cert.BranchKernelIdeal.Facts] [hBranchRefIdeal : Cert.BranchRefIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchKernelIdeal m →
    (∀ c : Dev Cert.BranchKernelIdeal.nD,
      m' ((c.tc : Thread Cert.BranchRefIdeal.nD Cert.BranchRefIdeal.τ).loc Cert.BranchRefIdeal.main_arg0) = m ((c.tc : Thread Cert.BranchKernelIdeal.nD Cert.BranchKernelIdeal.τ).loc Cert.BranchKernelIdeal.main_arg0)
      ∧ m' ((c.tc : Thread Cert.BranchRefIdeal.nD Cert.BranchRefIdeal.τ).loc Cert.BranchRefIdeal.main_arg1) = m ((c.tc : Thread Cert.BranchKernelIdeal.nD Cert.BranchKernelIdeal.τ).loc Cert.BranchKernelIdeal.main_arg1)) →
    ∃ (v0 : (c : Dev Cert.BranchKernelIdeal.nD) → Buf (Elt Ideal) ((c.tc : Thread Cert.BranchKernelIdeal.nD Cert.BranchKernelIdeal.τ).loc Cert.BranchKernelIdeal.main_v2)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v2) = v0 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v0) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_AttnKernel_AttnKernelIdeal : Prop :=
  True

def algebraic_AttnKernelIdeal_AttnRefIdeal_pre_attn_finite [hAttnKernelIdeal : Cert.AttnKernelIdeal.Facts] [hAttnRefIdeal : Cert.AttnRefIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnKernelIdeal_attn_finite m →
    (∀ c : Dev Cert.AttnKernelIdeal.nD,
      m' ((c.tc : Thread Cert.AttnRefIdeal.nD Cert.AttnRefIdeal.τ).loc Cert.AttnRefIdeal.main_arg0) = m ((c.tc : Thread Cert.AttnKernelIdeal.nD Cert.AttnKernelIdeal.τ).loc Cert.AttnKernelIdeal.main_arg0)
      ∧ m' ((c.tc : Thread Cert.AttnRefIdeal.nD Cert.AttnRefIdeal.τ).loc Cert.AttnRefIdeal.main_arg1) = m ((c.tc : Thread Cert.AttnKernelIdeal.nD Cert.AttnKernelIdeal.τ).loc Cert.AttnKernelIdeal.main_arg1)
      ∧ m' ((c.tc : Thread Cert.AttnRefIdeal.nD Cert.AttnRefIdeal.τ).loc Cert.AttnRefIdeal.main_arg2) = m ((c.tc : Thread Cert.AttnKernelIdeal.nD Cert.AttnKernelIdeal.τ).loc Cert.AttnKernelIdeal.main_arg2)
      ∧ m' ((c.tc : Thread Cert.AttnRefIdeal.nD Cert.AttnRefIdeal.τ).loc Cert.AttnRefIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v97_0)) (v1 : (c : Dev Cert.AttnKernelIdeal.nD) → Buf (Elt Ideal) ((c.tc : Thread Cert.AttnKernelIdeal.nD Cert.AttnKernelIdeal.τ).loc Cert.AttnKernelIdeal.main_v97_1)) (v2 : (c : Dev Cert.AttnKernelIdeal.nD) → Buf (Elt Ideal) ((c.tc : Thread Cert.AttnKernelIdeal.nD Cert.AttnKernelIdeal.τ).loc Cert.AttnKernelIdeal.main_v97_2)) (v3 : (c : Dev Cert.AttnKernelIdeal.nD) → Buf (Elt Ideal) ((c.tc : Thread Cert.AttnKernelIdeal.nD Cert.AttnKernelIdeal.τ).loc Cert.AttnKernelIdeal.main_v97_3)) (v4 : (c : Dev Cert.AttnKernelIdeal.nD) → Buf (Elt Ideal) ((c.tc : Thread Cert.AttnKernelIdeal.nD Cert.AttnKernelIdeal.τ).loc Cert.AttnKernelIdeal.main_v97_4)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v97_0) = v0 c
          ∧ r.2.mem ((c.tc : Thread Cert.AttnKernelIdeal.nD Cert.AttnKernelIdeal.τ).loc Cert.AttnKernelIdeal.main_v97_1) = v1 c
          ∧ r.2.mem ((c.tc : Thread Cert.AttnKernelIdeal.nD Cert.AttnKernelIdeal.τ).loc Cert.AttnKernelIdeal.main_v97_2) = v2 c
          ∧ r.2.mem ((c.tc : Thread Cert.AttnKernelIdeal.nD Cert.AttnKernelIdeal.τ).loc Cert.AttnKernelIdeal.main_v97_3) = v3 c
          ∧ r.2.mem ((c.tc : Thread Cert.AttnKernelIdeal.nD Cert.AttnKernelIdeal.τ).loc Cert.AttnKernelIdeal.main_v97_4) = v4 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v170) = v0 c
          ∧ r.2.mem ((c.tc : Thread Cert.AttnRefIdeal.nD Cert.AttnRefIdeal.τ).loc Cert.AttnRefIdeal.main_v172) = v1 c
          ∧ r.2.mem ((c.tc : Thread Cert.AttnRefIdeal.nD Cert.AttnRefIdeal.τ).loc Cert.AttnRefIdeal.main_v173) = v2 c
          ∧ r.2.mem ((c.tc : Thread Cert.AttnRefIdeal.nD Cert.AttnRefIdeal.τ).loc Cert.AttnRefIdeal.main_v175) = v3 c
          ∧ r.2.mem ((c.tc : Thread Cert.AttnRefIdeal.nD Cert.AttnRefIdeal.τ).loc Cert.AttnRefIdeal.main_v176) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hConvKernel : Cert.ConvKernel.Facts) (hConvKernelIdeal : Cert.ConvKernelIdeal.Facts) (hConvRefIdeal : Cert.ConvRefIdeal.Facts) (hWgradKernel : Cert.WgradKernel.Facts) (hWgradKernelIdeal : Cert.WgradKernelIdeal.Facts) (hWgradRefIdeal : Cert.WgradRefIdeal.Facts) (hXgradKernel : Cert.XgradKernel.Facts) (hXgradKernelIdeal : Cert.XgradKernelIdeal.Facts) (hXgradRefIdeal : Cert.XgradRefIdeal.Facts) (hProjKernel : Cert.ProjKernel.Facts) (hProjKernelIdeal : Cert.ProjKernelIdeal.Facts) (hProjRefIdeal : Cert.ProjRefIdeal.Facts) (hGoutKernel : Cert.GoutKernel.Facts) (hGoutKernelIdeal : Cert.GoutKernelIdeal.Facts) (hGoutRefIdeal : Cert.GoutRefIdeal.Facts) (hGprojKernel : Cert.GprojKernel.Facts) (hGprojKernelIdeal : Cert.GprojKernelIdeal.Facts) (hGprojRefIdeal : Cert.GprojRefIdeal.Facts) (hDpKernel : Cert.DpKernel.Facts) (hDpKernelIdeal : Cert.DpKernelIdeal.Facts) (hDpRefIdeal : Cert.DpRefIdeal.Facts) (hBranchKernel : Cert.BranchKernel.Facts) (hBranchKernelIdeal : Cert.BranchKernelIdeal.Facts) (hBranchRefIdeal : Cert.BranchRefIdeal.Facts) (hAttnKernel : Cert.AttnKernel.Facts) (hAttnKernelIdeal : Cert.AttnKernelIdeal.Facts) (hAttnRefIdeal : Cert.AttnRefIdeal.Facts) (hPre_conv_finite : Cert.Pre_conv_finite.Facts) (hPre_attn_finite : Cert.Pre_attn_finite.Facts),
    quiescent_ConvKernel (hConvKernel := hConvKernel)
    ∧ quiescent_ConvKernelIdeal (hConvKernelIdeal := hConvKernelIdeal)
    ∧ quiescent_ConvKernelIdeal_pre_conv_finite (hConvKernelIdeal := hConvKernelIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_WgradKernel (hWgradKernel := hWgradKernel)
    ∧ quiescent_WgradKernelIdeal (hWgradKernelIdeal := hWgradKernelIdeal)
    ∧ quiescent_WgradRefIdeal (hWgradRefIdeal := hWgradRefIdeal)
    ∧ quiescent_XgradKernel (hXgradKernel := hXgradKernel)
    ∧ quiescent_XgradKernelIdeal (hXgradKernelIdeal := hXgradKernelIdeal)
    ∧ quiescent_XgradRefIdeal (hXgradRefIdeal := hXgradRefIdeal)
    ∧ quiescent_ProjKernel (hProjKernel := hProjKernel)
    ∧ quiescent_ProjKernelIdeal (hProjKernelIdeal := hProjKernelIdeal)
    ∧ quiescent_ProjRefIdeal (hProjRefIdeal := hProjRefIdeal)
    ∧ quiescent_GoutKernel (hGoutKernel := hGoutKernel)
    ∧ quiescent_GoutKernelIdeal (hGoutKernelIdeal := hGoutKernelIdeal)
    ∧ quiescent_GoutRefIdeal (hGoutRefIdeal := hGoutRefIdeal)
    ∧ quiescent_GprojKernel (hGprojKernel := hGprojKernel)
    ∧ quiescent_GprojKernelIdeal (hGprojKernelIdeal := hGprojKernelIdeal)
    ∧ quiescent_GprojRefIdeal (hGprojRefIdeal := hGprojRefIdeal)
    ∧ quiescent_DpKernel (hDpKernel := hDpKernel)
    ∧ quiescent_DpKernelIdeal (hDpKernelIdeal := hDpKernelIdeal)
    ∧ quiescent_DpRefIdeal (hDpRefIdeal := hDpRefIdeal)
    ∧ quiescent_BranchKernel (hBranchKernel := hBranchKernel)
    ∧ quiescent_BranchKernelIdeal (hBranchKernelIdeal := hBranchKernelIdeal)
    ∧ quiescent_BranchRefIdeal (hBranchRefIdeal := hBranchRefIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ preserves_ConvKernel_ConvKernelIdeal
    ∧ algebraic_ConvKernelIdeal_ConvRefIdeal_pre_conv_finite (hConvKernelIdeal := hConvKernelIdeal) (hConvRefIdeal := hConvRefIdeal) (hPre_conv_finite := hPre_conv_finite)
    ∧ preserves_WgradKernel_WgradKernelIdeal
    ∧ algebraic_WgradKernelIdeal_WgradRefIdeal (hWgradKernelIdeal := hWgradKernelIdeal) (hWgradRefIdeal := hWgradRefIdeal)
    ∧ preserves_XgradKernel_XgradKernelIdeal
    ∧ algebraic_XgradKernelIdeal_XgradRefIdeal (hXgradKernelIdeal := hXgradKernelIdeal) (hXgradRefIdeal := hXgradRefIdeal)
    ∧ preserves_ProjKernel_ProjKernelIdeal
    ∧ algebraic_ProjKernelIdeal_ProjRefIdeal (hProjKernelIdeal := hProjKernelIdeal) (hProjRefIdeal := hProjRefIdeal)
    ∧ preserves_GoutKernel_GoutKernelIdeal
    ∧ algebraic_GoutKernelIdeal_GoutRefIdeal (hGoutKernelIdeal := hGoutKernelIdeal) (hGoutRefIdeal := hGoutRefIdeal)
    ∧ preserves_GprojKernel_GprojKernelIdeal
    ∧ algebraic_GprojKernelIdeal_GprojRefIdeal (hGprojKernelIdeal := hGprojKernelIdeal) (hGprojRefIdeal := hGprojRefIdeal)
    ∧ preserves_DpKernel_DpKernelIdeal
    ∧ algebraic_DpKernelIdeal_DpRefIdeal (hDpKernelIdeal := hDpKernelIdeal) (hDpRefIdeal := hDpRefIdeal)
    ∧ preserves_BranchKernel_BranchKernelIdeal
    ∧ algebraic_BranchKernelIdeal_BranchRefIdeal (hBranchKernelIdeal := hBranchKernelIdeal) (hBranchRefIdeal := hBranchRefIdeal)
    ∧ preserves_AttnKernel_AttnKernelIdeal
    ∧ algebraic_AttnKernelIdeal_AttnRefIdeal_pre_attn_finite (hAttnKernelIdeal := hAttnKernelIdeal) (hAttnRefIdeal := hAttnRefIdeal) (hPre_attn_finite := hPre_attn_finite)
-- ==== Pre_attn_finite.lean ====
abbrev S8192x16896 : Shape := ⟨2, ![8192, 16896]⟩
abbrev S8192x1024 : Shape := ⟨2, ![8192, 1024]⟩
abbrev S16x128x256 : Shape := ⟨3, ![16, 128, 256]⟩
abbrev S16 : Shape := ⟨1, ![16]⟩
abbrev S_ : Shape := ⟨0, ![]⟩

class Facts : Prop where
  bcast_S_S8192x16896 : S_.BroadcastsInDim S8192x16896 (![] : Fin 0 → Fin S8192x16896.rank)
  bcast_S_S8192x1024 : S_.BroadcastsInDim S8192x1024 (![] : Fin 0 → Fin S8192x1024.rank)
  bcast_S_S16x128x256 : S_.BroadcastsInDim S16x128x256 (![] : Fin 0 → Fin S16x128x256.rank)
  bcast_S_S16 : S_.BroadcastsInDim S16 (![] : Fin 0 → Fin S16.rank)

variable [Facts]

def fn {F : FTy → Type} [FloatOps F] (main_arg0 : FVec F S8192x16896 .f32) (main_arg1 : FVec F S8192x1024 .f32) (main_arg2 : FVec F S16x128x256 .f32) (main_arg3 : FVec F S16 .f32) : IVec S8192x16896 1 × IVec S8192x1024 1 × IVec S16x128x256 1 × IVec S16 1 :=
  let main_v0 : FVec F S8192x16896 .f32 := Host.absf main_arg0
  let main_cst : FVec F S_ .f32 := constant S_ .f32 0x7F800000#32
  let main_v1 : FVec F S8192x16896 .f32 := broadcastInDim S8192x16896 ![] bcast_S_S8192x16896 main_cst
  let main_v2 : IVec S8192x16896 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S16x128x256 .f32 := Host.absf main_arg2
  let main_cst_1 : FVec F S_ .f32 := constant S_ .f32 0x7F800000#32
  let main_v7 : FVec F S16x128x256 .f32 := broadcastInDim S16x128x256 ![] bcast_S_S16x128x256 main_cst_1
  let main_v8 : IVec S16x128x256 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Pre_conv_finite.lean ====
abbrev S8192x1024 : Shape := ⟨2, ![8192, 1024]⟩
abbrev S8192x16896 : Shape := ⟨2, ![8192, 16896]⟩
abbrev S3x1024 : Shape := ⟨2, ![3, 1024]⟩
abbrev S_ : Shape := ⟨0, ![]⟩

class Facts : Prop where
  bcast_S_S8192x1024 : S_.BroadcastsInDim S8192x1024 (![] : Fin 0 → Fin S8192x1024.rank)
  bcast_S_S8192x16896 : S_.BroadcastsInDim S8192x16896 (![] : Fin 0 → Fin S8192x16896.rank)
  bcast_S_S3x1024 : S_.BroadcastsInDim S3x1024 (![] : Fin 0 → Fin S3x1024.rank)

variable [Facts]

def fn {F : FTy → Type} [FloatOps F] (main_arg0 : FVec F S8192x1024 .f32) (main_arg1 : FVec F S8192x16896 .f32) (main_arg2 : FVec F S3x1024 .f32) : IVec S8192x1024 1 × IVec S8192x16896 1 × IVec S3x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x16896 .f32 := Host.absf main_arg1
  let main_cst_0 : FVec F S_ .f32 := constant S_ .f32 0x7F800000#32
  let main_v4 : FVec F S8192x16896 .f32 := broadcastInDim S8192x16896 ![] bcast_S_S8192x16896 main_cst_0
  let main_v5 : IVec S8192x16896 1 := cmpf .olt main_v3 main_v4
  let main_v6 : FVec F S3x1024 .f32 := Host.absf main_arg2
  let main_cst_1 : FVec F S_ .f32 := constant S_ .f32 0x7F800000#32
  let main_v7 : FVec F S3x1024 .f32 := broadcastInDim S3x1024 ![] bcast_S_S3x1024 main_cst_1
  let main_v8 : IVec S3x1024 1 := cmpf .olt main_v6 main_v7
  (main_v2, main_v5, main_v8)
-- ==== ConvKernel.lean ====
abbrev S8192x1024 : Shape := ⟨2, ![8192, 1024]⟩
abbrev S8192x16896 : Shape := ⟨2, ![8192, 16896]⟩
abbrev S3x1024 : Shape := ⟨2, ![3, 1024]⟩
abbrev S8x1024 : Shape := ⟨2, ![8, 1024]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S512 : Shape := ⟨1, ![512]⟩

abbrev nBuf : Space → Nat
  | .hbm => 8
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x16896, .f32⟩
  | .hbm, ⟨2, _⟩ => ⟨S3x1024, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S8x512, .f32⟩
  | .local _ .vmem, ⟨15, _⟩ => ⟨S8x512, .f32⟩
  | .local _ .vmem, ⟨16, _⟩ => ⟨S512x512, .f32⟩
  | .local _ .vmem, ⟨17, _⟩ => ⟨S512x512, .f32⟩
  | .local _ .vmem, ⟨18, _⟩ => ⟨S8x512, .f32⟩
  | .local _ .vmem, ⟨19, _⟩ => ⟨S8x512, .f32⟩
  | .local _ .vmem, ⟨20, _⟩ => ⟨S3x512, .f32⟩
  | .local _ .vmem, ⟨21, _⟩ => ⟨S3x512, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S8x512, .f32⟩
  | .local _ .vmem, ⟨31, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c13_i32 : BitVec 32 := 13#32
  let v3 : BitVec 32 := Scalar.addi c13_i32 arg0
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c19_i32 : BitVec 32 := 19#32
  let v3 : BitVec 32 := Scalar.addi c19_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c15_i32 : BitVec 32 := 15#32
  let v3 : BitVec 32 := Scalar.addi c15_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c17_i32 : BitVec 32 := 17#32
  let v3 : BitVec 32 := Scalar.addi c17_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ConvRefIdeal.lean ====
abbrev S8192x1024 : Shape := ⟨2, ![8192, 1024]⟩
abbrev S8192x16896 : Shape := ⟨2, ![8192, 16896]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x16896, .f32⟩
  | .hbm, ⟨2, _⟩ => ⟨S3x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S8194x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S8194x1024, .f32⟩
  | .hbm, ⟨66, _⟩ => ⟨S1x1024, .f32⟩
  | .hbm, ⟨67, _⟩ => ⟨S_, .f32⟩
  | .hbm, ⟨68, _⟩ => ⟨S3x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S8194x1024, .f32⟩
  | .hbm, ⟨79, _⟩ => ⟨S8194x1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S1024, .f32⟩
  | .hbm, ⟨92, _⟩ => ⟨S_, .f32⟩
  | .hbm, ⟨93, _⟩ => ⟨S8194x1024, .f32⟩
  | .hbm, ⟨94, _⟩ => ⟨S8194x1024, .f32⟩
  | .hbm, ⟨95, _⟩ => ⟨S1x1024, .f32⟩
  | .hbm, ⟨96, _⟩ => ⟨S_, .f32⟩
  | .hbm, ⟨97, _⟩ => ⟨S3x1024, .f32⟩
  | .hbm, ⟨98, _⟩ => ⟨S3x1024, .f32⟩
  | .hbm, ⟨99, _⟩ => ⟨S2x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .bf16⟩
  | .hbm, ⟨104, _⟩ => ⟨S8192x1024, .bf16⟩
  | .hbm, ⟨105, _⟩ => ⟨S8192x1024, .bf16⟩
  | .hbm, ⟨106, _⟩ => ⟨S8192x1024, .bf16⟩
  | .hbm, ⟨107, _⟩ => ⟨S_, .i32⟩
  | .hbm, ⟨108, _⟩ => ⟨S_, .f32⟩
  | .hbm, ⟨109, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v29_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v29_1 : Ref sig .tc := ⟨.hbm, 45, rfl⟩
abbrev main_v29_0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_1 : Ref sig .tc := ⟨.hbm, 59, rfl⟩
abbrev main_v39 : Ref sig .tc := ⟨.hbm, 60, rfl⟩
abbrev main_v40 : Ref sig .tc := ⟨.hbm, 61, rfl⟩
abbrev main_cst_2 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c : Ref sig .tc := ⟨.hbm, 107, rfl⟩
abbrev main_call2_v0 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== WgradKernel.lean ====
abbrev S8192x2048 : Shape := ⟨2, ![8192, 2048]⟩
abbrev S8192x16896 : Shape := ⟨2, ![8192, 16896]⟩
abbrev S16896x2048 : Shape := ⟨2, ![16896, 2048]⟩
abbrev S1024x1536 : Shape := ⟨2, ![1024, 1536]⟩
abbrev S1024x2048 : Shape := ⟨2, ![1024, 2048]⟩
abbrev S1536x2048 : Shape := ⟨2, ![1536, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x16896, .f32⟩
  | .hbm, ⟨2, _⟩ => ⟨S8192x16896, .bf16⟩
  | .hbm, ⟨3, _⟩ => ⟨S8192x2048, .bf16⟩
  | .hbm, ⟨4, _⟩ => ⟨S16896x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x2048, .bf16⟩
  | .local _ .vmem, ⟨3, _⟩ => ⟨S1024x2048, .bf16⟩
  | .local _ .vmem, ⟨4, _⟩ => ⟨S1536x2048, .f32⟩
  | .local _ .vmem, ⟨5, _⟩ => ⟨S1536x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S8192x2048 : Shape := ⟨2, ![8192, 2048]⟩
abbrev S8192x16896 : Shape := ⟨2, ![8192, 16896]⟩
abbrev S_ : Shape := ⟨0, ![]⟩
abbrev S2048x16896 : Shape := ⟨2, ![2048, 16896]⟩
abbrev S16896x2048 : Shape := ⟨2, ![16896, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x16896, .f32⟩
  | .hbm, ⟨2, _⟩ => ⟨S_, .f32⟩
  | .hbm, ⟨3, _⟩ => ⟨S2048x16896, .f32⟩
  | .hbm, ⟨4, _⟩ => ⟨S8192x16896, .f32⟩
  | .hbm, ⟨5, _⟩ => ⟨S16896x2048, .f32⟩
  | .hbm, ⟨6, _⟩ => ⟨S2048x16896, .f32⟩
  | .hbm, ⟨7, _⟩ => ⟨S16896x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XgradKernel.lean ====
abbrev S2048x16896 : Shape := ⟨2, ![2048, 16896]⟩
abbrev S8192x2048 : Shape := ⟨2, ![8192, 2048]⟩
abbrev S8192x16896 : Shape := ⟨2, ![8192, 16896]⟩
abbrev S16896x2048 : Shape := ⟨2, ![16896, 2048]⟩
abbrev S1024x1536 : Shape := ⟨2, ![1024, 1536]⟩
abbrev S1536x2048 : Shape := ⟨2, ![1536, 2048]⟩
abbrev S1024x2048 : Shape := ⟨2, ![1024, 2048]⟩

abbrev nBuf : Space → Nat
  | .hbm => 7
  | .vmem => 8
  | .smem => 0
  | _ => 0

abbrev bufTy : (tb : Table) → Fin (tcTables nBuf tb) → BufTy
  | .hbm, ⟨0, _⟩ => ⟨S2048x16896, .f32⟩
  | .hbm, ⟨1, _⟩ => ⟨S8192x2048, .f32⟩
  | .hbm, ⟨2, _⟩ => ⟨S8192x16896, .f32⟩
  | .hbm, ⟨3, _⟩ => ⟨S8192x16896, .bf16⟩
  | .hbm, ⟨4, _⟩ => ⟨S16896x2048, .f32⟩
  | .hbm, ⟨5, _⟩ => ⟨S16896x2048, .bf16⟩
  | .hbm, ⟨6, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x2048, .bf16⟩
  | .local _ .vmem, ⟨3, _⟩ => ⟨S1536x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S2048x16896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== XgradRefIdeal.lean ====
abbrev S2048x16896 : Shape := ⟨2, ![2048, 16896]⟩
abbrev S8192x2048 : Shape := ⟨2, ![8192, 2048]⟩
abbrev S8192x16896 : Shape := ⟨2, ![8192, 16896]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x16896, .f32⟩
  | .hbm, ⟨1, _⟩ => ⟨S8192x2048, .f32⟩
  | .hbm, ⟨2, _⟩ => ⟨S8192x16896, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x16896, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S2048x16896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== ProjKernel.lean ====
abbrev S8192x2048 : Shape := ⟨2, ![8192, 2048]⟩
abbrev S2048x16896 : Shape := ⟨2, ![2048, 16896]⟩
abbrev S16896x2048 : Shape := ⟨2, ![16896, 2048]⟩
abbrev S8192x16896 : Shape := ⟨2, ![8192, 16896]⟩
abbrev S1024x2048 : Shape := ⟨2, ![1024, 2048]⟩
abbrev S1536x2048 : Shape := ⟨2, ![1536, 2048]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x16896, .f32⟩
  | .hbm, ⟨2, _⟩ => ⟨S8192x2048, .bf16⟩
  | .hbm, ⟨3, _⟩ => ⟨S16896x2048, .f32⟩
  | .hbm, ⟨4, _⟩ => ⟨S16896x2048, .bf16⟩
  | .hbm, ⟨5, _⟩ => ⟨S8192x16896, .f32⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1024x1536, .f32⟩
  | .local _ .vmem, ⟨5, _⟩ => ⟨S1024x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x2048 : Shape := ⟨2, ![8192, 2048]⟩
abbrev S2048x16896 : Shape := ⟨2, ![2048, 16896]⟩
abbrev S8192x16896 : Shape := ⟨2, ![8192, 16896]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x16896, .f32⟩
  | .hbm, ⟨2, _⟩ => ⟨S8192x16896, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GoutKernel.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GoutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GprojKernel.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GprojRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DpKernel.lean ====
abbrev S1024x2048 : Shape := ⟨2, ![1024, 2048]⟩
abbrev S8192x2048 : Shape := ⟨2, ![8192, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DpRefIdeal.lean ====
abbrev S1024x2048 : Shape := ⟨2, ![1024, 2048]⟩
abbrev S8192x2048 : Shape := ⟨2, ![8192, 2048]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchKernel.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AttnKernel.lean ====
abbrev S8192x16896 : Shape := ⟨2, ![8192, 16896]⟩
abbrev S8192x1024 : Shape := ⟨2, ![8192, 1024]⟩
abbrev S16x128x256 : Shape := ⟨3, ![16, 128, 256]⟩
abbrev S16 : Shape := ⟨1, ![16]⟩
abbrev S8192x256 : Shape := ⟨2, ![8192, 256]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S_ : Shape := ⟨0, ![]⟩
abbrev S63x128x4x64 : Shape := ⟨4, ![63, 128, 4, 64]⟩
abbrev S64x256x4x64 : Shape := ⟨4, ![64, 256, 4, 64]⟩
abbrev S4x64x256x128x4 : Shape := ⟨5, ![4, 64, 256, 128, 4]⟩
abbrev S4x4x64x128x256 : Shape := ⟨5, ![4, 4, 64, 128, 256]⟩
abbrev S4x4x1x128x256 : Shape := ⟨5, ![4, 4, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x4x1x1x1 : Shape := ⟨5, ![4, 4, 1, 1, 1]⟩
abbrev S4x4x64x128 : Shape := ⟨4, ![4, 4, 64, 128]⟩
abbrev S4x4x64x128x1 : Shape := ⟨5, ![4, 4, 64, 128, 1]⟩
abbrev S64x4x64x4x128 : Shape := ⟨5, ![64, 4, 64, 4, 128]⟩
abbrev S4x512x256 : Shape := ⟨3, ![4, 512, 256]⟩
abbrev S8192x512 : Shape := ⟨2, ![8192, 512]⟩
abbrev S8x128 : Shape := ⟨2, ![8, 128]⟩
abbrev S128x1024 : Shape := ⟨2, ![128, 1024]⟩
abbrev S128x512 : Shape := ⟨2, ![128, 512]⟩
abbrev S1x128 : Shape := ⟨2, ![1, 128]⟩
abbrev S256x1 : Shape := ⟨2, ![256, 1]⟩
abbrev S256x256 : Shape := ⟨2, ![256, 256]⟩
abbrev S128x64 : Shape := ⟨2, ![128, 64]⟩
abbrev S256x64 : Shape := ⟨2, ![256, 64]⟩
abbrev S1x256x256 : Shape := ⟨3, ![1, 256, 256]⟩
abbrev S1 : Shape := ⟨1, ![1]⟩
abbrev S1x256x1 : Shape := ⟨3, ![1, 256, 1]⟩
abbrev S1x1x1 : Shape := ⟨3, ![1, 1, 1]⟩

abbrev nBuf : Space → Nat
  | .hbm => 128
  | .vmem => 29
  | .smem => 1
  | _ => 0

abbrev bufTy : (tb : Table) → Fin (tcTables nBuf tb) → BufTy
  | .hbm, ⟨0, _⟩ => ⟨S8192x16896, .f32⟩
  | .hbm, ⟨1, _⟩ => ⟨S8192x1024, .f32⟩
  | .hbm, ⟨2, _⟩ => ⟨S16x128x256, .f32⟩
  | .hbm, ⟨3, _⟩ => ⟨S16, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x1024, .f32⟩
  | .hbm, ⟨8, _⟩ => ⟨S64x128x4x4x64, .f32⟩
  | .hbm, ⟨9, _⟩ => ⟨S64x128x4x64, .f32⟩
  | .hbm, ⟨10, _⟩ => ⟨S64x128x4x64, .f32⟩
  | .hbm, ⟨11, _⟩ => ⟨S1x128x4x64, .f32⟩
  | .hbm, ⟨12, _⟩ => ⟨S_, .f32⟩
  | .hbm, ⟨13, _⟩ => ⟨S1x128x4x64, .f32⟩
  | .hbm, ⟨14, _⟩ => ⟨S63x128x4x64, .f32⟩
  | .hbm, ⟨15, _⟩ => ⟨S64x128x4x64, .f32⟩
  | .hbm, ⟨16, _⟩ => ⟨S64x256x4x64, .f32⟩
  | .hbm, ⟨17, _⟩ => ⟨S1x128x4x64, .f32⟩
  | .hbm, ⟨18, _⟩ => ⟨S_, .f32⟩
  | .hbm, ⟨19, _⟩ => ⟨S1x128x4x64, .f32⟩
  | .hbm, ⟨20, _⟩ => ⟨S63x128x4x64, .f32⟩
  | .hbm, ⟨21, _⟩ => ⟨S64x128x4x64, .f32⟩
  | .hbm, ⟨22, _⟩ => ⟨S64x256x4x64, .f32⟩
  | .hbm, ⟨23, _⟩ => ⟨S4x64x256x128x4, .f32⟩
  | .hbm, ⟨24, _⟩ => ⟨S4x4x64x128x256, .f32⟩
  | .hbm, ⟨25, _⟩ => ⟨S_, .f32⟩
  | .hbm, ⟨26, _⟩ => ⟨S4x4x64x128x256, .f32⟩
  | .hbm, ⟨27, _⟩ => ⟨S4x4x64x128x256, .f32⟩
  | .hbm, ⟨28, _⟩ => ⟨S4x4x1x128x256, .f32⟩
  | .hbm, ⟨29, _⟩ => ⟨S4x4x64x128x256, .f32⟩
  | .hbm, ⟨30, _⟩ => ⟨S4x4x64x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S64, .i32⟩
  | .hbm, ⟨49, _⟩ => ⟨S64x1x1, .i32⟩
  | .hbm, ⟨50, _⟩ => ⟨S_, .i32⟩
  | .hbm, ⟨51, _⟩ => ⟨S64x1x1, .i32⟩
  | .hbm, ⟨52, _⟩ => ⟨S64x1x1, .i32⟩
  | .hbm, ⟨53, _⟩ => ⟨S_, .i32⟩
  | .hbm, ⟨54, _⟩ => ⟨S64x1x1, .i32⟩
  | .hbm, ⟨55, _⟩ => ⟨S64x1x1, .i32⟩
  | .hbm, ⟨56, _⟩ => ⟨S1x1x256, .i32⟩
  | .hbm, ⟨57, _⟩ => ⟨S64x1x256, .i32⟩
  | .hbm, ⟨58, _⟩ => ⟨S64x1x256, .i32⟩
  | .hbm, ⟨59, _⟩ => ⟨S64x1x256, .i32⟩
  | .hbm, ⟨60, _⟩ => ⟨S1x128x256, .i1⟩
  | .hbm, ⟨61, _⟩ => ⟨S_, .i32⟩
  | .hbm, ⟨62, _⟩ => ⟨S64x1x256, .i32⟩
  | .hbm, ⟨63, _⟩ => ⟨S64x1x256, .i1⟩
  | .hbm, ⟨64, _⟩ => ⟨S64x128x256, .i1⟩
  | .hbm, ⟨65, _⟩ => ⟨S64x128x256, .i1⟩
  | .hbm, ⟨66, _⟩ => ⟨S64x128x256, .i1⟩
  | .hbm, ⟨67, _⟩ => ⟨S_, .f32⟩
  | .hbm, ⟨68, _⟩ => ⟨S_, .f32⟩
  | .hbm, ⟨69, _⟩ => ⟨S4x4x64x128x256, .i1⟩
  | .hbm, ⟨70, _⟩ => ⟨S4x4x64x128x256, .f32⟩
  | .hbm, ⟨71, _⟩ => ⟨S4x4x64x128x256, .f32⟩
  | .hbm, ⟨72, _⟩ => ⟨S4x4x1x1x1, .f32⟩
  | .hbm, ⟨73, _⟩ => ⟨S_, .f32⟩
  | .hbm, ⟨74, _⟩ => ⟨S4x4x64x128, .f32⟩
  | .hbm, ⟨75, _⟩ => ⟨S4x4x64x128x1, .f32⟩
  | .hbm, ⟨76, _⟩ => ⟨S4x4x64x128x1, .f32⟩
  | .hbm, ⟨77, _⟩ => ⟨S4x4x64x128x1, .f32⟩
  | .hbm, ⟨78, _⟩ => ⟨S4x4x64x128x256, .f32⟩
  | .hbm, ⟨79, _⟩ => ⟨S4x4x64x128x256, .f32⟩
  | .hbm, ⟨80, _⟩ => ⟨S4x4x64x128x256, .f32⟩
  | .hbm, ⟨81, _⟩ => ⟨S_, .f32⟩
  | .hbm, ⟨82, _⟩ => ⟨S4x4x64x128, .f32⟩
  | .hbm, ⟨83, _⟩ => ⟨S4x4x64x128x1, .f32⟩
  | .hbm, ⟨84, _⟩ => ⟨S4x4x64x128x1, .f32⟩
  | .hbm, ⟨85, _⟩ => ⟨S4x4x64x128x1, .f32⟩
  | .hbm, ⟨86, _⟩ => ⟨S4x4x64x128x1, .f32⟩
  | .hbm, ⟨87, _⟩ => ⟨S4x4x64x128x1, .f32⟩
  | .hbm, ⟨88, _⟩ => ⟨S4x4x64x128x256, .f32⟩
  | .hbm, ⟨89, _⟩ => ⟨S4x4x64x128x256, .f32⟩
  | .hbm, ⟨90, _⟩ => ⟨S64x4x64x4x128, .f32⟩
  | .hbm, ⟨91, _⟩ => ⟨S64x128x4x4x64, .f32⟩
  | .hbm, ⟨92, _⟩ => ⟨S8192x1024, .f32⟩
  | .hbm, ⟨93, _⟩ => ⟨S128, .i32⟩
  | .hbm, ⟨94, _⟩ => ⟨S128x1, .i32⟩
  | .hbm, ⟨95, _⟩ => ⟨S256, .i32⟩
  | .hbm, ⟨96, _⟩ => ⟨S1x256, .i32⟩
  | .hbm, ⟨97, _⟩ => ⟨S_, .i32⟩
  | .hbm, ⟨98, _⟩ => ⟨S1x256, .i32⟩
  | .hbm, ⟨99, _⟩ => ⟨S1x256, .i1⟩
  | .hbm, ⟨100, _⟩ => ⟨S_, .i32⟩
  | .hbm, ⟨101, _⟩ => ⟨S1x256, .i32⟩
  | .hbm, ⟨102, _⟩ => ⟨S1x256, .i32⟩
  | .hbm, ⟨103, _⟩ => ⟨S128x256, .i32⟩
  | .hbm, ⟨104, _⟩ => ⟨S128x256, .i32⟩
  | .hbm, ⟨105, _⟩ => ⟨S128x256, .i1⟩
  | .hbm, ⟨106, _⟩ => ⟨S128x256, .i1⟩
  | .hbm, ⟨107, _⟩ => ⟨S128x256, .i1⟩
  | .hbm, ⟨108, _⟩ => ⟨S_, .i32⟩
  | .hbm, ⟨109, _⟩ => ⟨S1x256, .i32⟩
  | .hbm, ⟨110, _⟩ => ⟨S1x256, .i1⟩
  | .hbm, ⟨111, _⟩ => ⟨S128x256, .i32⟩
  | .hbm, ⟨112, _⟩ => ⟨S128x256, .i32⟩
  | .hbm, ⟨113, _⟩ => ⟨S128x256, .i1⟩
  | .hbm, ⟨114, _⟩ => ⟨S128x256, .i1⟩
  | .hbm, ⟨115, _⟩ => ⟨S128x256, .i1⟩
  | .hbm, ⟨116, _⟩ => ⟨S128x256, .i1⟩
  | .hbm, ⟨117, _⟩ => ⟨S_, .f32⟩
  | .hbm, ⟨118, _⟩ => ⟨S_, .f32⟩
  | .hbm, ⟨119, _⟩ => ⟨S16x128x256, .i1⟩
  | .hbm, ⟨120, _⟩ => ⟨S16x128x256, .f32⟩
  | .hbm, ⟨121, _⟩ => ⟨S16x128x256, .f32⟩
  | .hbm, ⟨122, _⟩ => ⟨S4x512x256, .f32⟩
  | .hbm, ⟨123, _⟩ => ⟨S8192x1024, .bf16⟩
  | .hbm, ⟨124, _⟩ => ⟨S8192x512, .bf16⟩
  | .hbm, ⟨125, _⟩ => ⟨S4x512x256, .f32⟩
  | .hbm, ⟨126, _⟩ => ⟨S8x128, .f32⟩
  | .hbm, ⟨127, _⟩ => ⟨S8192x1024, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S4x512x256, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x1024, .bf16⟩
  | .local _ .vmem, ⟨20, _⟩ => ⟨S128x1024, .bf16⟩
  | .local _ .vmem, ⟨21, _⟩ => ⟨S128x512, .bf16⟩
  | .local _ .vmem, ⟨22, _⟩ => ⟨S128x512, .bf16⟩
  | .local _ .vmem, ⟨23, _⟩ => ⟨S4x512x256, .f32⟩
  | .local _ .vmem, ⟨24, _⟩ => ⟨S8x128, .f32⟩
  | .local _ .vmem, ⟨25, _⟩ => ⟨S128x1024, .bf16⟩
  | .local _ .vmem, ⟨26, _⟩ => ⟨S128x1024, .bf16⟩
  | .local _ .vmem, ⟨27, _⟩ => ⟨S128x1024, .f32⟩
  | .local _ .vmem, ⟨28, _⟩ => ⟨S128x512, .f32⟩
  | .local _ .smem, ⟨0, _⟩ => ⟨S16, .f32⟩
  | _, _ => ⟨S8192x16896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_c_10 : Ref sig .tc := ⟨.hbm, 97, rfl⟩
abbrev main_v78 : Ref sig .tc := ⟨.hbm, 98, rfl⟩
abbrev main_v79 : Ref sig .tc := ⟨.hbm, 99, rfl⟩
abbrev main_c_11 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_12 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_13 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v95 : Ref sig .tc := ⟨.hbm, 121, rfl⟩
abbrev main_v96 : Ref sig .tc := ⟨.hbm, 122, rfl⟩
abbrev main_v97_0 : Ref sig .tc := ⟨.hbm, 123, rfl⟩
abbrev main_v97_1 : Ref sig .tc := ⟨.hbm, 124, rfl⟩
abbrev main_v97_2 : Ref sig .tc := ⟨.hbm, 125, rfl⟩
abbrev main_v97_3 : Ref sig .tc := ⟨.hbm, 126, rfl⟩
abbrev main_v97_4 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32_2 : BitVec 32 := 64#32
  let v6 : BitVec 1 := Scalar.cmpi .slt arg0 c64_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c64_i32 : BitVec 32 := 64#32
  let v3 : BitVec 1 := Scalar.cmpi .eq arg0 c64_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c20_i32 : BitVec 32 := 20#32
  let c0_i32 : BitVec 32 := 0#32
  ![v0.toNat, c20_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let c0_i32_0 : BitVec 32 := 0#32
  ![v2.toNat, c21_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c21_i32 : BitVec 32 := 21#32
  let c0_i32 : BitVec 32 := 0#32
  ![v0.toNat, c21_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c11_i32 : BitVec 32 := 11#32
  let c0_i32 : BitVec 32 := 0#32
  ![v0.toNat, c11_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c12_i32 : BitVec 32 := 12#32
  let c0_i32 : BitVec 32 := 0#32
  ![v0.toNat, c12_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AttnRefIdeal.lean ====
abbrev S8192x16896 : Shape := ⟨2, ![8192, 16896]⟩
abbrev S8192x1024 : Shape := ⟨2, ![8192, 1024]⟩
abbrev S16x128x256 : Shape := ⟨3, ![16, 128, 256]⟩
abbrev S16 : Shape := ⟨1, ![16]⟩
abbrev S8192x256 : Shape := ⟨2, ![8192, 256]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S_ : Shape := ⟨0, ![]⟩
abbrev S63x128x4x64 : Shape := ⟨4, ![63, 128, 4, 64]⟩
abbrev S64x256x4x64 : Shape := ⟨4, ![64, 256, 4, 64]⟩
abbrev S4x64x256x128x4 : Shape := ⟨5, ![4, 64, 256, 128, 4]⟩
abbrev S4x4x64x128x256 : Shape := ⟨5, ![4, 4, 64, 128, 256]⟩
abbrev S4x4x1x128x256 : Shape := ⟨5, ![4, 4, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x4x1x1x1 : Shape := ⟨5, ![4, 4, 1, 1, 1]⟩
abbrev S4x4x64x128 : Shape := ⟨4, ![4, 4, 64, 128]⟩
abbrev S4x4x64x128x1 : Shape := ⟨5, ![4, 4, 64, 128, 1]⟩
abbrev S64x4x64x4x128 : Shape := ⟨5, ![64, 4, 64, 4, 128]⟩
abbrev S64x4x4x128x256 : Shape := ⟨5, ![64, 4, 4, 128, 256]⟩
abbrev S64x4x64x256 : Shape := ⟨4, ![64, 4, 64, 256]⟩
abbrev S4x4x1 : Shape := ⟨3, ![4, 4, 1]⟩
abbrev S4x4x128x256 : Shape := ⟨4, ![4, 4, 128, 256]⟩
abbrev S4x64x128x4x64 : Shape := ⟨5, ![4, 64, 128, 4, 64]⟩
abbrev S4x64x256x64 : Shape := ⟨4, ![4, 64, 256, 64]⟩
abbrev S8192x512 : Shape := ⟨2, ![8192, 512]⟩
abbrev S4x512x256 : Shape := ⟨3, ![4, 512, 256]⟩
abbrev S1x16 : Shape := ⟨2, ![1, 16]⟩
abbrev S8x128 : Shape := ⟨2, ![8, 128]⟩

abbrev nBuf : Space → Nat
  | .hbm => 237
  | .vmem => 0
  | .smem => 0
  | _ => 0

abbrev hbmTy0_0 (i : Nat) : BufTy := match i % 128 with
  | 0 => ⟨S8192x16896, .f32⟩
  | 1 => ⟨S8192x1024, .f32⟩
  | 2 => ⟨S16x128x256, .f32⟩
  | 3 => ⟨S16, .f32⟩
  | 4 => ⟨S8192x1024, .f32⟩
  | 5 => ⟨S8192x256, .f32⟩
  | 6 => ⟨S8192x256, .f32⟩
  | 7 => ⟨S8192x1024, .f32⟩
  | 8 => ⟨S64x128x4x4x64, .f32⟩
  | 9 => ⟨S64x128x4x64, .f32⟩
  | 10 => ⟨S64x128x4x64, .f32⟩
  | 11 => ⟨S1x128x4x64, .f32⟩
  | 12 => ⟨S_, .f32⟩
  | 13 => ⟨S1x128x4x64, .f32⟩
  | 14 => ⟨S63x128x4x64, .f32⟩
  | 15 => ⟨S64x128x4x64, .f32⟩
  | 16 => ⟨S_, .f32⟩
  | 17 => ⟨S1x128x4x64, .f32⟩
  | 18 => ⟨S64x256x4x64, .f32⟩
  | 19 => ⟨S1x128x4x64, .f32⟩
  | 20 => ⟨S_, .f32⟩
  | 21 => ⟨S1x128x4x64, .f32⟩
  | 22 => ⟨S63x128x4x64, .f32⟩
  | 23 => ⟨S64x128x4x64, .f32⟩
  | 24 => ⟨S_, .f32⟩
  | 25 => ⟨S1x128x4x64, .f32⟩
  | 26 => ⟨S64x256x4x64, .f32⟩
  | 27 => ⟨S4x64x256x128x4, .f32⟩
  | 28 => ⟨S4x4x64x128x256, .f32⟩
  | 29 => ⟨S_, .f32⟩
  | 30 => ⟨S4x4x64x128x256, .f32⟩
  | 31 => ⟨S4x4x64x128x256, .f32⟩
  | 32 => ⟨S4x4x1x128x256, .f32⟩
  | 33 => ⟨S4x4x64x128x256, .f32⟩
  | 34 => ⟨S4x4x64x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S64, .i32⟩
  | 53 => ⟨S64x1x1, .i32⟩
  | 54 => ⟨S_, .i32⟩
  | 55 => ⟨S64x1x1, .i32⟩
  | 56 => ⟨S64x1x1, .i32⟩
  | 57 => ⟨S_, .i32⟩
  | 58 => ⟨S64x1x1, .i32⟩
  | 59 => ⟨S64x1x1, .i32⟩
  | 60 => ⟨S1x1x256, .i32⟩
  | 61 => ⟨S64x1x256, .i32⟩
  | 62 => ⟨S64x1x256, .i32⟩
  | 63 => ⟨S64x1x256, .i32⟩
  | 64 => ⟨S1x128x256, .i1⟩
  | 65 => ⟨S_, .i32⟩
  | 66 => ⟨S64x1x256, .i32⟩
  | 67 => ⟨S64x1x256, .i1⟩
  | 68 => ⟨S64x128x256, .i1⟩
  | 69 => ⟨S64x128x256, .i1⟩
  | 70 => ⟨S64x128x256, .i1⟩
  | 71 => ⟨S_, .f32⟩
  | 72 => ⟨S_, .f32⟩
  | 73 => ⟨S4x4x64x128x256, .i1⟩
  | 74 => ⟨S4x4x64x128x256, .f32⟩
  | 75 => ⟨S4x4x64x128x256, .f32⟩
  | 76 => ⟨S_, .f32⟩
  | 77 => ⟨S4x4x64x128x256, .f32⟩
  | 78 => ⟨S4x4x1x1x1, .f32⟩
  | 79 => ⟨S_, .f32⟩
  | 80 => ⟨S4x4x64x128, .f32⟩
  | 81 => ⟨S4x4x64x128x1, .f32⟩
  | 82 => ⟨S4x4x64x128x256, .f32⟩
  | 83 => ⟨S4x4x64x128x256, .i1⟩
  | 84 => ⟨S4x4x64x128x256, .f32⟩
  | 85 => ⟨S_, .f32⟩
  | 86 => ⟨S4x4x64x128, .f32⟩
  | 87 => ⟨S4x4x64x128x1, .f32⟩
  | 88 => ⟨S4x4x64x128x1, .f32⟩
  | 89 => ⟨S4x4x64x128x1, .f32⟩
  | 90 => ⟨S4x4x64x128x1, .f32⟩
  | 91 => ⟨S4x4x64x128x1, .i1⟩
  | 92 => ⟨S4x4x64x128x1, .f32⟩
  | 93 => ⟨S4x4x64x128x1, .i1⟩
  | 94 => ⟨S_, .f32⟩
  | 95 => ⟨S4x4x64x128x1, .f32⟩
  | 96 => ⟨S_, .f32⟩
  | 97 => ⟨S4x4x64x128x1, .f32⟩
  | 98 => ⟨S_, .f32⟩
  | 99 => ⟨S4x4x64x128x1, .f32⟩
  | 100 => ⟨S4x4x64x128x1, .f32⟩
  | 101 => ⟨S4x4x64x128x1, .f32⟩
  | 102 => ⟨S4x4x64x128x1, .f32⟩
  | 103 => ⟨S4x4x64x128x1, .i1⟩
  | 104 => ⟨S4x4x64x128x1, .f32⟩
  | 105 => ⟨S4x4x64x128x1, .i1⟩
  | 106 => ⟨S_, .f32⟩
  | 107 => ⟨S4x4x64x128x1, .f32⟩
  | 108 => ⟨S_, .f32⟩
  | 109 => ⟨S4x4x64x128x1, .f32⟩
  | 110 => ⟨S_, .f32⟩
  | 111 => ⟨S4x4x64x128x1, .f32⟩
  | 112 => ⟨S4x4x64x128x1, .f32⟩
  | 113 => ⟨S4x4x64x128x1, .f32⟩
  | 114 => ⟨S4x4x64x128x256, .f32⟩
  | 115 => ⟨S4x4x64x128x256, .f32⟩
  | 116 => ⟨S4x4x64x128x256, .f32⟩
  | 117 => ⟨S_, .f32⟩
  | 118 => ⟨S4x4x64x128, .f32⟩
  | 119 => ⟨S4x4x64x128x1, .f32⟩
  | 120 => ⟨S4x4x64x128x1, .f32⟩
  | 121 => ⟨S4x4x64x128x1, .f32⟩
  | 122 => ⟨S4x4x64x128x1, .f32⟩
  | 123 => ⟨S4x4x64x128x1, .f32⟩
  | 124 => ⟨S4x4x64x128x256, .f32⟩
  | 125 => ⟨S4x4x64x128x256, .f32⟩
  | 126 => ⟨S4x4x64x128x1, .f32⟩
  | 127 => ⟨S_, .f32⟩
  | _ => ⟨S8192x16896, .f32⟩

abbrev hbmTy0_1 (i : Nat) : BufTy := match i % 128 with
  | 0 => ⟨S4x4x64x128x1, .f32⟩
  | 1 => ⟨S4x4x64x128x1, .f32⟩
  | 2 => ⟨S64x4x64x4x128, .f32⟩
  | 3 => ⟨S64x128x4x4x64, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S64x128x4x4x64, .f32⟩
  | 26 => ⟨S64x4x64x4x128, .f32⟩
  | 27 => ⟨S64x4x4x128x256, .f32⟩
  | 28 => ⟨S4x4x64x128x256, .f32⟩
  | 29 => ⟨S64x4x64x256, .f32⟩
  | 30 => ⟨S64x256x4x64, .f32⟩
  | 31 => ⟨S4x4x64x128x256, .f32⟩
  | 32 => ⟨S4x4x64x128x256, .f32⟩
  | 33 => ⟨S4x4x64x128x256, .f32⟩
  | 34 => ⟨S_, .f32⟩
  | 35 => ⟨S4x4x64x128, .f32⟩
  | 36 => ⟨S4x4x64x128x1, .f32⟩
  | 37 => ⟨S4x4x64x128x1, .f32⟩
  | 38 => ⟨S4x4x64x128x256, .f32⟩
  | 39 => ⟨S4x4x64x128x256, .f32⟩
  | 40 => ⟨S4x4x64x128x1, .f32⟩
  | 41 => ⟨S_, .f32⟩
  | 42 => ⟨S4x4x1, .f32⟩
  | 43 => ⟨S4x4x1x1x1, .f32⟩
  | 44 => ⟨S4x4x64x128x1, .f32⟩
  | 45 => ⟨S_, .f32⟩
  | 46 => ⟨S4x4x64x128, .f32⟩
  | 47 => ⟨S4x4x64x128x256, .f32⟩
  | 48 => ⟨S4x4x64x128x256, .f32⟩
  | 49 => ⟨S4x4x64x128x256, .f32⟩
  | 50 => ⟨S4x4x64x128x256, .f32⟩
  | 51 => ⟨S_, .f32⟩
  | 52 => ⟨S4x4x64x128, .f32⟩
  | 53 => ⟨S4x4x64x128x1, .f32⟩
  | 54 => ⟨S4x4x64x128x1, .f32⟩
  | 55 => ⟨S4x4x64x128x1, .f32⟩
  | 56 => ⟨S_, .f32⟩
  | 57 => ⟨S4x4x1, .f32⟩
  | 58 => ⟨S4x4x1x1x1, .f32⟩
  | 59 => ⟨S4x4x1x1x1, .f32⟩
  | 60 => ⟨S4x4x64x128x1, .f32⟩
  | 61 => ⟨S_, .f32⟩
  | 62 => ⟨S4x4x64x128, .f32⟩
  | 63 => ⟨S4x4x64x128, .f32⟩
  | 64 => ⟨S4x4x64x128x256, .f32⟩
  | 65 => ⟨S4x4x64x128x256, .f32⟩
  | 66 => ⟨S4x4x64x128x256, .f32⟩
  | 67 => ⟨S16, .f32⟩
  | 68 => ⟨S_, .f32⟩
  | 69 => ⟨S4x4x64x128x256, .f32⟩
  | 70 => ⟨S4x4x64x128x256, .f32⟩
  | 71 => ⟨S_, .f32⟩
  | 72 => ⟨S4x4x128x256, .f32⟩
  | 73 => ⟨S4x4x1x128x256, .f32⟩
  | 74 => ⟨S16x128x256, .f32⟩
  | 75 => ⟨S_, .f32⟩
  | 76 => ⟨S4x4x64x128x256, .f32⟩
  | 77 => ⟨S4x4x64x128x256, .f32⟩
  | 78 => ⟨S4x64x256x128x4, .f32⟩
  | 79 => ⟨S4x64x128x4x64, .f32⟩
  | 80 => ⟨S64x128x4x4x64, .f32⟩
  | 81 => ⟨S4x64x256x64, .f32⟩
  | 82 => ⟨S64x256x4x64, .f32⟩
  | 83 => ⟨S64x128x4x64, .f32⟩
  | 84 => ⟨S64x128x4x64, .f32⟩
  | 85 => ⟨S1x128x4x64, .f32⟩
  | 86 => ⟨S63x128x4x64, .f32⟩
  | 87 => ⟨S_, .f32⟩
  | 88 => ⟨S64x128x4x64, .f32⟩
  | 89 => ⟨S64x128x4x64, .f32⟩
  | 90 => ⟨S64x128x4x64, .f32⟩
  | 91 => ⟨S64x128x4x64, .f32⟩
  | 92 => ⟨S1x128x4x64, .f32⟩
  | 93 => ⟨S63x128x4x64, .f32⟩
  | 94 => ⟨S_, .f32⟩
  | 95 => ⟨S64x128x4x64, .f32⟩
  | 96 => ⟨S64x128x4x64, .f32⟩
  | 97 => ⟨S8192x256, .f32⟩
  | 98 => ⟨S8192x256, .f32⟩
  | 99 => ⟨S8192x1024, .f32⟩
  | 100 => ⟨S8192x1024, .bf16⟩
  | 101 => ⟨S8192x512, .f32⟩
  | 102 => ⟨S8192x512, .bf16⟩
  | 103 => ⟨S4x512x256, .f32⟩
  | 104 => ⟨S1x16, .f32⟩
  | 105 => ⟨S_, .i32⟩
  | 106 => ⟨S_, .f32⟩
  | 107 => ⟨S8x128, .f32⟩
  | 108 => ⟨S8192x1024, .bf16⟩
  | _ => ⟨S8192x16896, .f32⟩

abbrev hbmTy (i : Nat) : BufTy := match i / 128 with
  | 0 => hbmTy0_0 i
  | 1 => hbmTy0_1 i
  | _ => ⟨S8192x16896, .f32⟩

abbrev bufTy : (tb : Table) → Fin (tcTables nBuf tb) → BufTy
  | .hbm, ⟨i, _⟩ => hbmTy i
  | _, _ => ⟨S8192x16896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_call0_v0 : Ref sig .tc := ⟨.hbm, 72, rfl⟩
abbrev main_v56_1 : Ref sig .tc := ⟨.hbm, 73, rfl⟩
abbrev main_call0_v2 : Ref sig .tc := ⟨.hbm, 74, rfl⟩
abbrev main_v56_0 : Ref sig .tc := ⟨.hbm, 75, rfl⟩
abbrev main_call0_cst : Ref sig .tc := ⟨.hbm, 76, rfl⟩
abbrev main_v56_2 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_call1_v0 : Ref sig .tc := ⟨.hbm, 133, rfl⟩
abbrev main_call1_v1 : Ref sig .tc := ⟨.hbm, 134, rfl⟩
abbrev main_call1_cst : Ref sig .tc := ⟨.hbm, 135, rfl⟩
abbrev main_call1_v2 : Ref sig .tc := ⟨.hbm, 136, rfl⟩
abbrev main_call1_v3 : Ref sig .tc := ⟨.hbm, 137, rfl⟩
abbrev main_call1_cst_0 : Ref sig .tc := ⟨.hbm, 138, rfl⟩
abbrev main_call1_v4 : Ref sig .tc := ⟨.hbm, 139, rfl⟩
abbrev main_v102_2 : Ref sig .tc := ⟨.hbm, 140, rfl⟩
abbrev main_call1_cst_1 : Ref sig .tc := ⟨.hbm, 141, rfl⟩
abbrev main_call1_v6 : Ref sig .tc := ⟨.hbm, 142, rfl⟩
abbrev main_call1_v7 : Ref sig .tc := ⟨.hbm, 143, rfl⟩
abbrev main_v102_1 : Ref sig .tc := ⟨.hbm, 144, rfl⟩
abbrev main_v102_0 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_20 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_21 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_22 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_23 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_24 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_25 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_call3_cst : Ref sig .tc := ⟨.hbm, 196, rfl⟩
abbrev main_call3_v0 : Ref sig .tc := ⟨.hbm, 197, rfl⟩
abbrev main_v144 : Ref sig .tc := ⟨.hbm, 198, rfl⟩
abbrev main_cst_26 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_cst_27 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_28 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_cst_29 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_30 : Ref sig .tc := ⟨.hbm, 233, rfl⟩
abbrev main_call4_v0 : Ref sig .tc := ⟨.hbm, 234, rfl⟩
abbrev main_v175 : Ref sig .tc := ⟨.hbm, 235, rfl⟩
abbrev main_v176 : Ref sig .tc := ⟨.hbm, 236, rfl⟩

abbrev nD : Nat := 1
abbrev τ : Topo := Topo.v7x

variable {F : FTy → Type} [FloatOps F]
-- ==== Proof.AttnRuns.lean ====
module

public import proofs.«01_k».proof.Proof.Gen.AttnKernelIdeal.Frame
public import proofs.«01_k».proof.Proof.Gen.AttnKernelIdeal.Skeleton
public import Idealize.ShloMosaic.Lib.Pipeline.TableIdle
public import Idealize.ShloMosaic.Lib.Ring

@[expose] public section

-- membership in a rectangle of production extents (`View.cover_of_tiled`): the structural look
-- recurses once per coordinate of the long axes
set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_1, k0_cond2, e0]
    word_cmp
   : ∀ t : Fin grid0.N, cond0_1 (grid0.coords t) ↔ t.val % 65 = 64)

/-- The condition of the body's `scf.if` 2 (`k0_h3`), from the grid coordinates (the skeleton's scalar
    chain substituted). -/
abbrev cond0_2 (i : grid0.Coords) : Prop := k0_cond3 i = 1#1
/-- It holds at the points before point 64 — decided over the grid. -/
theorem hcond0_2 : ∀ t : Fin cfg0.N, cond0_2 (grid0.coords t) ↔ t.val < 64 :=
  (by decide +kernel : ∀ t : Fin grid0.N, cond0_2 (grid0.coords t) ↔ t.val < 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- At the points of case A the printed configuration (`Cfg.idle`) calls output 11 live: the case stores into it. -/
theorem liveAt0_11_A : ∀ t : Fin cfg0.N, cond0_0 (grid0.coords t) → ¬cond0_1 (grid0.coords t) → cond0_2 (grid0.coords t) → cfg0.idle 11 (grid0.coords t) = false := by decide +kernel
/-- At the points of case B the printed configuration (`Cfg.idle`) calls output 11 live: the case stores into it. -/
theorem liveAt0_11_B : ∀ t : Fin cfg0.N, ¬cond0_0 (grid0.coords t) → ¬cond0_1 (grid0.coords t) → cond0_2 (grid0.coords t) → cfg0.idle 11 (grid0.coords t) = false := by decide +kernel
/-- At the last point output 11 is idle: the body stores nothing into it there. -/
theorem idleAt0_11_C : ∀ t : Fin cfg0.N, ¬cond0_0 (grid0.coords t) → cond0_1 (grid0.coords t) → ¬cond0_2 (grid0.coords t) → cfg0.idle 11 (grid0.coords t) = true := by decide +kernel
/-- At the last point output 11's block is written back. -/
theorem flushAt0_11_C : ∀ t : Fin cfg0.N, cond0_1 (grid0.coords t) → (cfg0.win 11).flush t = true := by decide +kernel
/-- Whether output 11's buffer holds nothing stored since its last write-back, at each position. -/
def freshTab0_11 : ℕ → Bool
  | 0 => true
  | n + 1 => (0x17FFFFFFFFFFFFFFF : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the last point output 11's buffer still holds what was stored at the point before. -/
theorem notFresh0_11_C : ∀ t : Fin cfg0.N, ¬cond0_0 (grid0.coords t) → cond0_1 (grid0.coords t) → ¬cond0_2 (grid0.coords t) → cfg0.fresh 11 t.val = false := by
  intro t; rw [fresh0_11_eq t]; revert t; decide +kernel
/-- At the points of case A the printed configuration (`Cfg.idle`) calls output 12 live: the case stores into it. -/
theorem liveAt0_12_A : ∀ t : Fin cfg0.N, cond0_0 (grid0.coords t) → ¬cond0_1 (grid0.coords t) → cond0_2 (grid0.coords t) → cfg0.idle 12 (grid0.coords t) = false := by decide +kernel
/-- At the points of case B the printed configuration (`Cfg.idle`) calls output 12 live: the case stores into it. -/
theorem liveAt0_12_B : ∀ t : Fin cfg0.N, ¬cond0_0 (grid0.coords t) → ¬cond0_1 (grid0.coords t) → cond0_2 (grid0.coords t) → cfg0.idle 12 (grid0.coords t) = false := by decide +kernel
/-- At the points of case C the printed configuration (`Cfg.idle`) calls output 12 live: the case stores into it. -/
theorem liveAt0_12_C : ∀ t : Fin cfg0.N, ¬cond0_0 (grid0.coords t) → cond0_1 (grid0.coords t) → ¬cond0_2 (grid0.coords t) → cfg0.idle 12 (grid0.coords t) = false := by decide +kernel
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x10000000000000000 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → ¬cond0_1 (grid0.coords t) → cond0_2 (grid0.coords t) → cfg0.idle 13 (grid0.coords t) = false := by decide +kernel
/-- At the points of case B the printed configuration (`Cfg.idle`) calls output 13 live: the case stores into it. -/
theorem liveAt0_13_B : ∀ t : Fin cfg0.N, ¬cond0_0 (grid0.coords t) → ¬cond0_1 (grid0.coords t) → cond0_2 (grid0.coords t) → cfg0.idle 13 (grid0.coords t) = false := by decide +kernel
/-- At the points of case B, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_B : ∀ t : Fin cfg0.N, ¬cond0_0 (grid0.coords t) → ¬cond0_1 (grid0.coords t) → cond0_2 (grid0.coords t) → cfg0.fresh 13 t.val = false := by
  intro t; rw [fresh0_13_eq t]; revert t; decide +kernel
/-- At the last point output 13 is idle: the body stores nothing into it there. -/
theorem idleAt0_13_C : ∀ t : Fin cfg0.N, ¬cond0_0 (grid0.coords t) → cond0_1 (grid0.coords t) → ¬cond0_2 (grid0.coords t) → cfg0.idle 13 (grid0.coords t) = true := by decide +kernel
/-- At the last point output 13's block is written back. -/
theorem flushAt0_13_C : ∀ t : Fin cfg0.N, cond0_1 (grid0.coords t) → (cfg0.win 13).flush t = true := by decide +kernel
/-- At the points of case C, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_C : ∀ t : Fin cfg0.N, ¬cond0_0 (grid0.coords t) → cond0_1 (grid0.coords t) → ¬cond0_2 (grid0.coords t) → cfg0.fresh 13 t.val = false := by
  intro t; rw [fresh0_13_eq t]; revert t; decide +kernel
/-- Whether output 14's buffer is FRESH at each position `1 ‥ N` — holds nothing the body stored since the region's entry or the
    last write-back (written back at the point before, or idle there and fresh before it) —, as a bitmask the classifier
    computed, bit `n` for position `n + 1`; position 0 is fresh. `freshTab0_14_step` checks it against the configuration's own
    step point by point and Lib/Pipeline/TableIdle.lean `Cfg.fresh_tab` makes it `Cfg.fresh` (`fresh0_14_eq`). -/
def freshTab0_14 : ℕ → Bool
  | 0 => true
  | n + 1 => (0x10000000000000000 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
/-- At the points of case A the printed configuration (`Cfg.idle`) calls output 14 live: the case stores into it. -/
theorem liveAt0_14_A : ∀ t : Fin cfg0.N, cond0_0 (grid0.coords t) → ¬cond0_1 (grid0.coords t) → cond0_2 (grid0.coords t) → cfg0.idle 14 (grid0.coords t) = false := by decide +kernel
/-- At the points of case B the printed configuration (`Cfg.idle`) calls output 14 live: the case stores into it. -/
theorem liveAt0_14_B : ∀ t : Fin cfg0.N, ¬cond0_0 (grid0.coords t) → ¬cond0_1 (grid0.coords t) → cond0_2 (grid0.coords t) → cfg0.idle 14 (grid0.coords t) = false := by decide +kernel
/-- At the points of case B, which keeps output 14's prior contents (reads it before covering, or covers it in part), the
    window's buffer is not FRESH: something was stored into it since the region's entry or its last write-back, idle points
    between or not (Lib/Pipeline/TableIdle.lean `Cfg.fresh`, by the table `freshTab0_14`). -/
theorem notFresh0_14_B : ∀ t : Fin cfg0.N, ¬cond0_0 (grid0.coords t) → ¬cond0_1 (grid0.coords t) → cond0_2 (grid0.coords t) → cfg0.fresh 14 t.val = false := by
  intro t; rw [fresh0_14_eq t]; revert t; decide +kernel
/-- At the last point output 14 is idle: the body stores nothing into it there. -/
theorem idleAt0_14_C : ∀ t : Fin cfg0.N, ¬cond0_0 (grid0.coords t) → cond0_1 (grid0.coords t) → ¬cond0_2 (grid0.coords t) → cfg0.idle 14 (grid0.coords t) = true := by decide +kernel
/-- At the last point output 14's block is written back. -/
theorem flushAt0_14_C : ∀ t : Fin cfg0.N, cond0_1 (grid0.coords t) → (cfg0.win 14).flush t = true := by decide +kernel
/-- At the points of case C, which keeps output 14's prior contents (reads it before covering, or covers it in part), the
    window's buffer is not FRESH: something was stored into it since the region's entry or its last write-back, idle points
    between or not (Lib/Pipeline/TableIdle.lean `Cfg.fresh`, by the table `freshTab0_14`). -/
theorem notFresh0_14_C : ∀ t : Fin cfg0.N, ¬cond0_0 (grid0.coords t) → cond0_1 (grid0.coords t) → ¬cond0_2 (grid0.coords t) → cfg0.fresh 14 t.val = false := by
  intro t; rw [fresh0_14_eq t]; revert t; decide +kernel
/-- At the points of case A the printed configuration (`Cfg.idle`) calls output 15 live: the case stores into it. -/
theorem liveAt0_15_A : ∀ t : Fin cfg0.N, cond0_0 (grid0.coords t) → ¬cond0_1 (grid0.coords t) → cond0_2 (grid0.coords t) → cfg0.idle 15 (grid0.coords t) = false := by decide +kernel
/-- At the points of case B the printed configuration (`Cfg.idle`) calls output 15 live: the case stores into it. -/
theorem liveAt0_15_B : ∀ t : Fin cfg0.N, ¬cond0_0 (grid0.coords t) → ¬cond0_1 (grid0.coords t) → cond0_2 (grid0.coords t) → cfg0.idle 15 (grid0.coords t) = false := by decide +kernel
/-- At the last point output 15 is idle: the body stores nothing into it there. -/
theorem idleAt0_15_C : ∀ t : Fin cfg0.N, ¬cond0_0 (grid0.coords t) → cond0_1 (grid0.coords t) → ¬cond0_2 (grid0.coords t) → cfg0.idle 15 (grid0.coords t) = true := by decide +kernel
/-- At the last point output 15's block is written back. -/
theorem flushAt0_15_C : ∀ t : Fin cfg0.N, cond0_1 (grid0.coords t) → (cfg0.win 15).flush t = true := by decide +kernel
/-- Whether output 15's buffer holds nothing stored since its last write-back, at each position. -/
def freshTab0_15 : ℕ → Bool
  | 0 => true
  | n + 1 => (0x17FFFFFFFFFFFFFFF : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
/-- At the last point output 15's buffer still holds what was stored at the point before. -/
theorem notFresh0_15_C : ∀ t : Fin cfg0.N, ¬cond0_0 (grid0.coords t) → cond0_1 (grid0.coords t) → ¬cond0_2 (grid0.coords t) → cfg0.fresh 15 t.val = false := by
  intro t; rw [fresh0_15_eq t]; revert t; decide +kernel

/-! ## The kernel body on any staging memrefs: a subtype the run finds -/

/-- One staging buffer of output window 11, through which its contents are stated (`View.read_writes_of_cover`: the
    choice does not matter). -/
abbrev VO0_11 : View sig .tc .vmem S128x1024 .bf16 := (Memref.whole cc0_stg11_0 : Memref sig .tc .vmem S128x1024 .bf16).view
/-- One staging buffer of output window 12, through which its contents are stated (`View.read_writes_of_cover`: the
    choice does not matter). -/
abbrev VO0_12 : View sig .tc .vmem S128x512 .bf16 := (Memref.whole cc0_stg12_0 : Memref sig .tc .vmem S128x512 .bf16).view
/-- One staging buffer of output window 13, through which its contents are stated (`View.read_writes_of_cover`: the
    choice does not matter). -/
abbrev VO0_13 : View sig .tc .vmem S4x512x256 .f32 := (Memref.whole cc0_stg13_0 : Memref sig .tc .vmem S4x512x256 .f32).view
/-- One staging buffer of output window 14, through which its contents are stated (`View.read_writes_of_cover`: the
    choice does not matter). -/
abbrev VO0_14 : View sig .tc .vmem S8x128 .f32 := (Memref.whole cc0_stg14_0 : Memref sig .tc .vmem S8x128 .f32).view
/-- One staging buffer of output window 15, through which its contents are stated (`View.read_writes_of_cover`: the
    choice does not matter). -/
abbrev VO0_15 : View sig .tc .vmem S128x1024 .bf16 := (Memref.whole cc0_stg15_0 : Memref sig .tc .vmem S128x1024 .bf16).view
/-- Each window's current staging memref at point `t`, spelled as the pipeline passes it (`bodyAt0`), and its wholeness. -/
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x512x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x1024 .bf16 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S128x1024 .f32 := Memref.whole cc0_scratch0
abbrev scM0_1 : Memref sig .tc .vmem S128x512 .f32 := Memref.whole cc0_scratch1
/-- The scratch `arg18` the kernel carries between points, as a view: what it holds is stated through it. -/
abbrev VS0_1 : View sig .tc .vmem S128x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.AttnKernelIdeal.Gen

end
-- ==== Proof.AttnRunA.lean ====
module

public import proofs.«01_k».proof.Proof.AttnRuns

@[expose] public section

-- membership in a rectangle of production extents (`View.cover_of_tiled`): the structural look
-- recurses once per coordinate of the long axes
set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1388000 in
/-- What the body's stores leave in each output's staging memref, as pieces (last first) IN CASE A (`scf.if` 0 taken, `scf.if` 1 not taken, `scf.if` 2 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) :
    Σ' (L11 : List (View.Piece (Elt F) S128x1024 .bf16)), Σ' (L12 : List (View.Piece (Elt F) S128x512 .bf16)), Σ' (L13 : List (View.Piece (Elt F) S4x512x256 .f32)), Σ' (L14 : List (View.Piece (Elt F) S8x128 .f32)), Σ' (L15 : List (View.Piece (Elt F) S128x1024 .bf16)), Σ' (LS1 : List (View.Piece (Elt F) S128x512 .f32)), { LT0 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LT0) ∗ (∃ f, arg18.view.loc (c : Thread nD τ) ↦[arg18.view.set]{fullShare} arg18.view.writes (Elt F) f LS1)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_attn_bwd_eq_skeleton]; unfold cc0_attn_bwd_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    iexists _; iexact HS1

end Cert.AttnKernelIdeal.Gen

end
-- ==== Proof.AttnRunB.lean ====
module

public import proofs.«01_k».proof.Proof.AttnRuns

@[expose] public section

-- membership in a rectangle of production extents (`View.cover_of_tiled`): the structural look
-- recurses once per coordinate of the long axes
set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1360000 in
/-- What the body's stores leave in each output's staging memref, as pieces (last first) IN CASE B (`scf.if` 0 not taken, `scf.if` 1 not taken, `scf.if` 2 taken: points 1, 2, … 63: 63 of 65), WITH the
    proof that on whole staging memrefs — the inputs' at their contents, the outputs it reads before covering (13, 14) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) :
    Σ' (L11 : List (View.Piece (Elt F) S128x1024 .bf16)), Σ' (L12 : List (View.Piece (Elt F) S128x512 .bf16)), Σ' (L13 : List (View.Piece (Elt F) S4x512x256 .f32)), Σ' (L14 : List (View.Piece (Elt F) S8x128 .f32)), Σ' (L15 : List (View.Piece (Elt F) S128x1024 .bf16)), Σ' (LS1 : List (View.Piece (Elt F) S128x512 .f32)), { LT0 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xo13 ∗ owns (c : Thread nD τ) arg15 fullShare xo14 ∗ (∃ d, owns (c : Thread nD τ) arg16 fullShare d) ∗ (∃ d, owns (c : Thread nD τ) arg17 fullShare d) ∗ owns (c : Thread nD τ) arg18 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (arg15.view.loc (c : Thread nD τ) ↦[arg15.view.set]{fullShare} arg15.view.writes (Elt F) (harg15.unread xo14) L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LT0) ∗ (∃ f, arg18.view.loc (c : Thread nD τ) ↦[arg18.view.set]{fullShare} arg18.view.writes (Elt F) f LS1)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_attn_bwd_eq_skeleton]; unfold cc0_attn_bwd_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%d15, %f15, -, H15⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13; obtain rfl := harg15.eq_unread hf14; obtain rfl := harg18.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexact H14
    isplitl [H15]; · iexists _; iexact H15
    isplitl [HS0]; · iexists _; iexact HS0
    iexists _; iexact HS1

end Cert.AttnKernelIdeal.Gen

end
-- ==== Proof.AttnRunC.lean ====
module

public import proofs.«01_k».proof.Proof.AttnRuns

@[expose] public section

-- membership in a rectangle of production extents (`View.cover_of_tiled`): the structural look
-- recurses once per coordinate of the long axes
set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the last point: only the second branch is taken. The inputs, the outputs 11, 13, 14, 15 and both scratch
    buffers come back as they were; output 13 of the call's operands (window 12) gets the pieces that the run finds. -/
noncomputable def kernelRun0_C (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : cond0_1 i) (hc2 : ¬cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo11 : Vec F S128x1024 .bf16) (xo13 : Vec F S4x512x256 .f32) (xo14 : Vec F S8x128 .f32) (xo15 : Vec F S128x1024 .bf16) (xs1 : Vec F S128x512 .f32) :
    { L12 : List (View.Piece (Elt F) S128x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo11 ∗ (∃ d, owns (c : Thread nD τ) arg13 fullShare d) ∗ owns (c : Thread nD τ) arg14 fullShare xo13 ∗ owns (c : Thread nD τ) arg15 fullShare xo14 ∗ owns (c : Thread nD τ) arg16 fullShare xo15 ∗ (∃ d, owns (c : Thread nD τ) arg17 fullShare d) ∗ owns (c : Thread nD τ) arg18 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo11 ∗ (∃ f, arg13.view.loc (c : Thread nD τ) ↦[arg13.view.set]{fullShare} arg13.view.writes (Elt F) f L12) ∗ owns (c : Thread nD τ) arg14 fullShare xo13 ∗ owns (c : Thread nD τ) arg15 fullShare xo14 ∗ owns (c : Thread nD τ) arg16 fullShare xo15 ∗ (∃ d, owns (c : Thread nD τ) arg17 fullShare d) ∗ owns (c : Thread nD τ) arg18 fullShare xs1) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg16.eq_unread hf15; obtain rfl := harg14.eq_unread hf13; obtain rfl := harg15.eq_unread hf14; obtain rfl := harg18.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [HS0]
    · iexists _, _; isplitr; swap; · iexact HS0
      ipureintro; rfl
    iexists _; isplitr; · ipureintro; exact harg18.read_unread _
    iexact HS1

end Cert.AttnKernelIdeal.Gen

end
-- ==== Proof.AttnOut.lean ====
module

public import proofs.«01_k».proof.Proof.AttnRunA
public import proofs.«01_k».proof.Proof.AttnRunB
public import proofs.«01_k».proof.Proof.AttnRunC

@[expose] public section

-- membership in a rectangle of production extents (`View.cover_of_tiled`): the structural look
-- recurses once per coordinate of the long axes
set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 11 tile its block (16 stores of `S128x64`, checked by the kernel's evaluation: Lib/Ring.lean `Piece.tiledL`, linear in the pieces, through a loop's `@[irreducible]` trip theorem too), so they cover it. -/
theorem cover0_A_11 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1 S128x64.size (by sl_kernel_rfl) y

/-- What case A leaves in output 11's staging buffer: its pieces read back over junk. -/
def out0_A_11 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) : Vec F S128x1024 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1)

/-- Case A's pieces for output 12 tile its block (8 stores of `S128x64`, checked by the kernel's evaluation: Lib/Ring.lean `Piece.tiledL`, linear in the pieces, through a loop's `@[irreducible]` trip theorem too), so they cover it. -/
theorem cover0_A_12 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1 S128x64.size (by sl_kernel_rfl) y

/-- What case A leaves in output 12's staging buffer: its pieces read back over junk. -/
def out0_A_12 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) : Vec F S128x512 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1)

/-- Case A's pieces for output 13 are of SEVERAL sizes (9 stores of `S1x256x256`, `S4x512x256`): cut into blocks of `![1, 256, 256]` they tile its block (checked by the kernel's evaluation: Lib/Ring.lean `Piece.tiledBy`), so they cover it. -/
theorem cover0_A_13 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (y : S4x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.1 ![1, 256, 256] (by sl_kernel_rfl) y

/-- What case A leaves in output 13's staging buffer: its pieces read back over junk. -/
def out0_A_13 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) : Vec F S4x512x256 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.1)

/-- Case A's pieces for output 14 are of SEVERAL sizes (2 stores of `S1x128`, `S8x128`): cut into blocks of `![1, 128]` they tile its block (checked by the kernel's evaluation: Lib/Ring.lean `Piece.tiledBy`), so they cover it. -/
theorem cover0_A_14 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.1 ![1, 128] (by sl_kernel_rfl) y

/-- What case A leaves in output 14's staging buffer: its pieces read back over junk. -/
def out0_A_14 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) : Vec F S8x128 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.1)

/-- Case A's pieces for output 15 tile its block (2 stores of `S128x512`, checked by the kernel's evaluation: Lib/Ring.lean `Piece.tiledL`, linear in the pieces, through a loop's `@[irreducible]` trip theorem too), so they cover it. -/
theorem cover0_A_15 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1 S128x512.size (by sl_kernel_rfl) y

/-- What case A leaves in output 15's staging buffer: its pieces read back over junk. -/
def out0_A_15 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) : Vec F S128x1024 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1)

/-- Case A's pieces for scratch `arg18`, which the kernel carries between points, cover it: one of them a store of the WHOLE buffer (Lib/Ring.lean `sl_whole_mem`). -/
theorem scover0_A_1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1 (by sl_whole_mem) y

/-- What case A leaves in scratch `arg18`: its pieces read back over junk. -/
def sout0_A_1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) : Vec F S128x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1)

/-- Case B's pieces for output 11 tile its block (16 stores of `S128x64`, checked by the kernel's evaluation: Lib/Ring.lean `Piece.tiledL`, linear in the pieces, through a loop's `@[irreducible]` trip theorem too), so they cover it. -/
theorem cover0_B_11 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).1 S128x64.size (by sl_kernel_rfl) y

/-- What case B leaves in output 11's staging buffer: its pieces read back over junk. -/
def out0_B_11 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) : Vec F S128x1024 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).1)

/-- Case B's pieces for output 12 tile its block (8 stores of `S128x64`, checked by the kernel's evaluation: Lib/Ring.lean `Piece.tiledL`, linear in the pieces, through a loop's `@[irreducible]` trip theorem too), so they cover it. -/
theorem cover0_B_12 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.1 S128x64.size (by sl_kernel_rfl) y

/-- What case B leaves in output 12's staging buffer: its pieces read back over junk. -/
def out0_B_12 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) : Vec F S128x512 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.1)

/-- Case B's pieces for output 13 tile its block (8 stores of `S1x256x256`, checked by the kernel's evaluation: Lib/Ring.lean `Piece.tiledL`, linear in the pieces, through a loop's `@[irreducible]` trip theorem too), so they cover it. -/
theorem cover0_B_13 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) (y : S4x512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.1 S1x256x256.size (by sl_kernel_rfl) y

/-- What case B leaves in output 13's staging buffer: its pieces read back over junk. -/
def out0_B_13 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) : Vec F S4x512x256 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.1)

/-- What case B leaves in output 14's staging buffer: its stores read back over what the point before left there (they do not cover the block). -/
def out0_B_14 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) : Vec F S8x128 .f32 :=
  arg15.view.read (Elt F) (arg15.view.writes (Elt F) (harg15.unread xo14) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.2.1)

/-- Case B's pieces for output 15 tile its block (2 stores of `S128x512`, checked by the kernel's evaluation: Lib/Ring.lean `Piece.tiledL`, linear in the pieces, through a loop's `@[irreducible]` trip theorem too), so they cover it. -/
theorem cover0_B_15 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.2.2.1 S128x512.size (by sl_kernel_rfl) y

/-- What case B leaves in output 15's staging buffer: its pieces read back over junk. -/
def out0_B_15 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) : Vec F S128x1024 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.2.2.1)

/-- Case B's pieces for scratch `arg18`, which the kernel carries between points, cover it: 8 pieces of `S128x64` tiling it (Lib/Ring.lean `Piece.tiledL`). -/
theorem scover0_B_1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.2.2.2.1 S128x64.size (by sl_kernel_rfl) y

/-- What case B leaves in scratch `arg18`: its pieces read back over junk. -/
def sout0_B_1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) : Vec F S128x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1).2.2.2.2.2.1)

/-- Case C's pieces for output 12 tile its block (1 store of `S128x512`, checked by the kernel's evaluation: Lib/Ring.lean `Piece.tiledL`, linear in the pieces, through a loop's `@[irreducible]` trip theorem too), so they cover it. -/
theorem cover0_C_12 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : cond0_1 i) (hc2 : ¬cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo11 : Vec F S128x1024 .bf16) (xo13 : Vec F S4x512x256 .f32) (xo14 : Vec F S8x128 .f32) (xo15 : Vec F S128x1024 .bf16) (xs1 : Vec F S128x512 .f32) (y : S128x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo13 xo14 xo15 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo13 xo14 xo15 xs1).1 S128x512.size (by sl_kernel_rfl) y

/-- What case C leaves in output 12's staging buffer: its pieces read back over junk. -/
def out0_C_12 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : cond0_1 i) (hc2 : ¬cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo11 : Vec F S128x1024 .bf16) (xo13 : Vec F S4x512x256 .f32) (xo14 : Vec F S8x128 .f32) (xo15 : Vec F S128x1024 .bf16) (xs1 : Vec F S128x512 .f32) : Vec F S128x512 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo13 xo14 xo15 xs1).1)

end Cert.AttnKernelIdeal.Gen

end
-- ==== Proof.AttnFrame.lean ====
module

public import proofs.«01_k».proof.Proof.AttnOut
public import Idealize.ShloMosaic.Lib.Claim

@[expose] public section

-- membership in a rectangle of production extents (`View.cover_of_tiled`): the structural look
-- recurses once per coordinate of the long axes
set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x1024 .bf16 × Vec F S128x512 .bf16 × Vec F S4x512x256 .f32 × Vec F S8x128 .f32 × Vec F S128x1024 .bf16 × Vec F S128x512 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 65 = 0 then
      if h1 : (n + 1) % 65 = 64 then
        False.elim (by have hN : n + 1 < 65 := lt_of_lt_of_eq hn (show cfg0.N = 65 from N_0); omega)
      else
        if h2 : (n + 1) < 64 then
          (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
        else
          False.elim (by have hN : n + 1 < 65 := lt_of_lt_of_eq hn (show cfg0.N = 65 from N_0); omega)
    else
      if h1 : (n + 1) % 65 = 64 then
        if h2 : (n + 1) < 64 then
          False.elim (by have hN : n + 1 < 65 := lt_of_lt_of_eq hn (show cfg0.N = 65 from N_0); omega)
        else
          ((outsAt0 c n (Nat.lt_of_succ_lt hn)).1, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, (outsAt0 c n (Nat.lt_of_succ_lt hn)).2.2.1, (outsAt0 c n (Nat.lt_of_succ_lt hn)).2.2.2.1, (outsAt0 c n (Nat.lt_of_succ_lt hn)).2.2.2.2.1, (outsAt0 c n (Nat.lt_of_succ_lt hn)).2.2.2.2.2)
      else
        if h2 : (n + 1) < 64 then
          (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2.2)
        else
          False.elim (by have hN : n + 1 < 65 := lt_of_lt_of_eq hn (show cfg0.N = 65 from N_0); omega)

/-- `outsAt0` at a point of case A: that case's contents. -/
theorem outsAt0_A (c : Dev nD) (t : Fin cfg0.N) (h0 : t.val % 65 = 0) (h1 : ¬t.val % 65 = 64) (h2 : t.val < 64) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans ((dif_pos h2).trans rfl))

/-- `outsAt0` at a point of case B: that case's contents, over what the point before left. -/
theorem outsAt0_B (c : Dev nD) (t : Fin cfg0.N) (h0 : ¬t.val % 65 = 0) (h1 : ¬t.val % 65 = 64) (h2 : t.val < 64) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 65 = 0) (h1 : t.val % 65 = 64) (h2 : ¬t.val < 64) :
    outsAt0 m c t.val t.isLt = ((outsAt0 m c (t.val - 1) (Nat.lt_of_le_of_lt (Nat.sub_le _ _) t.isLt)).1, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.1, (outsAt0 m c (t.val - 1) (Nat.lt_of_le_of_lt (Nat.sub_le _ _) t.isLt)).2.2.2.1, (outsAt0 m c (t.val - 1) (Nat.lt_of_le_of_lt (Nat.sub_le _ _) t.isLt)).2.2.2.2.1, (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- Output 11's contents carry over the last point, which leaves it idle. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 65 := lt_of_lt_of_eq t.isLt (show cfg0.N = 65 from N_0)
  rw [after0_11, after0_11]
  by_cases h0 : t.val % 65 = 0
  · by_cases h1 : t.val % 65 = 64
    · exfalso; omega
    · by_cases h2 : t.val < 64
      · rw [liveAt0_11_A t ((hcond0_0 t).mpr h0) (fun h => h1 ((hcond0_1 t).mp h)) ((hcond0_2 t).mpr h2)] at hi
        exact absurd hi Bool.false_ne_true
      · exfalso; omega
  · by_cases h1 : t.val % 65 = 64
    · by_cases h2 : t.val < 64
      · exfalso; omega
      · rw [outsAt0_C m c t h0 h1 h2]
    · by_cases h2 : t.val < 64
      · rw [liveAt0_11_B t (fun h => h0 ((hcond0_0 t).mp h)) (fun h => h1 ((hcond0_1 t).mp h)) ((hcond0_2 t).mpr h2)] at hi
        exact absurd hi Bool.false_ne_true
      · exfalso; omega

/-- Output 13's contents carry over the last point, which leaves it idle. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 65 := lt_of_lt_of_eq t.isLt (show cfg0.N = 65 from N_0)
  rw [after0_13, after0_13]
  by_cases h0 : t.val % 65 = 0
  · by_cases h1 : t.val % 65 = 64
    · exfalso; omega
    · by_cases h2 : t.val < 64
      · rw [liveAt0_13_A t ((hcond0_0 t).mpr h0) (fun h => h1 ((hcond0_1 t).mp h)) ((hcond0_2 t).mpr h2)] at hi
        exact absurd hi Bool.false_ne_true
      · exfalso; omega
  · by_cases h1 : t.val % 65 = 64
    · by_cases h2 : t.val < 64
      · exfalso; omega
      · rw [outsAt0_C m c t h0 h1 h2]
    · by_cases h2 : t.val < 64
      · rw [liveAt0_13_B t (fun h => h0 ((hcond0_0 t).mp h)) (fun h => h1 ((hcond0_1 t).mp h)) ((hcond0_2 t).mpr h2)] at hi
        exact absurd hi Bool.false_ne_true
      · exfalso; omega

/-- Output 14's contents carry over the last point, which leaves it idle. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 65 := lt_of_lt_of_eq t.isLt (show cfg0.N = 65 from N_0)
  rw [after0_14, after0_14]
  by_cases h0 : t.val % 65 = 0
  · by_cases h1 : t.val % 65 = 64
    · exfalso; omega
    · by_cases h2 : t.val < 64
      · rw [liveAt0_14_A t ((hcond0_0 t).mpr h0) (fun h => h1 ((hcond0_1 t).mp h)) ((hcond0_2 t).mpr h2)] at hi
        exact absurd hi Bool.false_ne_true
      · exfalso; omega
  · by_cases h1 : t.val % 65 = 64
    · by_cases h2 : t.val < 64
      · exfalso; omega
      · rw [outsAt0_C m c t h0 h1 h2]
    · by_cases h2 : t.val < 64
      · rw [liveAt0_14_B t (fun h => h0 ((hcond0_0 t).mp h)) (fun h => h1 ((hcond0_1 t).mp h)) ((hcond0_2 t).mpr h2)] at hi
        exact absurd hi Bool.false_ne_true
      · exfalso; omega

/-- Output 15's contents carry over the last point, which leaves it idle. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 65 := lt_of_lt_of_eq t.isLt (show cfg0.N = 65 from N_0)
  rw [after0_15, after0_15]
  by_cases h0 : t.val % 65 = 0
  · by_cases h1 : t.val % 65 = 64
    · exfalso; omega
    · by_cases h2 : t.val < 64
      · rw [liveAt0_15_A t ((hcond0_0 t).mpr h0) (fun h => h1 ((hcond0_1 t).mp h)) ((hcond0_2 t).mpr h2)] at hi
        exact absurd hi Bool.false_ne_true
      · exfalso; omega
  · by_cases h1 : t.val % 65 = 64
    · by_cases h2 : t.val < 64
      · exfalso; omega
      · rw [outsAt0_C m c t h0 h1 h2]
    · by_cases h2 : t.val < 64
      · rw [liveAt0_15_B t (fun h => h0 ((hcond0_0 t).mp h)) (fun h => h1 ((hcond0_1 t).mp h)) ((hcond0_2 t).mpr h2)] at hi
        exact absurd hi Bool.false_ne_true
      · exfalso; omega

/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 65 = 0) (h1 : ¬t.val % 65 = 64) (h2 : t.val < 64) (d) :
    (dats m 0 c).before 13 t d = (outsAt0 m c (t.val - 1) (Nat.lt_of_le_of_lt (Nat.sub_le _ _) t.isLt)).2.2.1 := by
  rw [Dat.before_out_traj _ 13 rfl (fun _ _ => rfl) (hcarry0_13 m c) t.val t rfl d,
    if_neg (by rw [notFresh0_13_B t (fun h => h0 ((hcond0_0 t).mp h)) (fun h => h1 ((hcond0_1 t).mp h)) ((hcond0_2 t).mpr h2)]; exact Bool.false_ne_true)]
  dsimp only [dats]
/-- At a point of case B output 14's current staging buffer holds what the point before left: the buffer is not fresh
    there (`notFresh0_14_B`: stored into since the region's entry or the last write-back, carried through the points that
    leave it idle by `hcarry0_14`; Lib/Pipeline/TableIdle.lean `Dat.before_out_traj`). -/
theorem before0_14_B (c : Dev nD) (t : Fin cfg0.N) (h0 : ¬t.val % 65 = 0) (h1 : ¬t.val % 65 = 64) (h2 : t.val < 64) (d) :
    (dats m 0 c).before 14 t d = (outsAt0 m c (t.val - 1) (Nat.lt_of_le_of_lt (Nat.sub_le _ _) t.isLt)).2.2.2.1 := by
  rw [Dat.before_out_traj _ 14 rfl (fun _ _ => rfl) (hcarry0_14 m c) t.val t rfl d,
    if_neg (by rw [notFresh0_14_B t (fun h => h0 ((hcond0_0 t).mp h)) (fun h => h1 ((hcond0_1 t).mp h)) ((hcond0_2 t).mpr h2)]; exact Bool.false_ne_true)]
  dsimp only [dats]
/-- At a point of case C output 13's current staging buffer holds what the point before left: the buffer is not fresh
    there (`notFresh0_13_C`: stored into since the region's entry or the last write-back, carried through the points that
    leave it idle by `hcarry0_13`; Lib/Pipeline/TableIdle.lean `Dat.before_out_traj`). -/
theorem before0_13_C (c : Dev nD) (t : Fin cfg0.N) (h0 : ¬t.val % 65 = 0) (h1 : t.val % 65 = 64) (h2 : ¬t.val < 64) (d) :
    (dats m 0 c).before 13 t d = (outsAt0 m c (t.val - 1) (Nat.lt_of_le_of_lt (Nat.sub_le _ _) t.isLt)).2.2.1 := by
  rw [Dat.before_out_traj _ 13 rfl (fun _ _ => rfl) (hcarry0_13 m c) t.val t rfl d,
    if_neg (by rw [notFresh0_13_C t (fun h => h0 ((hcond0_0 t).mp h)) ((hcond0_1 t).mpr h1) (fun h => h2 ((hcond0_2 t).mp h))]; exact Bool.false_ne_true)]
  dsimp only [dats]
/-- At the last point output 11's buffer holds what the point before left. -/
theorem before0_11_C (c : Dev nD) (t : Fin cfg0.N) (h0 : ¬t.val % 65 = 0) (h1 : t.val % 65 = 64) (h2 : ¬t.val < 64) (d) :
    (dats m 0 c).before 11 t d = (outsAt0 m c (t.val - 1) (Nat.lt_of_le_of_lt (Nat.sub_le _ _) t.isLt)).1 := by
  rw [Dat.before_out_traj _ 11 rfl (fun _ _ => rfl) (hcarry0_11 m c) t.val t rfl d,
    if_neg (by rw [notFresh0_11_C t (fun h => h0 ((hcond0_0 t).mp h)) ((hcond0_1 t).mpr h1) (fun h => h2 ((hcond0_2 t).mp h))]; exact Bool.false_ne_true)]
  dsimp only [dats]

/-- At the last point output 15's buffer holds what the point before left. -/
theorem before0_15_C (c : Dev nD) (t : Fin cfg0.N) (h0 : ¬t.val % 65 = 0) (h1 : t.val % 65 = 64) (h2 : ¬t.val < 64) (d) :
    (dats m 0 c).before 15 t d = (outsAt0 m c (t.val - 1) (Nat.lt_of_le_of_lt (Nat.sub_le _ _) t.isLt)).2.2.2.2.1 := by
  rw [Dat.before_out_traj _ 15 rfl (fun _ _ => rfl) (hcarry0_15 m c) t.val t rfl d,
    if_neg (by rw [notFresh0_15_C t (fun h => h0 ((hcond0_0 t).mp h)) ((hcond0_1 t).mpr h1) (fun h => h2 ((hcond0_2 t).mp h))]; exact Bool.false_ne_true)]
  dsimp only [dats]

/-- At a point of case C output 14's current staging buffer holds what the point before left: the buffer is not fresh
    there (`notFresh0_14_C`: stored into since the region's entry or the last write-back, carried through the points that
    leave it idle by `hcarry0_14`; Lib/Pipeline/TableIdle.lean `Dat.before_out_traj`). -/
theorem before0_14_C (c : Dev nD) (t : Fin cfg0.N) (h0 : ¬t.val % 65 = 0) (h1 : t.val % 65 = 64) (h2 : ¬t.val < 64) (d) :
    (dats m 0 c).before 14 t d = (outsAt0 m c (t.val - 1) (Nat.lt_of_le_of_lt (Nat.sub_le _ _) t.isLt)).2.2.2.1 := by
  rw [Dat.before_out_traj _ 14 rfl (fun _ _ => rfl) (hcarry0_14 m c) t.val t rfl d,
    if_neg (by rw [notFresh0_14_C t (fun h => h0 ((hcond0_0 t).mp h)) ((hcond0_1 t).mpr h1) (fun h => h2 ((hcond0_2 t).mp h))]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : t.val % 65 = 64
    · exfalso; omega
    · by_cases h2 : t.val < 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h)) ((hcond0_2 t).mpr h2)], after0_11]
        rw [show (dats m 0 c).leavesExact 12 t = owns (c : Thread nD τ) (ms0_12 t) fullShare ((dats m 0 c).after 12 t) from by
      unfold Dat.leavesExact; rw [liveAt0_12_A t ((hcond0_0 t).mpr h0) (fun h => h1 ((hcond0_1 t).mp h)) ((hcond0_2 t).mpr h2)], after0_12]
        rw [show (dats m 0 c).leavesExact 13 t = owns (c : Thread nD τ) (ms0_13 t) fullShare ((dats m 0 c).after 13 t) from by
      unfold Dat.leavesExact; rw [liveAt0_13_A t ((hcond0_0 t).mpr h0) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [liveAt0_14_A t ((hcond0_0 t).mpr h0) (fun h => h1 ((hcond0_1 t).mp h)) ((hcond0_2 t).mpr h2)], after0_14]
        rw [show (dats m 0 c).leavesExact 15 t = owns (c : Thread nD τ) (ms0_15 t) fullShare ((dats m 0 c).after 15 t) from by
      unfold Dat.leavesExact; rw [liveAt0_15_A t ((hcond0_0 t).mpr h0) (fun h => h1 ((hcond0_1 t).mp h)) ((hcond0_2 t).mpr h2)], after0_15]
        by_cases hz : t.val = 0
        · rw [PhiS_castSucc m c t, PhiS_zero m c _ _ hz, PhiA0_eq]
          rw [outsAt0_A m c t h0 h1 h2]
          unfold out0_A_11 out0_A_12 out0_A_13 out0_A_14 out0_A_15 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          iintro ⟨H0, H1, H2, H3, H4, H5, H6, H7, H8, H9, H10, ⟨%e11, H11⟩, ⟨%e12, H12⟩, ⟨%e13, H13⟩, ⟨%e14, H14⟩, ⟨%e15, H15⟩, ⟨%fT0, HS0⟩, ⟨%es1, HS1⟩⟩
          isplitl [HS0 HS1 Hg]
          · isplitl [HS0 HS1]
            · isplitl [HS0]
              · iexists _; unfold owns; iexists _; isplitr
                swap; · iexact HS0
                ipureintro; rfl
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
        · exfalso; have hN : t.val < 65 := lt_of_lt_of_eq t.isLt (show cfg0.N = 65 from N_0); omega
      · exfalso; omega
  · by_cases h1 : t.val % 65 = 64
    · by_cases h2 : t.val < 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [idleAt0_11_C t (fun h => h0 ((hcond0_0 t).mp h)) ((hcond0_1 t).mpr h1) (fun h => h2 ((hcond0_2 t).mp h)), flushAt0_11_C t ((hcond0_1 t).mpr h1)], after0_11]
        rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [idleAt0_13_C t (fun h => h0 ((hcond0_0 t).mp h)) ((hcond0_1 t).mpr h1) (fun h => h2 ((hcond0_2 t).mp h)), flushAt0_13_C t ((hcond0_1 t).mpr h1)], after0_13]
        rw [show (dats m 0 c).leavesExact 14 t = owns (c : Thread nD τ) (ms0_14 t) fullShare ((dats m 0 c).after 14 t) from by
      unfold Dat.leavesExact; rw [idleAt0_14_C t (fun h => h0 ((hcond0_0 t).mp h)) ((hcond0_1 t).mpr h1) (fun h => h2 ((hcond0_2 t).mp h)), flushAt0_14_C t ((hcond0_1 t).mpr h1)], after0_14]
        rw [show (dats m 0 c).leavesExact 15 t = owns (c : Thread nD τ) (ms0_15 t) fullShare ((dats m 0 c).after 15 t) from by
      unfold Dat.leavesExact; rw [idleAt0_15_C t (fun h => h0 ((hcond0_0 t).mp h)) ((hcond0_1 t).mpr h1) (fun h => h2 ((hcond0_2 t).mp h)), flushAt0_15_C t ((hcond0_1 t).mpr h1)], after0_15]
        by_cases hz : t.val = 0
        · exfalso; have hN : t.val < 65 := lt_of_lt_of_eq t.isLt (show cfg0.N = 65 from N_0); omega
        · rw [PhiS_castSucc m c t, PhiS_pos m c _ _ hz]
          rw [outsAt0_C m c t h0 h1 h2]
          simp only [before0_11_C m c t h0 h1 h2, before0_13_C m c t h0 h1 h2, before0_14_C m c t h0 h1 h2, before0_15_C m c t h0 h1 h2]
          unfold out0_C_12; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) _ _ _ _ _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          isplitl [H14]; · iexact H14
          isplitl [H15]; · iexact H15
          isplitl [HS0]; · iexact HS0
          isplitl [HS1]; · iexact HS1
          iintro ⟨H0, H1, H2, H3, H4, H5, H6, H7, H8, H9, H10, H11, ⟨%e12, H12⟩, H13, H14, H15, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _)
          isplitl [H13]; · iexact H13
          isplitl [H14]; · iexact H14
          iexact H15
    · by_cases h2 : t.val < 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11_B t (fun h => h0 ((hcond0_0 t).mp h)) (fun h => h1 ((hcond0_1 t).mp h)) ((hcond0_2 t).mpr h2)], after0_11]
        rw [show (dats m 0 c).leavesExact 12 t = owns (c : Thread nD τ) (ms0_12 t) fullShare ((dats m 0 c).after 12 t) from by
      unfold Dat.leavesExact; rw [liveAt0_12_B t (fun h => h0 ((hcond0_0 t).mp h)) (fun h => h1 ((hcond0_1 t).mp h)) ((hcond0_2 t).mpr h2)], after0_12]
        rw [show (dats m 0 c).leavesExact 13 t = owns (c : Thread nD τ) (ms0_13 t) fullShare ((dats m 0 c).after 13 t) from by
      unfold Dat.leavesExact; rw [liveAt0_13_B t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [liveAt0_14_B t (fun h => h0 ((hcond0_0 t).mp h)) (fun h => h1 ((hcond0_1 t).mp h)) ((hcond0_2 t).mpr h2)], after0_14]
        rw [show (dats m 0 c).leavesExact 15 t = owns (c : Thread nD τ) (ms0_15 t) fullShare ((dats m 0 c).after 15 t) from by
      unfold Dat.leavesExact; rw [liveAt0_15_B t (fun h => h0 ((hcond0_0 t).mp h)) (fun h => h1 ((hcond0_1 t).mp h)) ((hcond0_2 t).mpr h2)], after0_15]
        by_cases hz : t.val = 0
        · exfalso; have hN : t.val < 65 := lt_of_lt_of_eq t.isLt (show cfg0.N = 65 from N_0); omega
        · rw [PhiS_castSucc m c t, PhiS_pos m c _ _ hz]
          rw [outsAt0_B m c t h0 h1 h2]
          simp only [before0_13_B m c t h0 h1 h2, before0_14_B m c t h0 h1 h2]
          unfold out0_B_11 out0_B_12 out0_B_13 out0_B_14 out0_B_15 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (X0_0 m c t) (iblk m c 1 t) (iblk m c 2 t) (iblk m c 3 t) (iblk m c 4 t) (iblk m c 5 t) (iblk m c 6 t) (iblk m c 7 t) (iblk m c 8 t) (iblk m c 9 t) (iblk m c 10 t) _ _ _).2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexact H13
          isplitl [H14]; · iexact H14
          isplitl [H15]; · iexists _; iexact H15
          isplitl [HS0]; · iexact HS0
          isplitl [HS1]; · iexact HS1
          iintro ⟨H0, H1, H2, H3, H4, H5, H6, H7, H8, H9, H10, ⟨%e11, H11⟩, ⟨%e12, H12⟩, ⟨%e13, H13⟩, H14, ⟨%e15, H15⟩, ⟨%fT0, HS0⟩, ⟨%es1, HS1⟩⟩
          isplitl [HS0 HS1 Hg]
          · isplitl [HS0 HS1]
            · isplitl [HS0]
              · iexists _; unfold owns; iexists _; isplitr
                swap; · iexact HS0
                ipureintro; rfl
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; rfl
          unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.AttnKernelIdeal.Gen.facts, fun m ρ _ => Cert.AttnKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.AttnKernelIdeal.Gen

end
-- ==== Proof.ConvSpec.lean ====
/-
  The gradient of the gated short convolution, entry by entry, over the extended reals. Row `r` is a token and column `k`
  a channel; the arrays are read as functions of two natural numbers, zero outside (`ent`). `ct` is the cotangent of the
  branch's output, `u` the input projection (its columns 6656, 7680, 8704, 9728 begin the B gate, the C gate, the
  convolution's input and the SiLU gate) and `w` the three taps.
-/
module

public import Idealize.ShloMosaic.Lib.Pointwise

@[expose] public section

noncomputable section

namespace Cert.Conv

open Idealize.ShloMosaic

/-- The entry of a matrix at row `r` and column `k`, zero outside. -/
def ent {n0 n1 : ℕ} (x : (⟨2, ![n0, n1]⟩ : Shape).Idx → EReal) (r k : ℕ) : EReal :=
  if h : r < n0 ∧ k < n1 then x (ix2 ⟨r, h.1⟩ ⟨k, h.2⟩) else 0

/-- Inside the matrix `ent` is the entry. -/
theorem ent_of_lt {n0 n1 : ℕ} (x : (⟨2, ![n0, n1]⟩ : Shape).Idx → EReal) {r k : ℕ} (hr : r < n0) (hk : k < n1) :
    ent x r k = x (ix2 ⟨r, hr⟩ ⟨k, hk⟩) := dif_pos ⟨hr, hk⟩

/-- An entry at any index, by its two coordinates. -/
theorem eq_ent {n0 n1 : ℕ} (x : (⟨2, ![n0, n1]⟩ : Shape).Idx → EReal) (j : (⟨2, ![n0, n1]⟩ : Shape).Idx) {r k : ℕ}
    (h0 : (j 0).val = r) (h1 : (j 1).val = k) : x j = ent x r k := by
  subst h0 h1
  rw [ent_of_lt x (j 0).isLt (j 1).isLt]
  exact congrArg x (funext fun a => by match a with | ⟨0, _⟩ => rfl | ⟨1, _⟩ => rfl)

/-- Where every entry is finite, `ent` is finite. -/
theorem ent_finite {n0 n1 : ℕ} {x : (⟨2, ![n0, n1]⟩ : Shape).Idx → EReal} (h : ∀ j, ∃ v : ℝ, x j = v) (r k : ℕ) :
    ∃ v : ℝ, ent x r k = v := by
  by_cases hb : r < n0 ∧ k < n1
  · rw [ent_of_lt x hb.1 hb.2]; exact h _
  · exact ⟨0, by rw [ent, dif_neg hb]; rfl⟩

variable (ct u w : ℕ → ℕ → EReal)

/-- The convolution's input, the C gate times x. -/
def hh (r k : ℕ) : EReal := u r (7680 + k) * u r (8704 + k)

/-- The convolution's input behind two rows of zeros. -/
def hp (r k : ℕ) : EReal := if r < 2 then 0 else hh u (r - 2) k

/-- The convolution's output. -/
def yv (r k : ℕ) : EReal := w 0 k * hp u r k + w 1 k * hp u (r + 1) k + w 2 k * hp u (r + 2) k

/-- The logistic of the SiLU gate. -/
def sg (r k : ℕ) : EReal := Ideal.div 1 (1 + Ideal.exp (0 - u r (9728 + k)))

/-- The SiLU of the gate. -/
def silu (r k : ℕ) : EReal := u r (9728 + k) * sg u r k

/-- The cotangent of the convolution's output. -/
def dy (r k : ℕ) : EReal := ct r k * u r (6656 + k) * silu u r k

/-- The same, zero past the last row. -/
def dyz (r k : ℕ) : EReal := if r < 8192 then dy ct u r k else 0

/-- The cotangent of the convolution's input. -/
def dh (r k : ℕ) : EReal := w 2 k * dy ct u r k + w 1 k * dyz ct u (r + 1) k + w 0 k * dyz ct u (r + 2) k

/-- The gradient of the B gate. -/
def dcb (r k : ℕ) : EReal := ct r k * yv u w r k * silu u r k

/-- The gradient of the C gate. -/
def dcc (r k : ℕ) : EReal := dh ct u w r k * u r (8704 + k)

/-- The gradient of x. -/
def dcx (r k : ℕ) : EReal := dh ct u w r k * u r (7680 + k)

/-- The gradient of the SiLU gate. -/
def dcg (r k : ℕ) : EReal :=
  ct r k * u r (6656 + k) * yv u w r k * (sg u r k + u r (9728 + k) * sg u r k * (1 - sg u r k))

/-- The part of the taps' gradient that the first `n` rows give; rows three and up of the array are zero. -/
def dw (n a k : ℕ) : EReal := if a < 3 then ∑ r ∈ Finset.range n, dy ct u r k * hp u (r + a) k else 0

end Cert.Conv

end
-- ==== Proof.ConvPay.lean ====
/-
  What the body computes at one grid point, entry by entry: block row `a` is row `R + a` of the arrays and block column
  `b` is channel `K + b`. The eight-row blocks hold the rows before and after the block.
-/
module

public import proofs.«01_k».proof.Proof.ConvSpec
public import proofs.«01_k».proof.Proof.Gen.ConvKernelIdeal.Skeleton

@[expose] public section

set_option maxRecDepth 16384

noncomputable section

namespace Cert.Conv

open Cert.ConvKernelIdeal Cert.ConvKernelIdeal.Gen Idealize.ShloMosaic Idealize.ShloMosaic.TcCoe Idealize.SL.Sem

variable {ct u w : ℕ → ℕ → EReal} {i : grid0.Coords} {R K : ℕ}
variable {x0 x2 x4 x6 x8 : Vec Ideal S512x512 .f32} {x1 x3 x5 x7 x9 : Vec Ideal S8x512 .f32} {w0 w1 w2 : Vec Ideal S1x512 .f32}

/-- The product of the two halves of the convolution's input. -/
theorem pay6_eq (h6 : ∀ a b, x6 (ix2 a b) = u (R + a.val) (7680 + (K + b.val)))
    (h8 : ∀ a b, x8 (ix2 a b) = u (R + a.val) (8704 + (K + b.val))) (a b : Fin 512) :
    k0_pay6 x6 x8 (ix2 a b) = hp u (R + a.val + 2) (K + b.val) := by
  pointwise [k0_pay6]
  rw [h6, h8, hp, if_neg (by omega)]
  rfl

/-- The last two rows of the block before, zero before the first block. -/
theorem pay7_eq (hR : R = 512 * (i 1).val)
    (h7 : (i 1).val ≠ 0 → ∀ a b, x7 (ix2 a b) = u (R + a.val - 8) (7680 + (K + b.val)))
    (h9 : (i 1).val ≠ 0 → ∀ a b, x9 (ix2 a b) = u (R + a.val - 8) (8704 + (K + b.val))) (a : Fin 8) (ha : 6 ≤ a.val) (b : Fin 512) :
    k0_pay7 i x7 x9 (ix2 a b) = hp u (R + a.val - 6) (K + b.val) := by
  pointwise [k0_pay7]
  have hi : (i 1).val < 16 := (i 1).isLt
  have hc : Scalar.cmpi CmpIPredicate.sgt (BitVec.ofNat 32 (i 1).val) 0#32 = if (i 1).val = 0 then 0#1 else 1#1 := by
    revert hi; generalize (i 1).val = n; revert n
    decide +kernel
  rw [hc]
  by_cases h : (i 1).val = 0
  · rw [if_pos h, hp, if_pos (by omega)]; rfl
  · rw [if_neg h, hp, if_neg (by omega), h7 h, h9 h]
    show _ * _ = _
    rw [hh, show R + a.val - 6 - 2 = R + a.val - 8 by omega]

/-- A comparison of two small row numbers as words. -/
theorem cmp_eq (n m : ℕ) (hn : n < 512) (hm : m < 512) :
    IntOp.cmpi CmpIPredicate.eq (BitVec.ofNat 32 n) (BitVec.ofNat 32 m) = if n = m then 1#1 else 0#1 := by
  have : (BitVec.ofNat 32 n = BitVec.ofNat 32 m) ↔ n = m := by
    constructor
    · intro h
      have := congrArg BitVec.toNat h
      simp only [BitVec.toNat_ofNat] at this
      omega
    · rintro rfl; rfl
  by_cases h : n = m
  · subst h; simp [IntOp.cmpi]
  · rw [if_neg h]
    simp only [IntOp.cmpi]
    rw [beq_eq_false_iff_ne.mpr (fun e => h (this.mp e))]; rfl

/-- The input one row later. -/
theorem pay8_eq (hR : R = 512 * (i 1).val) (h6 : ∀ a b, x6 (ix2 a b) = u (R + a.val) (7680 + (K + b.val)))
    (h8 : ∀ a b, x8 (ix2 a b) = u (R + a.val) (8704 + (K + b.val)))
    (h7 : (i 1).val ≠ 0 → ∀ a b, x7 (ix2 a b) = u (R + a.val - 8) (7680 + (K + b.val)))
    (h9 : (i 1).val ≠ 0 → ∀ a b, x9 (ix2 a b) = u (R + a.val - 8) (8704 + (K + b.val))) (a b : Fin 512) :
    k0_pay8 i x6 x8 x7 x9 (ix2 a b) = hp u (R + a.val + 1) (K + b.val) := by
  pointwise [k0_pay8]
  rw [cmp_eq a.val 0 a.isLt (by omega), pay6_eq h6 h8, pay7_eq hR h7 h9 _ (by decide)]
  have := a.isLt
  by_cases h : a.val = 0
  · rw [if_pos h]
    show hp u (R + 7 - 6) _ = _
    rw [h]; congr 1
  · rw [if_neg h]
    show hp u (R + (a.val + 512 - 1) % 512 + 2) _ = _
    congr 1; omega

/-- The input two rows later. -/
theorem pay9_eq (hR : R = 512 * (i 1).val) (h6 : ∀ a b, x6 (ix2 a b) = u (R + a.val) (7680 + (K + b.val)))
    (h8 : ∀ a b, x8 (ix2 a b) = u (R + a.val) (8704 + (K + b.val)))
    (h7 : (i 1).val ≠ 0 → ∀ a b, x7 (ix2 a b) = u (R + a.val - 8) (7680 + (K + b.val)))
    (h9 : (i 1).val ≠ 0 → ∀ a b, x9 (ix2 a b) = u (R + a.val - 8) (8704 + (K + b.val))) (a b : Fin 512) :
    k0_pay9 i x6 x8 x7 x9 (ix2 a b) = hp u (R + a.val) (K + b.val) := by
  pointwise [k0_pay9]
  rw [cmp_eq a.val 0 a.isLt (by omega), cmp_eq a.val 1 a.isLt (by omega), pay6_eq h6 h8,
    pay7_eq hR h7 h9 _ (by decide), pay7_eq hR h7 h9 _ (by decide)]
  have := a.isLt
  by_cases h1 : a.val = 1
  · rw [if_pos h1]
    show hp u (R + 7 - 6) _ = _
    rw [h1]; congr 1
  · rw [if_neg h1]
    by_cases h : a.val = 0
    · rw [if_pos h]
      show hp u (R + 6 - 6) _ = _
      rw [h]; congr 1
    · rw [if_neg h]
      show hp u (R + (a.val + 512 - 2) % 512 + 2) _ = _
      congr 1; omega

/-- The convolution's output, from its input and the input one and two rows later. -/
theorem pay10_eq {x y z : Vec Ideal S512x512 .f32} (hx : ∀ a b, x (ix2 a b) = hp u (R + a.val + 2) (K + b.val))
    (hy : ∀ a b, y (ix2 a b) = hp u (R + a.val + 1) (K + b.val)) (hz : ∀ a b, z (ix2 a b) = hp u (R + a.val) (K + b.val))
    (hw0 : ∀ b, w0 (ix2 0 b) = w 0 (K + b.val)) (hw1 : ∀ b, w1 (ix2 0 b) = w 1 (K + b.val))
    (hw2 : ∀ b, w2 (ix2 0 b) = w 2 (K + b.val)) (a b : Fin 512) :
    k0_pay10 x y z w0 w1 w2 (ix2 a b) = yv u w (R + a.val) (K + b.val) := by
  pointwise [k0_pay10]
  rw [hx, hy, hz, hw0, hw1, hw2]
  rfl

/-- The logistic of the gate. -/
theorem pay11_eq (h4 : ∀ a b, x4 (ix2 a b) = u (R + a.val) (9728 + (K + b.val))) (a b : Fin 512) :
    k0_pay11 x4 (ix2 a b) = sg u (R + a.val) (K + b.val) := by
  pointwise [k0_pay11]
  rw [h4]
  rfl

/-- The SiLU of the gate. -/
theorem pay12_eq (h4 : ∀ a b, x4 (ix2 a b) = u (R + a.val) (9728 + (K + b.val))) (a b : Fin 512) :
    k0_pay12 x4 (ix2 a b) = silu u (R + a.val) (K + b.val) := by
  pointwise [k0_pay12]
  rw [pay11_eq h4, h4]
  rfl

/-- The gradient of the SiLU gate. -/
theorem pay13_eq {x y z : Vec Ideal S512x512 .f32} (hx : ∀ a b, x (ix2 a b) = hp u (R + a.val + 2) (K + b.val))
    (hy : ∀ a b, y (ix2 a b) = hp u (R + a.val + 1) (K + b.val)) (hz : ∀ a b, z (ix2 a b) = hp u (R + a.val) (K + b.val))
    (hw0 : ∀ b, w0 (ix2 0 b) = w 0 (K + b.val)) (hw1 : ∀ b, w1 (ix2 0 b) = w 1 (K + b.val))
    (hw2 : ∀ b, w2 (ix2 0 b) = w 2 (K + b.val))
    (h0 : ∀ a b, x0 (ix2 a b) = ct (R + a.val) (K + b.val)) (h2 : ∀ a b, x2 (ix2 a b) = u (R + a.val) (6656 + (K + b.val)))
    (h4 : ∀ a b, x4 (ix2 a b) = u (R + a.val) (9728 + (K + b.val))) (a b : Fin 512) :
    k0_pay13 x2 x y z w0 w1 w2 x4 x0 (ix2 a b) = dcg ct u w (R + a.val) (K + b.val) := by
  pointwise [k0_pay13]
  rw [pay10_eq hx hy hz hw0 hw1 hw2, pay11_eq h4, h0, h2, h4]
  rfl

/-- The gradient of the B gate. -/
theorem pay14_eq {x y z : Vec Ideal S512x512 .f32} (hx : ∀ a b, x (ix2 a b) = hp u (R + a.val + 2) (K + b.val))
    (hy : ∀ a b, y (ix2 a b) = hp u (R + a.val + 1) (K + b.val)) (hz : ∀ a b, z (ix2 a b) = hp u (R + a.val) (K + b.val))
    (hw0 : ∀ b, w0 (ix2 0 b) = w 0 (K + b.val)) (hw1 : ∀ b, w1 (ix2 0 b) = w 1 (K + b.val))
    (hw2 : ∀ b, w2 (ix2 0 b) = w 2 (K + b.val))
    (h0 : ∀ a b, x0 (ix2 a b) = ct (R + a.val) (K + b.val))
    (h4 : ∀ a b, x4 (ix2 a b) = u (R + a.val) (9728 + (K + b.val))) (a b : Fin 512) :
    k0_pay14 x y z w0 w1 w2 x4 x0 (ix2 a b) = dcb ct u w (R + a.val) (K + b.val) := by
  pointwise [k0_pay14]
  rw [pay10_eq hx hy hz hw0 hw1 hw2, pay12_eq h4, h0]
  rfl

/-- The cotangent of the convolution's output. -/
theorem pay15_eq (h0 : ∀ a b, x0 (ix2 a b) = ct (R + a.val) (K + b.val))
    (h2 : ∀ a b, x2 (ix2 a b) = u (R + a.val) (6656 + (K + b.val)))
    (h4 : ∀ a b, x4 (ix2 a b) = u (R + a.val) (9728 + (K + b.val))) (a b : Fin 512) :
    k0_pay15 x2 x4 x0 (ix2 a b) = dy ct u (R + a.val) (K + b.val) := by
  pointwise [k0_pay15]
  rw [pay12_eq h4, h0, h2]
  rfl

/-- The cotangent of the convolution's input. -/
theorem pay17_eq (hR : R = 512 * (i 1).val) {x : Vec Ideal S512x512 .f32} (hx : ∀ a b, x (ix2 a b) = dy ct u (R + a.val) (K + b.val))
    (hw0 : ∀ b, w0 (ix2 0 b) = w 0 (K + b.val)) (hw1 : ∀ b, w1 (ix2 0 b) = w 1 (K + b.val))
    (hw2 : ∀ b, w2 (ix2 0 b) = w 2 (K + b.val))
    (h1 : (i 1).val ≠ 15 → ∀ a b, x1 (ix2 a b) = ct (R + 512 + a.val) (K + b.val))
    (h3 : (i 1).val ≠ 15 → ∀ a b, x3 (ix2 a b) = u (R + 512 + a.val) (6656 + (K + b.val)))
    (h5 : (i 1).val ≠ 15 → ∀ a b, x5 (ix2 a b) = u (R + 512 + a.val) (9728 + (K + b.val))) (a b : Fin 512) :
    k0_pay17 (BitVec.ofNat 32 (i 1).val) (iota .tc S512x512 32 [0] iota_S512x512_d0_w32) w0 w1 w2 x x5 (k0_pay16 x5) x1 x3 (ix2 a b)
      = dh ct u w (R + a.val) (K + b.val) := by
  have hi : (i 1).val < 16 := (i 1).isLt
  have hc : Scalar.cmpi CmpIPredicate.slt (BitVec.ofNat 32 (i 1).val) 15#32 = if (i 1).val = 15 then 0#1 else 1#1 := by
    revert hi; generalize (i 1).val = n; revert n
    decide +kernel
  have hn : ∀ r : Fin 8, Scalar.select (if (i 1).val = 15 then 0#1 else 1#1)
      (x1 (ix2 r b) * x3 (ix2 r b) * (x5 (ix2 r b) * Ideal.div 1 (1 + Ideal.exp (0 - x5 (ix2 r b))))) 0
      = dyz ct u (R + 512 + r.val) (K + b.val) := by
    intro r
    by_cases h : (i 1).val = 15
    · rw [if_pos h, dyz, if_neg (by omega)]; rfl
    · rw [if_neg h, dyz, if_pos (by omega), h1 h, h3 h, h5 h]; rfl
  have hd : ∀ r : Fin 512, x (ix2 r b) = dyz ct u (R + r.val) (K + b.val) := fun r => by
    have := r.isLt
    rw [dyz, if_pos (by omega), hx]
  have ha := a.isLt
  pointwise [k0_pay17, k0_pay16]
  rw [hc, hn, hn, cmp_eq a.val 511 a.isLt (by omega), cmp_eq a.val 510 a.isLt (by omega), hx, hw0, hw1, hw2, hd, hd, dh]
  by_cases h : a.val = 511
  · rw [if_pos h, show R + a.val + 1 = R + 512 + 0 by omega, show R + a.val + 2 = R + 512 + 1 by omega]
    rfl
  · rw [if_neg h]
    by_cases h' : a.val = 510
    · rw [if_pos h', show R + a.val + 2 = R + 512 + 0 by omega,
        show R + a.val + 1 = R + (a.val + 512 - 511) % 512 by omega]
      rfl
    · rw [if_neg h', show R + a.val + 2 = R + (a.val + 512 - 510) % 512 by omega,
        show R + a.val + 1 = R + (a.val + 512 - 511) % 512 by omega]
      rfl

/-- The sum of a block's part of one tap's gradient, added to what was there: the three rows share this. -/
theorem pay2_eq {x y : Vec Ideal S512x512 .f32} {v : Vec Ideal S1x512 .f32} {n : ℕ}
    (hx : ∀ a b, x (ix2 a b) = hp u (R + a.val + n) (K + b.val)) (hy : ∀ a b, y (ix2 a b) = dy ct u (R + a.val) (K + b.val)) (b : Fin 512) :
    k0_pay2 x y v (ix2 0 b) = v (ix2 0 b) + ∑ a ∈ Finset.range 512, dy ct u (R + a) (K + b.val) * hp u (R + a + n) (K + b.val) := by
  pointwise [k0_pay2]
  rw [Finset.sum_range]
  congr 1
  exact Finset.sum_congr rfl fun a _ => by rw [hx, hy]

end Cert.Conv

end
-- ==== Proof.ConvOut.lean ====
/-
  What the body leaves in its five output blocks at one grid point, as the body's own expressions of the eleven input
  blocks: the four gradient blocks, and three rows of the taps' gradient, each the row before plus the block's part of
  it (zero before in the first row block).
-/
module

public import proofs.«01_k».proof.Proof.Gen.ConvKernelIdeal.Frame
public import Idealize.ShloMosaic.Lib.Pipeline.Value
public import Idealize.ShloMosaic.Lib.Pointwise
public import Idealize.ShloMosaic.Lib.WritesUnit
public import Idealize.ShloMosaic.Lib.VecWindow
public import Idealize.ShloMosaic.Lib.Tactic

@[expose] public section

set_option maxRecDepth 16384

noncomputable section

namespace Cert.Conv

open Cert.ConvKernelIdeal Cert.ConvKernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- Row `n` of a block, as the one-row block that a load of it gives. -/
abbrev row0 (x : Vec Ideal S3x512 .f32) : Vec Ideal S1x512 .f32 := View.ld x (Rect.unit ![0, 0] ![1, 512] inb_S3x512_S1x512_0_0)
/-- The second tap. -/
abbrev row1 (x : Vec Ideal S3x512 .f32) : Vec Ideal S1x512 .f32 := View.ld x (Rect.unit ![1, 0] ![1, 512] inb_S3x512_S1x512_1_0)
/-- The third tap. -/
abbrev row2 (x : Vec Ideal S3x512 .f32) : Vec Ideal S1x512 .f32 := View.ld x (Rect.unit ![2, 0] ![1, 512] inb_S3x512_S1x512_2_0)

theorem row0_apply (x : Vec Ideal S3x512 .f32) (b : Fin 512) : row0 x (ix2 0 b) = x (ix2 0 b) :=
  congrArg x (funext fun a => Fin.ext (by match a with | ⟨0, _⟩ => rfl | ⟨1, _⟩ => simp [LoadRect.idx]))
theorem row1_apply (x : Vec Ideal S3x512 .f32) (b : Fin 512) : row1 x (ix2 0 b) = x (ix2 1 b) :=
  congrArg x (funext fun a => Fin.ext (by match a with | ⟨0, _⟩ => rfl | ⟨1, _⟩ => simp [LoadRect.idx]))
theorem row2_apply (x : Vec Ideal S3x512 .f32) (b : Fin 512) : row2 x (ix2 0 b) = x (ix2 2 b) :=
  congrArg x (funext fun a => Fin.ext (by match a with | ⟨0, _⟩ => rfl | ⟨1, _⟩ => simp [LoadRect.idx]))

/-- Three one-row stores, newest first, read at an index. -/
theorem read_rows {κ : Kind} {sp : Space} (v : View sig κ sp S8x512 .f32) (f : v.ty.Contents (Elt Ideal))
    (P2 P1 P0 : Vec Ideal S1x512 .f32) (L : List (View.Piece (Elt Ideal) S8x512 .f32)) (a : Fin 8) (b : Fin 512) :
    v.read (Elt Ideal) (v.writes (Elt Ideal) f (⟨Rect.unit ![2, 0] ![1, 512] inb_S8x512_S1x512_2_0, P2⟩ ::
      ⟨Rect.unit ![1, 0] ![1, 512] inb_S8x512_S1x512_1_0, P1⟩ :: ⟨Rect.unit ![0, 0] ![1, 512] inb_S8x512_S1x512_0_0, P0⟩ :: L)) (ix2 a b)
      = if a.val = 2 then P2 (ix2 0 b) else if a.val = 1 then P1 (ix2 0 b) else if a.val = 0 then P0 (ix2 0 b)
        else v.read (Elt Ideal) (v.writes (Elt Ideal) f L) (ix2 a b) := by
  by_cases h2 : a.val = 2
  · rw [if_pos h2]
    exact View.read_writes_cons_rows_of_mem (o := 2) v f _ P2 _ (ix2 a b) (ix2 0 b) rfl (by simpa using h2) rfl
  rw [if_neg h2]
  refine (View.read_writes_cons_rows_of_not_mem (o := 2) (W := 1) v f _ P2 _ (ix2 a b) rfl rfl
    (by show a.val < 2 ∨ 2 + 1 ≤ a.val; omega)).trans ?_
  by_cases h1 : a.val = 1
  · rw [if_pos h1]
    exact View.read_writes_cons_rows_of_mem (o := 1) v f _ P1 _ (ix2 a b) (ix2 0 b) rfl (by simpa using h1) rfl
  rw [if_neg h1]
  refine (View.read_writes_cons_rows_of_not_mem (o := 1) (W := 1) v f _ P1 _ (ix2 a b) rfl rfl
    (by show a.val < 1 ∨ 1 + 1 ≤ a.val; omega)).trans ?_
  by_cases h0 : a.val = 0
  · rw [if_pos h0]
    exact View.read_writes_cons_rows_of_mem (o := 0) v f _ P0 _ (ix2 a b) (ix2 0 b) rfl (by simpa using h0) rfl
  rw [if_neg h0]
  refine (View.read_writes_cons_rows_of_not_mem (o := 0) (W := 1) v f _ P0 _ (ix2 a b) rfl rfl
    (by show a.val < 0 ∨ 0 + 1 ≤ a.val; omega)).trans ?_
  rfl

/-- The B gate's gradient block, first row block. -/
theorem out_A_11 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) :
    out0_A_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 = k0_pay14 (k0_pay6 x6 x8) (k0_pay8 i x6 x8 x7 x9) (k0_pay9 i x6 x8 x7 x9) (row0 x10) (row1 x10) (row2 x10) x4 x0 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [View.canon_unit_zero (S := S512x512) hz]

/-- The C gate's gradient block, first row block. -/
theorem out_A_12 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) :
    out0_A_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 = k0_pay18 (BitVec.ofNat 32 (i 1).val) x8 (iota .tc S512x512 32 [0] iota_S512x512_d0_w32) (row0 x10) (row1 x10) (row2 x10) (k0_pay15 x2 x4 x0) x5 (k0_pay16 x5) x1 x3 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [View.canon_unit_zero (S := S512x512) hz]

/-- The gradient block of x, first row block. -/
theorem out_A_13 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) :
    out0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 = k0_pay1 (k0_pay19 (BitVec.ofNat 32 (i 1).val) x6 (iota .tc S512x512 32 [0] iota_S512x512_d0_w32) (row0 x10) (row1 x10) (row2 x10) (k0_pay15 x2 x4 x0) x5 (k0_pay16 x5) x1 x3) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [View.canon_unit_zero (S := S512x512) hz]

/-- The SiLU gate's gradient block, first row block. -/
theorem out_A_14 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) :
    out0_A_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 = k0_pay13 x2 (k0_pay6 x6 x8) (k0_pay8 i x6 x8 x7 x9) (k0_pay9 i x6 x8 x7 x9) (row0 x10) (row1 x10) (row2 x10) x4 x0 := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [View.canon_unit_zero (S := S512x512) hz]

/-- The B gate's gradient block, later row blocks. -/
theorem out_B_11 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : ¬cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) (xo : Vec Ideal S8x512 .f32) :
    out0_B_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo = k0_pay14 (k0_pay6 x6 x8) (k0_pay8 i x6 x8 x7 x9) (k0_pay9 i x6 x8 x7 x9) (row0 x10) (row1 x10) (row2 x10) x4 x0 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [View.canon_unit_zero (S := S512x512) hz]

/-- The C gate's gradient block, later row blocks. -/
theorem out_B_12 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : ¬cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) (xo : Vec Ideal S8x512 .f32) :
    out0_B_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo = k0_pay18 (BitVec.ofNat 32 (i 1).val) x8 (iota .tc S512x512 32 [0] iota_S512x512_d0_w32) (row0 x10) (row1 x10) (row2 x10) (k0_pay15 x2 x4 x0) x5 (k0_pay16 x5) x1 x3 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [View.canon_unit_zero (S := S512x512) hz]

/-- The gradient block of x, later row blocks. -/
theorem out_B_13 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : ¬cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) (xo : Vec Ideal S8x512 .f32) :
    out0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo = k0_pay1 (k0_pay19 (BitVec.ofNat 32 (i 1).val) x6 (iota .tc S512x512 32 [0] iota_S512x512_d0_w32) (row0 x10) (row1 x10) (row2 x10) (k0_pay15 x2 x4 x0) x5 (k0_pay16 x5) x1 x3) := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [View.canon_unit_zero (S := S512x512) hz]

/-- The SiLU gate's gradient block, later row blocks. -/
theorem out_B_14 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : ¬cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) (xo : Vec Ideal S8x512 .f32) :
    out0_B_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo = k0_pay13 x2 (k0_pay6 x6 x8) (k0_pay8 i x6 x8 x7 x9) (k0_pay9 i x6 x8 x7 x9) (row0 x10) (row1 x10) (row2 x10) x4 x0 := by
  unfold out0_B_14
  rw [View.read_writes_eq_canon _ _ _ (cover0_B_14 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [View.canon_unit_zero (S := S512x512) hz]

/-- The taps' gradient, later row blocks: each of the three rows is added to, the others stay. -/
theorem out_B_15 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : ¬cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) (xo : Vec Ideal S8x512 .f32) (a : Fin 8) (b : Fin 512) :
    out0_B_15 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 xo (ix2 a b) = (if a.val = 2 then k0_pay4 (k0_pay6 x6 x8) (k0_pay15 x2 x4 x0) (View.ld xo (Rect.unit ![2, 0] ![1, 512] inb_S8x512_S1x512_2_0)) (ix2 0 b)
      else if a.val = 1 then k0_pay3 (k0_pay8 i x6 x8 x7 x9) (k0_pay15 x2 x4 x0) (View.ld xo (Rect.unit ![1, 0] ![1, 512] inb_S8x512_S1x512_1_0)) (ix2 0 b)
      else if a.val = 0 then k0_pay2 (k0_pay9 i x6 x8 x7 x9) (k0_pay15 x2 x4 x0) (View.ld xo (Rect.unit ![0, 0] ![1, 512] inb_S8x512_S1x512_0_0)) (ix2 0 b)
      else xo (ix2 a b)) := by
  unfold out0_B_15
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [read_rows]
  simp only [View.writes_nil, h17.read_unread]

/-- A row of zeros. -/
def zrow : Vec Ideal S1x512 .f32 := fun _ => 0

/-- A row read from stores newest first, of which a block of zeros is the oldest and no newer one meets the row. -/
theorem zero0 {κ : Kind} {sp : Space} (v : View sig κ sp S8x512 .f32)  :
    v.readCov [⟨Rect.unit ![0, 0] ![8, 512] inb_S8x512_S8x512_0_0, k0_pay5 (F := Ideal)⟩]
      (Rect.unit ![0, 0] ![1, 512] inb_S8x512_S1x512_0_0).toLoadRect = zrow := by
  funext j
  show v.read (Elt Ideal) (v.writes (Elt Ideal) _ _) _ = 0
  rw [View.read_writes_full (s := S8x512)]
  pointwise [k0_pay5]

theorem zero1 {κ : Kind} {sp : Space} (v : View sig κ sp S8x512 .f32) (P0 : Vec Ideal S1x512 .f32) :
    v.readCov [⟨Rect.unit ![0, 0] ![1, 512] inb_S8x512_S1x512_0_0, P0⟩, ⟨Rect.unit ![0, 0] ![8, 512] inb_S8x512_S8x512_0_0, k0_pay5 (F := Ideal)⟩]
      (Rect.unit ![1, 0] ![1, 512] inb_S8x512_S1x512_1_0).toLoadRect = zrow := by
  funext j
  show v.read (Elt Ideal) (v.writes (Elt Ideal) _ _) _ = 0
  refine (View.read_writes_cons_rows_of_not_mem (o := 0) (W := 1) v _ _ P0 _ _ rfl rfl (by show 1 + 1 * (j 0).val < 0 ∨ 0 + 1 ≤ 1 + 1 * (j 0).val; omega)).trans ?_
  rw [View.read_writes_full (s := S8x512)]
  pointwise [k0_pay5]

theorem zero2 {κ : Kind} {sp : Space} (v : View sig κ sp S8x512 .f32) (P1 P0 : Vec Ideal S1x512 .f32) :
    v.readCov [⟨Rect.unit ![1, 0] ![1, 512] inb_S8x512_S1x512_1_0, P1⟩, ⟨Rect.unit ![0, 0] ![1, 512] inb_S8x512_S1x512_0_0, P0⟩, ⟨Rect.unit ![0, 0] ![8, 512] inb_S8x512_S8x512_0_0, k0_pay5 (F := Ideal)⟩]
      (Rect.unit ![2, 0] ![1, 512] inb_S8x512_S1x512_2_0).toLoadRect = zrow := by
  funext j
  show v.read (Elt Ideal) (v.writes (Elt Ideal) _ _) _ = 0
  refine (View.read_writes_cons_rows_of_not_mem (o := 1) (W := 1) v _ _ P1 _ _ rfl rfl (by show 2 + 1 * (j 0).val < 1 ∨ 1 + 1 ≤ 2 + 1 * (j 0).val; omega)).trans ?_
  refine (View.read_writes_cons_rows_of_not_mem (o := 0) (W := 1) v _ _ P0 _ _ rfl rfl (by show 2 + 1 * (j 0).val < 0 ∨ 0 + 1 ≤ 2 + 1 * (j 0).val; omega)).trans ?_
  rw [View.read_writes_full (s := S8x512)]
  pointwise [k0_pay5]

/-- The taps' gradient, first row block: over a block of zeros. -/
theorem out_A_15 (c : Dev nD) (i : grid0.Coords) (a2 : Memref sig .tc .vmem S512x512 .f32) (h2 : a2.IsWhole) (a3 : Memref sig .tc .vmem S8x512 .f32) (h3 : a3.IsWhole) (a4 : Memref sig .tc .vmem S512x512 .f32) (h4 : a4.IsWhole) (a5 : Memref sig .tc .vmem S8x512 .f32) (h5 : a5.IsWhole) (a6 : Memref sig .tc .vmem S512x512 .f32) (h6 : a6.IsWhole) (a7 : Memref sig .tc .vmem S8x512 .f32) (h7 : a7.IsWhole) (a8 : Memref sig .tc .vmem S512x512 .f32) (h8 : a8.IsWhole) (a9 : Memref sig .tc .vmem S8x512 .f32) (h9 : a9.IsWhole) (a10 : Memref sig .tc .vmem S512x512 .f32) (h10 : a10.IsWhole) (a11 : Memref sig .tc .vmem S8x512 .f32) (h11 : a11.IsWhole) (a12 : Memref sig .tc .vmem S3x512 .f32) (h12 : a12.IsWhole) (a13 : Memref sig .tc .vmem S512x512 .bf16) (h13 : a13.IsWhole) (a14 : Memref sig .tc .vmem S512x512 .bf16) (h14 : a14.IsWhole) (a15 : Memref sig .tc .vmem S512x512 .bf16) (h15 : a15.IsWhole) (a16 : Memref sig .tc .vmem S512x512 .bf16) (h16 : a16.IsWhole) (a17 : Memref sig .tc .vmem S8x512 .f32) (h17 : a17.IsWhole) (hc : cond0_0 i) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) (a : Fin 8) (b : Fin 512) :
    out0_A_15 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 (ix2 a b) = (if a.val = 2 then k0_pay4 (k0_pay6 x6 x8) (k0_pay15 x2 x4 x0) zrow (ix2 0 b)
      else if a.val = 1 then k0_pay3 (k0_pay8 i x6 x8 x7 x9) (k0_pay15 x2 x4 x0) zrow (ix2 0 b)
      else if a.val = 0 then k0_pay2 (k0_pay9 i x6 x8 x7 x9) (k0_pay15 x2 x4 x0) zrow (ix2 0 b)
      else 0) := by
  unfold out0_A_15
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, View.ld_unit_zero (S := S512x512) hz, View.ld_unit_zero (S := S8x512) hz, shapeCast_self]
  rw [read_rows, zero0, zero1, zero2]
  congr 3
  rw [View.read_writes_full]
  pointwise [k0_pay5]

end Cert.Conv

end
-- ==== Proof.ConvVal.lean ====
/-
  The whole arrays that the call returns, over the extended reals: at every grid point the input blocks are blocks of the
  arguments (`iblk_blk`), so what the body leaves are blocks of the gradients' formulas (`Blk.dcb` and so on), the
  write-backs tile the four gradient arrays, and the taps' gradient is the sum over the sixteen row blocks, by induction
  on the point (`acc_eq`).
-/
module

public import proofs.«01_k».proof.Proof.ConvPay
public import proofs.«01_k».proof.Proof.ConvOut
public import proofs.«01_k».proof.Proof.Gen.ConvKernelIdeal.Value

@[expose] public section

set_option maxRecDepth 16384

noncomputable section

namespace Cert.Conv

open Cert.ConvKernelIdeal Cert.ConvKernelIdeal.Gen Idealize.ShloMosaic Idealize.ShloMosaic.TcCoe Idealize.SL.Sem
open Idealize.ShloMosaic.Pipeline (Dat)

/-- What the eleven input blocks at grid coordinates `i` hold: row block `i 1` and column block `i 0` of the arguments, and
    the eight rows after or before it. -/
structure Blk (ct u w : ℕ → ℕ → EReal) (i : grid0.Coords) (x0 : Vec Ideal S512x512 .f32) (x1 : Vec Ideal S8x512 .f32) (x2 : Vec Ideal S512x512 .f32) (x3 : Vec Ideal S8x512 .f32) (x4 : Vec Ideal S512x512 .f32) (x5 : Vec Ideal S8x512 .f32) (x6 : Vec Ideal S512x512 .f32) (x7 : Vec Ideal S8x512 .f32) (x8 : Vec Ideal S512x512 .f32) (x9 : Vec Ideal S8x512 .f32) (x10 : Vec Ideal S3x512 .f32) : Prop where
  h0 : ∀ a b, x0 (ix2 a b) = ct (512 * (i 1).val + a.val) (512 * (i 0).val + b.val)
  h1 : (i 1).val ≠ 15 → ∀ a b, x1 (ix2 a b) = ct (512 * (i 1).val + 512 + a.val) (512 * (i 0).val + b.val)
  h2 : ∀ a b, x2 (ix2 a b) = u (512 * (i 1).val + a.val) (6656 + (512 * (i 0).val + b.val))
  h3 : (i 1).val ≠ 15 → ∀ a b, x3 (ix2 a b) = u (512 * (i 1).val + 512 + a.val) (6656 + (512 * (i 0).val + b.val))
  h4 : ∀ a b, x4 (ix2 a b) = u (512 * (i 1).val + a.val) (9728 + (512 * (i 0).val + b.val))
  h5 : (i 1).val ≠ 15 → ∀ a b, x5 (ix2 a b) = u (512 * (i 1).val + 512 + a.val) (9728 + (512 * (i 0).val + b.val))
  h6 : ∀ a b, x6 (ix2 a b) = u (512 * (i 1).val + a.val) (7680 + (512 * (i 0).val + b.val))
  h7 : (i 1).val ≠ 0 → ∀ a b, x7 (ix2 a b) = u (512 * (i 1).val + a.val - 8) (7680 + (512 * (i 0).val + b.val))
  h8 : ∀ a b, x8 (ix2 a b) = u (512 * (i 1).val + a.val) (8704 + (512 * (i 0).val + b.val))
  h9 : (i 1).val ≠ 0 → ∀ a b, x9 (ix2 a b) = u (512 * (i 1).val + a.val - 8) (8704 + (512 * (i 0).val + b.val))
  h10 : ∀ (a : Fin 3) b, x10 (ix2 a b) = w a.val (512 * (i 0).val + b.val)

variable {ct u w : ℕ → ℕ → EReal} {i : grid0.Coords} {x0 : Vec Ideal S512x512 .f32} {x1 : Vec Ideal S8x512 .f32} {x2 : Vec Ideal S512x512 .f32} {x3 : Vec Ideal S8x512 .f32} {x4 : Vec Ideal S512x512 .f32} {x5 : Vec Ideal S8x512 .f32} {x6 : Vec Ideal S512x512 .f32} {x7 : Vec Ideal S8x512 .f32} {x8 : Vec Ideal S512x512 .f32} {x9 : Vec Ideal S8x512 .f32} {x10 : Vec Ideal S3x512 .f32}

theorem Blk.w0 (h : Blk ct u w i x0 x1 x2 x3 x4 x5 x6 x7 x8 x9 x10) (b : Fin 512) : row0 x10 (ix2 0 b) = w 0 (512 * (i 0).val + b.val) := (row0_apply x10 b).trans (h.h10 0 b)
theorem Blk.w1 (h : Blk ct u w i x0 x1 x2 x3 x4 x5 x6 x7 x8 x9 x10) (b : Fin 512) : row1 x10 (ix2 0 b) = w 1 (512 * (i 0).val + b.val) := (row1_apply x10 b).trans (h.h10 1 b)
theorem Blk.w2 (h : Blk ct u w i x0 x1 x2 x3 x4 x5 x6 x7 x8 x9 x10) (b : Fin 512) : row2 x10 (ix2 0 b) = w 2 (512 * (i 0).val + b.val) := (row2_apply x10 b).trans (h.h10 2 b)

theorem Blk.dcb (h : Blk ct u w i x0 x1 x2 x3 x4 x5 x6 x7 x8 x9 x10) (a b : Fin 512) :
    k0_pay14 (k0_pay6 x6 x8) (k0_pay8 i x6 x8 x7 x9) (k0_pay9 i x6 x8 x7 x9) (row0 x10) (row1 x10) (row2 x10) x4 x0 (ix2 a b) = Conv.dcb ct u w (512 * (i 1).val + a.val) (512 * (i 0).val + b.val) :=
  pay14_eq (pay6_eq h.h6 h.h8) (pay8_eq rfl h.h6 h.h8 h.h7 h.h9) (pay9_eq rfl h.h6 h.h8 h.h7 h.h9) h.w0 h.w1 h.w2 h.h0 h.h4 a b

theorem Blk.dcg (h : Blk ct u w i x0 x1 x2 x3 x4 x5 x6 x7 x8 x9 x10) (a b : Fin 512) :
    k0_pay13 x2 (k0_pay6 x6 x8) (k0_pay8 i x6 x8 x7 x9) (k0_pay9 i x6 x8 x7 x9) (row0 x10) (row1 x10) (row2 x10) x4 x0 (ix2 a b) = Conv.dcg ct u w (512 * (i 1).val + a.val) (512 * (i 0).val + b.val) :=
  pay13_eq (pay6_eq h.h6 h.h8) (pay8_eq rfl h.h6 h.h8 h.h7 h.h9) (pay9_eq rfl h.h6 h.h8 h.h7 h.h9) h.w0 h.w1 h.w2 h.h0 h.h2 h.h4 a b

theorem Blk.dh (h : Blk ct u w i x0 x1 x2 x3 x4 x5 x6 x7 x8 x9 x10) (a b : Fin 512) :
    k0_pay17 (BitVec.ofNat 32 (i 1).val) (iota .tc S512x512 32 [0] iota_S512x512_d0_w32) (row0 x10) (row1 x10) (row2 x10) (k0_pay15 x2 x4 x0) x5 (k0_pay16 x5) x1 x3 (ix2 a b) = Conv.dh ct u w (512 * (i 1).val + a.val) (512 * (i 0).val + b.val) :=
  pay17_eq rfl (pay15_eq h.h0 h.h2 h.h4) h.w0 h.w1 h.w2 h.h1 h.h3 h.h5 a b

theorem Blk.dcc (h : Blk ct u w i x0 x1 x2 x3 x4 x5 x6 x7 x8 x9 x10) (a b : Fin 512) :
    k0_pay18 (BitVec.ofNat 32 (i 1).val) x8 (iota .tc S512x512 32 [0] iota_S512x512_d0_w32) (row0 x10) (row1 x10) (row2 x10) (k0_pay15 x2 x4 x0) x5 (k0_pay16 x5) x1 x3 (ix2 a b) = Conv.dcc ct u w (512 * (i 1).val + a.val) (512 * (i 0).val + b.val) := by
  show k0_pay17 (BitVec.ofNat 32 (i 1).val) (iota .tc S512x512 32 [0] iota_S512x512_d0_w32) (row0 x10) (row1 x10) (row2 x10) (k0_pay15 x2 x4 x0) x5 (k0_pay16 x5) x1 x3 (ix2 a b) * x8 (ix2 a b) = _
  rw [h.dh, h.h8]
  rfl

theorem Blk.dcx (h : Blk ct u w i x0 x1 x2 x3 x4 x5 x6 x7 x8 x9 x10) (a b : Fin 512) :
    k0_pay1 (k0_pay19 (BitVec.ofNat 32 (i 1).val) x6 (iota .tc S512x512 32 [0] iota_S512x512_d0_w32) (row0 x10) (row1 x10) (row2 x10) (k0_pay15 x2 x4 x0) x5 (k0_pay16 x5) x1 x3) (ix2 a b) = Conv.dcx ct u w (512 * (i 1).val + a.val) (512 * (i 0).val + b.val) := by
  show k0_pay17 (BitVec.ofNat 32 (i 1).val) (iota .tc S512x512 32 [0] iota_S512x512_d0_w32) (row0 x10) (row1 x10) (row2 x10) (k0_pay15 x2 x4 x0) x5 (k0_pay16 x5) x1 x3 (ix2 a b) * x6 (ix2 a b) = _
  rw [h.dh, h.h6]
  rfl

/-- A row of the taps' gradient: what was there plus the block's part. -/
theorem Blk.dw2 (h : Blk ct u w i x0 x1 x2 x3 x4 x5 x6 x7 x8 x9 x10) (v : Vec Ideal S1x512 .f32) (b : Fin 512) :
    k0_pay4 (k0_pay6 x6 x8) (k0_pay15 x2 x4 x0) v (ix2 0 b) = v (ix2 0 b) + ∑ a ∈ Finset.range 512, Conv.dy ct u (512 * (i 1).val + a) (512 * (i 0).val + b.val) * hp u (512 * (i 1).val + a + 2) (512 * (i 0).val + b.val) :=
  pay2_eq (pay6_eq h.h6 h.h8) (pay15_eq h.h0 h.h2 h.h4) b
theorem Blk.dw1 (h : Blk ct u w i x0 x1 x2 x3 x4 x5 x6 x7 x8 x9 x10) (v : Vec Ideal S1x512 .f32) (b : Fin 512) :
    k0_pay3 (k0_pay8 i x6 x8 x7 x9) (k0_pay15 x2 x4 x0) v (ix2 0 b) = v (ix2 0 b) + ∑ a ∈ Finset.range 512, Conv.dy ct u (512 * (i 1).val + a) (512 * (i 0).val + b.val) * hp u (512 * (i 1).val + a + 1) (512 * (i 0).val + b.val) :=
  pay2_eq (pay8_eq rfl h.h6 h.h8 h.h7 h.h9) (pay15_eq h.h0 h.h2 h.h4) b
theorem Blk.dw0 (h : Blk ct u w i x0 x1 x2 x3 x4 x5 x6 x7 x8 x9 x10) (v : Vec Ideal S1x512 .f32) (b : Fin 512) :
    k0_pay2 (k0_pay9 i x6 x8 x7 x9) (k0_pay15 x2 x4 x0) v (ix2 0 b) = v (ix2 0 b) + ∑ a ∈ Finset.range 512, Conv.dy ct u (512 * (i 1).val + a) (512 * (i 0).val + b.val) * hp u (512 * (i 1).val + a + 0) (512 * (i 0).val + b.val) :=
  pay2_eq (n := 0) (pay9_eq rfl h.h6 h.h8 h.h7 h.h9) (pay15_eq h.h0 h.h2 h.h4) b

/-- The sum over the rows below `R + 512` is the one below `R` and the block's. -/
theorem dw_add (R n k : ℕ) (hn : n < 3) :
    dw ct u R n k + ∑ a ∈ Finset.range 512, Conv.dy ct u (R + a) k * hp u (R + a + n) k = dw ct u (R + 512) n k := by
  rw [dw, dw, if_pos hn, if_pos hn, Finset.sum_range_add]
theorem dw_zero (n k : ℕ) : dw ct u 0 n k = 0 := by rw [dw]; split <;> rfl

/-- The taps' gradient block after a point, from the one before it. -/
theorem Blk.accB (h : Blk ct u w i x0 x1 x2 x3 x4 x5 x6 x7 x8 x9 x10) {xo : Vec Ideal S8x512 .f32} (ho : ∀ (a : Fin 8) b, xo (ix2 a b) = dw ct u (512 * (i 1).val) a.val (512 * (i 0).val + b.val)) (a : Fin 8) (b : Fin 512) :
    (if a.val = 2 then k0_pay4 (k0_pay6 x6 x8) (k0_pay15 x2 x4 x0) (View.ld xo (Rect.unit ![2, 0] ![1, 512] inb_S8x512_S1x512_2_0)) (ix2 0 b)
      else if a.val = 1 then k0_pay3 (k0_pay8 i x6 x8 x7 x9) (k0_pay15 x2 x4 x0) (View.ld xo (Rect.unit ![1, 0] ![1, 512] inb_S8x512_S1x512_1_0)) (ix2 0 b)
      else if a.val = 0 then k0_pay2 (k0_pay9 i x6 x8 x7 x9) (k0_pay15 x2 x4 x0) (View.ld xo (Rect.unit ![0, 0] ![1, 512] inb_S8x512_S1x512_0_0)) (ix2 0 b)
      else xo (ix2 a b)) = dw ct u (512 * (i 1).val + 512) a.val (512 * (i 0).val + b.val) := by
  have hl : ∀ n : Fin 8, ∀ hn, View.ld xo (Rect.unit ![n.val, 0] ![1, 512] hn) (ix2 0 b) = xo (ix2 n b) := fun n hn =>
    congrArg xo (funext fun a => Fin.ext (by match a with | ⟨0, _⟩ => rfl | ⟨1, _⟩ => simp [LoadRect.idx]))
  split_ifs with h2 h1 h0
  · rw [h.dw2, h2, ← dw_add _ 2 _ (by omega)]
    exact congrArg (· + _) ((hl 2 _).trans (ho 2 b))
  · rw [h.dw1, h1, ← dw_add _ 1 _ (by omega)]
    exact congrArg (· + _) ((hl 1 _).trans (ho 1 b))
  · rw [h.dw0, h0, ← dw_add _ 0 _ (by omega)]
    exact congrArg (· + _) ((hl 0 _).trans (ho 0 b))
  · rw [ho, dw, dw, if_neg (by omega), if_neg (by omega)]

/-- The same in the first row block. -/
theorem Blk.accA (h : Blk ct u w i x0 x1 x2 x3 x4 x5 x6 x7 x8 x9 x10) (hi : (i 1).val = 0) (a : Fin 8) (b : Fin 512) :
    (if a.val = 2 then k0_pay4 (k0_pay6 x6 x8) (k0_pay15 x2 x4 x0) zrow (ix2 0 b)
      else if a.val = 1 then k0_pay3 (k0_pay8 i x6 x8 x7 x9) (k0_pay15 x2 x4 x0) zrow (ix2 0 b)
      else if a.val = 0 then k0_pay2 (k0_pay9 i x6 x8 x7 x9) (k0_pay15 x2 x4 x0) zrow (ix2 0 b)
      else 0) = dw ct u (512 * (i 1).val + 512) a.val (512 * (i 0).val + b.val) := by
  have hw : ∀ n k, (0 : EReal) = dw ct u (512 * (i 1).val) n k := fun n k => by rw [hi, dw_zero]
  split_ifs with h2 h1 h0
  · rw [h.dw2, h2, ← dw_add _ 2 _ (by omega)]
    exact congrArg (· + _) (hw _ _)
  · rw [h.dw1, h1, ← dw_add _ 1 _ (by omega)]
    exact congrArg (· + _) (hw _ _)
  · rw [h.dw0, h0, ← dw_add _ 0 _ (by omega)]
    exact congrArg (· + _) (hw _ _)
  · rw [dw, if_neg (by omega)]

/-! ## The input blocks are blocks of the arguments -/

variable (m : (ℓ : Loc nD τ sig) → Buf (Elt Ideal) ℓ) (c : Dev nD)

/-- The arguments by row and column. -/
abbrev gct : ℕ → ℕ → EReal := ent (n0 := 8192) (n1 := 1024) (m ((c : Thread nD τ).loc main_arg0))
abbrev gu : ℕ → ℕ → EReal := ent (n0 := 8192) (n1 := 16896) (m ((c : Thread nD τ).loc main_arg1))
abbrev gw : ℕ → ℕ → EReal := ent (n0 := 3) (n1 := 1024) (m ((c : Thread nD τ).loc main_arg2))

/-- The grid's coordinates. -/
theorem coords_eq : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

theorem idx_0 : ∀ t : Fin cfg0.N, win0_0.index t 1 = t.val / 16 ∧ (win0_0.index t 0 = t.val % 16) :=
  (by decide +kernel : ∀ t : Fin grid0.N, win0_0.index t 1 = t.val / 16 ∧ (win0_0.index t 0 = t.val % 16))
theorem iblk_0 (t : Fin cfg0.N) (a : Fin 512) (b : Fin 512) :
    (iblk m c 0 t : Vec Ideal S512x512 .f32) (ix2 a b) = gct m c (win0_0.index t 0 * 512 + a.val) (win0_0.index t 1 * 512 + b.val) := by
  unfold iblk
  rw [View.read_apply]
  show V m c main_arg0 _ = _
  refine eq_ent (m ((c : Thread nD τ).loc main_arg0)) _ ?_ ?_
  · show win0_0.index t 0 * 512 + 1 * a.val = _; omega
  · show win0_0.index t 1 * 512 + 1 * b.val = _; omega

theorem idx_1 : ∀ t : Fin cfg0.N, win0_1.index t 1 = t.val / 16 ∧ (t.val % 16 ≠ 15 → win0_1.index t 0 = (t.val % 16 + 1) * 64) :=
  (by decide +kernel : ∀ t : Fin grid0.N, win0_1.index t 1 = t.val / 16 ∧ (t.val % 16 ≠ 15 → win0_1.index t 0 = (t.val % 16 + 1) * 64))
theorem iblk_1 (t : Fin cfg0.N) (a : Fin 8) (b : Fin 512) :
    (iblk m c 1 t : Vec Ideal S8x512 .f32) (ix2 a b) = gct m c (win0_1.index t 0 * 8 + a.val) (win0_1.index t 1 * 512 + b.val) := by
  unfold iblk
  rw [View.read_apply]
  show V m c main_arg0 _ = _
  refine eq_ent (m ((c : Thread nD τ).loc main_arg0)) _ ?_ ?_
  · show win0_1.index t 0 * 8 + 1 * a.val = _; omega
  · show win0_1.index t 1 * 512 + 1 * b.val = _; omega

theorem idx_2 : ∀ t : Fin cfg0.N, win0_2.index t 1 = 13 + t.val / 16 ∧ (win0_2.index t 0 = t.val % 16) :=
  (by decide +kernel : ∀ t : Fin grid0.N, win0_2.index t 1 = 13 + t.val / 16 ∧ (win0_2.index t 0 = t.val % 16))
theorem iblk_2 (t : Fin cfg0.N) (a : Fin 512) (b : Fin 512) :
    (iblk m c 2 t : Vec Ideal S512x512 .f32) (ix2 a b) = gu m c (win0_2.index t 0 * 512 + a.val) (win0_2.index t 1 * 512 + b.val) := by
  unfold iblk
  rw [View.read_apply]
  show V m c main_arg1 _ = _
  refine eq_ent (m ((c : Thread nD τ).loc main_arg1)) _ ?_ ?_
  · show win0_2.index t 0 * 512 + 1 * a.val = _; omega
  · show win0_2.index t 1 * 512 + 1 * b.val = _; omega

theorem idx_3 : ∀ t : Fin cfg0.N, win0_3.index t 1 = 13 + t.val / 16 ∧ (t.val % 16 ≠ 15 → win0_3.index t 0 = (t.val % 16 + 1) * 64) :=
  (by decide +kernel : ∀ t : Fin grid0.N, win0_3.index t 1 = 13 + t.val / 16 ∧ (t.val % 16 ≠ 15 → win0_3.index t 0 = (t.val % 16 + 1) * 64))
theorem iblk_3 (t : Fin cfg0.N) (a : Fin 8) (b : Fin 512) :
    (iblk m c 3 t : Vec Ideal S8x512 .f32) (ix2 a b) = gu m c (win0_3.index t 0 * 8 + a.val) (win0_3.index t 1 * 512 + b.val) := by
  unfold iblk
  rw [View.read_apply]
  show V m c main_arg1 _ = _
  refine eq_ent (m ((c : Thread nD τ).loc main_arg1)) _ ?_ ?_
  · show win0_3.index t 0 * 8 + 1 * a.val = _; omega
  · show win0_3.index t 1 * 512 + 1 * b.val = _; omega

theorem idx_4 : ∀ t : Fin cfg0.N, win0_4.index t 1 = 19 + t.val / 16 ∧ (win0_4.index t 0 = t.val % 16) :=
  (by decide +kernel : ∀ t : Fin grid0.N, win0_4.index t 1 = 19 + t.val / 16 ∧ (win0_4.index t 0 = t.val % 16))
theorem iblk_4 (t : Fin cfg0.N) (a : Fin 512) (b : Fin 512) :
    (iblk m c 4 t : Vec Ideal S512x512 .f32) (ix2 a b) = gu m c (win0_4.index t 0 * 512 + a.val) (win0_4.index t 1 * 512 + b.val) := by
  unfold iblk
  rw [View.read_apply]
  show V m c main_arg1 _ = _
  refine eq_ent (m ((c : Thread nD τ).loc main_arg1)) _ ?_ ?_
  · show win0_4.index t 0 * 512 + 1 * a.val = _; omega
  · show win0_4.index t 1 * 512 + 1 * b.val = _; omega

theorem idx_5 : ∀ t : Fin cfg0.N, win0_5.index t 1 = 19 + t.val / 16 ∧ (t.val % 16 ≠ 15 → win0_5.index t 0 = (t.val % 16 + 1) * 64) :=
  (by decide +kernel : ∀ t : Fin grid0.N, win0_5.index t 1 = 19 + t.val / 16 ∧ (t.val % 16 ≠ 15 → win0_5.index t 0 = (t.val % 16 + 1) * 64))
theorem iblk_5 (t : Fin cfg0.N) (a : Fin 8) (b : Fin 512) :
    (iblk m c 5 t : Vec Ideal S8x512 .f32) (ix2 a b) = gu m c (win0_5.index t 0 * 8 + a.val) (win0_5.index t 1 * 512 + b.val) := by
  unfold iblk
  rw [View.read_apply]
  show V m c main_arg1 _ = _
  refine eq_ent (m ((c : Thread nD τ).loc main_arg1)) _ ?_ ?_
  · show win0_5.index t 0 * 8 + 1 * a.val = _; omega
  · show win0_5.index t 1 * 512 + 1 * b.val = _; omega

theorem idx_6 : ∀ t : Fin cfg0.N, win0_6.index t 1 = 15 + t.val / 16 ∧ (win0_6.index t 0 = t.val % 16) :=
  (by decide +kernel : ∀ t : Fin grid0.N, win0_6.index t 1 = 15 + t.val / 16 ∧ (win0_6.index t 0 = t.val % 16))
theorem iblk_6 (t : Fin cfg0.N) (a : Fin 512) (b : Fin 512) :
    (iblk m c 6 t : Vec Ideal S512x512 .f32) (ix2 a b) = gu m c (win0_6.index t 0 * 512 + a.val) (win0_6.index t 1 * 512 + b.val) := by
  unfold iblk
  rw [View.read_apply]
  show V m c main_arg1 _ = _
  refine eq_ent (m ((c : Thread nD τ).loc main_arg1)) _ ?_ ?_
  · show win0_6.index t 0 * 512 + 1 * a.val = _; omega
  · show win0_6.index t 1 * 512 + 1 * b.val = _; omega

theorem idx_7 : ∀ t : Fin cfg0.N, win0_7.index t 1 = 15 + t.val / 16 ∧ (t.val % 16 ≠ 0 → win0_7.index t 0 = t.val % 16 * 64 - 1) :=
  (by decide +kernel : ∀ t : Fin grid0.N, win0_7.index t 1 = 15 + t.val / 16 ∧ (t.val % 16 ≠ 0 → win0_7.index t 0 = t.val % 16 * 64 - 1))
theorem iblk_7 (t : Fin cfg0.N) (a : Fin 8) (b : Fin 512) :
    (iblk m c 7 t : Vec Ideal S8x512 .f32) (ix2 a b) = gu m c (win0_7.index t 0 * 8 + a.val) (win0_7.index t 1 * 512 + b.val) := by
  unfold iblk
  rw [View.read_apply]
  show V m c main_arg1 _ = _
  refine eq_ent (m ((c : Thread nD τ).loc main_arg1)) _ ?_ ?_
  · show win0_7.index t 0 * 8 + 1 * a.val = _; omega
  · show win0_7.index t 1 * 512 + 1 * b.val = _; omega

theorem idx_8 : ∀ t : Fin cfg0.N, win0_8.index t 1 = 17 + t.val / 16 ∧ (win0_8.index t 0 = t.val % 16) :=
  (by decide +kernel : ∀ t : Fin grid0.N, win0_8.index t 1 = 17 + t.val / 16 ∧ (win0_8.index t 0 = t.val % 16))
theorem iblk_8 (t : Fin cfg0.N) (a : Fin 512) (b : Fin 512) :
    (iblk m c 8 t : Vec Ideal S512x512 .f32) (ix2 a b) = gu m c (win0_8.index t 0 * 512 + a.val) (win0_8.index t 1 * 512 + b.val) := by
  unfold iblk
  rw [View.read_apply]
  show V m c main_arg1 _ = _
  refine eq_ent (m ((c : Thread nD τ).loc main_arg1)) _ ?_ ?_
  · show win0_8.index t 0 * 512 + 1 * a.val = _; omega
  · show win0_8.index t 1 * 512 + 1 * b.val = _; omega

theorem idx_9 : ∀ t : Fin cfg0.N, win0_9.index t 1 = 17 + t.val / 16 ∧ (t.val % 16 ≠ 0 → win0_9.index t 0 = t.val % 16 * 64 - 1) :=
  (by decide +kernel : ∀ t : Fin grid0.N, win0_9.index t 1 = 17 + t.val / 16 ∧ (t.val % 16 ≠ 0 → win0_9.index t 0 = t.val % 16 * 64 - 1))
theorem iblk_9 (t : Fin cfg0.N) (a : Fin 8) (b : Fin 512) :
    (iblk m c 9 t : Vec Ideal S8x512 .f32) (ix2 a b) = gu m c (win0_9.index t 0 * 8 + a.val) (win0_9.index t 1 * 512 + b.val) := by
  unfold iblk
  rw [View.read_apply]
  show V m c main_arg1 _ = _
  refine eq_ent (m ((c : Thread nD τ).loc main_arg1)) _ ?_ ?_
  · show win0_9.index t 0 * 8 + 1 * a.val = _; omega
  · show win0_9.index t 1 * 512 + 1 * b.val = _; omega

theorem idx_10 : ∀ t : Fin cfg0.N, win0_10.index t 1 = t.val / 16 ∧ (win0_10.index t 0 = 0) :=
  (by decide +kernel : ∀ t : Fin grid0.N, win0_10.index t 1 = t.val / 16 ∧ (win0_10.index t 0 = 0))
theorem iblk_10 (t : Fin cfg0.N) (a : Fin 3) (b : Fin 512) :
    (iblk m c 10 t : Vec Ideal S3x512 .f32) (ix2 a b) = gw m c (win0_10.index t 0 * 3 + a.val) (win0_10.index t 1 * 512 + b.val) := by
  unfold iblk
  rw [View.read_apply]
  show V m c main_arg2 _ = _
  refine eq_ent (m ((c : Thread nD τ).loc main_arg2)) _ ?_ ?_
  · show win0_10.index t 0 * 3 + 1 * a.val = _; omega
  · show win0_10.index t 1 * 512 + 1 * b.val = _; omega

/-- At every point the input blocks are the arguments' blocks. -/
theorem blk (t : Fin cfg0.N) : Blk (gct m c) (gu m c) (gw m c) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  obtain ⟨hc0, hc1⟩ := coords_eq t
  constructor <;> rw [hc0] <;> try rw [hc1]
  · intro a b
    rw [iblk_0, (idx_0 t).1, (idx_0 t).2]; congr 1 <;> omega
  · intro h a b
    rw [iblk_1, (idx_1 t).1, (idx_1 t).2 h]; congr 1 <;> omega
  · intro a b
    rw [iblk_2, (idx_2 t).1, (idx_2 t).2]; congr 1 <;> omega
  · intro h a b
    rw [iblk_3, (idx_3 t).1, (idx_3 t).2 h]; congr 1 <;> omega
  · intro a b
    rw [iblk_4, (idx_4 t).1, (idx_4 t).2]; congr 1 <;> omega
  · intro h a b
    rw [iblk_5, (idx_5 t).1, (idx_5 t).2 h]; congr 1 <;> omega
  · intro a b
    rw [iblk_6, (idx_6 t).1, (idx_6 t).2]; congr 1 <;> omega
  · intro h a b
    rw [iblk_7, (idx_7 t).1, (idx_7 t).2 h]; congr 1 <;> omega
  · intro a b
    rw [iblk_8, (idx_8 t).1, (idx_8 t).2]; congr 1 <;> omega
  · intro h a b
    rw [iblk_9, (idx_9 t).1, (idx_9 t).2 h]; congr 1 <;> omega
  · intro a b
    rw [iblk_10, (idx_10 t).1, (idx_10 t).2]; congr 1 <;> omega

/-! ## The result arrays -/

theorem idx_11 : ∀ t : Fin cfg0.N, win0_11.index t 0 = t.val % 16 ∧ win0_11.index t 1 = t.val / 16 :=
  (by decide +kernel : ∀ t : Fin grid0.N, win0_11.index t 0 = t.val % 16 ∧ win0_11.index t 1 = t.val / 16)
theorem xs_11 : ∀ t : Fin cfg0.N, win0_11.xsize (grid0.coords t) 0 = 512 ∧ win0_11.xsize (grid0.coords t) 1 = 512 :=
  (by decide +kernel : ∀ t : Fin grid0.N, win0_11.xsize (grid0.coords t) 0 = 512 ∧ win0_11.xsize (grid0.coords t) 1 = 512)

/-- Result 0's array. -/
def G11 : Buf (Elt Ideal) ((c : Thread nD τ).loc main_v0_0) := fun j => dcb (gct m c) (gu m c) (gw m c) (j 0).val (j 1).val

/-- What a point writes back is its block of the array. -/
theorem flushed_11 (t : Fin cfg0.N) (hf : (cfg0.win 11).flush t = true) :
    (dats m 0 c).flushed 11 t = ((cfg0.win 11).blk t).view.read (Elt Ideal) (G11 m c) := by
  have key : (dats m 0 c).flushed 11 t = (cfg0.win 11).cut (grid0.coords t) (k0_pay14 (k0_pay6 (iblk m c 6 t) (iblk m c 8 t)) (k0_pay8 (grid0.coords t) (iblk m c 6 t) (iblk m c 8 t) (iblk m c 7 t) (iblk m c 9 t)) (k0_pay9 (grid0.coords t) (iblk m c 6 t) (iblk m c 8 t) (iblk m c 7 t) (iblk m c 9 t)) (row0 (iblk m c 10 t)) (row1 (iblk m c 10 t)) (row2 (iblk m c 10 t)) (iblk m c 4 t) (iblk m c 0 t)) := by
    by_cases h0 : t.val % 16 = 0
    · rw [Value.flushed11_A m c t h0, out_A_11]
    · rw [Value.flushed11_B m c t h0, out_B_11]
  rw [key]
  funext j
  obtain ⟨hc0, hc1⟩ := coords_eq t
  obtain ⟨hi0, hi1⟩ := idx_11 t
  have ha : (j 0).val < 512 := (xs_11 t).1 ▸ (j 0).isLt
  have hb : (j 1).val < 512 := (xs_11 t).2 ▸ (j 1).isLt
  refine Eq.trans (?_ : _ = k0_pay14 (k0_pay6 (iblk m c 6 t) (iblk m c 8 t)) (k0_pay8 (grid0.coords t) (iblk m c 6 t) (iblk m c 8 t) (iblk m c 7 t) (iblk m c 9 t)) (k0_pay9 (grid0.coords t) (iblk m c 6 t) (iblk m c 8 t) (iblk m c 7 t) (iblk m c 9 t)) (row0 (iblk m c 10 t)) (row1 (iblk m c 10 t)) (row2 (iblk m c 10 t)) (iblk m c 4 t) (iblk m c 0 t) (ix2 ⟨(j 0).val, ha⟩ ⟨(j 1).val, hb⟩)) ?_
  · exact congrArg (k0_pay14 (k0_pay6 (iblk m c 6 t) (iblk m c 8 t)) (k0_pay8 (grid0.coords t) (iblk m c 6 t) (iblk m c 8 t) (iblk m c 7 t) (iblk m c 9 t)) (k0_pay9 (grid0.coords t) (iblk m c 6 t) (iblk m c 8 t) (iblk m c 7 t) (iblk m c 9 t)) (row0 (iblk m c 10 t)) (row1 (iblk m c 10 t)) (row2 (iblk m c 10 t)) (iblk m c 4 t) (iblk m c 0 t) : Vec Ideal S512x512 .bf16) (funext fun a => by match a with | ⟨0, _⟩ => rfl | ⟨1, _⟩ => rfl)
  rw [(blk m c t).dcb, hc0, hc1, View.read_apply]
  show _ = dcb (gct m c) (gu m c) (gw m c) (win0_11.index t 0 * 512 + 1 * (j 0).val) (win0_11.index t 1 * 512 + 1 * (j 1).val)
  rw [hi0, hi1]
  congr 1 <;> (dsimp only; omega)

/-- An entry lies in a point's block when its row and column do. -/
theorem mem_11 (t : Fin cfg0.N) (j : S8192x1024.Idx) :
    j ∈ ((cfg0.win 11).blk t).view.set ↔ t.val % 16 * 512 ≤ (j 0).val ∧ (j 0).val < t.val % 16 * 512 + 512 ∧ t.val / 16 * 512 ≤ (j 1).val ∧ (j 1).val < t.val / 16 * 512 + 512 := by
  show j ∈ ((View.whole main_v0_0).slice (win0_11.rect t)).set ↔ _
  rw [View.set_slice_whole, Rect.mem_set_unit]
  show (∀ a : Fin 2, win0_11.index t a * win0_11.size a ≤ (j a).val ∧ (j a).val < win0_11.index t a * win0_11.size a + win0_11.xsize (grid0.coords t) a) ↔ _
  rw [Fin.forall_fin_two, (idx_11 t).1, (idx_11 t).2, (xs_11 t).1, (xs_11 t).2]
  exact ⟨fun h => ⟨h.1.1, h.1.2, h.2.1, h.2.2⟩, fun h => ⟨⟨h.1, h.2.1⟩, h.2.2.1, h.2.2.2⟩⟩

/-- After the run the array holds the gradient's formula at every entry. -/
theorem final_11 : (dats m 0 c).arrAt 11 cfg0.N = G11 m c :=
  (dats m 0 c).arrAt_eq_of_cover 11 (G11 m c) (flushed_11 m c) fun j => by
    have h0 : (j 0).val < 8192 := (j 0).isLt
    have h1 : (j 1).val < 1024 := (j 1).isLt
    refine ⟨⟨(j 0).val / 512 + 16 * ((j 1).val / 512), by rw [show cfg0.N = 32 from N_0]; omega⟩, flush0_11 _, ?_⟩
    rw [mem_11]
    dsimp only
    omega

theorem idx_12 : ∀ t : Fin cfg0.N, win0_12.index t 0 = t.val % 16 ∧ win0_12.index t 1 = t.val / 16 :=
  (by decide +kernel : ∀ t : Fin grid0.N, win0_12.index t 0 = t.val % 16 ∧ win0_12.index t 1 = t.val / 16)
theorem xs_12 : ∀ t : Fin cfg0.N, win0_12.xsize (grid0.coords t) 0 = 512 ∧ win0_12.xsize (grid0.coords t) 1 = 512 :=
  (by decide +kernel : ∀ t : Fin grid0.N, win0_12.xsize (grid0.coords t) 0 = 512 ∧ win0_12.xsize (grid0.coords t) 1 = 512)

/-- Result 1's array. -/
def G12 : Buf (Elt Ideal) ((c : Thread nD τ).loc main_v0_1) := fun j => dcc (gct m c) (gu m c) (gw m c) (j 0).val (j 1).val

/-- What a point writes back is its block of the array. -/
theorem flushed_12 (t : Fin cfg0.N) (hf : (cfg0.win 12).flush t = true) :
    (dats m 0 c).flushed 12 t = ((cfg0.win 12).blk t).view.read (Elt Ideal) (G12 m c) := by
  have key : (dats m 0 c).flushed 12 t = (cfg0.win 12).cut (grid0.coords t) (k0_pay18 (BitVec.ofNat 32 (grid0.coords t 1).val) (iblk m c 8 t) (iota .tc S512x512 32 [0] iota_S512x512_d0_w32) (row0 (iblk m c 10 t)) (row1 (iblk m c 10 t)) (row2 (iblk m c 10 t)) (k0_pay15 (iblk m c 2 t) (iblk m c 4 t) (iblk m c 0 t)) (iblk m c 5 t) (k0_pay16 (iblk m c 5 t)) (iblk m c 1 t) (iblk m c 3 t)) := by
    by_cases h0 : t.val % 16 = 0
    · rw [Value.flushed12_A m c t h0, out_A_12]
    · rw [Value.flushed12_B m c t h0, out_B_12]
  rw [key]
  funext j
  obtain ⟨hc0, hc1⟩ := coords_eq t
  obtain ⟨hi0, hi1⟩ := idx_12 t
  have ha : (j 0).val < 512 := (xs_12 t).1 ▸ (j 0).isLt
  have hb : (j 1).val < 512 := (xs_12 t).2 ▸ (j 1).isLt
  refine Eq.trans (?_ : _ = k0_pay18 (BitVec.ofNat 32 (grid0.coords t 1).val) (iblk m c 8 t) (iota .tc S512x512 32 [0] iota_S512x512_d0_w32) (row0 (iblk m c 10 t)) (row1 (iblk m c 10 t)) (row2 (iblk m c 10 t)) (k0_pay15 (iblk m c 2 t) (iblk m c 4 t) (iblk m c 0 t)) (iblk m c 5 t) (k0_pay16 (iblk m c 5 t)) (iblk m c 1 t) (iblk m c 3 t) (ix2 ⟨(j 0).val, ha⟩ ⟨(j 1).val, hb⟩)) ?_
  · exact congrArg (k0_pay18 (BitVec.ofNat 32 (grid0.coords t 1).val) (iblk m c 8 t) (iota .tc S512x512 32 [0] iota_S512x512_d0_w32) (row0 (iblk m c 10 t)) (row1 (iblk m c 10 t)) (row2 (iblk m c 10 t)) (k0_pay15 (iblk m c 2 t) (iblk m c 4 t) (iblk m c 0 t)) (iblk m c 5 t) (k0_pay16 (iblk m c 5 t)) (iblk m c 1 t) (iblk m c 3 t) : Vec Ideal S512x512 .bf16) (funext fun a => by match a with | ⟨0, _⟩ => rfl | ⟨1, _⟩ => rfl)
  rw [(blk m c t).dcc, hc0, hc1, View.read_apply]
  show _ = dcc (gct m c) (gu m c) (gw m c) (win0_12.index t 0 * 512 + 1 * (j 0).val) (win0_12.index t 1 * 512 + 1 * (j 1).val)
  rw [hi0, hi1]
  congr 1 <;> (dsimp only; omega)

/-- An entry lies in a point's block when its row and column do. -/
theorem mem_12 (t : Fin cfg0.N) (j : S8192x1024.Idx) :
    j ∈ ((cfg0.win 12).blk t).view.set ↔ t.val % 16 * 512 ≤ (j 0).val ∧ (j 0).val < t.val % 16 * 512 + 512 ∧ t.val / 16 * 512 ≤ (j 1).val ∧ (j 1).val < t.val / 16 * 512 + 512 := by
  show j ∈ ((View.whole main_v0_1).slice (win0_12.rect t)).set ↔ _
  rw [View.set_slice_whole, Rect.mem_set_unit]
  show (∀ a : Fin 2, win0_12.index t a * win0_12.size a ≤ (j a).val ∧ (j a).val < win0_12.index t a * win0_12.size a + win0_12.xsize (grid0.coords t) a) ↔ _
  rw [Fin.forall_fin_two, (idx_12 t).1, (idx_12 t).2, (xs_12 t).1, (xs_12 t).2]
  exact ⟨fun h => ⟨h.1.1, h.1.2, h.2.1, h.2.2⟩, fun h => ⟨⟨h.1, h.2.1⟩, h.2.2.1, h.2.2.2⟩⟩

/-- After the run the array holds the gradient's formula at every entry. -/
theorem final_12 : (dats m 0 c).arrAt 12 cfg0.N = G12 m c :=
  (dats m 0 c).arrAt_eq_of_cover 12 (G12 m c) (flushed_12 m c) fun j => by
    have h0 : (j 0).val < 8192 := (j 0).isLt
    have h1 : (j 1).val < 1024 := (j 1).isLt
    refine ⟨⟨(j 0).val / 512 + 16 * ((j 1).val / 512), by rw [show cfg0.N = 32 from N_0]; omega⟩, flush0_12 _, ?_⟩
    rw [mem_12]
    dsimp only
    omega

theorem idx_13 : ∀ t : Fin cfg0.N, win0_13.index t 0 = t.val % 16 ∧ win0_13.index t 1 = t.val / 16 :=
  (by decide +kernel : ∀ t : Fin grid0.N, win0_13.index t 0 = t.val % 16 ∧ win0_13.index t 1 = t.val / 16)
theorem xs_13 : ∀ t : Fin cfg0.N, win0_13.xsize (grid0.coords t) 0 = 512 ∧ win0_13.xsize (grid0.coords t) 1 = 512 :=
  (by decide +kernel : ∀ t : Fin grid0.N, win0_13.xsize (grid0.coords t) 0 = 512 ∧ win0_13.xsize (grid0.coords t) 1 = 512)

/-- Result 2's array. -/
def G13 : Buf (Elt Ideal) ((c : Thread nD τ).loc main_v0_2) := fun j => dcx (gct m c) (gu m c) (gw m c) (j 0).val (j 1).val

/-- What a point writes back is its block of the array. -/
theorem flushed_13 (t : Fin cfg0.N) (hf : (cfg0.win 13).flush t = true) :
    (dats m 0 c).flushed 13 t = ((cfg0.win 13).blk t).view.read (Elt Ideal) (G13 m c) := by
  have key : (dats m 0 c).flushed 13 t = (cfg0.win 13).cut (grid0.coords t) (k0_pay1 (k0_pay19 (BitVec.ofNat 32 (grid0.coords t 1).val) (iblk m c 6 t) (iota .tc S512x512 32 [0] iota_S512x512_d0_w32) (row0 (iblk m c 10 t)) (row1 (iblk m c 10 t)) (row2 (iblk m c 10 t)) (k0_pay15 (iblk m c 2 t) (iblk m c 4 t) (iblk m c 0 t)) (iblk m c 5 t) (k0_pay16 (iblk m c 5 t)) (iblk m c 1 t) (iblk m c 3 t))) := by
    by_cases h0 : t.val % 16 = 0
    · rw [Value.flushed13_A m c t h0, out_A_13]
    · rw [Value.flushed13_B m c t h0, out_B_13]
  rw [key]
  funext j
  obtain ⟨hc0, hc1⟩ := coords_eq t
  obtain ⟨hi0, hi1⟩ := idx_13 t
  have ha : (j 0).val < 512 := (xs_13 t).1 ▸ (j 0).isLt
  have hb : (j 1).val < 512 := (xs_13 t).2 ▸ (j 1).isLt
  refine Eq.trans (?_ : _ = k0_pay1 (k0_pay19 (BitVec.ofNat 32 (grid0.coords t 1).val) (iblk m c 6 t) (iota .tc S512x512 32 [0] iota_S512x512_d0_w32) (row0 (iblk m c 10 t)) (row1 (iblk m c 10 t)) (row2 (iblk m c 10 t)) (k0_pay15 (iblk m c 2 t) (iblk m c 4 t) (iblk m c 0 t)) (iblk m c 5 t) (k0_pay16 (iblk m c 5 t)) (iblk m c 1 t) (iblk m c 3 t)) (ix2 ⟨(j 0).val, ha⟩ ⟨(j 1).val, hb⟩)) ?_
  · exact congrArg (k0_pay1 (k0_pay19 (BitVec.ofNat 32 (grid0.coords t 1).val) (iblk m c 6 t) (iota .tc S512x512 32 [0] iota_S512x512_d0_w32) (row0 (iblk m c 10 t)) (row1 (iblk m c 10 t)) (row2 (iblk m c 10 t)) (k0_pay15 (iblk m c 2 t) (iblk m c 4 t) (iblk m c 0 t)) (iblk m c 5 t) (k0_pay16 (iblk m c 5 t)) (iblk m c 1 t) (iblk m c 3 t)) : Vec Ideal S512x512 .bf16) (funext fun a => by match a with | ⟨0, _⟩ => rfl | ⟨1, _⟩ => rfl)
  rw [(blk m c t).dcx, hc0, hc1, View.read_apply]
  show _ = dcx (gct m c) (gu m c) (gw m c) (win0_13.index t 0 * 512 + 1 * (j 0).val) (win0_13.index t 1 * 512 + 1 * (j 1).val)
  rw [hi0, hi1]
  congr 1 <;> (dsimp only; omega)

/-- An entry lies in a point's block when its row and column do. -/
theorem mem_13 (t : Fin cfg0.N) (j : S8192x1024.Idx) :
    j ∈ ((cfg0.win 13).blk t).view.set ↔ t.val % 16 * 512 ≤ (j 0).val ∧ (j 0).val < t.val % 16 * 512 + 512 ∧ t.val / 16 * 512 ≤ (j 1).val ∧ (j 1).val < t.val / 16 * 512 + 512 := by
  show j ∈ ((View.whole main_v0_2).slice (win0_13.rect t)).set ↔ _
  rw [View.set_slice_whole, Rect.mem_set_unit]
  show (∀ a : Fin 2, win0_13.index t a * win0_13.size a ≤ (j a).val ∧ (j a).val < win0_13.index t a * win0_13.size a + win0_13.xsize (grid0.coords t) a) ↔ _
  rw [Fin.forall_fin_two, (idx_13 t).1, (idx_13 t).2, (xs_13 t).1, (xs_13 t).2]
  exact ⟨fun h => ⟨h.1.1, h.1.2, h.2.1, h.2.2⟩, fun h => ⟨⟨h.1, h.2.1⟩, h.2.2.1, h.2.2.2⟩⟩

/-- After the run the array holds the gradient's formula at every entry. -/
theorem final_13 : (dats m 0 c).arrAt 13 cfg0.N = G13 m c :=
  (dats m 0 c).arrAt_eq_of_cover 13 (G13 m c) (flushed_13 m c) fun j => by
    have h0 : (j 0).val < 8192 := (j 0).isLt
    have h1 : (j 1).val < 1024 := (j 1).isLt
    refine ⟨⟨(j 0).val / 512 + 16 * ((j 1).val / 512), by rw [show cfg0.N = 32 from N_0]; omega⟩, flush0_13 _, ?_⟩
    rw [mem_13]
    dsimp only
    omega

theorem idx_14 : ∀ t : Fin cfg0.N, win0_14.index t 0 = t.val % 16 ∧ win0_14.index t 1 = t.val / 16 :=
  (by decide +kernel : ∀ t : Fin grid0.N, win0_14.index t 0 = t.val % 16 ∧ win0_14.index t 1 = t.val / 16)
theorem xs_14 : ∀ t : Fin cfg0.N, win0_14.xsize (grid0.coords t) 0 = 512 ∧ win0_14.xsize (grid0.coords t) 1 = 512 :=
  (by decide +kernel : ∀ t : Fin grid0.N, win0_14.xsize (grid0.coords t) 0 = 512 ∧ win0_14.xsize (grid0.coords t) 1 = 512)

/-- Result 3's array. -/
def G14 : Buf (Elt Ideal) ((c : Thread nD τ).loc main_v0_3) := fun j => dcg (gct m c) (gu m c) (gw m c) (j 0).val (j 1).val

/-- What a point writes back is its block of the array. -/
theorem flushed_14 (t : Fin cfg0.N) (hf : (cfg0.win 14).flush t = true) :
    (dats m 0 c).flushed 14 t = ((cfg0.win 14).blk t).view.read (Elt Ideal) (G14 m c) := by
  have key : (dats m 0 c).flushed 14 t = (cfg0.win 14).cut (grid0.coords t) (k0_pay13 (iblk m c 2 t) (k0_pay6 (iblk m c 6 t) (iblk m c 8 t)) (k0_pay8 (grid0.coords t) (iblk m c 6 t) (iblk m c 8 t) (iblk m c 7 t) (iblk m c 9 t)) (k0_pay9 (grid0.coords t) (iblk m c 6 t) (iblk m c 8 t) (iblk m c 7 t) (iblk m c 9 t)) (row0 (iblk m c 10 t)) (row1 (iblk m c 10 t)) (row2 (iblk m c 10 t)) (iblk m c 4 t) (iblk m c 0 t)) := by
    by_cases h0 : t.val % 16 = 0
    · rw [Value.flushed14_A m c t h0, out_A_14]
    · rw [Value.flushed14_B m c t h0, out_B_14]
  rw [key]
  funext j
  obtain ⟨hc0, hc1⟩ := coords_eq t
  obtain ⟨hi0, hi1⟩ := idx_14 t
  have ha : (j 0).val < 512 := (xs_14 t).1 ▸ (j 0).isLt
  have hb : (j 1).val < 512 := (xs_14 t).2 ▸ (j 1).isLt
  refine Eq.trans (?_ : _ = k0_pay13 (iblk m c 2 t) (k0_pay6 (iblk m c 6 t) (iblk m c 8 t)) (k0_pay8 (grid0.coords t) (iblk m c 6 t) (iblk m c 8 t) (iblk m c 7 t) (iblk m c 9 t)) (k0_pay9 (grid0.coords t) (iblk m c 6 t) (iblk m c 8 t) (iblk m c 7 t) (iblk m c 9 t)) (row0 (iblk m c 10 t)) (row1 (iblk m c 10 t)) (row2 (iblk m c 10 t)) (iblk m c 4 t) (iblk m c 0 t) (ix2 ⟨(j 0).val, ha⟩ ⟨(j 1).val, hb⟩)) ?_
  · exact congrArg (k0_pay13 (iblk m c 2 t) (k0_pay6 (iblk m c 6 t) (iblk m c 8 t)) (k0_pay8 (grid0.coords t) (iblk m c 6 t) (iblk m c 8 t) (iblk m c 7 t) (iblk m c 9 t)) (k0_pay9 (grid0.coords t) (iblk m c 6 t) (iblk m c 8 t) (iblk m c 7 t) (iblk m c 9 t)) (row0 (iblk m c 10 t)) (row1 (iblk m c 10 t)) (row2 (iblk m c 10 t)) (iblk m c 4 t) (iblk m c 0 t) : Vec Ideal S512x512 .bf16) (funext fun a => by match a with | ⟨0, _⟩ => rfl | ⟨1, _⟩ => rfl)
  rw [(blk m c t).dcg, hc0, hc1, View.read_apply]
  show _ = dcg (gct m c) (gu m c) (gw m c) (win0_14.index t 0 * 512 + 1 * (j 0).val) (win0_14.index t 1 * 512 + 1 * (j 1).val)
  rw [hi0, hi1]
  congr 1 <;> (dsimp only; omega)

/-- An entry lies in a point's block when its row and column do. -/
theorem mem_14 (t : Fin cfg0.N) (j : S8192x1024.Idx) :
    j ∈ ((cfg0.win 14).blk t).view.set ↔ t.val % 16 * 512 ≤ (j 0).val ∧ (j 0).val < t.val % 16 * 512 + 512 ∧ t.val / 16 * 512 ≤ (j 1).val ∧ (j 1).val < t.val / 16 * 512 + 512 := by
  show j ∈ ((View.whole main_v0_3).slice (win0_14.rect t)).set ↔ _
  rw [View.set_slice_whole, Rect.mem_set_unit]
  show (∀ a : Fin 2, win0_14.index t a * win0_14.size a ≤ (j a).val ∧ (j a).val < win0_14.index t a * win0_14.size a + win0_14.xsize (grid0.coords t) a) ↔ _
  rw [Fin.forall_fin_two, (idx_14 t).1, (idx_14 t).2, (xs_14 t).1, (xs_14 t).2]
  exact ⟨fun h => ⟨h.1.1, h.1.2, h.2.1, h.2.2⟩, fun h => ⟨⟨h.1, h.2.1⟩, h.2.2.1, h.2.2.2⟩⟩

/-- After the run the array holds the gradient's formula at every entry. -/
theorem final_14 : (dats m 0 c).arrAt 14 cfg0.N = G14 m c :=
  (dats m 0 c).arrAt_eq_of_cover 14 (G14 m c) (flushed_14 m c) fun j => by
    have h0 : (j 0).val < 8192 := (j 0).isLt
    have h1 : (j 1).val < 1024 := (j 1).isLt
    refine ⟨⟨(j 0).val / 512 + 16 * ((j 1).val / 512), by rw [show cfg0.N = 32 from N_0]; omega⟩, flush0_14 _, ?_⟩
    rw [mem_14]
    dsimp only
    omega

/-! ## The taps' gradient -/

theorem idx_15 : ∀ t : Fin cfg0.N, win0_15.index t 0 = 0 ∧ win0_15.index t 1 = t.val / 16 :=
  (by decide +kernel : ∀ t : Fin grid0.N, win0_15.index t 0 = 0 ∧ win0_15.index t 1 = t.val / 16)
theorem xs_15 : ∀ t : Fin cfg0.N, win0_15.xsize (grid0.coords t) 0 = 8 ∧ win0_15.xsize (grid0.coords t) 1 = 512 :=
  (by decide +kernel : ∀ t : Fin grid0.N, win0_15.xsize (grid0.coords t) 0 = 8 ∧ win0_15.xsize (grid0.coords t) 1 = 512)

/-- The accumulator's block after a point, from the block before it. -/
theorem acc_A (t : Fin cfg0.N) (h0 : t.val % 16 = 0) (a : Fin 8) (b : Fin 512) :
    (outsAt0 m c t.val t.isLt).2.2.2.2 (ix2 a b) = dw (gct m c) (gu m c) (512 * (t.val % 16) + 512) a.val (512 * (t.val / 16) + b.val) := by
  obtain ⟨hc0, hc1⟩ := coords_eq t
  rw [outsAt0_A m c t h0]
  dsimp only
  rw [out_A_15, (blk m c t).accA (hc1.trans h0) a b, hc0, hc1]
theorem acc_B (t : Fin cfg0.N) (h0 : ¬t.val % 16 = 0)
    (ho : ∀ (a : Fin 8) (b : Fin 512), (outsAt0 m c (t.val - 1) (Nat.lt_of_le_of_lt (Nat.sub_le _ _) t.isLt)).2.2.2.2 (ix2 a b) = dw (gct m c) (gu m c) (512 * (t.val % 16)) a.val (512 * (t.val / 16) + b.val)) (a : Fin 8) (b : Fin 512) :
    (outsAt0 m c t.val t.isLt).2.2.2.2 (ix2 a b) = dw (gct m c) (gu m c) (512 * (t.val % 16) + 512) a.val (512 * (t.val / 16) + b.val) := by
  obtain ⟨hc0, hc1⟩ := coords_eq t
  rw [outsAt0_B m c t h0]
  dsimp only
  rw [out_B_15, (blk m c t).accB (by rw [hc0, hc1]; exact ho) a b, hc0, hc1]

/-- After point `n` the accumulator's block holds the sum over the rows of the row blocks so far. -/
theorem acc_eq : ∀ (n : ℕ) (h : n < cfg0.N) (a : Fin 8) (b : Fin 512),
    (outsAt0 m c n h).2.2.2.2 (ix2 a b) = dw (gct m c) (gu m c) (512 * (n % 16) + 512) a.val (512 * (n / 16) + b.val) := by
  intro n
  induction n with
  | zero => exact fun h => acc_A m c ⟨0, h⟩ rfl
  | succ n ih =>
    intro h
    by_cases h0 : (n + 1) % 16 = 0
    · exact acc_A m c ⟨n + 1, h⟩ h0
    · refine acc_B m c ⟨n + 1, h⟩ h0 fun a b => (ih (Nat.lt_of_succ_lt h) a b).trans ?_
      congr 1 <;> (dsimp only; omega)

/-- The last result's array. -/
def G15 : Buf (Elt Ideal) ((c : Thread nD τ).loc main_v0_4) := fun j => dw (gct m c) (gu m c) 8192 (j 0).val (j 1).val

theorem flushed_15 (t : Fin cfg0.N) (hf : (cfg0.win 15).flush t = true) :
    (dats m 0 c).flushed 15 t = ((cfg0.win 15).blk t).view.read (Elt Ideal) (G15 m c) := by
  have h15 := (flush0_15 t).mp hf
  rw [Value.flushed15]
  funext j
  obtain ⟨hi0, hi1⟩ := idx_15 t
  have ha : (j 0).val < 8 := (xs_15 t).1 ▸ (j 0).isLt
  have hb : (j 1).val < 512 := (xs_15 t).2 ▸ (j 1).isLt
  refine Eq.trans (?_ : _ = (outsAt0 m c t.val t.isLt).2.2.2.2 (ix2 ⟨(j 0).val, ha⟩ ⟨(j 1).val, hb⟩)) ?_
  · exact congrArg (outsAt0 m c t.val t.isLt).2.2.2.2 (funext fun a => by match a with | ⟨0, _⟩ => rfl | ⟨1, _⟩ => rfl)
  rw [acc_eq, View.read_apply]
  show _ = dw (gct m c) (gu m c) 8192 (win0_15.index t 0 * 8 + 1 * (j 0).val) (win0_15.index t 1 * 512 + 1 * (j 1).val)
  rw [hi0, hi1, h15]
  congr 1 <;> (dsimp only; omega)

theorem mem_15 (t : Fin cfg0.N) (j : S8x1024.Idx) :
    j ∈ ((cfg0.win 15).blk t).view.set ↔ t.val / 16 * 512 ≤ (j 1).val ∧ (j 1).val < t.val / 16 * 512 + 512 := by
  show j ∈ ((View.whole main_v0_4).slice (win0_15.rect t)).set ↔ _
  rw [View.set_slice_whole, Rect.mem_set_unit]
  show (∀ a : Fin 2, win0_15.index t a * win0_15.size a ≤ (j a).val ∧ (j a).val < win0_15.index t a * win0_15.size a + win0_15.xsize (grid0.coords t) a) ↔ _
  rw [Fin.forall_fin_two, (idx_15 t).1, (idx_15 t).2, (xs_15 t).1, (xs_15 t).2]
  exact ⟨fun h => h.2, fun h => ⟨⟨by omega, by have h0 : (j 0).val < 8 := (j 0).isLt; show (j 0).val < _; omega⟩, h⟩⟩

theorem final_15 : (dats m 0 c).arrAt 15 cfg0.N = G15 m c :=
  (dats m 0 c).arrAt_eq_of_cover 15 (G15 m c) (flushed_15 m c) fun j => by
    have h1 : (j 1).val < 1024 := (j 1).isLt
    refine ⟨⟨15 + 16 * ((j 1).val / 512), by rw [show cfg0.N = 32 from N_0]; omega⟩, (flush0_15 _).mpr (by dsimp only; omega), ?_⟩
    rw [mem_15]
    dsimp only
    omega

/-- The run of the call: its five results and its arguments. -/
theorem run (ρ : Dev nD → PrngReg) : θ_run defs (onTc (τ := τ) (main (F := Ideal))) ⟨m, fun _ => 0, ρ⟩ fun r => ∀ c : Dev nD,
      r.2.mem ((c : Thread nD τ).loc main_v0_0) = G11 m c
      ∧ r.2.mem ((c : Thread nD τ).loc main_v0_1) = G12 m c
      ∧ r.2.mem ((c : Thread nD τ).loc main_v0_2) = G13 m c
      ∧ r.2.mem ((c : Thread nD τ).loc main_v0_3) = G14 m c
      ∧ r.2.mem ((c : Thread nD τ).loc main_v0_4) = G15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    have := h c
    rwa [final_11, final_12, final_13, final_14, final_15] at this) (Value.run_blocks m ρ)

end Cert.Conv

end
-- ==== Proof.ConvRead.lean ====
/-
  What the reference's results hold at each entry: the gradients' formulas of `ConvSpec`, read off the derivative that
  `jax.vjp` writes. Only the SiLU gate's gradient differs in shape (the reference sums two products), and that one takes
  finite entries.
-/
module

public import proofs.«01_k».proof.Proof.ConvSpec
public import proofs.«01_k».proof.Proof.Gen.ConvRefIdeal.Read
public import Idealize.ShloMosaic.Lib.Pointwise

@[expose] public section

set_option maxRecDepth 16384

noncomputable section

namespace Cert.Conv

open Cert.ConvRefIdeal Cert.ConvRefIdeal.Read Idealize.ShloMosaic Idealize.ShloMosaic.TcCoe Idealize.SL.Sem

variable (x0 : (⟨S8192x1024, .f32⟩ : BufTy).Contents (Elt Ideal)) (x1 : (⟨S8192x16896, .f32⟩ : BufTy).Contents (Elt Ideal))
  (x2 : (⟨S3x1024, .f32⟩ : BufTy).Contents (Elt Ideal))

/-- An entry of a matrix is `ent` at its coordinates. -/
theorem at_ent {n0 n1 : ℕ} (x : (⟨2, ![n0, n1]⟩ : Shape).Idx → EReal) (a : Fin n0) (b : Fin n1) :
    x (ix2 a b) = ent x a.val b.val := (ent_of_lt x a.isLt b.isLt).symm

/-- The convolution's input behind two rows of zeros. -/
theorem r6 (a : Fin 8194) (b : Fin 1024) : val_main_v6 (F := Ideal) x1 (ix2 a b) = hp (ent x1) a.val b.val := by
  pointwise [val_main_v6, val_main_v5, val_main_cst, val_main_v4, val_main_v1, val_main_v2]
  simp only [at_ent x1]
  rw [hp, hh]
  split <;> rfl

/-- Its three shifts. -/
theorem r10 (a : Fin 8192) (b : Fin 1024) : val_main_v10 (F := Ideal) x1 (ix2 a b) = hp (ent x1) a.val b.val := by
  pointwise [val_main_v10]
  exact r6 x1 _ b
theorem r16 (a : Fin 8192) (b : Fin 1024) : val_main_v16 (F := Ideal) x1 (ix2 a b) = hp (ent x1) (a.val + 1) b.val := by
  pointwise [val_main_v16]
  exact (r6 x1 _ b).trans (congrArg (hp (ent x1) · b.val) (Nat.add_comm 1 a.val))
theorem r23 (a : Fin 8192) (b : Fin 1024) : val_main_v23 (F := Ideal) x1 (ix2 a b) = hp (ent x1) (a.val + 2) b.val := by
  pointwise [val_main_v23]
  exact (r6 x1 _ b).trans (congrArg (hp (ent x1) · b.val) (Nat.add_comm 2 a.val))

/-- The convolution's output. -/
theorem r27 (a : Fin 8192) (b : Fin 1024) : val_main_v27 (F := Ideal) x1 x2 (ix2 a b) = yv (ent x1) (ent x2) a.val b.val := by
  pointwise [val_main_v27, val_main_v26, val_main_v20, val_main_v13, val_main_v19, val_main_v25, val_main_v24, val_main_v22, val_main_v21,
    val_main_v12, val_main_v11, val_main_v9, val_main_v8, val_main_v18, val_main_v17, val_main_v15, val_main_v14]
  rw [r10, r16, r23]
  simp only [at_ent x2]
  rfl

/-- The gate's logistic. -/
theorem rS (a : Fin 8192) (b : Fin 1024) : val_main_v29_2 (F := Ideal) x1 (ix2 a b) = sg (ent x1) a.val b.val := by
  pointwise [val_main_v29_2, val_main_call0_v4, val_main_call0_v3, val_main_call0_v2, val_main_call0_v1, val_main_call0_v0, val_main_call0_cst, val_main_call0_cst_0, val_main_v3]
  rw [at_ent x1, sg, zero_sub]

/-- The cotangent of the convolution's output. -/
theorem r34 (a : Fin 8192) (b : Fin 1024) : val_main_v34 (F := Ideal) x0 x1 (ix2 a b) = dy (ent x0) (ent x1) a.val b.val := by
  pointwise [val_main_v34, val_main_v32, val_main_v29_0, val_main_v0, val_main_v3]
  rw [rS, at_ent x0, at_ent x1, at_ent x1, dy, silu]
  dsimp only
  ac_rfl

/-- The B gate's gradient. -/
theorem r71 (a : Fin 8192) (b : Fin 1024) : val_main_v71 (F := Ideal) x0 x1 x2 (ix2 a b) = dcb (ent x0) (ent x1) (ent x2) a.val b.val := by
  pointwise [val_main_v71, val_main_v35, val_main_v32, val_main_v29_0, val_main_v3]
  rw [rS, r27, at_ent x0, at_ent x1, dcb, silu]
  dsimp only
  ac_rfl

/-- The cotangent of the convolution's input: the three taps' shifts of `dy`, cut to the rows behind the zeros. -/
theorem r68 (a : Fin 8192) (b : Fin 1024) : val_main_v68 (F := Ideal) x0 x1 x2 (ix2 a b) = dh (ent x0) (ent x1) (ent x2) a.val b.val := by
  have ha := a.isLt
  pointwise [val_main_v68, val_main_v63, val_main_v52, val_main_v62, val_main_v51, val_main_v42, val_main_cst_3, val_main_cst_7, val_main_cst_11,
    val_main_v37, val_main_v36, val_main_v24, val_main_v22, val_main_v21, val_main_v46, val_main_v45, val_main_v17, val_main_v15, val_main_v14,
    val_main_v57, val_main_v56, val_main_v11, val_main_v9, val_main_v8]
  simp only [r34, at_ent x2]
  rw [dh, dyz, dyz]
  refine congrArg₂ (· + ·) (congrArg₂ (· + ·) ?_ ?_) ?_
  · rfl
  · by_cases h : a.val + 1 < 8192
    · rw [dif_pos (by omega), if_pos h]
      exact congrArg (_ * ·) (congrArg (dy _ _ · _) (show 2 + a.val - 1 = a.val + 1 by omega))
    · rw [dif_neg (by omega), if_neg h, mul_zero]
  · by_cases h : a.val + 2 < 8192
    · rw [dif_pos (by omega), if_pos h]
      exact congrArg (_ * ·) (congrArg (dy _ _ · _) (Nat.add_comm ..))
    · rw [dif_neg (by omega), if_neg h, mul_zero]

/-- The C gate's gradient. -/
theorem r72 (a : Fin 8192) (b : Fin 1024) : val_main_v72 (F := Ideal) x0 x1 x2 (ix2 a b) = dcc (ent x0) (ent x1) (ent x2) a.val b.val := by
  pointwise [val_main_v72, val_main_v70, val_main_v2]
  rw [r68, at_ent x1]
  rfl

/-- The gradient of x. -/
theorem r73 (a : Fin 8192) (b : Fin 1024) : val_main_v73 (F := Ideal) x0 x1 x2 (ix2 a b) = dcx (ent x0) (ent x1) (ent x2) a.val b.val := by
  pointwise [val_main_v73, val_main_v69, val_main_v1]
  rw [r68, at_ent x1, dcx, mul_comm]

/-- Two products with a common factor, added: over finite entries the factor comes out. -/
theorem distrib {p g s : EReal} (hp : ∃ v : ℝ, p = v) (hg : ∃ v : ℝ, g = v) (hs : ∃ v : ℝ, s = v) :
    p * s + g * p * (s * (1 - s)) = p * (s + g * s * (1 - s)) := by
  obtain ⟨p, rfl⟩ := hp
  obtain ⟨g, rfl⟩ := hg
  obtain ⟨s, rfl⟩ := hs
  norm_cast
  ring

/-- The product and the sum of finite values are finite. -/
theorem fin_mul {a b : EReal} (ha : ∃ v : ℝ, a = v) (hb : ∃ v : ℝ, b = v) : ∃ v : ℝ, a * b = v := by
  obtain ⟨a, rfl⟩ := ha
  obtain ⟨b, rfl⟩ := hb
  exact ⟨a * b, by norm_cast⟩
theorem fin_add {a b : EReal} (ha : ∃ v : ℝ, a = v) (hb : ∃ v : ℝ, b = v) : ∃ v : ℝ, a + b = v := by
  obtain ⟨a, rfl⟩ := ha
  obtain ⟨b, rfl⟩ := hb
  exact ⟨a + b, by norm_cast⟩

/-- The logistic of a finite value is finite. -/
theorem fin_sg {u : ℕ → ℕ → EReal} (hu : ∀ r k, ∃ v : ℝ, u r k = v) (r k : ℕ) : ∃ v : ℝ, sg u r k = v := by
  obtain ⟨g, hg⟩ := hu r (9728 + k)
  rw [sg, hg]
  refine ⟨1 / (1 + Real.exp (0 - g)), ?_⟩
  have hn : 1 + Real.exp (0 - g) ≠ 0 := (by positivity : 0 < 1 + Real.exp (0 - g)).ne'
  rw [show (0 : EReal) - (g : EReal) = ((0 - g : ℝ) : EReal) by norm_cast, Ideal.exp_coe,
    show (1 : EReal) + (Real.exp (0 - g) : EReal) = ((1 + Real.exp (0 - g) : ℝ) : EReal) by norm_cast, Ideal.div_coe hn, one_mul]

theorem fin_yv {u w : ℕ → ℕ → EReal} (hu : ∀ r k, ∃ v : ℝ, u r k = v) (hw : ∀ r k, ∃ v : ℝ, w r k = v) (r k : ℕ) : ∃ v : ℝ, yv u w r k = v := by
  have h : ∀ r, ∃ v : ℝ, hp u r k = v := fun r => by
    rw [hp]
    split
    · exact ⟨0, rfl⟩
    · exact fin_mul (hu _ _) (hu _ _)
  exact fin_add (fin_add (fin_mul (hw _ _) (h _)) (fin_mul (hw _ _) (h _))) (fin_mul (hw _ _) (h _))

/-- The SiLU gate's gradient, for finite arguments. -/
theorem r74 (h0 : ∀ j, ∃ v : ℝ, x0 j = v) (h1 : ∀ j, ∃ v : ℝ, x1 j = v) (h2 : ∀ j, ∃ v : ℝ, x2 j = v) (a : Fin 8192) (b : Fin 1024) :
    val_main_v74 (F := Ideal) x0 x1 x2 (ix2 a b) = dcg (ent x0) (ent x1) (ent x2) a.val b.val := by
  pointwise [val_main_v74, val_main_v33, val_main_call1_v1, val_main_call1_v2, val_main_call1_v0, val_main_v31, val_main_v28, val_main_v29_1,
    val_main_call0_v7, val_main_call0_v6, val_main_call0_cst_1, val_main_v0, val_main_v3]
  rw [rS, r27, at_ent x0, at_ent x1, at_ent x1, dcg]
  dsimp only
  rw [distrib (fin_mul (fin_mul (ent_finite h1 _ _) (fin_yv (ent_finite h1) (ent_finite h2) _ _)) (ent_finite h0 _ _)) (ent_finite h1 _ _)
    (fin_sg (ent_finite h1) _ _)]
  congr 1
  ac_rfl

/-- The taps' gradient in its padded array. -/
theorem r75 (a : Fin 8) (b : Fin 1024) : val_main_v75 (F := Ideal) x0 x1 (ix2 a b) = dw (ent x0) (ent x1) 8192 a.val b.val := by
  have ha := a.isLt
  pointwise [val_main_v75, val_main_call2_v0, val_main_v66, val_main_v55, val_main_v65, val_main_v54, val_main_v44, val_main_v43, val_main_v53, val_main_v64,
    val_main_v41, val_main_v50, val_main_v61, val_main_cst_4, val_main_cst_8, val_main_cst_12, val_main_cst_2, val_main_cst_6, val_main_cst_10,
    val_main_v40, val_main_v49, val_main_v60, val_main_v39, val_main_v48, val_main_v59, val_main_cst_1, val_main_cst_5, val_main_cst_9,
    val_main_v38, val_main_v47, val_main_v58, val_main_c]
  simp only [r34, r10, r16, r23, Finset.univ_unique, Finset.sum_singleton]
  rw [dw, Finset.sum_range]
  by_cases h3 : a.val < 3
  · rw [dif_pos h3, if_pos h3]
    have hc : a.val = 0 ∨ a.val = 1 ∨ a.val = 2 := by omega
    rcases hc with h | h | h <;> simp [h]
  · rw [dif_neg h3, if_neg h3]
    show (((0#32).toInt : ℝ) : EReal) = 0
    simp

end Cert.Conv

end
-- ==== Proof.ConvClaim.lean ====
/-
  The claim about the convolution's gradient: kernel and reference end with equal results, entry by entry the formulas of
  `ConvSpec`, for finite arguments.
-/
module

public import proofs.«01_k».proof.Defs
public import proofs.«01_k».proof.Proof.ConvVal
public import proofs.«01_k».proof.Proof.ConvRead
public import proofs.«01_k».proof.Proof.Gen.ConvRefIdeal.Run
public import proofs.«01_k».proof.Proof.Gen.Pre_conv_finite

@[expose] public section

set_option maxRecDepth 16384

noncomputable section

namespace Cert.Conv

open Idealize.ShloMosaic Idealize.ShloMosaic.TcCoe Idealize.SL.Sem

/-- An entry whose magnitude is below infinity is finite. -/
theorem fin_of_abs {v : EReal} (h : BitVec.ofBool (decide (FloatOps.absf (F := Ideal) (φ := .f32) v < Ideal.ofBits FTy.f32 0x7F800000#32)) = 1#1) :
    ∃ r : ℝ, v = r := by
  have ht : Ideal.ofBits FTy.f32 0x7F800000#32 = ⊤ := by simp [Ideal.ofBits, Ideal.ieee]
  rw [ht] at h
  induction v with
  | bot => exfalso; revert h; simp [FloatOps.absf]
  | top => exfalso; revert h; simp [FloatOps.absf]
  | coe r => exact ⟨r, rfl⟩

variable {x0 : FVec Ideal Cert.Pre_conv_finite.S8192x1024 .f32} {x1 : FVec Ideal Cert.Pre_conv_finite.S8192x16896 .f32} {x2 : FVec Ideal Cert.Pre_conv_finite.S3x1024 .f32}

/-- The precondition says that every entry of argument 0 is finite. -/
theorem fin0 (h : (Cert.Pre_conv_finite.fn (F := Ideal) x0 x1 x2).1 = fun _ => 1#1) (j : Cert.Pre_conv_finite.S8192x1024.Idx) : ∃ r : ℝ, x0 j = r := by
  obtain ⟨a, b, rfl⟩ : ∃ (a : Fin 8192) (b : Fin 1024), j = ix2 a b := ⟨j 0, j 1, funext fun a => by match a with | ⟨0, _⟩ => rfl | ⟨1, _⟩ => rfl⟩
  have h := congrFun h (ix2 a b)
  unfold Cert.Pre_conv_finite.fn at h
  dsimp only at h
  revert h
  pointwise []
  exact fin_of_abs

/-- The precondition says that every entry of argument 1 is finite. -/
theorem fin1 (h : (Cert.Pre_conv_finite.fn (F := Ideal) x0 x1 x2).2.1 = fun _ => 1#1) (j : Cert.Pre_conv_finite.S8192x16896.Idx) : ∃ r : ℝ, x1 j = r := by
  obtain ⟨a, b, rfl⟩ : ∃ (a : Fin 8192) (b : Fin 16896), j = ix2 a b := ⟨j 0, j 1, funext fun a => by match a with | ⟨0, _⟩ => rfl | ⟨1, _⟩ => rfl⟩
  have h := congrFun h (ix2 a b)
  unfold Cert.Pre_conv_finite.fn at h
  dsimp only at h
  revert h
  pointwise []
  exact fin_of_abs

/-- The precondition says that every entry of argument 2 is finite. -/
theorem fin2 (h : (Cert.Pre_conv_finite.fn (F := Ideal) x0 x1 x2).2.2 = fun _ => 1#1) (j : Cert.Pre_conv_finite.S3x1024.Idx) : ∃ r : ℝ, x2 j = r := by
  obtain ⟨a, b, rfl⟩ : ∃ (a : Fin 3) (b : Fin 1024), j = ix2 a b := ⟨j 0, j 1, funext fun a => by match a with | ⟨0, _⟩ => rfl | ⟨1, _⟩ => rfl⟩
  have h := congrFun h (ix2 a b)
  unfold Cert.Pre_conv_finite.fn at h
  dsimp only at h
  revert h
  pointwise []
  exact fin_of_abs

/-- Two arrays agree when they agree at every row and column. -/
theorem ext2 {n0 n1 : ℕ} {α : Type} {x y : (⟨2, ![n0, n1]⟩ : Shape).Idx → α} (h : ∀ a b, x (ix2 a b) = y (ix2 a b)) : x = y := by
  funext j
  obtain ⟨a, b, rfl⟩ : ∃ (a : Fin n0) (b : Fin n1), j = ix2 a b := ⟨j 0, j 1, funext fun a => by match a with | ⟨0, _⟩ => rfl | ⟨1, _⟩ => rfl⟩
  exact h a b

/-- Kernel and reference end with the same five arrays. -/
theorem algebraic : Cert.algebraic_ConvKernelIdeal_ConvRefIdeal_pre_conv_finite := by
  intro m g m' g' hpre hag
  refine ⟨fun c => G11 m c, fun c => G12 m c, fun c => G13 m c, fun c => G14 m c, fun c => G15 m c, run m g, ?_⟩
  refine (θ_run Cert.ConvRefIdeal.defs _ _).mono (fun r h c => ?_) (Cert.ConvRefIdeal.Value.run m' g')
  obtain ⟨ha0, ha1, ha2⟩ := hag c
  obtain ⟨hp0, hp1, hp2⟩ := hpre c
  obtain ⟨h71, h72, h73, h74, h75, hk0, hk1, hk2⟩ := h c
  rw [Cert.ConvRefIdeal.Read.val_main_v71_eq] at h71
  rw [Cert.ConvRefIdeal.Read.val_main_v72_eq] at h72
  rw [Cert.ConvRefIdeal.Read.val_main_v73_eq] at h73
  rw [Cert.ConvRefIdeal.Read.val_main_v74_eq] at h74
  rw [Cert.ConvRefIdeal.Read.val_main_v75_eq] at h75
  rw [ha0, ha1, ha2] at h71 h72 h73 h74
  rw [ha0, ha1] at h75
  refine ⟨h71.trans (ext2 fun a b => r71 _ _ _ a b), h72.trans (ext2 fun a b => r72 _ _ _ a b), h73.trans (ext2 fun a b => r73 _ _ _ a b),
    h74.trans (ext2 fun a b => r74 _ _ _ (fin0 hp0) (fin1 hp1) (fin2 hp2) a b), h75.trans (ext2 fun a b => r75 _ _ a b), hk0, hk1, hk2⟩

end Cert.Conv

end
-- ==== Proof.Wgrad.lean ====
/-
  The call that computes the gradient of the input projection's weight: entry `(a, b)` of the transposed gradient is
  the sum, over the 8192 tokens, of the cotangent's entry in column `a` times the layer input's entry in column `b`.
-/
module

public import proofs.«01_k».proof.Defs
public import proofs.«01_k».proof.Proof.ConvSpec
public import proofs.«01_k».proof.Proof.Gen.WgradKernelIdeal.Value
public import proofs.«01_k».proof.Proof.Gen.WgradRefIdeal.Run
public import proofs.«01_k».proof.Proof.Gen.WgradRefIdeal.Read
public import Idealize.ShloMosaic.Lib.Pointwise
public import Idealize.ShloMosaic.Lib.Pipeline.ValueKit

@[expose] public section

set_option maxRecDepth 16384

noncomputable section

namespace Cert.Wgrad

open Cert.WgradKernelIdeal Cert.WgradKernelIdeal.Gen Cert.WgradKernelIdeal.Value Idealize.ShloMosaic Idealize.ShloMosaic.TcCoe Idealize.SL.Sem
open Cert.Conv (ent ent_of_lt eq_ent)

/-- The accumulator starts at zero. -/
theorem pay1 (a : Fin 1536) (b : Fin 2048) : k0_pay1 (F := Ideal) (ix2 a b) = 0 := by
  pointwise [k0_pay1]

/-- One step adds the product of the point's two blocks. -/
theorem pay2 (acc : Vec Ideal S1536x2048 .f32) (x : Vec Ideal S1024x1536 .bf16) (y : Vec Ideal S1024x2048 .bf16) (a : Fin 1536) (b : Fin 2048) :
    k0_pay2 acc x y (ix2 a b) = acc (ix2 a b) + ∑ k ∈ Finset.range 1024, ent x k a.val * ent y k b.val := by
  rw [← Fin.sum_univ_eq_sum_range (fun k => ent x k a.val * ent y k b.val)]
  pointwise [k0_pay2]
  exact congrArg (acc (ix2 a b) + ·) (Finset.sum_congr rfl fun k _ => by rw [ent_of_lt x k.isLt a.isLt, ent_of_lt y k.isLt b.isLt])

/-- Multiplying by blocks of rows: eight sums of 1024 terms are one sum of 8192. -/
theorem sum8 (f : ℕ → EReal) : ∑ s ∈ Finset.range (7 + 1), ∑ k ∈ Finset.range 1024, f (s * 1024 + k) = ∑ l ∈ Finset.range 8192, f l :=
  Finset.sum_range_range_mul_add 8 1024 f

variable (m : (ℓ : Loc nD τ sig) → Buf (Elt Ideal) ℓ)

/-- The call's first operand is the cotangent. -/
theorem V_v0 (c : Dev nD) : (V m c main_v0 : S8192x16896.Idx → EReal) = m ((c : Thread nD τ).loc main_arg1) := by
  have h : @Eq (FVec Ideal S8192x16896 .bf16) (V m c main_v0) (truncf .bf16 (m ((c : Thread nD τ).loc main_arg1) : FVec Ideal S8192x16896 .f32) bitsLt_bf16_f32) := by
    show StableHlo.after hostOps0 _ _ = _
    after_results
  exact h

/-- The call's second operand is the layer's input. -/
theorem V_v1 (c : Dev nD) : (V m c main_v1 : S8192x2048.Idx → EReal) = m ((c : Thread nD τ).loc main_arg0) := by
  have h : @Eq (FVec Ideal S8192x2048 .bf16) (V m c main_v1) (truncf .bf16 (m ((c : Thread nD τ).loc main_arg0) : FVec Ideal S8192x2048 .f32) bitsLt_bf16_f32) := by
    show StableHlo.after hostOps0 _ _ = _
    after_results
  exact h

/-- The block indices of the two operands at each grid point. -/
theorem idx0 : ∀ t : Fin cfg0.N, win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

/-- The first operand's block: 1024 tokens, 1536 columns of the cotangent. -/
theorem blk0 (c : Dev nD) (t : Fin cfg0.N) (k : Fin 1024) (a : Fin 1536) :
    iblk m c 0 t (ix2 k a) = ent (m ((c : Thread nD τ).loc main_arg1)) (t.val % 8 * 1024 + k.val) (t.val / 8 * 1536 + a.val) := by
  obtain ⟨e0, e1, -, -⟩ := idx0 t
  unfold iblk
  rw [View.read_apply]
  show (V m c main_v0 : S8192x16896.Idx → EReal) _ = _
  rw [V_v0]
  refine eq_ent (n0 := 8192) (n1 := 16896) _ _ ?_ ?_
  · show win0_0.index t (0 : Fin 2) * 1024 + 1 * k.val = _; rw [e0]; omega
  · show win0_0.index t (1 : Fin 2) * 1536 + 1 * a.val = _; rw [e1]; omega

/-- The second operand's block: 1024 tokens, all columns of the input. -/
theorem blk1 (c : Dev nD) (t : Fin cfg0.N) (k : Fin 1024) (b : Fin 2048) :
    iblk m c 1 t (ix2 k b) = ent (m ((c : Thread nD τ).loc main_arg0)) (t.val % 8 * 1024 + k.val) b.val := by
  obtain ⟨-, -, e2, e3⟩ := idx0 t
  unfold iblk
  rw [View.read_apply]
  show (V m c main_v1 : S8192x2048.Idx → EReal) _ = _
  rw [V_v1]
  refine eq_ent (n0 := 8192) (n1 := 2048) _ _ ?_ ?_
  · show win0_1.index t (0 : Fin 2) * 1024 + 1 * k.val = _; rw [e2]; omega
  · show win0_1.index t (1 : Fin 2) * 2048 + 1 * b.val = _; rw [e3]; omega

/-- One term of the gradient: the product at token `l` of the cotangent's column `a` and the input's column `b`. -/
def term (c : Dev nD) (a b l : ℕ) : EReal :=
  ent (m ((c : Thread nD τ).loc main_arg1)) l a * ent (m ((c : Thread nD τ).loc main_arg0)) l b

/-- The product of the two blocks at point `n`. -/
theorem part (c : Dev nD) (n : ℕ) (h : n < cfg0.N) (a : Fin 1536) (b : Fin 2048) :
    ∑ k ∈ Finset.range 1024, ent (iblk m c 0 ⟨n, h⟩ : S1024x1536.Idx → EReal) k a.val * ent (iblk m c 1 ⟨n, h⟩ : S1024x2048.Idx → EReal) k b.val
      = ∑ k ∈ Finset.range 1024, term m c (n / 8 * 1536 + a.val) b.val (n % 8 * 1024 + k) := by
  refine Finset.sum_congr rfl fun k hk => ?_
  have hk := Finset.mem_range.mp hk
  rw [ent_of_lt _ hk a.isLt, ent_of_lt _ hk b.isLt]
  exact congrArg₂ (· * ·) (blk0 m c ⟨n, h⟩ ⟨k, hk⟩ a) (blk1 m c ⟨n, h⟩ ⟨k, hk⟩ b)

/-- The array after the run, entry by entry. -/
theorem G_eq (c : Dev nD) (a : Fin 16896) (b : Fin 2048) :
    G2 m c (ix2 a b) = ∑ l ∈ Finset.range 8192, term m c a.val b.val l := by
  have hN : cfg0.N = 88 := N_0
  have hr : run2Of (ix2 a b) = a.val / 1536 := by
    show 1 * (a.val / 1536 - 0) + 1 * (b.val / 2048 - 0) = _
    have := b.isLt; omega
  have ha := a.isLt
  unfold G2
  rw [dif_pos (by rw [hr, hN]; omega)]
  have hloc : loc2Of (ix2 a b) = ix2 (⟨a.val % 1536, Nat.mod_lt _ (by decide)⟩ : Fin 1536) b := funext fun i => Fin.ext (by
    match i with
    | ⟨0, _⟩ => rfl
    | ⟨1, _⟩ => exact Nat.mod_eq_of_lt b.isLt)
  rw [hloc]
  have hlt : 8 * run2Of (ix2 a b) + 7 < cfg0.N := by rw [hr, hN]; omega
  refine (Pipeline.accAt_add_apply (β := EReal) (ι := S1536x2048.Idx) (reset2 m c) (step2 m c) (fun _ => 0)
    (fun n i => ∑ k ∈ Finset.range 1024, term m c (n / 8 * 1536 + (i 0).val) (i 1).val (n % 8 * 1024 + k))
    (8 * run2Of (ix2 a b)) 7 ?_ ?_ 7 (le_refl 7) hlt _).trans ?_
  · intro h i
    obtain ⟨x, y, rfl⟩ : ∃ (x : Fin 1536) (y : Fin 2048), i = ix2 x y := ⟨i 0, i 1, funext fun a => by match a with | ⟨0, _⟩ => rfl | ⟨1, _⟩ => rfl⟩
    exact (pay2 _ _ _ x y).trans (congrArg₂ (· + ·) (pay1 x y) (part m c _ h x y))
  · intro n h acc i _ _
    obtain ⟨x, y, rfl⟩ : ∃ (x : Fin 1536) (y : Fin 2048), i = ix2 x y := ⟨i 0, i 1, funext fun a => by match a with | ⟨0, _⟩ => rfl | ⟨1, _⟩ => rfl⟩
    exact (pay2 _ _ _ x y).trans (congrArg (acc (ix2 x y) + ·) (part m c n h x y))
  · rw [hr, ← sum8, zero_add]
    refine Finset.sum_congr rfl fun s hs => Finset.sum_congr rfl fun k _ => ?_
    have hs := Finset.mem_range.mp hs
    show term m c ((8 * (a.val / 1536) + s) / 8 * 1536 + a.val % 1536) b.val ((8 * (a.val / 1536) + s) % 8 * 1024 + k) = _
    rw [show (8 * (a.val / 1536) + s) / 8 * 1536 + a.val % 1536 = a.val from by omega, show (8 * (a.val / 1536) + s) % 8 = s from by omega]

/-- The reference's result, entry by entry. -/
theorem ref_eq (x0 : Cert.WgradRefIdeal.S8192x2048.Idx → EReal) (x1 : Cert.WgradRefIdeal.S8192x16896.Idx → EReal) (a : Fin 16896) (b : Fin 2048) :
    Cert.WgradRefIdeal.Read.val_main_v4 (F := Ideal) x0 x1 (ix2 a b) = ∑ l ∈ Finset.range 8192, ent x1 l a.val * ent x0 l b.val := by
  rw [← Fin.sum_univ_eq_sum_range (fun l => ent x1 l a.val * ent x0 l b.val)]
  pointwise [Cert.WgradRefIdeal.Read.val_main_v4, Cert.WgradRefIdeal.Read.val_main_v3, Cert.WgradRefIdeal.Read.val_main_v2]
  exact Finset.sum_congr rfl fun k _ => by rw [ent_of_lt x1 k.isLt a.isLt, ent_of_lt x0 k.isLt b.isLt]

/-- Kernel and reference end with the same array. -/
theorem algebraic : Cert.algebraic_WgradKernelIdeal_WgradRefIdeal := by
  intro m g m' g' _ hag
  refine ⟨fun c => G2 m c, Value.run m g, ?_⟩
  refine (θ_run Cert.WgradRefIdeal.defs _ _).mono (fun r h c => ?_) (Cert.WgradRefIdeal.Value.run m' g')
  obtain ⟨ha0, ha1⟩ := hag c
  obtain ⟨h4, hk0, hk1⟩ := h c
  rw [Cert.WgradRefIdeal.Read.val_main_v4_eq, ha0, ha1] at h4
  refine ⟨h4.trans ?_, hk0, hk1⟩
  funext i
  obtain ⟨x, y, rfl⟩ : ∃ (x : Fin 16896) (y : Fin 2048), i = ix2 x y := ⟨i 0, i 1, funext fun a => by match a with | ⟨0, _⟩ => rfl | ⟨1, _⟩ => rfl⟩
  exact (ref_eq _ _ x y).trans (G_eq m c x y).symm

end Cert.Wgrad
end
-- ==== Proof.Xgrad.lean ====
/-
  The call that computes the gradient of a layer's input: entry `(a, b)` is the residual's cotangent times the literal
  `ALPHA`, and the sum, over the 16896 columns of the input projection, of the cotangent's entry in row `a` times the
  weight's entry in row `b`.
-/
module

public import proofs.«01_k».proof.Defs
public import proofs.«01_k».proof.Proof.ConvSpec
public import proofs.«01_k».proof.Proof.Gen.XgradKernelIdeal.Value
public import proofs.«01_k».proof.Proof.Gen.XgradRefIdeal.Run
public import proofs.«01_k».proof.Proof.Gen.XgradRefIdeal.Read
public import Idealize.ShloMosaic.Lib.Pointwise
public import Idealize.ShloMosaic.Lib.Pipeline.ValueKit

@[expose] public section

set_option maxRecDepth 16384

noncomputable section

namespace Cert.Xgrad

open Cert.XgradKernelIdeal Cert.XgradKernelIdeal.Gen Cert.XgradKernelIdeal.Value Idealize.ShloMosaic Idealize.ShloMosaic.TcCoe Idealize.SL.Sem
open Cert.Conv (ent ent_of_lt eq_ent)

/-- The literal `ALPHA`. -/
abbrev alpha : EReal := Ideal.ofBits FTy.f32 0x3FD744FD#32

/-- The accumulator starts at the residual's cotangent times `ALPHA`. -/
theorem pay1 (r : Vec Ideal S1024x2048 .f32) (a : Fin 1024) (b : Fin 2048) : k0_pay1 (F := Ideal) r (ix2 a b) = r (ix2 a b) * alpha := by
  pointwise [k0_pay1]

/-- One step adds the product of the point's two blocks. -/
theorem pay2 (acc : Vec Ideal S1024x2048 .f32) (x : Vec Ideal S1024x1536 .bf16) (y : Vec Ideal S1536x2048 .bf16) (a : Fin 1024) (b : Fin 2048) :
    k0_pay2 acc x y (ix2 a b) = acc (ix2 a b) + ∑ k ∈ Finset.range 1536, ent x a.val k * ent y k b.val := by
  rw [← Fin.sum_univ_eq_sum_range (fun k => ent x a.val k * ent y k b.val)]
  pointwise [k0_pay2]
  exact congrArg (acc (ix2 a b) + ·) (Finset.sum_congr rfl fun k _ => by rw [ent_of_lt x a.isLt k.isLt, ent_of_lt y k.isLt b.isLt])

/-- Eleven sums of 1536 terms are one sum of 16896. -/
theorem sum11 (f : ℕ → EReal) : ∑ s ∈ Finset.range (10 + 1), ∑ k ∈ Finset.range 1536, f (s * 1536 + k) = ∑ l ∈ Finset.range 16896, f l :=
  Finset.sum_range_range_mul_add 11 1536 f

variable (m : (ℓ : Loc nD τ sig) → Buf (Elt Ideal) ℓ)

/-- The call's first operand is the projection's cotangent. -/
theorem V_v0 (c : Dev nD) : (V m c main_v0 : S8192x16896.Idx → EReal) = m ((c : Thread nD τ).loc main_arg2) := by
  have h : @Eq (FVec Ideal S8192x16896 .bf16) (V m c main_v0) (truncf .bf16 (m ((c : Thread nD τ).loc main_arg2) : FVec Ideal S8192x16896 .f32) bitsLt_bf16_f32) := by
    show StableHlo.after hostOps0 _ _ = _
    after_results
  exact h

/-- The call's second operand is the weight, transposed. -/
theorem V_v2 (c : Dev nD) (a : Fin 16896) (b : Fin 2048) : (V m c main_v2 : S16896x2048.Idx → EReal) (ix2 a b) = ent (m ((c : Thread nD τ).loc main_arg0) : S2048x16896.Idx → EReal) b.val a.val := by
  have h : @Eq (FVec Ideal S16896x2048 .bf16) (V m c main_v2) (truncf .bf16 (transpose S16896x2048 [1, 0] (m ((c : Thread nD τ).loc main_arg0) : FVec Ideal S2048x16896 .f32) transposes_S2048x16896_S16896x2048_1_0) bitsLt_bf16_f32) := by
    show StableHlo.after hostOps0 _ _ = _
    after_results
  rw [h]
  pointwise []
  exact (ent_of_lt _ b.isLt a.isLt).symm

/-- The call's third operand is the residual's cotangent. -/
theorem V_a1 (c : Dev nD) : (V m c main_arg1 : S8192x2048.Idx → EReal) = m ((c : Thread nD τ).loc main_arg1) := V_main_arg1 m c

/-- The block indices of the operands at each grid point. -/
theorem idx0 : ∀ t : Fin cfg0.N, win0_0.index t (0 : Fin 2) = t.val / 11 ∧ win0_0.index t (1 : Fin 2) = t.val % 11
    ∧ win0_1.index t (0 : Fin 2) = t.val % 11 ∧ win0_1.index t (1 : Fin 2) = 0
    ∧ win0_2.index t (0 : Fin 2) = t.val / 11 ∧ win0_2.index t (1 : Fin 2) = 0 :=
  (by decide +kernel : ∀ t : Fin grid0.N, _)

/-- The first operand's block: 1024 tokens, 1536 columns of the cotangent. -/
theorem blk0 (c : Dev nD) (t : Fin cfg0.N) (a : Fin 1024) (k : Fin 1536) :
    iblk m c 0 t (ix2 a k) = ent (m ((c : Thread nD τ).loc main_arg2)) (t.val / 11 * 1024 + a.val) (t.val % 11 * 1536 + k.val) := by
  obtain ⟨e0, e1, -⟩ := idx0 t
  unfold iblk
  rw [View.read_apply]
  show (V m c main_v0 : S8192x16896.Idx → EReal) _ = _
  rw [V_v0]
  refine eq_ent (n0 := 8192) (n1 := 16896) _ _ ?_ ?_
  · show win0_0.index t (0 : Fin 2) * 1024 + 1 * a.val = _; rw [e0]; omega
  · show win0_0.index t (1 : Fin 2) * 1536 + 1 * k.val = _; rw [e1]; omega

/-- The second operand's block: 1536 columns of the weight, transposed. -/
theorem blk1 (c : Dev nD) (t : Fin cfg0.N) (k : Fin 1536) (b : Fin 2048) :
    iblk m c 1 t (ix2 k b) = ent (m ((c : Thread nD τ).loc main_arg0)) b.val (t.val % 11 * 1536 + k.val) := by
  obtain ⟨-, -, e2, e3, -⟩ := idx0 t
  have hk := k.isLt
  have hl : t.val % 11 * 1536 + k.val < 16896 := by omega
  unfold iblk
  rw [View.read_apply]
  show (V m c main_v2 : S16896x2048.Idx → EReal) _ = _
  have hi : ((cfg0.win 1).blk t).view.emb (ix2 k b) = (ix2 (⟨t.val % 11 * 1536 + k.val, hl⟩ : Fin 16896) b : S16896x2048.Idx) := funext fun i => Fin.ext (by
    match i with
    | ⟨0, _⟩ => show win0_1.index t (0 : Fin 2) * 1536 + 1 * k.val = _; rw [e2]; show _ = t.val % 11 * 1536 + k.val; omega
    | ⟨1, _⟩ => show win0_1.index t (1 : Fin 2) * 2048 + 1 * b.val = _; rw [e3]; show _ = b.val; omega)
  exact (congrArg (V m c main_v2 : S16896x2048.Idx → EReal) hi).trans (V_v2 m c _ b)

/-- The third operand's block: 1024 tokens of the residual's cotangent. -/
theorem blk2 (c : Dev nD) (t : Fin cfg0.N) (a : Fin 1024) (b : Fin 2048) :
    iblk m c 2 t (ix2 a b) = ent (m ((c : Thread nD τ).loc main_arg1)) (t.val / 11 * 1024 + a.val) b.val := by
  obtain ⟨-, -, -, -, e4, e5⟩ := idx0 t
  unfold iblk
  rw [View.read_apply]
  show (V m c main_arg1 : S8192x2048.Idx → EReal) _ = _
  rw [V_a1]
  refine eq_ent (n0 := 8192) (n1 := 2048) _ _ ?_ ?_
  · show win0_2.index t (0 : Fin 2) * 1024 + 1 * a.val = _; rw [e4]; omega
  · show win0_2.index t (1 : Fin 2) * 2048 + 1 * b.val = _; rw [e5]; omega

/-- One term of the gradient: column `l` of the cotangent's row `a` times column `l` of the weight's row `b`. -/
def term (c : Dev nD) (a b l : ℕ) : EReal :=
  ent (m ((c : Thread nD τ).loc main_arg2)) a l * ent (m ((c : Thread nD τ).loc main_arg0)) b l

/-- The product of the two blocks at point `n`. -/
theorem part (c : Dev nD) (n : ℕ) (h : n < cfg0.N) (a : Fin 1024) (b : Fin 2048) :
    ∑ k ∈ Finset.range 1536, ent (iblk m c 0 ⟨n, h⟩ : S1024x1536.Idx → EReal) a.val k * ent (iblk m c 1 ⟨n, h⟩ : S1536x2048.Idx → EReal) k b.val
      = ∑ k ∈ Finset.range 1536, term m c (n / 11 * 1024 + a.val) b.val (n % 11 * 1536 + k) := by
  refine Finset.sum_congr rfl fun k hk => ?_
  have hk := Finset.mem_range.mp hk
  rw [ent_of_lt _ a.isLt hk, ent_of_lt _ hk b.isLt]
  exact congrArg₂ (· * ·) (blk0 m c ⟨n, h⟩ a ⟨k, hk⟩) (blk1 m c ⟨n, h⟩ ⟨k, hk⟩ b)

/-- The array after the run, entry by entry. -/
theorem G_eq (c : Dev nD) (a : Fin 8192) (b : Fin 2048) :
    G3 m c (ix2 a b) = ent (m ((c : Thread nD τ).loc main_arg1)) a.val b.val * alpha + ∑ l ∈ Finset.range 16896, term m c a.val b.val l := by
  have hN : cfg0.N = 88 := N_0
  have hr : run3Of (ix2 a b) = a.val / 1024 := by
    show 1 * (a.val / 1024 - 0) + 1 * (b.val / 2048 - 0) = _
    have := b.isLt; omega
  have ha := a.isLt
  unfold G3
  rw [dif_pos (by rw [hr, hN]; omega)]
  have hloc : loc3Of (ix2 a b) = ix2 (⟨a.val % 1024, Nat.mod_lt _ (by decide)⟩ : Fin 1024) b := funext fun i => Fin.ext (by
    match i with
    | ⟨0, _⟩ => rfl
    | ⟨1, _⟩ => exact Nat.mod_eq_of_lt b.isLt)
  rw [hloc]
  have hlt : 11 * run3Of (ix2 a b) + 10 < cfg0.N := by rw [hr, hN]; omega
  refine (Pipeline.accAt_add_apply (β := EReal) (ι := S1024x2048.Idx) (reset3 m c) (step3 m c)
    (fun i => ent (m ((c : Thread nD τ).loc main_arg1)) (a.val / 1024 * 1024 + (i 0).val) (i 1).val * alpha)
    (fun n i => ∑ k ∈ Finset.range 1536, term m c (n / 11 * 1024 + (i 0).val) (i 1).val (n % 11 * 1536 + k))
    (11 * run3Of (ix2 a b)) 10 ?_ ?_ 10 (le_refl 10) hlt _).trans ?_
  · intro h i
    obtain ⟨x, y, rfl⟩ : ∃ (x : Fin 1024) (y : Fin 2048), i = ix2 x y := ⟨i 0, i 1, funext fun a => by match a with | ⟨0, _⟩ => rfl | ⟨1, _⟩ => rfl⟩
    refine (pay2 _ _ _ x y).trans (congrArg₂ (· + ·) ((pay1 _ x y).trans (congrArg (· * alpha) ((blk2 m c _ x y).trans ?_))) (part m c _ h x y))
    show ent (m ((c : Thread nD τ).loc main_arg1)) (11 * run3Of (ix2 a b) / 11 * 1024 + x.val) y.val = _
    rw [hr, show 11 * (a.val / 1024) / 11 = a.val / 1024 from by omega]
    rfl
  · intro n h acc i _ _
    obtain ⟨x, y, rfl⟩ : ∃ (x : Fin 1024) (y : Fin 2048), i = ix2 x y := ⟨i 0, i 1, funext fun a => by match a with | ⟨0, _⟩ => rfl | ⟨1, _⟩ => rfl⟩
    exact (pay2 _ _ _ x y).trans (congrArg (acc (ix2 x y) + ·) (part m c n h x y))
  · rw [hr, ← sum11]
    refine congrArg₂ (· + ·) (congrArg (· * alpha) ?_) (Finset.sum_congr rfl fun s hs => Finset.sum_congr rfl fun k _ => ?_)
    · show ent (m ((c : Thread nD τ).loc main_arg1)) (a.val / 1024 * 1024 + a.val % 1024) b.val = _
      rw [show a.val / 1024 * 1024 + a.val % 1024 = a.val from by omega]
    have hs := Finset.mem_range.mp hs
    show term m c ((11 * (a.val / 1024) + s) / 11 * 1024 + a.val % 1024) b.val ((11 * (a.val / 1024) + s) % 11 * 1536 + k) = _
    rw [show (11 * (a.val / 1024) + s) / 11 * 1024 + a.val % 1024 = a.val from by omega, show (11 * (a.val / 1024) + s) % 11 = s from by omega]

/-- The reference's result, entry by entry. -/
theorem ref_eq (x0 : Cert.XgradRefIdeal.S2048x16896.Idx → EReal) (x1 : Cert.XgradRefIdeal.S8192x2048.Idx → EReal) (x2 : Cert.XgradRefIdeal.S8192x16896.Idx → EReal) (a : Fin 8192) (b : Fin 2048) :
    Cert.XgradRefIdeal.Read.val_main_v7 (F := Ideal) x0 x1 x2 (ix2 a b) = ent x1 a.val b.val * alpha + ∑ l ∈ Finset.range 16896, ent x2 a.val l * ent x0 b.val l := by
  rw [← Fin.sum_univ_eq_sum_range (fun l => ent x2 a.val l * ent x0 b.val l), ent_of_lt x1 a.isLt b.isLt, add_comm, mul_comm]
  pointwise [Cert.XgradRefIdeal.Read.val_main_v7, Cert.XgradRefIdeal.Read.val_main_v6, Cert.XgradRefIdeal.Read.val_main_v5, Cert.XgradRefIdeal.Read.val_main_v4, Cert.XgradRefIdeal.Read.val_main_cst]
  refine congrArg (· + alpha * x1 (ix2 a b)) (Finset.sum_congr rfl fun k _ => by rw [ent_of_lt x2 a.isLt k.isLt, ent_of_lt x0 b.isLt k.isLt])

/-- Kernel and reference end with the same array. -/
theorem algebraic : Cert.algebraic_XgradKernelIdeal_XgradRefIdeal := by
  intro m g m' g' _ hag
  refine ⟨fun c => G3 m c, Value.run m g, ?_⟩
  refine (θ_run Cert.XgradRefIdeal.defs _ _).mono (fun r h c => ?_) (Cert.XgradRefIdeal.Value.run m' g')
  obtain ⟨ha0, ha1, ha2⟩ := hag c
  obtain ⟨h4, hk0, hk1, hk2⟩ := h c
  rw [Cert.XgradRefIdeal.Read.val_main_v7_eq, ha0, ha1, ha2] at h4
  refine ⟨h4.trans ?_, hk0, hk1, hk2⟩
  funext i
  obtain ⟨x, y, rfl⟩ : ∃ (x : Fin 8192) (y : Fin 2048), i = ix2 x y := ⟨i 0, i 1, funext fun a => by match a with | ⟨0, _⟩ => rfl | ⟨1, _⟩ => rfl⟩
  exact (ref_eq _ _ _ x y).trans (G_eq m c x y).symm

end Cert.Xgrad
end
-- ==== Proof.Proj.lean ====
/-
  The call that computes the input projection: entry `(a, b)` is the sum, over the 2048 channels, of the input's entry
  in row `a` times the weight's entry in column `b`.
-/
module

public import proofs.«01_k».proof.Defs
public import proofs.«01_k».proof.Proof.ConvSpec
public import proofs.«01_k».proof.Proof.Gen.ProjKernelIdeal.Value
public import proofs.«01_k».proof.Proof.Gen.ProjRefIdeal.Run
public import proofs.«01_k».proof.Proof.Gen.ProjRefIdeal.Read
public import Idealize.ShloMosaic.Lib.Pointwise
public import Idealize.ShloMosaic.Lib.Pipeline.ValueKit

@[expose] public section

set_option maxRecDepth 16384

noncomputable section

namespace Cert.Proj

open Cert.ProjKernelIdeal Cert.ProjKernelIdeal.Gen Cert.ProjKernelIdeal.Value Idealize.ShloMosaic Idealize.ShloMosaic.TcCoe Idealize.SL.Sem
open Cert.Conv (ent ent_of_lt eq_ent)

/-- The body's product of two blocks. -/
theorem pay1 (x : Vec Ideal S1024x2048 .bf16) (y : Vec Ideal S1536x2048 .bf16) (a : Fin 1024) (b : Fin 1536) :
    k0_pay1 x y (ix2 a b) = ∑ k : Fin 2048, x (ix2 a k) * y (ix2 b k) := by
  pointwise [k0_pay1]

/-- What the body leaves in its output block. -/
theorem out_eq (x : Vec Ideal S1024x2048 .bf16) (y : Vec Ideal S1536x2048 .bf16) : out0_2 x y = k0_pay1 x y := by
  have hz : (![0, 0] : Fin 2 → Nat) = fun _ => 0 := funext fun a => by fin_cases a <;> rfl
  unfold out0_2 r0_0 r0_1 r0_2
  rw [View.canon_unit_zero (S := S1024x1536) hz, View.ld_unit_zero (S := S1024x2048) hz, View.ld_unit_zero (S := S1536x2048) hz]

variable (m : (ℓ : Loc nD τ sig) → Buf (Elt Ideal) ℓ)

/-- The call's first operand is the layer's input. -/
theorem V_v0 (c : Dev nD) : (V m c main_v0 : S8192x2048.Idx → EReal) = m ((c : Thread nD τ).loc main_arg0) := by
  have h : @Eq (FVec Ideal S8192x2048 .bf16) (V m c main_v0) (truncf .bf16 (m ((c : Thread nD τ).loc main_arg0) : FVec Ideal S8192x2048 .f32) bitsLt_bf16_f32) := by
    show StableHlo.after hostOps0 _ _ = _
    after_results
  exact h

/-- The call's second operand is the weight, transposed. -/
theorem V_v2 (c : Dev nD) (a : Fin 16896) (b : Fin 2048) : (V m c main_v2 : S16896x2048.Idx → EReal) (ix2 a b) = ent (m ((c : Thread nD τ).loc main_arg1) : S2048x16896.Idx → EReal) b.val a.val := by
  have h : @Eq (FVec Ideal S16896x2048 .bf16) (V m c main_v2) (truncf .bf16 (transpose S16896x2048 [1, 0] (m ((c : Thread nD τ).loc main_arg1) : FVec Ideal S2048x16896 .f32) transposes_S2048x16896_S16896x2048_1_0) bitsLt_bf16_f32) := by
    show StableHlo.after hostOps0 _ _ = _
    after_results
  rw [h]
  pointwise []
  exact (ent_of_lt _ b.isLt a.isLt).symm

/-- The block indices at each grid point. -/
theorem idx0 : ∀ t : Fin cfg0.N, win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = t.val / 8 :=
  (by decide +kernel : ∀ t : Fin grid0.N, _)

/-- Every point writes its block back. -/
theorem flush2 : ∀ t : Fin cfg0.N, (cfg0.win 2).flush t = true := (by decide +kernel : ∀ t : Fin grid0.N, win0_2.flush t = true)

/-- The first operand's block: 1024 tokens of the input. -/
theorem blk0 (c : Dev nD) (t : Fin cfg0.N) (a : Fin 1024) (k : Fin 2048) :
    iblk m c 0 t (ix2 a k) = ent (m ((c : Thread nD τ).loc main_arg0)) (t.val % 8 * 1024 + a.val) k.val := by
  obtain ⟨e0, e1, -⟩ := idx0 t
  unfold iblk
  rw [View.read_apply]
  show (V m c main_v0 : S8192x2048.Idx → EReal) _ = _
  rw [V_v0]
  refine eq_ent (n0 := 8192) (n1 := 2048) _ _ ?_ ?_
  · show win0_0.index t (0 : Fin 2) * 1024 + 1 * a.val = _; rw [e0]; omega
  · show win0_0.index t (1 : Fin 2) * 2048 + 1 * k.val = _; rw [e1]; omega

/-- The second operand's block: 1536 columns of the weight. -/
theorem blk1 (c : Dev nD) (t : Fin cfg0.N) (b : Fin 1536) (k : Fin 2048) :
    iblk m c 1 t (ix2 b k) = ent (m ((c : Thread nD τ).loc main_arg1)) k.val (t.val / 8 * 1536 + b.val) := by
  obtain ⟨-, -, e2, e3, -⟩ := idx0 t
  have hb := b.isLt
  have ht : t.val < 88 := lt_of_lt_of_eq t.isLt (show cfg0.N = 88 from N_0)
  have hl : t.val / 8 * 1536 + b.val < 16896 := by omega
  unfold iblk
  rw [View.read_apply]
  show (V m c main_v2 : S16896x2048.Idx → EReal) _ = _
  have hi : ((cfg0.win 1).blk t).view.emb (ix2 b k) = (ix2 (⟨t.val / 8 * 1536 + b.val, hl⟩ : Fin 16896) k : S16896x2048.Idx) := funext fun i => Fin.ext (by
    match i with
    | ⟨0, _⟩ => show win0_1.index t (0 : Fin 2) * 1536 + 1 * b.val = _; rw [e2]; show _ = t.val / 8 * 1536 + b.val; omega
    | ⟨1, _⟩ => show win0_1.index t (1 : Fin 2) * 2048 + 1 * k.val = _; rw [e3]; show _ = k.val; omega)
  exact (congrArg (V m c main_v2 : S16896x2048.Idx → EReal) hi).trans (V_v2 m c _ k)

/-- The projection, entry by entry. -/
def out (c : Dev nD) (a b : ℕ) : EReal :=
  ∑ k : Fin 2048, ent (m ((c : Thread nD τ).loc main_arg0)) a k.val * ent (m ((c : Thread nD τ).loc main_arg1)) k.val b

/-- The array of the projection. -/
def G (c : Dev nD) : Buf (Elt Ideal) ((c : Thread nD τ).loc main_v3) := fun i => out m c (i 0).val (i 1).val

/-- What each point writes back is its block of the projection. -/
theorem flushed_eq (c : Dev nD) (t : Fin cfg0.N) (hf : (cfg0.win 2).flush t = true) :
    (dats m 0 c).flushed 2 t = ((cfg0.win 2).blk t).view.read (Elt Ideal) (G m c) := by
  obtain ⟨-, -, -, -, e4, e5⟩ := idx0 t
  rw [Value.flushed2, out_eq]
  funext i
  obtain ⟨a, b, rfl⟩ : ∃ (x : Fin 1024) (y : Fin 1536), i = ix2 x y := ⟨i 0, i 1, funext fun a => by match a with | ⟨0, _⟩ => rfl | ⟨1, _⟩ => rfl⟩
  refine (pay1 _ _ a b).trans ?_
  show _ = out m c (win0_2.index t (0 : Fin 2) * 1024 + 1 * a.val) (win0_2.index t (1 : Fin 2) * 1536 + 1 * b.val)
  rw [e4, e5, one_mul, one_mul]
  exact Finset.sum_congr rfl fun k _ => congrArg₂ (· * ·) (blk0 m c t a k) (blk1 m c t b k)

/-- An index is in the block of point `t` when each of its coordinates is in the block's range. -/
theorem mem_blk (t : Fin cfg0.N) (j : S8192x16896.Idx) :
    j ∈ ((cfg0.win 2).blk t).view.set ↔ (win0_2.index t (0 : Fin 2) * 1024 ≤ (j 0).val ∧ (j 0).val < win0_2.index t (0 : Fin 2) * 1024 + 1024)
      ∧ (win0_2.index t (1 : Fin 2) * 1536 ≤ (j 1).val ∧ (j 1).val < win0_2.index t (1 : Fin 2) * 1536 + 1536) := by
  show j ∈ ((View.whole main_v3).slice (win0_2.rect t)).set ↔ _
  rw [View.set_slice_whole, Rect.mem_set_unit]
  show (∀ a : Fin 2, _) ↔ _
  rw [Fin.forall_fin_two]
  exact Iff.rfl

/-- The array after the run is the projection. -/
theorem final (c : Dev nD) : (dats m 0 c).arrAt 2 cfg0.N = G m c :=
  (dats m 0 c).arrAt_eq_of_cover 2 (G m c) (flushed_eq m c) fun j => by
    have h0 : (j 0).val < 8192 := (j 0).isLt
    have h1 : (j 1).val < 16896 := (j 1).isLt
    have hN : cfg0.N = 88 := N_0
    have hlt : (j 1).val / 1536 * 8 + (j 0).val / 1024 < cfg0.N := by omega
    refine ⟨⟨_, hlt⟩, flush2 _, (mem_blk _ j).mpr ?_⟩
    obtain ⟨-, -, -, -, e4, e5⟩ := idx0 ⟨_, hlt⟩
    rw [e4, e5]
    dsimp only
    omega

/-- The run, with the projection in the result. -/
theorem run (g : Dev nD → PrngReg) : θ_run defs (onTc (τ := τ) (main (F := Ideal))) ⟨m, fun _ => 0, g⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by have := h c; rwa [final] at this) (Value.run_blocks m g)

/-- The reference's result, entry by entry. -/
theorem ref_eq (x0 : Cert.ProjRefIdeal.S8192x2048.Idx → EReal) (x1 : Cert.ProjRefIdeal.S2048x16896.Idx → EReal) (a : Fin 8192) (b : Fin 16896) :
    Cert.ProjRefIdeal.Read.val_main_v0 (F := Ideal) x0 x1 (ix2 a b) = ∑ k : Fin 2048, ent x0 a.val k.val * ent x1 k.val b.val := by
  pointwise [Cert.ProjRefIdeal.Read.val_main_v0]
  exact Finset.sum_congr rfl fun k _ => by rw [ent_of_lt x0 a.isLt k.isLt, ent_of_lt x1 k.isLt b.isLt]

/-- Kernel and reference end with the same array. -/
theorem algebraic : Cert.algebraic_ProjKernelIdeal_ProjRefIdeal := by
  intro m g m' g' _ hag
  refine ⟨fun c => G m c, run m g, ?_⟩
  refine (θ_run Cert.ProjRefIdeal.defs _ _).mono (fun r h c => ?_) (Cert.ProjRefIdeal.Value.run m' g')
  obtain ⟨ha0, ha1⟩ := hag c
  obtain ⟨h4, hk0, hk1⟩ := h c
  rw [Cert.ProjRefIdeal.Read.val_main_v0_eq, ha0, ha1] at h4
  refine ⟨h4.trans ?_, hk0, hk1⟩
  funext i
  obtain ⟨x, y, rfl⟩ : ∃ (x : Fin 8192) (y : Fin 16896), i = ix2 x y := ⟨i 0, i 1, funext fun a => by match a with | ⟨0, _⟩ => rfl | ⟨1, _⟩ => rfl⟩
  exact ref_eq _ _ x y

end Cert.Proj
end
-- ==== Proof.Gout.lean ====
/-
  The call that computes the gradient of the output projection's weight: entry `(a, b)` is the sum, over the 8192
  tokens, of the merged branches' entry in column `a` times the cotangent's entry in column `b`.
-/
module

public import proofs.«01_k».proof.Defs
public import proofs.«01_k».proof.Proof.ConvSpec
public import proofs.«01_k».proof.Proof.Gen.GoutKernelIdeal.Value
public import proofs.«01_k».proof.Proof.Gen.GoutRefIdeal.Run
public import proofs.«01_k».proof.Proof.Gen.GoutRefIdeal.Read
public import Idealize.ShloMosaic.Lib.Pointwise
public import Idealize.ShloMosaic.Lib.Pipeline.ValueKit

@[expose] public section

set_option maxRecDepth 16384

noncomputable section

namespace Cert.Gout

open Cert.GoutKernelIdeal Cert.GoutKernelIdeal.Gen Cert.GoutKernelIdeal.Value Idealize.ShloMosaic Idealize.ShloMosaic.TcCoe Idealize.SL.Sem
open Cert.Conv (ent ent_of_lt eq_ent)

/-- The accumulator starts at zero. -/
theorem pay1 (a : Fin 2048) (b : Fin 2048) : k0_pay1 (F := Ideal) (ix2 a b) = 0 := by
  pointwise [k0_pay1]

/-- One step adds the product of the point's two blocks. -/
theorem pay2 (acc : Vec Ideal S2048x2048 .f32) (x : Vec Ideal S1024x2048 .bf16) (y : Vec Ideal S1024x2048 .bf16) (a : Fin 2048) (b : Fin 2048) :
    k0_pay2 acc x y (ix2 a b) = acc (ix2 a b) + ∑ k ∈ Finset.range 1024, ent x k a.val * ent y k b.val := by
  rw [← Fin.sum_univ_eq_sum_range (fun k => ent x k a.val * ent y k b.val)]
  pointwise [k0_pay2]
  exact congrArg (acc (ix2 a b) + ·) (Finset.sum_congr rfl fun k _ => by rw [ent_of_lt x k.isLt a.isLt, ent_of_lt y k.isLt b.isLt])

/-- Multiplying by blocks of rows: eight sums of 1024 terms are one sum of 8192. -/
theorem sum8 (f : ℕ → EReal) : ∑ s ∈ Finset.range (7 + 1), ∑ k ∈ Finset.range 1024, f (s * 1024 + k) = ∑ l ∈ Finset.range 8192, f l :=
  Finset.sum_range_range_mul_add 8 1024 f

variable (m : (ℓ : Loc nD τ sig) → Buf (Elt Ideal) ℓ)

/-- The call's first operand is the merged branches. -/
theorem V_v0 (c : Dev nD) : (V m c main_v0 : S8192x2048.Idx → EReal) = m ((c : Thread nD τ).loc main_arg0) := by
  have h : @Eq (FVec Ideal S8192x2048 .bf16) (V m c main_v0) (truncf .bf16 (m ((c : Thread nD τ).loc main_arg0) : FVec Ideal S8192x2048 .f32) bitsLt_bf16_f32) := by
    show StableHlo.after hostOps0 _ _ = _
    after_results
  exact h

/-- The call's second operand is the cotangent. -/
theorem V_v1 (c : Dev nD) : (V m c main_v1 : S8192x2048.Idx → EReal) = m ((c : Thread nD τ).loc main_arg1) := by
  have h : @Eq (FVec Ideal S8192x2048 .bf16) (V m c main_v1) (truncf .bf16 (m ((c : Thread nD τ).loc main_arg1) : FVec Ideal S8192x2048 .f32) bitsLt_bf16_f32) := by
    show StableHlo.after hostOps0 _ _ = _
    after_results
  exact h

/-- The block indices of the two operands at each grid point. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The first operand's block: 1024 tokens of the merged branches. -/
theorem blk0 (c : Dev nD) (t : Fin cfg0.N) (k : Fin 1024) (a : Fin 2048) :
    iblk m c 0 t (ix2 k a) = ent (m ((c : Thread nD τ).loc main_arg0)) (t.val * 1024 + k.val) a.val := by
  obtain ⟨e0, e1, -, -⟩ := idx0 t
  unfold iblk
  rw [View.read_apply]
  show (V m c main_v0 : S8192x2048.Idx → EReal) _ = _
  rw [V_v0]
  refine eq_ent (n0 := 8192) (n1 := 2048) _ _ ?_ ?_
  · show win0_0.index t (0 : Fin 2) * 1024 + 1 * k.val = _; rw [e0]; omega
  · show win0_0.index t (1 : Fin 2) * 2048 + 1 * a.val = _; rw [e1]; omega

/-- The second operand's block: 1024 tokens of the cotangent. -/
theorem blk1 (c : Dev nD) (t : Fin cfg0.N) (k : Fin 1024) (b : Fin 2048) :
    iblk m c 1 t (ix2 k b) = ent (m ((c : Thread nD τ).loc main_arg1)) (t.val * 1024 + k.val) b.val := by
  obtain ⟨-, -, e2, e3⟩ := idx0 t
  unfold iblk
  rw [View.read_apply]
  show (V m c main_v1 : S8192x2048.Idx → EReal) _ = _
  rw [V_v1]
  refine eq_ent (n0 := 8192) (n1 := 2048) _ _ ?_ ?_
  · show win0_1.index t (0 : Fin 2) * 1024 + 1 * k.val = _; rw [e2]; omega
  · show win0_1.index t (1 : Fin 2) * 2048 + 1 * b.val = _; rw [e3]; omega

/-- One term of the gradient: the product at token `l` of the first array's column `a` and the cotangent's column `b`. -/
def term (c : Dev nD) (a b l : ℕ) : EReal :=
  ent (m ((c : Thread nD τ).loc main_arg0)) l a * ent (m ((c : Thread nD τ).loc main_arg1)) l b

/-- The product of the two blocks at point `n`. -/
theorem part (c : Dev nD) (n : ℕ) (h : n < cfg0.N) (a : Fin 2048) (b : Fin 2048) :
    ∑ k ∈ Finset.range 1024, ent (iblk m c 0 ⟨n, h⟩ : S1024x2048.Idx → EReal) k a.val * ent (iblk m c 1 ⟨n, h⟩ : S1024x2048.Idx → EReal) k b.val
      = ∑ k ∈ Finset.range 1024, term m c a.val b.val (n * 1024 + k) := by
  refine Finset.sum_congr rfl fun k hk => ?_
  have hk := Finset.mem_range.mp hk
  rw [ent_of_lt _ hk a.isLt, ent_of_lt _ hk b.isLt]
  exact congrArg₂ (· * ·) (blk0 m c ⟨n, h⟩ ⟨k, hk⟩ a) (blk1 m c ⟨n, h⟩ ⟨k, hk⟩ b)

/-- The array after the run, entry by entry. -/
theorem G_eq (c : Dev nD) (a : Fin 2048) (b : Fin 2048) :
    G2 m c (ix2 a b) = ∑ l ∈ Finset.range 8192, term m c a.val b.val l := by
  have hN : cfg0.N = 8 := N_0
  have ha := a.isLt
  have hb := b.isLt
  have hr : run2Of (ix2 a b) = 0 := by
    show 1 * (a.val / 2048 - 0) + 1 * (b.val / 2048 - 0) = _
    omega
  unfold G2
  rw [dif_pos (by rw [hr, hN]; omega)]
  have hloc : loc2Of (ix2 a b) = ix2 a b := funext fun i => Fin.ext (by
    match i with
    | ⟨0, _⟩ => exact Nat.mod_eq_of_lt a.isLt
    | ⟨1, _⟩ => exact Nat.mod_eq_of_lt b.isLt)
  rw [hloc]
  have hlt : 8 * run2Of (ix2 a b) + 7 < cfg0.N := by rw [hr, hN]; omega
  refine (Pipeline.accAt_add_apply (β := EReal) (ι := S2048x2048.Idx) (reset2 m c) (step2 m c) (fun _ => 0)
    (fun n i => ∑ k ∈ Finset.range 1024, term m c (i 0).val (i 1).val (n * 1024 + k))
    (8 * run2Of (ix2 a b)) 7 ?_ ?_ 7 (le_refl 7) hlt _).trans ?_
  · intro h i
    obtain ⟨x, y, rfl⟩ : ∃ (x : Fin 2048) (y : Fin 2048), i = ix2 x y := ⟨i 0, i 1, funext fun a => by match a with | ⟨0, _⟩ => rfl | ⟨1, _⟩ => rfl⟩
    exact (pay2 _ _ _ x y).trans (congrArg₂ (· + ·) (pay1 x y) (part m c _ h x y))
  · intro n h acc i _ _
    obtain ⟨x, y, rfl⟩ : ∃ (x : Fin 2048) (y : Fin 2048), i = ix2 x y := ⟨i 0, i 1, funext fun a => by match a with | ⟨0, _⟩ => rfl | ⟨1, _⟩ => rfl⟩
    exact (pay2 _ _ _ x y).trans (congrArg (acc (ix2 x y) + ·) (part m c n h x y))
  · rw [hr, ← sum8, zero_add]
    refine Finset.sum_congr rfl fun s hs => Finset.sum_congr rfl fun k _ => ?_
    show term m c a.val b.val ((8 * 0 + s) * 1024 + k) = _
    rw [show 8 * 0 + s = s from by omega]

/-- The reference's result, entry by entry. -/
theorem ref_eq (x0 : Cert.GoutRefIdeal.S8192x2048.Idx → EReal) (x1 : Cert.GoutRefIdeal.S8192x2048.Idx → EReal) (a : Fin 2048) (b : Fin 2048) :
    Cert.GoutRefIdeal.Read.val_main_v3 (F := Ideal) x0 x1 (ix2 a b) = ∑ l ∈ Finset.range 8192, ent x0 l a.val * ent x1 l b.val := by
  rw [← Fin.sum_univ_eq_sum_range (fun l => ent x0 l a.val * ent x1 l b.val)]
  pointwise [Cert.GoutRefIdeal.Read.val_main_v3, Cert.GoutRefIdeal.Read.val_main_v2, Cert.GoutRefIdeal.Read.val_main_v1]
  exact Finset.sum_congr rfl fun k _ => by rw [ent_of_lt x0 k.isLt a.isLt, ent_of_lt x1 k.isLt b.isLt, mul_comm]

/-- Kernel and reference end with the same array. -/
theorem algebraic : Cert.algebraic_GoutKernelIdeal_GoutRefIdeal := by
  intro m g m' g' _ hag
  refine ⟨fun c => G2 m c, Value.run m g, ?_⟩
  refine (θ_run Cert.GoutRefIdeal.defs _ _).mono (fun r h c => ?_) (Cert.GoutRefIdeal.Value.run m' g')
  obtain ⟨ha0, ha1⟩ := hag c
  obtain ⟨h4, hk0, hk1⟩ := h c
  rw [Cert.GoutRefIdeal.Read.val_main_v3_eq, ha0, ha1] at h4
  refine ⟨h4.trans ?_, hk0, hk1⟩
  funext i
  obtain ⟨x, y, rfl⟩ : ∃ (x : Fin 2048) (y : Fin 2048), i = ix2 x y := ⟨i 0, i 1, funext fun a => by match a with | ⟨0, _⟩ => rfl | ⟨1, _⟩ => rfl⟩
  exact (ref_eq _ _ x y).trans (G_eq m c x y).symm

end Cert.Gout
end
-- ==== Proof.Gproj.lean ====
/-
  The call that computes the gradient of a branch's projection weight: entry `(a, b)` is the sum, over the 8192 tokens,
  of the branch's entry in column `a` times the cotangent's entry in column `b`.
-/
module

public import proofs.«01_k».proof.Defs
public import proofs.«01_k».proof.Proof.ConvSpec
public import proofs.«01_k».proof.Proof.Gen.GprojKernelIdeal.Value
public import proofs.«01_k».proof.Proof.Gen.GprojRefIdeal.Run
public import proofs.«01_k».proof.Proof.Gen.GprojRefIdeal.Read
public import Idealize.ShloMosaic.Lib.Pointwise
public import Idealize.ShloMosaic.Lib.Pipeline.ValueKit

@[expose] public section

set_option maxRecDepth 16384

noncomputable section

namespace Cert.Gproj

open Cert.GprojKernelIdeal Cert.GprojKernelIdeal.Gen Cert.GprojKernelIdeal.Value Idealize.ShloMosaic Idealize.ShloMosaic.TcCoe Idealize.SL.Sem
open Cert.Conv (ent ent_of_lt eq_ent)

/-- The accumulator starts at zero. -/
theorem pay1 (a : Fin 1024) (b : Fin 2048) : k0_pay1 (F := Ideal) (ix2 a b) = 0 := by
  pointwise [k0_pay1]

/-- One step adds the product of the point's two blocks. -/
theorem pay2 (acc : Vec Ideal S1024x2048 .f32) (x : Vec Ideal S1024x1024 .bf16) (y : Vec Ideal S1024x2048 .bf16) (a : Fin 1024) (b : Fin 2048) :
    k0_pay2 acc x y (ix2 a b) = acc (ix2 a b) + ∑ k ∈ Finset.range 1024, ent x k a.val * ent y k b.val := by
  rw [← Fin.sum_univ_eq_sum_range (fun k => ent x k a.val * ent y k b.val)]
  pointwise [k0_pay2]
  exact congrArg (acc (ix2 a b) + ·) (Finset.sum_congr rfl fun k _ => by rw [ent_of_lt x k.isLt a.isLt, ent_of_lt y k.isLt b.isLt])

/-- Multiplying by blocks of rows: eight sums of 1024 terms are one sum of 8192. -/
theorem sum8 (f : ℕ → EReal) : ∑ s ∈ Finset.range (7 + 1), ∑ k ∈ Finset.range 1024, f (s * 1024 + k) = ∑ l ∈ Finset.range 8192, f l :=
  Finset.sum_range_range_mul_add 8 1024 f

variable (m : (ℓ : Loc nD τ sig) → Buf (Elt Ideal) ℓ)

/-- The call's first operand is the branch's gated result. -/
theorem V_v0 (c : Dev nD) : (V m c main_v0 : S8192x1024.Idx → EReal) = m ((c : Thread nD τ).loc main_arg0) := by
  have h : @Eq (FVec Ideal S8192x1024 .bf16) (V m c main_v0) (truncf .bf16 (m ((c : Thread nD τ).loc main_arg0) : FVec Ideal S8192x1024 .f32) bitsLt_bf16_f32) := by
    show StableHlo.after hostOps0 _ _ = _
    after_results
  exact h

/-- The call's second operand is the cotangent. -/
theorem V_v1 (c : Dev nD) : (V m c main_v1 : S8192x2048.Idx → EReal) = m ((c : Thread nD τ).loc main_arg1) := by
  have h : @Eq (FVec Ideal S8192x2048 .bf16) (V m c main_v1) (truncf .bf16 (m ((c : Thread nD τ).loc main_arg1) : FVec Ideal S8192x2048 .f32) bitsLt_bf16_f32) := by
    show StableHlo.after hostOps0 _ _ = _
    after_results
  exact h

/-- The block indices of the two operands at each grid point. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The first operand's block: 1024 tokens of the branch. -/
theorem blk0 (c : Dev nD) (t : Fin cfg0.N) (k : Fin 1024) (a : Fin 1024) :
    iblk m c 0 t (ix2 k a) = ent (m ((c : Thread nD τ).loc main_arg0)) (t.val * 1024 + k.val) a.val := by
  obtain ⟨e0, e1, -, -⟩ := idx0 t
  unfold iblk
  rw [View.read_apply]
  show (V m c main_v0 : S8192x1024.Idx → EReal) _ = _
  rw [V_v0]
  refine eq_ent (n0 := 8192) (n1 := 1024) _ _ ?_ ?_
  · show win0_0.index t (0 : Fin 2) * 1024 + 1 * k.val = _; rw [e0]; omega
  · show win0_0.index t (1 : Fin 2) * 1024 + 1 * a.val = _; rw [e1]; omega

/-- The second operand's block: 1024 tokens of the cotangent. -/
theorem blk1 (c : Dev nD) (t : Fin cfg0.N) (k : Fin 1024) (b : Fin 2048) :
    iblk m c 1 t (ix2 k b) = ent (m ((c : Thread nD τ).loc main_arg1)) (t.val * 1024 + k.val) b.val := by
  obtain ⟨-, -, e2, e3⟩ := idx0 t
  unfold iblk
  rw [View.read_apply]
  show (V m c main_v1 : S8192x2048.Idx → EReal) _ = _
  rw [V_v1]
  refine eq_ent (n0 := 8192) (n1 := 2048) _ _ ?_ ?_
  · show win0_1.index t (0 : Fin 2) * 1024 + 1 * k.val = _; rw [e2]; omega
  · show win0_1.index t (1 : Fin 2) * 2048 + 1 * b.val = _; rw [e3]; omega

/-- One term of the gradient: the product at token `l` of the first array's column `a` and the cotangent's column `b`. -/
def term (c : Dev nD) (a b l : ℕ) : EReal :=
  ent (m ((c : Thread nD τ).loc main_arg0)) l a * ent (m ((c : Thread nD τ).loc main_arg1)) l b

/-- The product of the two blocks at point `n`. -/
theorem part (c : Dev nD) (n : ℕ) (h : n < cfg0.N) (a : Fin 1024) (b : Fin 2048) :
    ∑ k ∈ Finset.range 1024, ent (iblk m c 0 ⟨n, h⟩ : S1024x1024.Idx → EReal) k a.val * ent (iblk m c 1 ⟨n, h⟩ : S1024x2048.Idx → EReal) k b.val
      = ∑ k ∈ Finset.range 1024, term m c a.val b.val (n * 1024 + k) := by
  refine Finset.sum_congr rfl fun k hk => ?_
  have hk := Finset.mem_range.mp hk
  rw [ent_of_lt _ hk a.isLt, ent_of_lt _ hk b.isLt]
  exact congrArg₂ (· * ·) (blk0 m c ⟨n, h⟩ ⟨k, hk⟩ a) (blk1 m c ⟨n, h⟩ ⟨k, hk⟩ b)

/-- The array after the run, entry by entry. -/
theorem G_eq (c : Dev nD) (a : Fin 1024) (b : Fin 2048) :
    G2 m c (ix2 a b) = ∑ l ∈ Finset.range 8192, term m c a.val b.val l := by
  have hN : cfg0.N = 8 := N_0
  have ha := a.isLt
  have hb := b.isLt
  have hr : run2Of (ix2 a b) = 0 := by
    show 1 * (a.val / 1024 - 0) + 1 * (b.val / 2048 - 0) = _
    omega
  unfold G2
  rw [dif_pos (by rw [hr, hN]; omega)]
  have hloc : loc2Of (ix2 a b) = ix2 a b := funext fun i => Fin.ext (by
    match i with
    | ⟨0, _⟩ => exact Nat.mod_eq_of_lt a.isLt
    | ⟨1, _⟩ => exact Nat.mod_eq_of_lt b.isLt)
  rw [hloc]
  have hlt : 8 * run2Of (ix2 a b) + 7 < cfg0.N := by rw [hr, hN]; omega
  refine (Pipeline.accAt_add_apply (β := EReal) (ι := S1024x2048.Idx) (reset2 m c) (step2 m c) (fun _ => 0)
    (fun n i => ∑ k ∈ Finset.range 1024, term m c (i 0).val (i 1).val (n * 1024 + k))
    (8 * run2Of (ix2 a b)) 7 ?_ ?_ 7 (le_refl 7) hlt _).trans ?_
  · intro h i
    obtain ⟨x, y, rfl⟩ : ∃ (x : Fin 1024) (y : Fin 2048), i = ix2 x y := ⟨i 0, i 1, funext fun a => by match a with | ⟨0, _⟩ => rfl | ⟨1, _⟩ => rfl⟩
    exact (pay2 _ _ _ x y).trans (congrArg₂ (· + ·) (pay1 x y) (part m c _ h x y))
  · intro n h acc i _ _
    obtain ⟨x, y, rfl⟩ : ∃ (x : Fin 1024) (y : Fin 2048), i = ix2 x y := ⟨i 0, i 1, funext fun a => by match a with | ⟨0, _⟩ => rfl | ⟨1, _⟩ => rfl⟩
    exact (pay2 _ _ _ x y).trans (congrArg (acc (ix2 x y) + ·) (part m c n h x y))
  · rw [hr, ← sum8, zero_add]
    refine Finset.sum_congr rfl fun s hs => Finset.sum_congr rfl fun k _ => ?_
    show term m c a.val b.val ((8 * 0 + s) * 1024 + k) = _
    rw [show 8 * 0 + s = s from by omega]

/-- The reference's result, entry by entry. -/
theorem ref_eq (x0 : Cert.GprojRefIdeal.S8192x1024.Idx → EReal) (x1 : Cert.GprojRefIdeal.S8192x2048.Idx → EReal) (a : Fin 1024) (b : Fin 2048) :
    Cert.GprojRefIdeal.Read.val_main_v3 (F := Ideal) x0 x1 (ix2 a b) = ∑ l ∈ Finset.range 8192, ent x0 l a.val * ent x1 l b.val := by
  rw [← Fin.sum_univ_eq_sum_range (fun l => ent x0 l a.val * ent x1 l b.val)]
  pointwise [Cert.GprojRefIdeal.Read.val_main_v3, Cert.GprojRefIdeal.Read.val_main_v2, Cert.GprojRefIdeal.Read.val_main_v1]
  exact Finset.sum_congr rfl fun k _ => by rw [ent_of_lt x0 k.isLt a.isLt, ent_of_lt x1 k.isLt b.isLt, mul_comm]

/-- Kernel and reference end with the same array. -/
theorem algebraic : Cert.algebraic_GprojKernelIdeal_GprojRefIdeal := by
  intro m g m' g' _ hag
  refine ⟨fun c => G2 m c, Value.run m g, ?_⟩
  refine (θ_run Cert.GprojRefIdeal.defs _ _).mono (fun r h c => ?_) (Cert.GprojRefIdeal.Value.run m' g')
  obtain ⟨ha0, ha1⟩ := hag c
  obtain ⟨h4, hk0, hk1⟩ := h c
  rw [Cert.GprojRefIdeal.Read.val_main_v3_eq, ha0, ha1] at h4
  refine ⟨h4.trans ?_, hk0, hk1⟩
  funext i
  obtain ⟨x, y, rfl⟩ : ∃ (x : Fin 1024) (y : Fin 2048), i = ix2 x y := ⟨i 0, i 1, funext fun a => by match a with | ⟨0, _⟩ => rfl | ⟨1, _⟩ => rfl⟩
  exact (ref_eq _ _ x y).trans (G_eq m c x y).symm

end Cert.Gproj
end
-- ==== Proof.Dp.lean ====
/-
  The call that computes the gradient of a branch's gated result: entry `(a, b)` is the sum, over the 2048 channels, of
  the cotangent's entry in row `a` times the projection weight's entry in row `b`.
-/
module

public import proofs.«01_k».proof.Defs
public import proofs.«01_k».proof.Proof.ConvSpec
public import proofs.«01_k».proof.Proof.Gen.DpKernelIdeal.Value
public import proofs.«01_k».proof.Proof.Gen.DpRefIdeal.Run
public import proofs.«01_k».proof.Proof.Gen.DpRefIdeal.Read
public import Idealize.ShloMosaic.Lib.Pointwise
public import Idealize.ShloMosaic.Lib.Pipeline.ValueKit

@[expose] public section

set_option maxRecDepth 16384

noncomputable section

namespace Cert.Dp

open Cert.DpKernelIdeal Cert.DpKernelIdeal.Gen Cert.DpKernelIdeal.Value Idealize.ShloMosaic Idealize.ShloMosaic.TcCoe Idealize.SL.Sem
open Cert.Conv (ent ent_of_lt eq_ent)

/-- The body's product of two blocks. -/
theorem pay1 (x : Vec Ideal S1024x2048 .bf16) (y : Vec Ideal S1024x2048 .bf16) (a : Fin 1024) (b : Fin 1024) :
    k0_pay1 x y (ix2 a b) = ∑ k : Fin 2048, x (ix2 a k) * y (ix2 b k) := by
  pointwise [k0_pay1]

/-- What the body leaves in its output block. -/
theorem out_eq (x : Vec Ideal S1024x2048 .bf16) (y : Vec Ideal S1024x2048 .bf16) : out0_2 x y = k0_pay1 x y := by
  have hz : (![0, 0] : Fin 2 → Nat) = fun _ => 0 := funext fun a => by fin_cases a <;> rfl
  unfold out0_2 r0_0 r0_1
  rw [View.canon_unit_zero (S := S1024x1024) hz, View.ld_unit_zero (S := S1024x2048) hz, View.ld_unit_zero (S := S1024x2048) hz]

variable (m : (ℓ : Loc nD τ sig) → Buf (Elt Ideal) ℓ)

/-- The call's first operand is the cotangent. -/
theorem V_v0 (c : Dev nD) : (V m c main_v0 : S8192x2048.Idx → EReal) = m ((c : Thread nD τ).loc main_arg1) := by
  have h : @Eq (FVec Ideal S8192x2048 .bf16) (V m c main_v0) (truncf .bf16 (m ((c : Thread nD τ).loc main_arg1) : FVec Ideal S8192x2048 .f32) bitsLt_bf16_f32) := by
    show StableHlo.after hostOps0 _ _ = _
    after_results
  exact h

/-- The call's second operand is the projection weight. -/
theorem V_v1 (c : Dev nD) : (V m c main_v1 : S1024x2048.Idx → EReal) = m ((c : Thread nD τ).loc main_arg0) := by
  have h : @Eq (FVec Ideal S1024x2048 .bf16) (V m c main_v1) (truncf .bf16 (m ((c : Thread nD τ).loc main_arg0) : FVec Ideal S1024x2048 .f32) bitsLt_bf16_f32) := by
    show StableHlo.after hostOps0 _ _ = _
    after_results
  exact h

/-- The block indices at each grid point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every point writes its block back. -/
theorem flush2 : ∀ t : Fin cfg0.N, (cfg0.win 2).flush t = true := (by decide +kernel : ∀ t : Fin grid0.N, win0_2.flush t = true)

/-- The first operand's block: 1024 tokens of the cotangent. -/
theorem blk0 (c : Dev nD) (t : Fin cfg0.N) (a : Fin 1024) (k : Fin 2048) :
    iblk m c 0 t (ix2 a k) = ent (m ((c : Thread nD τ).loc main_arg1)) (t.val * 1024 + a.val) k.val := by
  obtain ⟨e0, e1, -⟩ := idx0 t
  unfold iblk
  rw [View.read_apply]
  show (V m c main_v0 : S8192x2048.Idx → EReal) _ = _
  rw [V_v0]
  refine eq_ent (n0 := 8192) (n1 := 2048) _ _ ?_ ?_
  · show win0_0.index t (0 : Fin 2) * 1024 + 1 * a.val = _; rw [e0]; omega
  · show win0_0.index t (1 : Fin 2) * 2048 + 1 * k.val = _; rw [e1]; omega

/-- The second operand's block: the whole projection weight. -/
theorem blk1 (c : Dev nD) (t : Fin cfg0.N) (b : Fin 1024) (k : Fin 2048) :
    iblk m c 1 t (ix2 b k) = ent (m ((c : Thread nD τ).loc main_arg0)) b.val k.val := by
  obtain ⟨-, -, e2, e3, -⟩ := idx0 t
  unfold iblk
  rw [View.read_apply]
  show (V m c main_v1 : S1024x2048.Idx → EReal) _ = _
  rw [V_v1]
  refine eq_ent (n0 := 1024) (n1 := 2048) _ _ ?_ ?_
  · show win0_1.index t (0 : Fin 2) * 1024 + 1 * b.val = _; rw [e2]; omega
  · show win0_1.index t (1 : Fin 2) * 2048 + 1 * k.val = _; rw [e3]; omega

/-- The gradient, entry by entry. -/
def out (c : Dev nD) (a b : ℕ) : EReal :=
  ∑ k : Fin 2048, ent (m ((c : Thread nD τ).loc main_arg1)) a k.val * ent (m ((c : Thread nD τ).loc main_arg0)) b k.val

/-- The array of the gradient. -/
def G (c : Dev nD) : Buf (Elt Ideal) ((c : Thread nD τ).loc main_v2) := fun i => out m c (i 0).val (i 1).val

/-- What each point writes back is its block of the gradient. -/
theorem flushed_eq (c : Dev nD) (t : Fin cfg0.N) (hf : (cfg0.win 2).flush t = true) :
    (dats m 0 c).flushed 2 t = ((cfg0.win 2).blk t).view.read (Elt Ideal) (G m c) := by
  obtain ⟨-, -, -, -, e4, e5⟩ := idx0 t
  rw [Value.flushed2, out_eq]
  funext i
  obtain ⟨a, b, rfl⟩ : ∃ (x : Fin 1024) (y : Fin 1024), i = ix2 x y := ⟨i 0, i 1, funext fun a => by match a with | ⟨0, _⟩ => rfl | ⟨1, _⟩ => rfl⟩
  refine (pay1 _ _ a b).trans ?_
  show _ = out m c (win0_2.index t (0 : Fin 2) * 1024 + 1 * a.val) (win0_2.index t (1 : Fin 2) * 1024 + 1 * b.val)
  rw [e4, e5, one_mul, one_mul, Nat.zero_mul, Nat.zero_add]
  exact Finset.sum_congr rfl fun k _ => congrArg₂ (· * ·) (blk0 m c t a k) (blk1 m c t b k)

/-- An index is in the block of point `t` when each of its coordinates is in the block's range. -/
theorem mem_blk (t : Fin cfg0.N) (j : S8192x1024.Idx) :
    j ∈ ((cfg0.win 2).blk t).view.set ↔ (win0_2.index t (0 : Fin 2) * 1024 ≤ (j 0).val ∧ (j 0).val < win0_2.index t (0 : Fin 2) * 1024 + 1024)
      ∧ (win0_2.index t (1 : Fin 2) * 1024 ≤ (j 1).val ∧ (j 1).val < win0_2.index t (1 : Fin 2) * 1024 + 1024) := by
  show j ∈ ((View.whole main_v2).slice (win0_2.rect t)).set ↔ _
  rw [View.set_slice_whole, Rect.mem_set_unit]
  show (∀ a : Fin 2, _) ↔ _
  rw [Fin.forall_fin_two]
  exact Iff.rfl

/-- The array after the run is the gradient. -/
theorem final (c : Dev nD) : (dats m 0 c).arrAt 2 cfg0.N = G m c :=
  (dats m 0 c).arrAt_eq_of_cover 2 (G m c) (flushed_eq m c) fun j => by
    have h0 : (j 0).val < 8192 := (j 0).isLt
    have h1 : (j 1).val < 1024 := (j 1).isLt
    have hN : cfg0.N = 8 := N_0
    have hlt : (j 0).val / 1024 < cfg0.N := by omega
    refine ⟨⟨_, hlt⟩, flush2 _, (mem_blk _ j).mpr ?_⟩
    obtain ⟨-, -, -, -, e4, e5⟩ := idx0 ⟨_, hlt⟩
    rw [e4, e5]
    dsimp only
    omega

/-- The run, with the gradient in the result. -/
theorem run (g : Dev nD → PrngReg) : θ_run defs (onTc (τ := τ) (main (F := Ideal))) ⟨m, fun _ => 0, g⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by have := h c; rwa [final] at this) (Value.run_blocks m g)

/-- The reference's result, entry by entry. -/
theorem ref_eq (x0 : Cert.DpRefIdeal.S1024x2048.Idx → EReal) (x1 : Cert.DpRefIdeal.S8192x2048.Idx → EReal) (a : Fin 8192) (b : Fin 1024) :
    Cert.DpRefIdeal.Read.val_main_v2 (F := Ideal) x0 x1 (ix2 a b) = ∑ k : Fin 2048, ent x1 a.val k.val * ent x0 b.val k.val := by
  pointwise [Cert.DpRefIdeal.Read.val_main_v2]
  exact Finset.sum_congr rfl fun k _ => by rw [ent_of_lt x1 a.isLt k.isLt, ent_of_lt x0 b.isLt k.isLt]

/-- Kernel and reference end with the same array. -/
theorem algebraic : Cert.algebraic_DpKernelIdeal_DpRefIdeal := by
  intro m g m' g' _ hag
  refine ⟨fun c => G m c, run m g, ?_⟩
  refine (θ_run Cert.DpRefIdeal.defs _ _).mono (fun r h c => ?_) (Cert.DpRefIdeal.Value.run m' g')
  obtain ⟨ha0, ha1⟩ := hag c
  obtain ⟨h4, hk0, hk1⟩ := h c
  rw [Cert.DpRefIdeal.Read.val_main_v2_eq, ha0, ha1] at h4
  refine ⟨h4.trans ?_, hk0, hk1⟩
  funext i
  obtain ⟨x, y, rfl⟩ : ∃ (x : Fin 8192) (y : Fin 1024), i = ix2 x y := ⟨i 0, i 1, funext fun a => by match a with | ⟨0, _⟩ => rfl | ⟨1, _⟩ => rfl⟩
  exact ref_eq _ _ x y

end Cert.Dp
end
-- ==== Proof.Branch.lean ====
/-
  The call that computes a branch's projection: entry `(a, b)` is the sum, over the branch's 1024 channels, of its entry
  in row `a` times the weight's entry in column `b`.
-/
module

public import proofs.«01_k».proof.Defs
public import proofs.«01_k».proof.Proof.ConvSpec
public import proofs.«01_k».proof.Proof.Gen.BranchKernelIdeal.Value
public import proofs.«01_k».proof.Proof.Gen.BranchRefIdeal.Run
public import proofs.«01_k».proof.Proof.Gen.BranchRefIdeal.Read
public import Idealize.ShloMosaic.Lib.Pointwise
public import Idealize.ShloMosaic.Lib.Pipeline.ValueKit

@[expose] public section

set_option maxRecDepth 16384

noncomputable section

namespace Cert.Branch

open Cert.BranchKernelIdeal Cert.BranchKernelIdeal.Gen Cert.BranchKernelIdeal.Value Idealize.ShloMosaic Idealize.ShloMosaic.TcCoe Idealize.SL.Sem
open Cert.Conv (ent ent_of_lt eq_ent)

/-- The body's product of two blocks. -/
theorem pay1 (x : Vec Ideal S1024x1024 .bf16) (y : Vec Ideal S1024x2048 .bf16) (a : Fin 1024) (b : Fin 2048) :
    k0_pay1 x y (ix2 a b) = ∑ k : Fin 1024, x (ix2 a k) * y (ix2 k b) := by
  pointwise [k0_pay1]

/-- What the body leaves in its output block. -/
theorem out_eq (x : Vec Ideal S1024x1024 .bf16) (y : Vec Ideal S1024x2048 .bf16) : out0_2 x y = k0_pay1 x y := by
  have hz : (![0, 0] : Fin 2 → Nat) = fun _ => 0 := funext fun a => by fin_cases a <;> rfl
  unfold out0_2 r0_0 r0_1
  rw [View.canon_unit_zero (S := S1024x2048) hz, View.ld_unit_zero (S := S1024x1024) hz, View.ld_unit_zero (S := S1024x2048) hz]

variable (m : (ℓ : Loc nD τ sig) → Buf (Elt Ideal) ℓ)

/-- The call's first operand is the branch's gated result. -/
theorem V_v0 (c : Dev nD) : (V m c main_v0 : S8192x1024.Idx → EReal) = m ((c : Thread nD τ).loc main_arg0) := by
  have h : @Eq (FVec Ideal S8192x1024 .bf16) (V m c main_v0) (truncf .bf16 (m ((c : Thread nD τ).loc main_arg0) : FVec Ideal S8192x1024 .f32) bitsLt_bf16_f32) := by
    show StableHlo.after hostOps0 _ _ = _
    after_results
  exact h

/-- The call's second operand is the projection weight. -/
theorem V_v1 (c : Dev nD) : (V m c main_v1 : S1024x2048.Idx → EReal) = m ((c : Thread nD τ).loc main_arg1) := by
  have h : @Eq (FVec Ideal S1024x2048 .bf16) (V m c main_v1) (truncf .bf16 (m ((c : Thread nD τ).loc main_arg1) : FVec Ideal S1024x2048 .f32) bitsLt_bf16_f32) := by
    show StableHlo.after hostOps0 _ _ = _
    after_results
  exact h

/-- The block indices at each grid point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every point writes its block back. -/
theorem flush2 : ∀ t : Fin cfg0.N, (cfg0.win 2).flush t = true := (by decide +kernel : ∀ t : Fin grid0.N, win0_2.flush t = true)

/-- The first operand's block: 1024 tokens of the branch. -/
theorem blk0 (c : Dev nD) (t : Fin cfg0.N) (a : Fin 1024) (k : Fin 1024) :
    iblk m c 0 t (ix2 a k) = ent (m ((c : Thread nD τ).loc main_arg0)) (t.val * 1024 + a.val) k.val := by
  obtain ⟨e0, e1, -⟩ := idx0 t
  unfold iblk
  rw [View.read_apply]
  show (V m c main_v0 : S8192x1024.Idx → EReal) _ = _
  rw [V_v0]
  refine eq_ent (n0 := 8192) (n1 := 1024) _ _ ?_ ?_
  · show win0_0.index t (0 : Fin 2) * 1024 + 1 * a.val = _; rw [e0]; omega
  · show win0_0.index t (1 : Fin 2) * 1024 + 1 * k.val = _; rw [e1]; omega

/-- The second operand's block: the whole projection weight. -/
theorem blk1 (c : Dev nD) (t : Fin cfg0.N) (k : Fin 1024) (b : Fin 2048) :
    iblk m c 1 t (ix2 k b) = ent (m ((c : Thread nD τ).loc main_arg1)) k.val b.val := by
  obtain ⟨-, -, e2, e3, -⟩ := idx0 t
  unfold iblk
  rw [View.read_apply]
  show (V m c main_v1 : S1024x2048.Idx → EReal) _ = _
  rw [V_v1]
  refine eq_ent (n0 := 1024) (n1 := 2048) _ _ ?_ ?_
  · show win0_1.index t (0 : Fin 2) * 1024 + 1 * k.val = _; rw [e2]; omega
  · show win0_1.index t (1 : Fin 2) * 2048 + 1 * b.val = _; rw [e3]; omega

/-- The projection, entry by entry. -/
def out (c : Dev nD) (a b : ℕ) : EReal :=
  ∑ k : Fin 1024, ent (m ((c : Thread nD τ).loc main_arg0)) a k.val * ent (m ((c : Thread nD τ).loc main_arg1)) k.val b

/-- The array of the projection. -/
def G (c : Dev nD) : Buf (Elt Ideal) ((c : Thread nD τ).loc main_v2) := fun i => out m c (i 0).val (i 1).val

/-- What each point writes back is its block of the projection. -/
theorem flushed_eq (c : Dev nD) (t : Fin cfg0.N) (hf : (cfg0.win 2).flush t = true) :
    (dats m 0 c).flushed 2 t = ((cfg0.win 2).blk t).view.read (Elt Ideal) (G m c) := by
  obtain ⟨-, -, -, -, e4, e5⟩ := idx0 t
  rw [Value.flushed2, out_eq]
  funext i
  obtain ⟨a, b, rfl⟩ : ∃ (x : Fin 1024) (y : Fin 2048), i = ix2 x y := ⟨i 0, i 1, funext fun a => by match a with | ⟨0, _⟩ => rfl | ⟨1, _⟩ => rfl⟩
  refine (pay1 _ _ a b).trans ?_
  show _ = out m c (win0_2.index t (0 : Fin 2) * 1024 + 1 * a.val) (win0_2.index t (1 : Fin 2) * 2048 + 1 * b.val)
  rw [e4, e5, one_mul, one_mul, Nat.zero_mul, Nat.zero_add]
  exact Finset.sum_congr rfl fun k _ => congrArg₂ (· * ·) (blk0 m c t a k) (blk1 m c t k b)

/-- An index is in the block of point `t` when each of its coordinates is in the block's range. -/
theorem mem_blk (t : Fin cfg0.N) (j : S8192x2048.Idx) :
    j ∈ ((cfg0.win 2).blk t).view.set ↔ (win0_2.index t (0 : Fin 2) * 1024 ≤ (j 0).val ∧ (j 0).val < win0_2.index t (0 : Fin 2) * 1024 + 1024)
      ∧ (win0_2.index t (1 : Fin 2) * 2048 ≤ (j 1).val ∧ (j 1).val < win0_2.index t (1 : Fin 2) * 2048 + 2048) := by
  show j ∈ ((View.whole main_v2).slice (win0_2.rect t)).set ↔ _
  rw [View.set_slice_whole, Rect.mem_set_unit]
  show (∀ a : Fin 2, _) ↔ _
  rw [Fin.forall_fin_two]
  exact Iff.rfl

/-- The array after the run is the projection. -/
theorem final (c : Dev nD) : (dats m 0 c).arrAt 2 cfg0.N = G m c :=
  (dats m 0 c).arrAt_eq_of_cover 2 (G m c) (flushed_eq m c) fun j => by
    have h0 : (j 0).val < 8192 := (j 0).isLt
    have h1 : (j 1).val < 2048 := (j 1).isLt
    have hN : cfg0.N = 8 := N_0
    have hlt : (j 0).val / 1024 < cfg0.N := by omega
    refine ⟨⟨_, hlt⟩, flush2 _, (mem_blk _ j).mpr ?_⟩
    obtain ⟨-, -, -, -, e4, e5⟩ := idx0 ⟨_, hlt⟩
    rw [e4, e5]
    dsimp only
    omega

/-- The run, with the projection in the result. -/
theorem run (g : Dev nD → PrngReg) : θ_run defs (onTc (τ := τ) (main (F := Ideal))) ⟨m, fun _ => 0, g⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by have := h c; rwa [final] at this) (Value.run_blocks m g)

/-- The reference's result, entry by entry. -/
theorem ref_eq (x0 : Cert.BranchRefIdeal.S8192x1024.Idx → EReal) (x1 : Cert.BranchRefIdeal.S1024x2048.Idx → EReal) (a : Fin 8192) (b : Fin 2048) :
    Cert.BranchRefIdeal.Read.val_main_v0 (F := Ideal) x0 x1 (ix2 a b) = ∑ k : Fin 1024, ent x0 a.val k.val * ent x1 k.val b.val := by
  pointwise [Cert.BranchRefIdeal.Read.val_main_v0]
  exact Finset.sum_congr rfl fun k _ => by rw [ent_of_lt x0 a.isLt k.isLt, ent_of_lt x1 k.isLt b.isLt]

/-- Kernel and reference end with the same array. -/
theorem algebraic : Cert.algebraic_BranchKernelIdeal_BranchRefIdeal := by
  intro m g m' g' _ hag
  refine ⟨fun c => G m c, run m g, ?_⟩
  refine (θ_run Cert.BranchRefIdeal.defs _ _).mono (fun r h c => ?_) (Cert.BranchRefIdeal.Value.run m' g')
  obtain ⟨ha0, ha1⟩ := hag c
  obtain ⟨h4, hk0, hk1⟩ := h c
  rw [Cert.BranchRefIdeal.Read.val_main_v0_eq, ha0, ha1] at h4
  refine ⟨h4.trans ?_, hk0, hk1⟩
  funext i
  obtain ⟨x, y, rfl⟩ : ∃ (x : Fin 8192) (y : Fin 2048), i = ix2 x y := ⟨i 0, i 1, funext fun a => by match a with | ⟨0, _⟩ => rfl | ⟨1, _⟩ => rfl⟩
  exact ref_eq _ _ x y

end Cert.Branch
end
-- ==== Proof.AttnStack.lean ====
/-
  The attention's gradient on one block of queries: the sixteen heads in eight tiles of two, and the arrays that the call
  leaves in its output blocks, as functions of the blocks that it loads.
-/
module

public import proofs.«01_k».proof.Proof.AttnOut
public import Idealize.ShloMosaic.Lib.Pipeline.ValueKit

@[expose] public section

set_option maxRecDepth 16384

noncomputable section

namespace Cert.Attn

open Cert.AttnKernelIdeal Cert.AttnKernelIdeal.Gen Idealize.ShloMosaic

variable {F : FTy → Type} [FloatOps F]

/-- The columns of a block from `o` on, 64 of 1024. -/
abbrev cq (X : Vec F S128x1024 .f32) {o : ℕ} (h : ∀ a, (![0, o] : Fin 2 → ℕ) a + S128x64.size a ≤ S128x1024.size a) : Vec F S128x64 .f32 :=
  View.ld X (Rect.unit (s := S128x1024) ![0, o] S128x64.size h)

/-- The columns of a block from `o` on, 64 of 256. -/
abbrev ck (X : Vec F S128x256 .f32) {o : ℕ} (h : ∀ a, (![0, o] : Fin 2 → ℕ) a + S128x64.size a ≤ S128x256.size a) : Vec F S128x64 .f32 :=
  View.ld X (Rect.unit (s := S128x256) ![0, o] S128x64.size h)

/-- The bias rows of two heads of a group. -/
abbrev cb (X : Vec F S4x512x256 .f32) {g o : ℕ} (h : ∀ a, (![g, o, 0] : Fin 3 → ℕ) a + S1x256x256.size a ≤ S4x512x256.size a) : Vec F S1x256x256 .f32 :=
  View.ld X (Rect.unit (s := S4x512x256) ![g, o, 0] S1x256x256.size h)

/-- One head's sink. -/
abbrev cs (X : Vec F S16 .f32) {o : ℕ} (h : ∀ a, (![o] : Fin 1 → ℕ) a + S1.size a ≤ S16.size a) : Elt F .f32 :=
  View.ld X (Rect.unit (s := S16) ![o] S1.size h) (Shape.Idx.first (by show 0 < S1.numel; decide))

/-- The gradient of the attention's output before the gate: two halves of 512 columns. -/
def gD (X6 : Vec F S128x1024 .f32) (X9 X10 : Vec F S128x512 .f32) : Vec F S128x1024 .f32 :=
  View.canon (Val := Elt F) (e := .f32)
    [⟨Rect.unit ![0, 512] S128x512.size inb_S128x1024_S128x512_0_512, k0_pay14 (k0_pay12 (View.ld X10 (Rect.unit (s := S128x512) ![0, 0] S128x512.size inb_S128x512_S128x512_0_0))) (View.ld X6 (Rect.unit (s := S128x1024) ![0, 512] S128x512.size inb_S128x1024_S128x512_0_512))⟩,
     ⟨Rect.unit ![0, 0] S128x512.size inb_S128x1024_S128x512_0_0, k0_pay9 (View.ld X9 (Rect.unit (s := S128x512) ![0, 0] S128x512.size inb_S128x512_S128x512_0_0)) (View.ld X6 (Rect.unit (s := S128x1024) ![0, 0] S128x512.size inb_S128x1024_S128x512_0_0))⟩]

variable (n : BitVec 32) (X0 : Vec F S128x1024 .f32) (X1 X2 X3 X4 : Vec F S128x256 .f32) (X5 D : Vec F S128x1024 .f32) (X7 : Vec F S4x512x256 .f32) (X8 : Vec F S16 .f32)

section Generic

variable {ok oa ob g o sa sb : ℕ} (hk : ∀ a, (![0, ok] : Fin 2 → ℕ) a + S128x64.size a ≤ S128x256.size a)
  (ha : ∀ a, (![0, oa] : Fin 2 → ℕ) a + S128x64.size a ≤ S128x1024.size a) (hb : ∀ a, (![0, ob] : Fin 2 → ℕ) a + S128x64.size a ≤ S128x1024.size a)
  (hg : ∀ a, (![g, o, 0] : Fin 3 → ℕ) a + S1x256x256.size a ≤ S4x512x256.size a)
  (hsa : ∀ a, (![sa] : Fin 1 → ℕ) a + S1.size a ≤ S16.size a) (hsb : ∀ a, (![sb] : Fin 1 → ℕ) a + S1.size a ≤ S16.size a)

/-- The window's keys (or values) of one group. -/
def gK : FVec F S256x64 .bf16 := k0_pay19 (ck X1 hk) (ck X2 hk)

/-- The probabilities of a tile. -/
def gP : FVec F S256x256 .f32 :=
  k0_pay30 (k0_pay18 n) (gK X1 X2 hk) (cq X0 ha) (cq X0 hb) (cb X7 hg) (cs X8 hsa) (cs X8 hsb)

/-- The sinks' probabilities of a tile. -/
def gPS : FVec F S256x1 .f32 :=
  k0_pay31 (k0_pay18 n) (gK X1 X2 hk) (cq X0 ha) (cq X0 hb) (cb X7 hg) (cs X8 hsa) (cs X8 hsb)

/-- The gradient of a tile's scores. -/
def gDS : FVec F S256x256 .f32 :=
  k0_pay35 (gK X3 X4 hk) (gP n X0 X1 X2 X7 X8 hk ha hb hg hsa hsb) (cq D ha) (cq D hb) (cq X5 ha) (cq X5 hb)

/-- The gradient of a tile's sink scores, before its sign. -/
def gX : FVec F S256x1 .f32 :=
  k0_pay37 (gPS n X0 X1 X2 X7 X8 hk ha hb hg hsa hsb) (cq D ha) (cq D hb) (cq X5 ha) (cq X5 hb)

/-- A tile's part of the gradient of the keys, over what the group's tile before left. -/
def gDK (acc : FVec F S256x64 .f32) : FVec F S256x64 .f32 :=
  k0_pay45 acc (k0_pay23 (cq X0 ha) (cq X0 hb)) (gDS n X0 X1 X2 X3 X4 X5 D X7 X8 hk ha hb hg hsa hsb)

/-- A tile's part of the gradient of the values, likewise. -/
def gDV (acc : FVec F S256x64 .f32) : FVec F S256x64 .f32 :=
  k0_pay46 acc (gP n X0 X1 X2 X7 X8 hk ha hb hg hsa hsb) (k0_pay34 (cq D ha) (cq D hb))

end Generic

/-- The block of the gradient of the queries. -/
def gQ : Vec F S128x1024 .bf16 :=
  View.canon (Val := Elt F) (e := .bf16)
    [⟨Rect.unit ![0, 960] S128x64.size inb_S128x1024_S128x64_0_960, k0_pay44 (gK X1 X2 inb_S128x256_S128x64_0_192) (gDS n X0 X1 X2 X3 X4 X5 D X7 X8 inb_S128x256_S128x64_0_192 inb_S128x1024_S128x64_0_896 inb_S128x1024_S128x64_0_960 inb_S4x512x256_S1x256x256_3_256_0 inb_S16_S1_14 inb_S16_S1_15)⟩,
     ⟨Rect.unit ![0, 896] S128x64.size inb_S128x1024_S128x64_0_896, k0_pay43 (gK X1 X2 inb_S128x256_S128x64_0_192) (gDS n X0 X1 X2 X3 X4 X5 D X7 X8 inb_S128x256_S128x64_0_192 inb_S128x1024_S128x64_0_896 inb_S128x1024_S128x64_0_960 inb_S4x512x256_S1x256x256_3_256_0 inb_S16_S1_14 inb_S16_S1_15)⟩,
     ⟨Rect.unit ![0, 832] S128x64.size inb_S128x1024_S128x64_0_832, k0_pay44 (gK X1 X2 inb_S128x256_S128x64_0_192) (gDS n X0 X1 X2 X3 X4 X5 D X7 X8 inb_S128x256_S128x64_0_192 inb_S128x1024_S128x64_0_768 inb_S128x1024_S128x64_0_832 inb_S4x512x256_S1x256x256_3_0_0 inb_S16_S1_12 inb_S16_S1_13)⟩,
     ⟨Rect.unit ![0, 768] S128x64.size inb_S128x1024_S128x64_0_768, k0_pay43 (gK X1 X2 inb_S128x256_S128x64_0_192) (gDS n X0 X1 X2 X3 X4 X5 D X7 X8 inb_S128x256_S128x64_0_192 inb_S128x1024_S128x64_0_768 inb_S128x1024_S128x64_0_832 inb_S4x512x256_S1x256x256_3_0_0 inb_S16_S1_12 inb_S16_S1_13)⟩,
     ⟨Rect.unit ![0, 704] S128x64.size inb_S128x1024_S128x64_0_704, k0_pay44 (gK X1 X2 inb_S128x256_S128x64_0_128) (gDS n X0 X1 X2 X3 X4 X5 D X7 X8 inb_S128x256_S128x64_0_128 inb_S128x1024_S128x64_0_640 inb_S128x1024_S128x64_0_704 inb_S4x512x256_S1x256x256_2_256_0 inb_S16_S1_10 inb_S16_S1_11)⟩,
     ⟨Rect.unit ![0, 640] S128x64.size inb_S128x1024_S128x64_0_640, k0_pay43 (gK X1 X2 inb_S128x256_S128x64_0_128) (gDS n X0 X1 X2 X3 X4 X5 D X7 X8 inb_S128x256_S128x64_0_128 inb_S128x1024_S128x64_0_640 inb_S128x1024_S128x64_0_704 inb_S4x512x256_S1x256x256_2_256_0 inb_S16_S1_10 inb_S16_S1_11)⟩,
     ⟨Rect.unit ![0, 576] S128x64.size inb_S128x1024_S128x64_0_576, k0_pay44 (gK X1 X2 inb_S128x256_S128x64_0_128) (gDS n X0 X1 X2 X3 X4 X5 D X7 X8 inb_S128x256_S128x64_0_128 inb_S128x1024_S128x64_0_512 inb_S128x1024_S128x64_0_576 inb_S4x512x256_S1x256x256_2_0_0 inb_S16_S1_8 inb_S16_S1_9)⟩,
     ⟨Rect.unit ![0, 512] S128x64.size inb_S128x1024_S128x64_0_512, k0_pay43 (gK X1 X2 inb_S128x256_S128x64_0_128) (gDS n X0 X1 X2 X3 X4 X5 D X7 X8 inb_S128x256_S128x64_0_128 inb_S128x1024_S128x64_0_512 inb_S128x1024_S128x64_0_576 inb_S4x512x256_S1x256x256_2_0_0 inb_S16_S1_8 inb_S16_S1_9)⟩,
     ⟨Rect.unit ![0, 448] S128x64.size inb_S128x1024_S128x64_0_448, k0_pay44 (gK X1 X2 inb_S128x256_S128x64_0_64) (gDS n X0 X1 X2 X3 X4 X5 D X7 X8 inb_S128x256_S128x64_0_64 inb_S128x1024_S128x64_0_384 inb_S128x1024_S128x64_0_448 inb_S4x512x256_S1x256x256_1_256_0 inb_S16_S1_6 inb_S16_S1_7)⟩,
     ⟨Rect.unit ![0, 384] S128x64.size inb_S128x1024_S128x64_0_384, k0_pay43 (gK X1 X2 inb_S128x256_S128x64_0_64) (gDS n X0 X1 X2 X3 X4 X5 D X7 X8 inb_S128x256_S128x64_0_64 inb_S128x1024_S128x64_0_384 inb_S128x1024_S128x64_0_448 inb_S4x512x256_S1x256x256_1_256_0 inb_S16_S1_6 inb_S16_S1_7)⟩,
     ⟨Rect.unit ![0, 320] S128x64.size inb_S128x1024_S128x64_0_320, k0_pay44 (gK X1 X2 inb_S128x256_S128x64_0_64) (gDS n X0 X1 X2 X3 X4 X5 D X7 X8 inb_S128x256_S128x64_0_64 inb_S128x1024_S128x64_0_256 inb_S128x1024_S128x64_0_320 inb_S4x512x256_S1x256x256_1_0_0 inb_S16_S1_4 inb_S16_S1_5)⟩,
     ⟨Rect.unit ![0, 256] S128x64.size inb_S128x1024_S128x64_0_256, k0_pay43 (gK X1 X2 inb_S128x256_S128x64_0_64) (gDS n X0 X1 X2 X3 X4 X5 D X7 X8 inb_S128x256_S128x64_0_64 inb_S128x1024_S128x64_0_256 inb_S128x1024_S128x64_0_320 inb_S4x512x256_S1x256x256_1_0_0 inb_S16_S1_4 inb_S16_S1_5)⟩,
     ⟨Rect.unit ![0, 192] S128x64.size inb_S128x1024_S128x64_0_192, k0_pay44 (gK X1 X2 inb_S128x256_S128x64_0_0) (gDS n X0 X1 X2 X3 X4 X5 D X7 X8 inb_S128x256_S128x64_0_0 inb_S128x1024_S128x64_0_128 inb_S128x1024_S128x64_0_192 inb_S4x512x256_S1x256x256_0_256_0 inb_S16_S1_2 inb_S16_S1_3)⟩,
     ⟨Rect.unit ![0, 128] S128x64.size inb_S128x1024_S128x64_0_128, k0_pay43 (gK X1 X2 inb_S128x256_S128x64_0_0) (gDS n X0 X1 X2 X3 X4 X5 D X7 X8 inb_S128x256_S128x64_0_0 inb_S128x1024_S128x64_0_128 inb_S128x1024_S128x64_0_192 inb_S4x512x256_S1x256x256_0_256_0 inb_S16_S1_2 inb_S16_S1_3)⟩,
     ⟨Rect.unit ![0, 64] S128x64.size inb_S128x1024_S128x64_0_64, k0_pay44 (gK X1 X2 inb_S128x256_S128x64_0_0) (gDS n X0 X1 X2 X3 X4 X5 D X7 X8 inb_S128x256_S128x64_0_0 inb_S128x1024_S128x64_0_0 inb_S128x1024_S128x64_0_64 inb_S4x512x256_S1x256x256_0_0_0 inb_S16_S1_0 inb_S16_S1_1)⟩,
     ⟨Rect.unit ![0, 0] S128x64.size inb_S128x1024_S128x64_0_0, k0_pay43 (gK X1 X2 inb_S128x256_S128x64_0_0) (gDS n X0 X1 X2 X3 X4 X5 D X7 X8 inb_S128x256_S128x64_0_0 inb_S128x1024_S128x64_0_0 inb_S128x1024_S128x64_0_64 inb_S4x512x256_S1x256x256_0_0_0 inb_S16_S1_0 inb_S16_S1_1)⟩]

/-- The head's lane of the row of sink gradients. -/
def gLane (half l : BitVec 32) (X : FVec F S256x1 .f32) (prev : FVec F S1x128 .f32) : FVec F S1x128 .f32 :=
  select (cmpi .eq (iota .tc S1x128 32 [1] iota_S1x128_d1_w32) (broadcast S1x128 l))
    (broadcast S1x128 (Scalar.subf (Scalar.ofBits .f32 0x00000000#32) (extractAt ![0, 0, 0] (shapeCast S1x1x1 (multiReduction .add [1, 2] S1 (shapeCast S1x256x1 (select (cmpi .eq k0_pay16 (broadcast S256x1 half)) X (broadcast S256x1 (Scalar.ofBits .f32 0x00000000#32))) shapeCasts_S256x1_S1x256x1) 0x00000000#32 reduces_S1x256x1_S1 (.inl rfl) rfl) shapeCasts_S1_S1x1x1) inpos_S1x1x1_p0_0_0))) prev

/-- What is written of a group's gradient rows for the block before: its first half on top of what was carried. -/
def gLo (old : Vec F S128x64 .f32) (full : FVec F S256x64 .f32) : FVec F S128x64 .bf16 :=
  truncf .bf16 (addf old (extractStridedSlice S128x64 ![0, 0] full slices_S256x64_o0_0_S128x64)) bitsLt_bf16_f32

/-- What is added to the gradient of the bias. -/
def gAcc (old : Vec F S1x256x256 .f32) (ds : FVec F S256x256 .f32) : FVec F S1x256x256 .f32 :=
  shapeCast S1x256x256 (addf (shapeCast S256x256 old shapeCasts_S1x256x256_S256x256) ds) shapeCasts_S256x256_S1x256x256

/-- The gradient of the keys of group 0. -/
def gK0 : FVec F S256x64 .f32 := gDK n X0 X1 X2 X3 X4 X5 D X7 X8 inb_S128x256_S128x64_0_0 inb_S128x1024_S128x64_0_128 inb_S128x1024_S128x64_0_192 inb_S4x512x256_S1x256x256_0_256_0 inb_S16_S1_2 inb_S16_S1_3 (gDK n X0 X1 X2 X3 X4 X5 D X7 X8 inb_S128x256_S128x64_0_0 inb_S128x1024_S128x64_0_0 inb_S128x1024_S128x64_0_64 inb_S4x512x256_S1x256x256_0_0_0 inb_S16_S1_0 inb_S16_S1_1 k0_pay21)

/-- The gradient of the values of group 0. -/
def gV0 : FVec F S256x64 .f32 := gDV n X0 X1 X2 D X7 X8 inb_S128x256_S128x64_0_0 inb_S128x1024_S128x64_0_128 inb_S128x1024_S128x64_0_192 inb_S4x512x256_S1x256x256_0_256_0 inb_S16_S1_2 inb_S16_S1_3 (gDV n X0 X1 X2 D X7 X8 inb_S128x256_S128x64_0_0 inb_S128x1024_S128x64_0_0 inb_S128x1024_S128x64_0_64 inb_S4x512x256_S1x256x256_0_0_0 inb_S16_S1_0 inb_S16_S1_1 k0_pay22)

/-- The gradient of the keys of group 1. -/
def gK1 : FVec F S256x64 .f32 := gDK n X0 X1 X2 X3 X4 X5 D X7 X8 inb_S128x256_S128x64_0_64 inb_S128x1024_S128x64_0_384 inb_S128x1024_S128x64_0_448 inb_S4x512x256_S1x256x256_1_256_0 inb_S16_S1_6 inb_S16_S1_7 (gDK n X0 X1 X2 X3 X4 X5 D X7 X8 inb_S128x256_S128x64_0_64 inb_S128x1024_S128x64_0_256 inb_S128x1024_S128x64_0_320 inb_S4x512x256_S1x256x256_1_0_0 inb_S16_S1_4 inb_S16_S1_5 k0_pay21)

/-- The gradient of the values of group 1. -/
def gV1 : FVec F S256x64 .f32 := gDV n X0 X1 X2 D X7 X8 inb_S128x256_S128x64_0_64 inb_S128x1024_S128x64_0_384 inb_S128x1024_S128x64_0_448 inb_S4x512x256_S1x256x256_1_256_0 inb_S16_S1_6 inb_S16_S1_7 (gDV n X0 X1 X2 D X7 X8 inb_S128x256_S128x64_0_64 inb_S128x1024_S128x64_0_256 inb_S128x1024_S128x64_0_320 inb_S4x512x256_S1x256x256_1_0_0 inb_S16_S1_4 inb_S16_S1_5 k0_pay22)

/-- The gradient of the keys of group 2. -/
def gK2 : FVec F S256x64 .f32 := gDK n X0 X1 X2 X3 X4 X5 D X7 X8 inb_S128x256_S128x64_0_128 inb_S128x1024_S128x64_0_640 inb_S128x1024_S128x64_0_704 inb_S4x512x256_S1x256x256_2_256_0 inb_S16_S1_10 inb_S16_S1_11 (gDK n X0 X1 X2 X3 X4 X5 D X7 X8 inb_S128x256_S128x64_0_128 inb_S128x1024_S128x64_0_512 inb_S128x1024_S128x64_0_576 inb_S4x512x256_S1x256x256_2_0_0 inb_S16_S1_8 inb_S16_S1_9 k0_pay21)

/-- The gradient of the values of group 2. -/
def gV2 : FVec F S256x64 .f32 := gDV n X0 X1 X2 D X7 X8 inb_S128x256_S128x64_0_128 inb_S128x1024_S128x64_0_640 inb_S128x1024_S128x64_0_704 inb_S4x512x256_S1x256x256_2_256_0 inb_S16_S1_10 inb_S16_S1_11 (gDV n X0 X1 X2 D X7 X8 inb_S128x256_S128x64_0_128 inb_S128x1024_S128x64_0_512 inb_S128x1024_S128x64_0_576 inb_S4x512x256_S1x256x256_2_0_0 inb_S16_S1_8 inb_S16_S1_9 k0_pay22)

/-- The gradient of the keys of group 3. -/
def gK3 : FVec F S256x64 .f32 := gDK n X0 X1 X2 X3 X4 X5 D X7 X8 inb_S128x256_S128x64_0_192 inb_S128x1024_S128x64_0_896 inb_S128x1024_S128x64_0_960 inb_S4x512x256_S1x256x256_3_256_0 inb_S16_S1_14 inb_S16_S1_15 (gDK n X0 X1 X2 X3 X4 X5 D X7 X8 inb_S128x256_S128x64_0_192 inb_S128x1024_S128x64_0_768 inb_S128x1024_S128x64_0_832 inb_S4x512x256_S1x256x256_3_0_0 inb_S16_S1_12 inb_S16_S1_13 k0_pay21)

/-- The gradient of the values of group 3. -/
def gV3 : FVec F S256x64 .f32 := gDV n X0 X1 X2 D X7 X8 inb_S128x256_S128x64_0_192 inb_S128x1024_S128x64_0_896 inb_S128x1024_S128x64_0_960 inb_S4x512x256_S1x256x256_3_256_0 inb_S16_S1_14 inb_S16_S1_15 (gDV n X0 X1 X2 D X7 X8 inb_S128x256_S128x64_0_192 inb_S128x1024_S128x64_0_768 inb_S128x1024_S128x64_0_832 inb_S4x512x256_S1x256x256_3_0_0 inb_S16_S1_12 inb_S16_S1_13 k0_pay22)

/-- The block of the gradient of the keys and values, over the carried rows `C`. -/
def gKV (C : Vec F S128x512 .f32) : Vec F S128x512 .bf16 :=
  View.canon (Val := Elt F) (e := .bf16)
    [⟨Rect.unit ![0, 448] S128x64.size inb_S128x512_S128x64_0_448, gLo (View.ld C (Rect.unit (s := S128x512) ![0, 448] S128x64.size inb_S128x512_S128x64_0_448)) (gV3 n X0 X1 X2 D X7 X8)⟩,
     ⟨Rect.unit ![0, 192] S128x64.size inb_S128x512_S128x64_0_192, gLo (View.ld C (Rect.unit (s := S128x512) ![0, 192] S128x64.size inb_S128x512_S128x64_0_192)) (gK3 n X0 X1 X2 X3 X4 X5 D X7 X8)⟩,
     ⟨Rect.unit ![0, 384] S128x64.size inb_S128x512_S128x64_0_384, gLo (View.ld C (Rect.unit (s := S128x512) ![0, 384] S128x64.size inb_S128x512_S128x64_0_384)) (gV2 n X0 X1 X2 D X7 X8)⟩,
     ⟨Rect.unit ![0, 128] S128x64.size inb_S128x512_S128x64_0_128, gLo (View.ld C (Rect.unit (s := S128x512) ![0, 128] S128x64.size inb_S128x512_S128x64_0_128)) (gK2 n X0 X1 X2 X3 X4 X5 D X7 X8)⟩,
     ⟨Rect.unit ![0, 320] S128x64.size inb_S128x512_S128x64_0_320, gLo (View.ld C (Rect.unit (s := S128x512) ![0, 320] S128x64.size inb_S128x512_S128x64_0_320)) (gV1 n X0 X1 X2 D X7 X8)⟩,
     ⟨Rect.unit ![0, 64] S128x64.size inb_S128x512_S128x64_0_64, gLo (View.ld C (Rect.unit (s := S128x512) ![0, 64] S128x64.size inb_S128x512_S128x64_0_64)) (gK1 n X0 X1 X2 X3 X4 X5 D X7 X8)⟩,
     ⟨Rect.unit ![0, 256] S128x64.size inb_S128x512_S128x64_0_256, gLo (View.ld C (Rect.unit (s := S128x512) ![0, 256] S128x64.size inb_S128x512_S128x64_0_256)) (gV0 n X0 X1 X2 D X7 X8)⟩,
     ⟨Rect.unit ![0, 0] S128x64.size inb_S128x512_S128x64_0_0, gLo (View.ld C (Rect.unit (s := S128x512) ![0, 0] S128x64.size inb_S128x512_S128x64_0_0)) (gK0 n X0 X1 X2 X3 X4 X5 D X7 X8)⟩]

/-- The stores of the carried rows. -/
def gCL : List (View.Piece (Elt F) S128x512 .f32) :=
    [⟨Rect.unit ![0, 448] S128x64.size inb_S128x512_S128x64_0_448, k0_pay6 (gV3 n X0 X1 X2 D X7 X8)⟩,
     ⟨Rect.unit ![0, 192] S128x64.size inb_S128x512_S128x64_0_192, k0_pay5 (gK3 n X0 X1 X2 X3 X4 X5 D X7 X8)⟩,
     ⟨Rect.unit ![0, 384] S128x64.size inb_S128x512_S128x64_0_384, k0_pay6 (gV2 n X0 X1 X2 D X7 X8)⟩,
     ⟨Rect.unit ![0, 128] S128x64.size inb_S128x512_S128x64_0_128, k0_pay5 (gK2 n X0 X1 X2 X3 X4 X5 D X7 X8)⟩,
     ⟨Rect.unit ![0, 320] S128x64.size inb_S128x512_S128x64_0_320, k0_pay6 (gV1 n X0 X1 X2 D X7 X8)⟩,
     ⟨Rect.unit ![0, 64] S128x64.size inb_S128x512_S128x64_0_64, k0_pay5 (gK1 n X0 X1 X2 X3 X4 X5 D X7 X8)⟩,
     ⟨Rect.unit ![0, 256] S128x64.size inb_S128x512_S128x64_0_256, k0_pay6 (gV0 n X0 X1 X2 D X7 X8)⟩,
     ⟨Rect.unit ![0, 0] S128x64.size inb_S128x512_S128x64_0_0, k0_pay5 (gK0 n X0 X1 X2 X3 X4 X5 D X7 X8)⟩]

/-- The carried rows. -/
def gC : Vec F S128x512 .f32 := View.canon (gCL n X0 X1 X2 X3 X4 X5 D X7 X8)

/-- The stores of the gradient of the bias, over what was there. -/
def gBL (Y : Vec F S4x512x256 .f32) : List (View.Piece (Elt F) S4x512x256 .f32) :=
    [⟨Rect.unit ![3, 256, 0] S1x256x256.size inb_S4x512x256_S1x256x256_3_256_0, gAcc (cb Y inb_S4x512x256_S1x256x256_3_256_0) (gDS n X0 X1 X2 X3 X4 X5 D X7 X8 inb_S128x256_S128x64_0_192 inb_S128x1024_S128x64_0_896 inb_S128x1024_S128x64_0_960 inb_S4x512x256_S1x256x256_3_256_0 inb_S16_S1_14 inb_S16_S1_15)⟩,
     ⟨Rect.unit ![3, 0, 0] S1x256x256.size inb_S4x512x256_S1x256x256_3_0_0, gAcc (cb Y inb_S4x512x256_S1x256x256_3_0_0) (gDS n X0 X1 X2 X3 X4 X5 D X7 X8 inb_S128x256_S128x64_0_192 inb_S128x1024_S128x64_0_768 inb_S128x1024_S128x64_0_832 inb_S4x512x256_S1x256x256_3_0_0 inb_S16_S1_12 inb_S16_S1_13)⟩,
     ⟨Rect.unit ![2, 256, 0] S1x256x256.size inb_S4x512x256_S1x256x256_2_256_0, gAcc (cb Y inb_S4x512x256_S1x256x256_2_256_0) (gDS n X0 X1 X2 X3 X4 X5 D X7 X8 inb_S128x256_S128x64_0_128 inb_S128x1024_S128x64_0_640 inb_S128x1024_S128x64_0_704 inb_S4x512x256_S1x256x256_2_256_0 inb_S16_S1_10 inb_S16_S1_11)⟩,
     ⟨Rect.unit ![2, 0, 0] S1x256x256.size inb_S4x512x256_S1x256x256_2_0_0, gAcc (cb Y inb_S4x512x256_S1x256x256_2_0_0) (gDS n X0 X1 X2 X3 X4 X5 D X7 X8 inb_S128x256_S128x64_0_128 inb_S128x1024_S128x64_0_512 inb_S128x1024_S128x64_0_576 inb_S4x512x256_S1x256x256_2_0_0 inb_S16_S1_8 inb_S16_S1_9)⟩,
     ⟨Rect.unit ![1, 256, 0] S1x256x256.size inb_S4x512x256_S1x256x256_1_256_0, gAcc (cb Y inb_S4x512x256_S1x256x256_1_256_0) (gDS n X0 X1 X2 X3 X4 X5 D X7 X8 inb_S128x256_S128x64_0_64 inb_S128x1024_S128x64_0_384 inb_S128x1024_S128x64_0_448 inb_S4x512x256_S1x256x256_1_256_0 inb_S16_S1_6 inb_S16_S1_7)⟩,
     ⟨Rect.unit ![1, 0, 0] S1x256x256.size inb_S4x512x256_S1x256x256_1_0_0, gAcc (cb Y inb_S4x512x256_S1x256x256_1_0_0) (gDS n X0 X1 X2 X3 X4 X5 D X7 X8 inb_S128x256_S128x64_0_64 inb_S128x1024_S128x64_0_256 inb_S128x1024_S128x64_0_320 inb_S4x512x256_S1x256x256_1_0_0 inb_S16_S1_4 inb_S16_S1_5)⟩,
     ⟨Rect.unit ![0, 256, 0] S1x256x256.size inb_S4x512x256_S1x256x256_0_256_0, gAcc (cb Y inb_S4x512x256_S1x256x256_0_256_0) (gDS n X0 X1 X2 X3 X4 X5 D X7 X8 inb_S128x256_S128x64_0_0 inb_S128x1024_S128x64_0_128 inb_S128x1024_S128x64_0_192 inb_S4x512x256_S1x256x256_0_256_0 inb_S16_S1_2 inb_S16_S1_3)⟩,
     ⟨Rect.unit ![0, 0, 0] S1x256x256.size inb_S4x512x256_S1x256x256_0_0_0, gAcc (cb Y inb_S4x512x256_S1x256x256_0_0_0) (gDS n X0 X1 X2 X3 X4 X5 D X7 X8 inb_S128x256_S128x64_0_0 inb_S128x1024_S128x64_0_0 inb_S128x1024_S128x64_0_64 inb_S4x512x256_S1x256x256_0_0_0 inb_S16_S1_0 inb_S16_S1_1)⟩]

/-- The gradient of the bias. -/
def gB (Y : Vec F S4x512x256 .f32) : Vec F S4x512x256 .f32 := View.canon (gBL n X0 X1 X2 X3 X4 X5 D X7 X8 Y)

/-- The row of the sinks' gradients. -/
def gS : FVec F S1x128 .f32 :=
  gLane 1#32 15#32 (gX n X0 X1 X2 X5 D X7 X8 inb_S128x256_S128x64_0_192 inb_S128x1024_S128x64_0_896 inb_S128x1024_S128x64_0_960 inb_S4x512x256_S1x256x256_3_256_0 inb_S16_S1_14 inb_S16_S1_15)
    (gLane 0#32 14#32 (gX n X0 X1 X2 X5 D X7 X8 inb_S128x256_S128x64_0_192 inb_S128x1024_S128x64_0_896 inb_S128x1024_S128x64_0_960 inb_S4x512x256_S1x256x256_3_256_0 inb_S16_S1_14 inb_S16_S1_15)
    (gLane 1#32 13#32 (gX n X0 X1 X2 X5 D X7 X8 inb_S128x256_S128x64_0_192 inb_S128x1024_S128x64_0_768 inb_S128x1024_S128x64_0_832 inb_S4x512x256_S1x256x256_3_0_0 inb_S16_S1_12 inb_S16_S1_13)
    (gLane 0#32 12#32 (gX n X0 X1 X2 X5 D X7 X8 inb_S128x256_S128x64_0_192 inb_S128x1024_S128x64_0_768 inb_S128x1024_S128x64_0_832 inb_S4x512x256_S1x256x256_3_0_0 inb_S16_S1_12 inb_S16_S1_13)
    (gLane 1#32 11#32 (gX n X0 X1 X2 X5 D X7 X8 inb_S128x256_S128x64_0_128 inb_S128x1024_S128x64_0_640 inb_S128x1024_S128x64_0_704 inb_S4x512x256_S1x256x256_2_256_0 inb_S16_S1_10 inb_S16_S1_11)
    (gLane 0#32 10#32 (gX n X0 X1 X2 X5 D X7 X8 inb_S128x256_S128x64_0_128 inb_S128x1024_S128x64_0_640 inb_S128x1024_S128x64_0_704 inb_S4x512x256_S1x256x256_2_256_0 inb_S16_S1_10 inb_S16_S1_11)
    (gLane 1#32 9#32 (gX n X0 X1 X2 X5 D X7 X8 inb_S128x256_S128x64_0_128 inb_S128x1024_S128x64_0_512 inb_S128x1024_S128x64_0_576 inb_S4x512x256_S1x256x256_2_0_0 inb_S16_S1_8 inb_S16_S1_9)
    (gLane 0#32 8#32 (gX n X0 X1 X2 X5 D X7 X8 inb_S128x256_S128x64_0_128 inb_S128x1024_S128x64_0_512 inb_S128x1024_S128x64_0_576 inb_S4x512x256_S1x256x256_2_0_0 inb_S16_S1_8 inb_S16_S1_9)
    (gLane 1#32 7#32 (gX n X0 X1 X2 X5 D X7 X8 inb_S128x256_S128x64_0_64 inb_S128x1024_S128x64_0_384 inb_S128x1024_S128x64_0_448 inb_S4x512x256_S1x256x256_1_256_0 inb_S16_S1_6 inb_S16_S1_7)
    (gLane 0#32 6#32 (gX n X0 X1 X2 X5 D X7 X8 inb_S128x256_S128x64_0_64 inb_S128x1024_S128x64_0_384 inb_S128x1024_S128x64_0_448 inb_S4x512x256_S1x256x256_1_256_0 inb_S16_S1_6 inb_S16_S1_7)
    (gLane 1#32 5#32 (gX n X0 X1 X2 X5 D X7 X8 inb_S128x256_S128x64_0_64 inb_S128x1024_S128x64_0_256 inb_S128x1024_S128x64_0_320 inb_S4x512x256_S1x256x256_1_0_0 inb_S16_S1_4 inb_S16_S1_5)
    (gLane 0#32 4#32 (gX n X0 X1 X2 X5 D X7 X8 inb_S128x256_S128x64_0_64 inb_S128x1024_S128x64_0_256 inb_S128x1024_S128x64_0_320 inb_S4x512x256_S1x256x256_1_0_0 inb_S16_S1_4 inb_S16_S1_5)
    (gLane 1#32 3#32 (gX n X0 X1 X2 X5 D X7 X8 inb_S128x256_S128x64_0_0 inb_S128x1024_S128x64_0_128 inb_S128x1024_S128x64_0_192 inb_S4x512x256_S1x256x256_0_256_0 inb_S16_S1_2 inb_S16_S1_3)
    (gLane 0#32 2#32 (gX n X0 X1 X2 X5 D X7 X8 inb_S128x256_S128x64_0_0 inb_S128x1024_S128x64_0_128 inb_S128x1024_S128x64_0_192 inb_S4x512x256_S1x256x256_0_256_0 inb_S16_S1_2 inb_S16_S1_3)
    (gLane 1#32 1#32 (gX n X0 X1 X2 X5 D X7 X8 inb_S128x256_S128x64_0_0 inb_S128x1024_S128x64_0_0 inb_S128x1024_S128x64_0_64 inb_S4x512x256_S1x256x256_0_0_0 inb_S16_S1_0 inb_S16_S1_1)
    (gLane 0#32 0#32 (gX n X0 X1 X2 X5 D X7 X8 inb_S128x256_S128x64_0_0 inb_S128x1024_S128x64_0_0 inb_S128x1024_S128x64_0_64 inb_S4x512x256_S1x256x256_0_0_0 inb_S16_S1_0 inb_S16_S1_1)
    (k0_pay17))))))))))))))))

/-- The block of the gradient of the gate. -/
def gG (X5 X6 : Vec F S128x1024 .f32) (X9 X10 : Vec F S128x512 .f32) : Vec F S128x1024 .bf16 :=
  View.canon (Val := Elt F) (e := .bf16)
    [⟨Rect.unit ![0, 512] S128x512.size inb_S128x1024_S128x512_0_512, k0_pay15 (k0_pay11 (View.ld X10 (Rect.unit (s := S128x512) ![0, 0] S128x512.size inb_S128x512_S128x512_0_0))) (k0_pay13 (View.ld X10 (Rect.unit (s := S128x512) ![0, 0] S128x512.size inb_S128x512_S128x512_0_0))) (View.ld X6 (Rect.unit (s := S128x1024) ![0, 512] S128x512.size inb_S128x1024_S128x512_0_512)) (View.ld X5 (Rect.unit (s := S128x1024) ![0, 512] S128x512.size inb_S128x1024_S128x512_0_512))⟩,
     ⟨Rect.unit ![0, 0] S128x512.size inb_S128x1024_S128x512_0_0, k0_pay10 (View.ld X9 (Rect.unit (s := S128x512) ![0, 0] S128x512.size inb_S128x512_S128x512_0_0)) (View.ld X6 (Rect.unit (s := S128x1024) ![0, 0] S128x512.size inb_S128x1024_S128x512_0_0)) (View.ld X5 (Rect.unit (s := S128x1024) ![0, 0] S128x512.size inb_S128x1024_S128x512_0_0))⟩]

/-- Stores that tile a buffer hide what was stored before them. -/
theorem canon_append_of_cover {S : Shape} {e : EltTy} (T : List (View.Piece (Elt F) S e)) : ∀ (L : List (View.Piece (Elt F) S e)) (y : S.Idx),
    (∃ p ∈ L, y ∈ p.1.set) → View.canon (Val := Elt F) (L ++ T) y = View.canon L y
  | [], _, h => by obtain ⟨_, hm, _⟩ := h; exact absurd hm List.not_mem_nil
  | p :: L, y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      refine canon_append_of_cover T L y ?_
      obtain ⟨q, hq, hyq⟩ := h
      rcases List.mem_cons.mp hq with rfl | hq
      · exact absurd hyq hy
      · exact ⟨q, hq, hyq⟩

theorem gCL_cover (y : S128x512.Idx) : ∃ p ∈ gCL n X0 X1 X2 X3 X4 X5 D X7 X8, y ∈ p.1.set :=
  View.cover_of_tiledL (gCL n X0 X1 X2 X3 X4 X5 D X7 X8) S128x64.size (by sl_kernel_rfl) y

theorem gBL_cover (Y : Vec F S4x512x256 .f32) (y : S4x512x256.Idx) : ∃ p ∈ gBL n X0 X1 X2 X3 X4 X5 D X7 X8 Y, y ∈ p.1.set :=
  View.cover_of_tiledL (gBL n X0 X1 X2 X3 X4 X5 D X7 X8 Y) S1x256x256.size (by sl_kernel_rfl) y

theorem gC_init (Z : Vec F S128x512 .f32) : View.canon (gCL n X0 X1 X2 X3 X4 X5 D X7 X8 ++ [⟨Rect.unit ![0, 0] S128x512.size inb_S128x512_S128x512_0_0, Z⟩]) = gC n X0 X1 X2 X3 X4 X5 D X7 X8 :=
  funext fun y => canon_append_of_cover _ _ y (gCL_cover n X0 X1 X2 X3 X4 X5 D X7 X8 y)

theorem gB_init (Y Z : Vec F S4x512x256 .f32) : View.canon (gBL n X0 X1 X2 X3 X4 X5 D X7 X8 Y ++ [⟨Rect.unit ![0, 0, 0] S4x512x256.size inb_S4x512x256_S4x512x256_0_0_0, Z⟩]) = gB n X0 X1 X2 X3 X4 X5 D X7 X8 Y :=
  funext fun y => canon_append_of_cover _ _ y (gBL_cover n X0 X1 X2 X3 X4 X5 D X7 X8 Y y)

/-- A load of one slab is not met by the store of another. -/
theorem canon_skip {g o g' o' : ℕ} (inb : ∀ a, (![g, o, 0] : Fin 3 → ℕ) a + (![1, 256, 256] : Fin 3 → ℕ) a ≤ S4x512x256.size a)
    (inb' : ∀ a, (![g', o', 0] : Fin 3 → ℕ) a + (![1, 256, 256] : Fin 3 → ℕ) a ≤ S4x512x256.size a)
    (w : (Rect.unit (s := S4x512x256) ![g, o, 0] ![1, 256, 256] inb).shape.Idx → Elt F .f32) (L : List (View.Piece (Elt F) S4x512x256 .f32))
    (j : (Rect.unit (s := S4x512x256) ![g', o', 0] ![1, 256, 256] inb').shape.Idx) (h : ¬(g = g' ∧ o < o' + 256 ∧ o' < o + 256)) :
    View.canon (⟨Rect.unit ![g, o, 0] ![1, 256, 256] inb, w⟩ :: L) ((Rect.unit ![g', o', 0] ![1, 256, 256] inb').idx j)
      = View.canon L ((Rect.unit ![g', o', 0] ![1, 256, 256] inb').idx j) := by
  refine View.canon_cons_of_not_mem _ _ ?_
  intro hm
  obtain ⟨x, hx⟩ := LoadRect.exists_idx_of_mem _ hm
  have h0 : g + (x (0 : Fin 3)).val = g' + (j (0 : Fin 3)).val :=
    (Rect.idx_unit_val (s := S4x512x256) ![g, o, 0] ![1, 256, 256] inb x (0 : Fin 3)).symm.trans
      ((congrArg (fun y => (y (0 : Fin 3)).val) hx).trans (Rect.idx_unit_val (s := S4x512x256) ![g', o', 0] ![1, 256, 256] inb' j (0 : Fin 3)))
  have h1 : o + (x (1 : Fin 3)).val = o' + (j (1 : Fin 3)).val :=
    (Rect.idx_unit_val (s := S4x512x256) ![g, o, 0] ![1, 256, 256] inb x (1 : Fin 3)).symm.trans
      ((congrArg (fun y => (y (1 : Fin 3)).val) hx).trans (Rect.idx_unit_val (s := S4x512x256) ![g', o', 0] ![1, 256, 256] inb' j (1 : Fin 3)))
  have a0 : (x (0 : Fin 3)).val < 1 := (x (0 : Fin 3)).isLt
  have b0 : (j (0 : Fin 3)).val < 1 := (j (0 : Fin 3)).isLt
  have a1 : (x (1 : Fin 3)).val < 256 := (x (1 : Fin 3)).isLt
  have b1 : (j (1 : Fin 3)).val < 256 := (j (1 : Fin 3)).isLt
  omega

theorem hz2 : (![0, 0] : Fin 2 → Nat) = fun _ => 0 := funext fun a => by fin_cases a <;> rfl

theorem hz3 : (![0, 0, 0] : Fin 3 → Nat) = fun _ => 0 := funext fun a => by fin_cases a <;> rfl

end Cert.Attn
-- ==== Proof.AttnTermA11.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The block of the gradient of the queries, first block. -/
theorem out_A_11 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 = gQ (BitVec.ofNat 32 (i 0).val) x0 x1 x2 x3 x4 x5 (gD x6 x9 x10) x7 x8 := by
  unfold out0_A_11
  rw [View.read_writes_junk_eq_canon]
  delta kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Attn
-- ==== Proof.AttnTermB11.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The block of the gradient of the queries, after the first block. -/
theorem out_B_11 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1 = gQ (BitVec.ofNat 32 (i 0).val) x0 x1 x2 x3 x4 x5 (gD x6 x9 x10) x7 x8 := by
  unfold out0_B_11
  rw [View.read_writes_junk_eq_canon]
  delta kernelRun0_B
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Attn
-- ==== Proof.AttnTermA13.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The gradient of the bias, first block. -/
theorem out_A_13 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 = gB (BitVec.ofNat 32 (i 0).val) x0 x1 x2 x3 x4 x5 (gD x6 x9 x10) x7 x8 k0_pay1 := by
  unfold out0_A_13
  rw [View.read_writes_junk_eq_canon]
  delta kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  have hz : View.canon (Val := Elt F) (e := .f32) [⟨Rect.unit ![0, 0, 0] ![4, 512, 256] inb_S4x512x256_S4x512x256_0_0_0, k0_pay1⟩] = k0_pay1 := View.canon_unit_zero (S := S4x512x256) hz3 _ _
  simp (disch := decide) only [canon_skip, hz]
  refine Eq.trans ?_ (gB_init (BitVec.ofNat 32 (i 0).val) x0 x1 x2 x3 x4 x5 (gD x6 x9 x10) x7 x8 k0_pay1 k0_pay1)
  rfl

end Cert.Attn
-- ==== Proof.AttnTermB13.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The gradient of the bias, after the first block. -/
theorem out_B_13 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1 = gB (BitVec.ofNat 32 (i 0).val) x0 x1 x2 x3 x4 x5 (gD x6 x9 x10) x7 x8 xo13 := by
  unfold out0_B_13
  rw [View.read_writes_junk_eq_canon]
  delta kernelRun0_B
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Attn
-- ==== Proof.AttnTermA14.lean ====
/-
  The kernel body's stores into one of its output blocks, in one of its cases, are the tiles' arrays.
-/
module

public import proofs.«01_k».proof.Proof.AttnStack
public import Idealize.ShloMosaic.Lib.WritesUnit

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The gradient of the sinks: the first row takes on the block's part. -/
theorem out_A_14 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (a : Fin 8) (b : Fin 128) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 (ix2 a b) = if a.val = 0 then k0_pay7 (gS (BitVec.ofNat 32 (i 0).val) x0 x1 x2 x5 (gD x6 x9 x10) x7 x8) (View.ld k0_pay2 (Rect.unit (s := S8x128) ![0, 0] S1x128.size inb_S8x128_S1x128_0_0)) (ix2 0 b) else k0_pay2 (ix2 a b) := by
  unfold out0_A_14
  delta kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  have hz : View.canon (Val := Elt F) (e := .f32) [⟨Rect.unit ![0, 0] ![8, 128] inb_S8x128_S8x128_0_0, k0_pay2⟩] = k0_pay2 := View.canon_unit_zero (S := S8x128) hz2 _ _
  simp only [hz]
  by_cases h : a.val = 0
  · rw [if_pos h]
    refine (Idealize.ShloMosaic.View.read_writes_cons_rows_of_mem (d := ![8, 128]) (off := ![0, 0]) (size := ![1, 128]) (o := 0) _ _ _ _ _ (ix2 a b) (ix2 0 b) rfl (h.trans (Nat.zero_add 0).symm) rfl).trans ?_
    rfl
  · rw [if_neg h]
    refine (Idealize.ShloMosaic.View.read_writes_cons_rows_of_not_mem (d := ![8, 128]) (off := ![0, 0]) (size := ![1, 128]) (o := 0) (W := 1) _ _ _ _ _ (ix2 a b) rfl rfl (by show a.val < 0 ∨ 0 + 1 ≤ a.val; omega)).trans ?_
    rw [View.read_writes_junk_eq_canon, View.canon_unit_zero (S := S8x128) hz2]

end Cert.Attn
-- ==== Proof.AttnTermB14.lean ====
/-
  The kernel body's stores into one of its output blocks, in one of its cases, are the tiles' arrays.
-/
module

public import proofs.«01_k».proof.Proof.AttnStack
public import Idealize.ShloMosaic.Lib.WritesUnit

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The gradient of the sinks: the first row takes on the block's part. -/
theorem out_B_14 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) (a : Fin 8) (b : Fin 128) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1 (ix2 a b) = if a.val = 0 then k0_pay7 (gS (BitVec.ofNat 32 (i 0).val) x0 x1 x2 x5 (gD x6 x9 x10) x7 x8) (View.ld xo14 (Rect.unit (s := S8x128) ![0, 0] S1x128.size inb_S8x128_S1x128_0_0)) (ix2 0 b) else xo14 (ix2 a b) := by
  unfold out0_B_14
  delta kernelRun0_B
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  by_cases h : a.val = 0
  · rw [if_pos h]
    refine (Idealize.ShloMosaic.View.read_writes_cons_rows_of_mem (d := ![8, 128]) (off := ![0, 0]) (size := ![1, 128]) (o := 0) _ _ _ _ _ (ix2 a b) (ix2 0 b) rfl (h.trans (Nat.zero_add 0).symm) rfl).trans ?_
    rfl
  · rw [if_neg h]
    refine (Idealize.ShloMosaic.View.read_writes_cons_rows_of_not_mem (d := ![8, 128]) (off := ![0, 0]) (size := ![1, 128]) (o := 0) (W := 1) _ _ _ _ _ (ix2 a b) rfl rfl (by show a.val < 0 ∨ 0 + 1 ≤ a.val; omega)).trans ?_
    rw [View.writes_nil, harg15.read_unread]

end Cert.Attn
-- ==== Proof.AttnTermA15.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The block of the gradient of the gate, first block. -/
theorem out_A_15 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 = gG x5 x6 x9 x10 := by
  unfold out0_A_15
  rw [View.read_writes_junk_eq_canon]
  delta kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Attn
-- ==== Proof.AttnTermB15.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The block of the gradient of the gate, after the first block. -/
theorem out_B_15 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1 = gG x5 x6 x9 x10 := by
  unfold out0_B_15
  rw [View.read_writes_junk_eq_canon]
  delta kernelRun0_B
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Attn
-- ==== Proof.AttnTermAS.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The carried rows after the first block. -/
theorem sout_A (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 = gC (BitVec.ofNat 32 (i 0).val) x0 x1 x2 x3 x4 x5 (gD x6 x9 x10) x7 x8 := by
  unfold sout0_A_1
  rw [View.read_writes_junk_eq_canon]
  delta kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  refine Eq.trans ?_ (gC_init (BitVec.ofNat 32 (i 0).val) x0 x1 x2 x3 x4 x5 (gD x6 x9 x10) x7 x8 k0_pay3)
  rfl

end Cert.Attn
-- ==== Proof.AttnTermBS.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The carried rows after a block. -/
theorem sout_B (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1 = gC (BitVec.ofNat 32 (i 0).val) x0 x1 x2 x3 x4 x5 (gD x6 x9 x10) x7 x8 := by
  unfold sout0_B_1
  rw [View.read_writes_junk_eq_canon]
  delta kernelRun0_B
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Attn
-- ==== Proof.AttnTermB12.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The block of the gradient of the keys and values. -/
theorem out_B_12 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : ¬cond0_1 i) (hc2 : cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo13 : Vec F S4x512x256 .f32) (xo14 : Vec F S8x128 .f32) (xs1 : Vec F S128x512 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo13 xo14 xs1 = gKV (BitVec.ofNat 32 (i 0).val) x0 x1 x2 x3 x4 x5 (gD x6 x9 x10) x7 x8 xs1 := by
  unfold out0_B_12
  rw [View.read_writes_junk_eq_canon]
  delta kernelRun0_B
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Attn
-- ==== Proof.AttnTermC12.lean ====
/-
  The kernel body's stores into one of its output blocks, in one of its cases, are the tiles' arrays.
-/
module

public import proofs.«01_k».proof.Proof.AttnStack

@[expose] public section

set_option maxRecDepth 16384

noncomputable section

namespace Cert.Attn

open Cert.AttnKernelIdeal Cert.AttnKernelIdeal.Gen Idealize.ShloMosaic

variable {F : FTy → Type} [FloatOps F]

set_option maxHeartbeats 0

/-- The last block of the gradient of the keys and values. -/
theorem out_C_12 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x512x256 .f32) (harg8 : arg8.IsWhole) (arg9 : Memref sig .tc .smem S16 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x1024 .bf16) (harg12 : arg12.IsWhole) (arg13 : Memref sig .tc .vmem S128x512 .bf16) (harg13 : arg13.IsWhole) (arg14 : Memref sig .tc .vmem S4x512x256 .f32) (harg14 : arg14.IsWhole) (arg15 : Memref sig .tc .vmem S8x128 .f32) (harg15 : arg15.IsWhole) (arg16 : Memref sig .tc .vmem S128x1024 .bf16) (harg16 : arg16.IsWhole) (arg17 : Memref sig .tc .vmem S128x1024 .f32) (harg17 : arg17.IsWhole) (arg18 : Memref sig .tc .vmem S128x512 .f32) (harg18 : arg18.IsWhole) (hc0 : ¬cond0_0 i) (hc1 : cond0_1 i) (hc2 : ¬cond0_2 i)
    (x0 : Vec F S128x1024 .f32) (x1 : Vec F S128x256 .f32) (x2 : Vec F S128x256 .f32) (x3 : Vec F S128x256 .f32) (x4 : Vec F S128x256 .f32) (x5 : Vec F S128x1024 .f32) (x6 : Vec F S128x1024 .f32) (x7 : Vec F S4x512x256 .f32) (x8 : Vec F S16 .f32) (x9 : Vec F S128x512 .f32) (x10 : Vec F S128x512 .f32) (xo11 : Vec F S128x1024 .bf16) (xo13 : Vec F S4x512x256 .f32) (xo14 : Vec F S8x128 .f32) (xo15 : Vec F S128x1024 .bf16) (xs1 : Vec F S128x512 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo13 xo14 xo15 xs1 = k0_pay4 xs1 := by
  unfold out0_C_12
  rw [View.read_writes_junk_eq_canon]
  delta kernelRun0_C
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rw [View.canon_unit_zero (S := S128x512) hz2]
  exact congrArg _ (View.ld_unit_lit (S := S128x512) _ _ (fun a => by fin_cases a <;> rfl))

end Cert.Attn
-- ==== Proof.AttnVal1.lean ====
/-
  What each point of the grid leaves in the output windows of the attention's gradient, from the blocks of its operands.
-/
module

public import proofs.«01_k».proof.Proof.AttnFrame
public import proofs.«01_k».proof.Proof.AttnTermA11
public import proofs.«01_k».proof.Proof.AttnTermB11
public import proofs.«01_k».proof.Proof.AttnTermA13
public import proofs.«01_k».proof.Proof.AttnTermB13
public import proofs.«01_k».proof.Proof.AttnTermA14
public import proofs.«01_k».proof.Proof.AttnTermB14
public import proofs.«01_k».proof.Proof.AttnTermA15
public import proofs.«01_k».proof.Proof.AttnTermB15
public import proofs.«01_k».proof.Proof.AttnTermAS
public import proofs.«01_k».proof.Proof.AttnTermBS
public import proofs.«01_k».proof.Proof.AttnTermB12
public import proofs.«01_k».proof.Proof.AttnTermC12

@[expose] public section

set_option maxRecDepth 16384

noncomputable section

namespace Cert.Attn

open Cert.AttnKernelIdeal Cert.AttnKernelIdeal.Gen Idealize.ShloMosaic Idealize.ShloMosaic.TcCoe Idealize.SL.Sem

variable (m : (ℓ : Loc nD τ sig) → Buf (Elt Ideal) ℓ)

/-- The grid's only coordinate is the point's position. -/
theorem coord0 : ∀ t : Fin cfg0.N, ((grid0.coords t) 0).val = t.val := (by decide +kernel : ∀ t : Fin grid0.N, ((grid0.coords t) 0).val = t.val)

/-- The block of the gradient of the queries at a point before the last. -/
theorem at11 (c : Dev nD) (t : Fin cfg0.N) (ht : t.val < 64) : (outsAt0 m c t.val t.isLt).1
    = gQ (BitVec.ofNat 32 t.val) (X0_0 m c t) (iblk m c 1 t) (iblk m c 2 t) (iblk m c 3 t) (iblk m c 4 t) (iblk m c 5 t) (gD (iblk m c 6 t) (iblk m c 9 t) (iblk m c 10 t)) (iblk m c 7 t) (iblk m c 8 t) := by
  by_cases h0 : t.val % 65 = 0
  · rw [outsAt0_A m c t h0 (by omega) ht]; dsimp only; rw [out_A_11, coord0 t]
  · rw [outsAt0_B m c t h0 (by omega) ht]; dsimp only; rw [out_B_11, coord0 t]

/-- The block of the gradient of the gate at a point before the last. -/
theorem at15 (c : Dev nD) (t : Fin cfg0.N) (ht : t.val < 64) : (outsAt0 m c t.val t.isLt).2.2.2.2.1
    = gG (iblk m c 5 t) (iblk m c 6 t) (iblk m c 9 t) (iblk m c 10 t) := by
  by_cases h0 : t.val % 65 = 0
  · rw [outsAt0_A m c t h0 (by omega) ht]; dsimp only; rw [out_A_15]
  · rw [outsAt0_B m c t h0 (by omega) ht]; dsimp only; rw [out_B_15]

/-- The carried rows at a point before the last. -/
theorem atS (c : Dev nD) (t : Fin cfg0.N) (ht : t.val < 64) : (outsAt0 m c t.val t.isLt).2.2.2.2.2
    = gC (BitVec.ofNat 32 t.val) (X0_0 m c t) (iblk m c 1 t) (iblk m c 2 t) (iblk m c 3 t) (iblk m c 4 t) (iblk m c 5 t) (gD (iblk m c 6 t) (iblk m c 9 t) (iblk m c 10 t)) (iblk m c 7 t) (iblk m c 8 t) := by
  by_cases h0 : t.val % 65 = 0
  · rw [outsAt0_A m c t h0 (by omega) ht]; dsimp only; rw [sout_A, coord0 t]
  · rw [outsAt0_B m c t h0 (by omega) ht]; dsimp only; rw [sout_B, coord0 t]

/-- The bias' gradient after the first point. -/
theorem at13_zero (c : Dev nD) (t : Fin cfg0.N) (ht : t.val = 0) : (outsAt0 m c t.val t.isLt).2.2.1
    = gB (BitVec.ofNat 32 t.val) (X0_0 m c t) (iblk m c 1 t) (iblk m c 2 t) (iblk m c 3 t) (iblk m c 4 t) (iblk m c 5 t) (gD (iblk m c 6 t) (iblk m c 9 t) (iblk m c 10 t)) (iblk m c 7 t) (iblk m c 8 t) (k0_pay1 (F := Ideal)) := by
  rw [outsAt0_A m c t (by omega) (by omega) (by omega)]; dsimp only; rw [out_A_13, coord0 t]

/-- The bias' gradient after a later point. -/
theorem at13_succ (c : Dev nD) (t : Fin cfg0.N) (h : t.val ≠ 0) (ht : t.val < 64) : (outsAt0 m c t.val t.isLt).2.2.1
    = gB (BitVec.ofNat 32 t.val) (X0_0 m c t) (iblk m c 1 t) (iblk m c 2 t) (iblk m c 3 t) (iblk m c 4 t) (iblk m c 5 t) (gD (iblk m c 6 t) (iblk m c 9 t) (iblk m c 10 t)) (iblk m c 7 t) (iblk m c 8 t)
      (outsAt0 m c (t.val - 1) (Nat.lt_of_le_of_lt (Nat.sub_le _ _) t.isLt)).2.2.1 := by
  conv_lhs => rw [outsAt0_B m c t (by omega) (by omega) ht]
  dsimp only
  rw [out_B_13, coord0 t]

/-- The rows of keys and values that point `t` writes back, for the block before its own. -/
theorem at12 (c : Dev nD) (t : Fin cfg0.N) (h : t.val ≠ 0) (ht : t.val < 64) : (outsAt0 m c t.val t.isLt).2.1
    = gKV (BitVec.ofNat 32 t.val) (X0_0 m c t) (iblk m c 1 t) (iblk m c 2 t) (iblk m c 3 t) (iblk m c 4 t) (iblk m c 5 t) (gD (iblk m c 6 t) (iblk m c 9 t) (iblk m c 10 t)) (iblk m c 7 t) (iblk m c 8 t)
      (outsAt0 m c (t.val - 1) (Nat.lt_of_le_of_lt (Nat.sub_le _ _) t.isLt)).2.2.2.2.2 := by
  conv_lhs => rw [outsAt0_B m c t (by omega) (by omega) ht]
  dsimp only
  rw [out_B_12, coord0 t]

/-- The sinks' row after the first point. -/
theorem at14_zero (c : Dev nD) (t : Fin cfg0.N) (ht : t.val = 0) (a : Fin 8) (b : Fin 128) : (outsAt0 m c t.val t.isLt).2.2.2.1 (ix2 a b)
    = if a.val = 0 then k0_pay7 (gS (BitVec.ofNat 32 t.val) (X0_0 m c t) (iblk m c 1 t) (iblk m c 2 t) (iblk m c 5 t) (gD (iblk m c 6 t) (iblk m c 9 t) (iblk m c 10 t)) (iblk m c 7 t) (iblk m c 8 t))
        (View.ld (k0_pay2 (F := Ideal)) (Rect.unit (s := S8x128) ![0, 0] S1x128.size inb_S8x128_S1x128_0_0)) (ix2 0 b) else k0_pay2 (F := Ideal) (ix2 a b) := by
  rw [outsAt0_A m c t (by omega) (by omega) (by omega)]
  dsimp only
  rw [out_A_14, coord0 t]

/-- The sinks' row after a later point. -/
theorem at14_succ (c : Dev nD) (t : Fin cfg0.N) (h : t.val ≠ 0) (ht : t.val < 64) (a : Fin 8) (b : Fin 128) : (outsAt0 m c t.val t.isLt).2.2.2.1 (ix2 a b)
    = if a.val = 0 then k0_pay7 (gS (BitVec.ofNat 32 t.val) (X0_0 m c t) (iblk m c 1 t) (iblk m c 2 t) (iblk m c 5 t) (gD (iblk m c 6 t) (iblk m c 9 t) (iblk m c 10 t)) (iblk m c 7 t) (iblk m c 8 t))
        (View.ld (outsAt0 m c (t.val - 1) (Nat.lt_of_le_of_lt (Nat.sub_le _ _) t.isLt)).2.2.2.1 (Rect.unit (s := S8x128) ![0, 0] S1x128.size inb_S8x128_S1x128_0_0)) (ix2 0 b)
      else (outsAt0 m c (t.val - 1) (Nat.lt_of_le_of_lt (Nat.sub_le _ _) t.isLt)).2.2.2.1 (ix2 a b) := by
  conv_lhs => rw [outsAt0_B m c t (by omega) (by omega) ht]
  dsimp only
  rw [out_B_14, coord0 t]

/-- The last point leaves what the point before left. -/
theorem at_last (c : Dev nD) (t : Fin cfg0.N) (ht : t.val = 64) :
    (outsAt0 m c t.val t.isLt).1 = (outsAt0 m c (t.val - 1) (Nat.lt_of_le_of_lt (Nat.sub_le _ _) t.isLt)).1
    ∧ (outsAt0 m c t.val t.isLt).2.1 = k0_pay4 (F := Ideal) (outsAt0 m c (t.val - 1) (Nat.lt_of_le_of_lt (Nat.sub_le _ _) t.isLt)).2.2.2.2.2
    ∧ (outsAt0 m c t.val t.isLt).2.2.1 = (outsAt0 m c (t.val - 1) (Nat.lt_of_le_of_lt (Nat.sub_le _ _) t.isLt)).2.2.1
    ∧ (outsAt0 m c t.val t.isLt).2.2.2.1 = (outsAt0 m c (t.val - 1) (Nat.lt_of_le_of_lt (Nat.sub_le _ _) t.isLt)).2.2.2.1
    ∧ (outsAt0 m c t.val t.isLt).2.2.2.2.1 = (outsAt0 m c (t.val - 1) (Nat.lt_of_le_of_lt (Nat.sub_le _ _) t.isLt)).2.2.2.2.1 := by
  rw [outsAt0_C m c t (by omega) (by omega) (by omega)]
  refine ⟨rfl, ?_, rfl, rfl, rfl⟩
  dsimp only
  rw [out_C_12]

end Cert.Attn
-- ==== Proof.AttnRow.lean ====
/-
  One row of the attention's softmax with a sink, over the reals. `w` says which of the 256 keys of the row's window are
  visible, `s` is the row of scores and `σ` the head's sink. The score of a hidden key is −∞. `dp` is the row of the
  gradient by the probabilities.
-/
module

public import Idealize.ShloMosaic.Lib.Pointwise

@[expose] public section

noncomputable section

namespace Cert.Attn

open Idealize.ShloMosaic

section Row

variable (w : Fin 256 → Prop) [DecidablePred w] (s : Fin 256 → ℝ) (σ : ℝ) (dp : Fin 256 → ℝ)

/-- The score of a key, −∞ where the key is hidden. -/
def rowS (j : Fin 256) : EReal := if w j then (s j : EReal) else ⊥

/-- The largest of the scores and the sink. -/
def rowM : EReal := max (Finset.univ.fold max ⊥ (rowS w s)) (σ : EReal)

/-- The shifted exponential of a score, zero where the key is hidden. -/
def rowE (j : Fin 256) : ℝ := if w j then Real.exp (s j - (rowM w s σ).toReal) else 0

/-- The shifted exponential of the sink. -/
def rowX : ℝ := Real.exp (σ - (rowM w s σ).toReal)

/-- The softmax's denominator. -/
def rowD : ℝ := ∑ j, rowE w s σ j + rowX w s σ

/-- The probability of a key. -/
def rowP (j : Fin 256) : ℝ := rowE w s σ j / rowD w s σ

/-- The probability of the sink. -/
def rowPS : ℝ := rowX w s σ / rowD w s σ

/-- The sum of the probabilities times their gradients. -/
def rowDelta : ℝ := ∑ j, rowP w s σ j * dp j

/-- The gradient of a score. -/
def rowDS (j : Fin 256) : ℝ := rowP w s σ j * (dp j - rowDelta w s σ dp)

theorem fold_max_ne_top {ι : Type*} (t : Finset ι) (f : ι → EReal) (h : ∀ j, f j ≠ ⊤) : t.fold max ⊥ f ≠ ⊤ := by
  classical
  induction t using Finset.induction_on with
  | empty => simp
  | insert a t ha ih =>
    rw [Finset.fold_insert ha]
    exact fun e => (max_eq_top.1 e).elim (h a) ih

/-- The largest score is a real number. -/
theorem rowM_real : rowM w s σ = ((rowM w s σ).toReal : EReal) := by
  refine (EReal.coe_toReal ?_ ?_).symm
  · intro e
    rcases max_eq_top.1 e with e | e
    · refine fold_max_ne_top _ _ (fun j => ?_) e
      unfold rowS
      split
      · exact EReal.coe_ne_top _
      · exact bot_ne_top
    · exact EReal.coe_ne_top _ e
  · intro e
    have h : (σ : EReal) ≤ rowM w s σ := le_max_right _ _
    rw [e, le_bot_iff] at h
    exact EReal.coe_ne_bot _ h

theorem exp_rowS (j : Fin 256) : Ideal.exp (rowS w s j - rowM w s σ) = (rowE w s σ j : EReal) := by
  rw [rowM_real]
  unfold rowS rowE
  split
  · rw [← EReal.coe_sub, Ideal.exp_coe]
  · rw [EReal.bot_sub, Ideal.exp_bot]; rfl

theorem exp_sink : Ideal.exp ((σ : EReal) - rowM w s σ) = (rowX w s σ : EReal) := by
  rw [rowM_real, ← EReal.coe_sub, Ideal.exp_coe]; rfl

theorem rowE_nonneg (j : Fin 256) : 0 ≤ rowE w s σ j := by
  unfold rowE; split
  · exact (Real.exp_pos _).le
  · exact le_rfl

theorem rowD_pos : 0 < rowD w s σ :=
  add_pos_of_nonneg_of_pos (Finset.sum_nonneg fun j _ => rowE_nonneg w s σ j) (Real.exp_pos _)

theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A hidden key has probability zero. -/
theorem rowP_hidden {j : Fin 256} (h : ¬ w j) : rowP w s σ j = 0 := by
  rw [rowP, rowE, if_neg h, zero_div]

theorem rowDS_hidden {j : Fin 256} (h : ¬ w j) : rowDS w s σ dp j = 0 := by
  rw [rowDS, rowP_hidden w s σ h, zero_mul]

theorem rowP_congr {s s' : Fin 256 → ℝ} (h : ∀ j, w j → s j = s' j) : rowP w s σ = rowP w s' σ := by
  have h1 : rowS w s = rowS w s' := funext fun j => by
    unfold rowS; split
    · rw [h j ‹_›]
    · rfl
  have h2 : rowM w s σ = rowM w s' σ := by unfold rowM; rw [h1]
  have h3 : rowE w s σ = rowE w s' σ := funext fun j => by
    unfold rowE; rw [h2]; split
    · rw [h j ‹_›]
    · rfl
  funext j
  unfold rowP rowD rowX
  rw [h3, h2]

theorem rowPS_congr {s s' : Fin 256 → ℝ} (h : ∀ j, w j → s j = s' j) : rowPS w s σ = rowPS w s' σ := by
  have h1 : rowS w s = rowS w s' := funext fun j => by
    unfold rowS; split
    · rw [h j ‹_›]
    · rfl
  have h2 : rowM w s σ = rowM w s' σ := by unfold rowM; rw [h1]
  have h3 : rowE w s σ = rowE w s' σ := funext fun j => by
    unfold rowE; rw [h2]; split
    · rw [h j ‹_›]
    · rfl
  unfold rowPS rowD rowX
  rw [h3, h2]

/-- The largest score takes no part in the gradient: the quotient's gradient by the exponentials, in the form in which
    it is computed, is orthogonal to them. -/
theorem row_max_ct : -((∑ j, -(dp j * (1 / (rowD w s σ * rowD w s σ)) * rowE w s σ j)) * rowX w s σ)
    + ∑ j, -((dp j / rowD w s σ + (∑ j, -(dp j * (1 / (rowD w s σ * rowD w s σ)) * rowE w s σ j))) * rowE w s σ j) = 0 := by
  have hD := (rowD_pos w s σ).ne'
  generalize hR : (∑ j, -(dp j * (1 / (rowD w s σ * rowD w s σ)) * rowE w s σ j)) = R
  have h1 : ∑ j, -((dp j / rowD w s σ + R) * rowE w s σ j) = R * rowD w s σ - R * ∑ j, rowE w s σ j := by
    rw [← hR, Finset.sum_mul, Finset.mul_sum, ← Finset.sum_sub_distrib]
    rw [hR]
    refine Finset.sum_congr rfl fun j _ => ?_
    field_simp
    ring
  rw [h1, rowD]; ring

/-- The gradient of a score, in the form in which the quotient rule gives it. -/
theorem row_ds (j : Fin 256) : (dp j / rowD w s σ + (∑ j, -(dp j * (1 / (rowD w s σ * rowD w s σ)) * rowE w s σ j))) * rowE w s σ j
    = rowDS w s σ dp j := by
  have hD := (rowD_pos w s σ).ne'
  have h : (∑ j, -(dp j * (1 / (rowD w s σ * rowD w s σ)) * rowE w s σ j)) = - (rowDelta w s σ dp) / rowD w s σ := by
    unfold rowDelta rowP
    rw [Finset.sum_neg_distrib, neg_div, Finset.sum_div]
    refine congrArg _ (Finset.sum_congr rfl fun j _ => ?_)
    field_simp
  rw [h, rowDS, rowP]
  field_simp
  ring

/-- The gradient of the sink, likewise. -/
theorem row_sink : (∑ j, -(dp j * (1 / (rowD w s σ * rowD w s σ)) * rowE w s σ j)) * rowX w s σ = - (rowPS w s σ * rowDelta w s σ dp) := by
  have hD := (rowD_pos w s σ).ne'
  unfold rowDelta rowP rowPS
  rw [Finset.sum_neg_distrib, neg_mul, Finset.mul_sum, Finset.sum_mul]
  refine congrArg _ (Finset.sum_congr rfl fun j _ => ?_)
  field_simp

end Row

end Cert.Attn
-- ==== Proof.AttnTile.lean ====
/-
  One tile of the attention's gradient: two heads of a group on one block of 128 queries, stacked to 256 rows, against
  the window of 256 keys. Each of the tile's arrays read at an entry, from real entries of what the tile loads.
-/
module

public import proofs.«01_k».proof.Proof.AttnRow
public import proofs.«01_k».proof.Proof.Gen.AttnKernelIdeal.Skeleton
public import Idealize.ShloMosaic.Lib.Pointwise

@[expose] public section

set_option maxRecDepth 16384

noncomputable section

namespace Cert.Attn

open Cert.AttnKernelIdeal Cert.AttnKernelIdeal.Gen Idealize.ShloMosaic

/-- The key `j` of block `n`'s window is visible to the query `q`. -/
def vis (n q j : ℕ) : Prop := (q < j ∧ j ≤ 128 + q) ∧ 128 ≤ n * 128 + j

instance (n q j : ℕ) : Decidable (vis n q j) := by unfold vis; infer_instance

/-- Two blocks of 128 rows stacked. -/
def stk (x y : FVec Ideal S128x64 .f32) (r : Fin 256) (d : Fin 64) : EReal :=
  if h : r.val < 128 then x (ix2 ⟨r.val, h⟩ d) else y (ix2 ⟨r.val - 128, by omega⟩ d)

theorem p19 (x y : FVec Ideal S128x64 .f32) (r : Fin 256) (d : Fin 64) : k0_pay19 (F := Ideal) x y (ix2 r d) = stk x y r d := by
  unfold stk
  pointwise [k0_pay19]

theorem p32 (x y : FVec Ideal S128x64 .f32) (r : Fin 256) (d : Fin 64) : k0_pay32 (F := Ideal) x y (ix2 r d) = stk x y r d := by
  unfold stk
  pointwise [k0_pay32]

theorem p34 (x y : FVec Ideal S128x64 .f32) (r : Fin 256) (d : Fin 64) : k0_pay34 (F := Ideal) x y (ix2 r d) = stk x y r d := by
  pointwise [k0_pay34]
  exact p32 x y r d

theorem p23 (x y : FVec Ideal S128x64 .f32) (r : Fin 256) (d : Fin 64) : k0_pay23 (F := Ideal) x y (ix2 r d) = stk x y r d := p19 x y r d

theorem shr7 : ∀ r : Fin 256, IntOp.shrsi ArithUnit.vector (BitVec.ofNat 32 r.val) 7#32 = BitVec.ofNat 32 (r.val / 128) := by
  decide +kernel

theorem p16 (r : Fin 256) : k0_pay16 (ix2 r 0) = BitVec.ofNat 32 (r.val / 128) := by
  pointwise [k0_pay16]
  exact shr7 r

theorem lt128 : ∀ j : Fin 256, IntOp.cmpi CmpIPredicate.slt (BitVec.ofNat 32 j.val) 128#32 = if j.val < 128 then 1#1 else 0#1 := by
  decide +kernel

theorem eq0 : ∀ n : Fin 64, Scalar.cmpi CmpIPredicate.eq (BitVec.ofNat 32 n.val) 0#32 = if n.val = 0 then 1#1 else 0#1 := by
  decide +kernel

theorem p18 (n : ℕ) (hn : n < 64) (r j : Fin 256) : k0_pay18 (BitVec.ofNat 32 n) (ix2 r j) = if j.val < 128 ∧ n = 0 then 1#1 else 0#1 := by
  pointwise [k0_pay18]
  rw [lt128, eq0 ⟨n, hn⟩]
  show IntOp.andi (if j.val < 128 then 1#1 else 0#1) (if n = 0 then 1#1 else 0#1) = _
  by_cases h1 : j.val < 128 <;> by_cases h2 : n = 0 <;> simp only [h1, h2, if_true, if_false, and_true, and_false, true_and, false_and] <;> rfl

theorem lit8 : Ideal.ofBits FTy.f32 1040187392#32 = ((1 / 8 : ℝ) : EReal) := by
  simp [Ideal.ofBits, Ideal.ieee]
  rw [← EReal.coe_mul]
  norm_num

theorem litbot : Ideal.ofBits FTy.f32 4286578688#32 = ⊥ := by
  simp [Ideal.ofBits, Ideal.ieee]

theorem p24 (mk : IVec S256x256 1) (kk : FVec Ideal S256x64 .bf16) (q1 q2 : FVec Ideal S128x64 .f32) (b : FVec Ideal S1x256x256 .f32) (r j : Fin 256) :
    k0_pay24 (F := Ideal) mk kk q1 q2 b (ix2 r j) = if mk (ix2 r j) = 1#1 then ⊥ else (∑ d : Fin 64, stk q1 q2 r d * kk (ix2 j d)) * ((1 / 8 : ℝ) : EReal) + b (ix3 0 r j) := by
  pointwise [k0_pay24]
  rw [lit8, litbot]
  simp only [p23]
  rfl

theorem eqhi : ∀ r : Fin 256, IntOp.cmpi CmpIPredicate.eq (BitVec.ofNat 32 (r.val / 128)) 1#32 = if r.val < 128 then 0#1 else 1#1 := by
  decide +kernel

theorem eqlo : ∀ r : Fin 256, IntOp.cmpi CmpIPredicate.eq (BitVec.ofNat 32 (r.val / 128)) 0#32 = if r.val < 128 then 1#1 else 0#1 := by
  decide +kernel

theorem p25 (a b : EReal) (r : Fin 256) : k0_pay25 (F := Ideal) a b (ix2 r 0) = if r.val < 128 then a else b := by
  pointwise [k0_pay25]
  rw [shr7, eqhi, eqlo]
  by_cases h : r.val < 128 <;> simp only [h, if_true, if_false] <;> rfl

theorem p33 (x y z w : FVec Ideal S128x64 .f32) (r : Fin 256) : k0_pay33 (F := Ideal) x y z w (ix2 r 0) = ∑ d : Fin 64, stk x y r d * stk z w r d := by
  pointwise [k0_pay33]
  exact Finset.sum_congr rfl fun d _ => congrArg (· * stk z w r d) (p32 x y r d)

section Tile

variable {n : ℕ} (hn : n < 64) {kk vv : FVec Ideal S256x64 .bf16} {q1 q2 d1 d2 o1 o2 : FVec Ideal S128x64 .f32} {b : FVec Ideal S1x256x256 .f32}
  {s1 s2 : EReal} {K V Q DO O : Fin 256 → Fin 64 → ℝ} {B p ds : Fin 256 → Fin 256 → ℝ} {sg : Fin 256 → ℝ}
  (hk : ∀ j d, kk (ix2 j d) = ((K j d : ℝ) : EReal)) (hv : ∀ j d, vv (ix2 j d) = ((V j d : ℝ) : EReal))
  (hq : ∀ r d, stk q1 q2 r d = ((Q r d : ℝ) : EReal)) (hd : ∀ r d, stk d1 d2 r d = ((DO r d : ℝ) : EReal)) (ho : ∀ r d, stk o1 o2 r d = ((O r d : ℝ) : EReal))
  (hb : ∀ r j : Fin 256, b (ix3 0 r j) = if r.val % 128 < j.val ∧ j.val ≤ 128 + r.val % 128 then ((B r j : ℝ) : EReal) else ⊥)
  (hs : ∀ r : Fin 256, (if r.val < 128 then s1 else s2) = ((sg r : ℝ) : EReal))

/-- The tile's real scores. -/
def tS (K Q : Fin 256 → Fin 64 → ℝ) (B : Fin 256 → Fin 256 → ℝ) (r j : Fin 256) : ℝ := (∑ d, Q r d * K j d) * (1 / 8) + B r j

/-- The keys visible to a row of the tile. -/
abbrev tW (n : ℕ) (r j : Fin 256) : Prop := vis n (r.val % 128) j.val

theorem rowS_tW (n : ℕ) (s : Fin 256 → ℝ) (r j : Fin 256) :
    rowS (tW n r) s j = if (r.val % 128 < j.val ∧ j.val ≤ 128 + r.val % 128) ∧ 128 ≤ n * 128 + j.val then (s j : EReal) else ⊥ :=
  if_congr Iff.rfl rfl rfl

include hn hk hq hb

theorem t24 (r j : Fin 256) : k0_pay24 (F := Ideal) (k0_pay18 (BitVec.ofNat 32 n)) kk q1 q2 b (ix2 r j) = rowS (tW n r) (tS K Q B r) j := by
  rw [p24, p18 n hn, hb]
  rw [rowS_tW]
  unfold tS
  simp only [hq, hk, ← EReal.coe_mul, ← coe_sum]
  by_cases h1 : j.val < 128 ∧ n = 0
  · rw [if_pos h1, if_pos rfl, if_neg (by omega)]
  · rw [if_neg h1, if_neg (by decide)]
    by_cases h2 : r.val % 128 < j.val ∧ j.val ≤ 128 + r.val % 128
    · rw [if_pos h2, if_pos ⟨h2, by omega⟩, EReal.coe_add]
    · rw [if_neg h2, if_neg (fun h => h2 h.1), EReal.add_bot]

include hs

theorem t26 (r : Fin 256) : k0_pay26 (F := Ideal) (k0_pay18 (BitVec.ofNat 32 n)) kk q1 q2 b s1 s2 (ix2 r 0) = rowM (tW n r) (tS K Q B r) (sg r) := by
  pointwise [k0_pay26]
  rw [p25, hs, litbot]
  unfold rowM
  refine congrArg (max · _) (congrArg (Finset.fold max ⊥ · Finset.univ) (funext fun j => ?_))
  exact t24 hn hk hq hb r j

theorem t27 (r j : Fin 256) : k0_pay27 (F := Ideal) (k0_pay18 (BitVec.ofNat 32 n)) kk q1 q2 b s1 s2 (ix2 r j) = (rowE (tW n r) (tS K Q B r) (sg r) j : EReal) := by
  pointwise [k0_pay27]
  rw [t24 hn hk hq hb, t26 hn hk hq hb hs]
  exact exp_rowS _ _ _ _

theorem t28 (r : Fin 256) : k0_pay28 (F := Ideal) (k0_pay18 (BitVec.ofNat 32 n)) kk q1 q2 b s1 s2 (ix2 r 0) = (rowX (tW n r) (tS K Q B r) (sg r) : EReal) := by
  pointwise [k0_pay28]
  rw [p25, hs, t26 hn hk hq hb hs]
  exact exp_sink _ _ _

theorem t29 (r : Fin 256) : k0_pay29 (F := Ideal) (k0_pay18 (BitVec.ofNat 32 n)) kk q1 q2 b s1 s2 (ix2 r 0) = ((1 / rowD (tW n r) (tS K Q B r) (sg r) : ℝ) : EReal) := by
  pointwise [k0_pay29]
  rw [t28 hn hk hq hb hs]
  have h : ∑ j : Fin 256, k0_pay27 (F := Ideal) (k0_pay18 (BitVec.ofNat 32 n)) kk q1 q2 b s1 s2 (ix2 r j) = ∑ j, (rowE (tW n r) (tS K Q B r) (sg r) j : EReal) :=
    Finset.sum_congr rfl fun j _ => t27 hn hk hq hb hs r j
  rw [h, ← coe_sum, ← EReal.coe_add]
  show Ideal.div 1 ((rowD (tW n r) (tS K Q B r) (sg r) : ℝ) : EReal) = _
  rw [Ideal.div_coe (rowD_pos _ _ _).ne', one_mul]

theorem t30 (r j : Fin 256) : k0_pay30 (F := Ideal) (k0_pay18 (BitVec.ofNat 32 n)) kk q1 q2 b s1 s2 (ix2 r j) = (rowP (tW n r) (tS K Q B r) (sg r) j : EReal) := by
  pointwise [k0_pay30]
  rw [t27 hn hk hq hb hs, t29 hn hk hq hb hs, ← EReal.coe_mul, mul_one_div]
  rfl

theorem t31 (r : Fin 256) : k0_pay31 (F := Ideal) (k0_pay18 (BitVec.ofNat 32 n)) kk q1 q2 b s1 s2 (ix2 r 0) = (rowPS (tW n r) (tS K Q B r) (sg r) : EReal) := by
  pointwise [k0_pay31]
  rw [t28 hn hk hq hb hs, t29 hn hk hq hb hs, ← EReal.coe_mul, mul_one_div]
  rfl

omit hn hk hq hb hs
include hd ho

theorem t33 (r : Fin 256) : k0_pay33 (F := Ideal) d1 d2 o1 o2 (ix2 r 0) = ((∑ d, DO r d * O r d : ℝ) : EReal) := by
  rw [p33]
  simp only [hd, ho, ← EReal.coe_mul, ← coe_sum]

include hv

/-- The gradient of the scores. -/
theorem t35 {P : FVec Ideal S256x256 .f32} (hP : ∀ r j, P (ix2 r j) = ((p r j : ℝ) : EReal)) (r j : Fin 256) :
    k0_pay35 (F := Ideal) vv P d1 d2 o1 o2 (ix2 r j) = ((p r j * (∑ d, DO r d * V j d - ∑ d, DO r d * O r d) : ℝ) : EReal) := by
  pointwise [k0_pay35]
  rw [t33 hd ho, hP]
  simp only [p34, hd, hv, ← EReal.coe_mul, ← coe_sum, ← EReal.coe_sub]

omit hv ho

/-- The tile's part of the gradient of the values. -/
theorem t46 {P : FVec Ideal S256x256 .f32} (hP : ∀ r j, P (ix2 r j) = ((p r j : ℝ) : EReal)) (acc : FVec Ideal S256x64 .f32) (j : Fin 256) (d : Fin 64) :
    k0_pay46 (F := Ideal) acc P (k0_pay34 d1 d2) (ix2 j d) = acc (ix2 j d) + ((∑ r, p r j * DO r d : ℝ) : EReal) := by
  pointwise [k0_pay46]
  simp only [p34, hd, hP, ← EReal.coe_mul, ← coe_sum]

omit hd
include hq

/-- The tile's part of the gradient of the keys. -/
theorem t45 {D : FVec Ideal S256x256 .f32} (hD : ∀ r j, D (ix2 r j) = ((ds r j : ℝ) : EReal)) (acc : FVec Ideal S256x64 .f32) (j : Fin 256) (d : Fin 64) :
    k0_pay45 (F := Ideal) acc (k0_pay23 q1 q2) D (ix2 j d) = acc (ix2 j d) + ((∑ r, ds r j * (1 / 8) * Q r d : ℝ) : EReal) := by
  pointwise [k0_pay45, k0_pay41]
  simp only [lit8, p23, hq, hD, ← EReal.coe_mul, ← coe_sum]

omit hq
include hk

theorem t42 {D : FVec Ideal S256x256 .f32} (hD : ∀ r j, D (ix2 r j) = ((ds r j : ℝ) : EReal)) (r : Fin 256) (d : Fin 64) :
    k0_pay42 (F := Ideal) kk D (ix2 r d) = ((∑ j, ds r j * (1 / 8) * K j d : ℝ) : EReal) := by
  pointwise [k0_pay42, k0_pay41]
  simp only [lit8, hk, hD, ← EReal.coe_mul, ← coe_sum]

/-- The gradient of the queries, first head. -/
theorem t43 {D : FVec Ideal S256x256 .f32} (hD : ∀ r j, D (ix2 r j) = ((ds r j : ℝ) : EReal)) (q : Fin 128) (d : Fin 64) :
    k0_pay43 (F := Ideal) kk D (ix2 q d) = ((∑ j, ds ⟨q.val, by omega⟩ j * (1 / 8) * K j d : ℝ) : EReal) := by
  pointwise [k0_pay43]
  exact t42 hk hD _ _

/-- The gradient of the queries, second head. -/
theorem t44 {D : FVec Ideal S256x256 .f32} (hD : ∀ r j, D (ix2 r j) = ((ds r j : ℝ) : EReal)) (q : Fin 128) (d : Fin 64) :
    k0_pay44 (F := Ideal) kk D (ix2 q d) = ((∑ j, ds ⟨128 + q.val, by omega⟩ j * (1 / 8) * K j d : ℝ) : EReal) := by
  pointwise [k0_pay44]
  exact t42 hk hD _ _

end Tile

end Cert.Attn
-- ==== Proof.AttnBlock.lean ====
/-
  The arrays that the attention's gradient leaves for one block of 128 queries, read at an entry, as real numbers: from
  real entries of the blocks that it loads.
-/
module

public import proofs.«01_k».proof.Proof.AttnTile
public import proofs.«01_k».proof.Proof.AttnStack

@[expose] public section

set_option maxRecDepth 16384

noncomputable section

namespace Cert.Attn

open Cert.AttnKernelIdeal Cert.AttnKernelIdeal.Gen Idealize.ShloMosaic

/-- One block's data as real numbers, by row and column: queries, the two blocks of keys and of values, the saved
attention, the gradient of the attention's output, the bias by head, and the sinks. -/
structure Blk where
  (q kp kc vp vc o d : ℕ → ℕ → ℝ)
  (b : ℕ → ℕ → ℕ → ℝ)
  (s : ℕ → ℝ)

namespace Blk

variable (M : Blk)

/-- The window's keys of group `g`. -/
def K (g j d : ℕ) : ℝ := if j < 128 then M.kp j (64 * g + d) else M.kc (j - 128) (64 * g + d)
/-- The window's values of group `g`. -/
def V (g j d : ℕ) : ℝ := if j < 128 then M.vp j (64 * g + d) else M.vc (j - 128) (64 * g + d)
/-- The scores of head `h`. -/
def S (h q : ℕ) (j : Fin 256) : ℝ := (∑ d : Fin 64, M.q q (64 * h + d.val) * M.K (h / 4) j.val d.val) * (1 / 8) + M.b h q j.val
/-- The probabilities. -/
def P (n h q : ℕ) (j : Fin 256) : ℝ := rowP (fun j : Fin 256 => vis n q j.val) (M.S h q) (M.s h) j
/-- The sink's probability. -/
def PS (n h q : ℕ) : ℝ := rowPS (fun j : Fin 256 => vis n q j.val) (M.S h q) (M.s h)
/-- The sum over a head's columns of the attention times its gradient. -/
def dl (h q : ℕ) : ℝ := ∑ d : Fin 64, M.d q (64 * h + d.val) * M.o q (64 * h + d.val)
/-- The gradient of the scores. -/
def DS (n h q : ℕ) (j : Fin 256) : ℝ := M.P n h q j * (∑ d : Fin 64, M.d q (64 * h + d.val) * M.V (h / 4) j.val d.val - M.dl h q)
/-- The gradient of the queries. -/
def DQ (n h q d : ℕ) : ℝ := ∑ j : Fin 256, M.DS n h q j * (1 / 8) * M.K (h / 4) j.val d
/-- The gradient of the window's keys of group `g`: two tiles of two heads. -/
def DK (n g j d : ℕ) : ℝ :=
  if hj : j < 256 then
    ∑ r : Fin 256, M.DS n (4 * g + r.val / 128) (r.val % 128) ⟨j, hj⟩ * (1 / 8) * M.q (r.val % 128) (64 * (4 * g + r.val / 128) + d)
      + ∑ r : Fin 256, M.DS n (4 * g + 2 + r.val / 128) (r.val % 128) ⟨j, hj⟩ * (1 / 8) * M.q (r.val % 128) (64 * (4 * g + 2 + r.val / 128) + d)
  else 0
/-- The gradient of the window's values of group `g`. -/
def DV (n g j d : ℕ) : ℝ :=
  if hj : j < 256 then
    ∑ r : Fin 256, M.P n (4 * g + r.val / 128) (r.val % 128) ⟨j, hj⟩ * M.d (r.val % 128) (64 * (4 * g + r.val / 128) + d)
      + ∑ r : Fin 256, M.P n (4 * g + 2 + r.val / 128) (r.val % 128) ⟨j, hj⟩ * M.d (r.val % 128) (64 * (4 * g + 2 + r.val / 128) + d)
  else 0
/-- The gradient of the window's keys and values, keys first. -/
def DKV (n j c : ℕ) : ℝ := if c < 256 then M.DK n (c / 64) j (c % 64) else M.DV n ((c - 256) / 64) j (c % 64)

end Blk

/-- The blocks' entries are those real numbers. -/
structure IsBlk (M : Blk) (X0 : Vec Ideal S128x1024 .f32) (X1 X2 X3 X4 : Vec Ideal S128x256 .f32) (X5 D : Vec Ideal S128x1024 .f32)
    (X7 : Vec Ideal S4x512x256 .f32) (X8 : Vec Ideal S16 .f32) : Prop where
  q : ∀ r c, X0 (ix2 r c) = (M.q r.val c.val : EReal)
  kp : ∀ r c, X1 (ix2 r c) = (M.kp r.val c.val : EReal)
  kc : ∀ r c, X2 (ix2 r c) = (M.kc r.val c.val : EReal)
  vp : ∀ r c, X3 (ix2 r c) = (M.vp r.val c.val : EReal)
  vc : ∀ r c, X4 (ix2 r c) = (M.vc r.val c.val : EReal)
  o : ∀ r c, X5 (ix2 r c) = (M.o r.val c.val : EReal)
  d : ∀ r c, D (ix2 r c) = (M.d r.val c.val : EReal)
  b : ∀ (g : Fin 4) (r : Fin 512) (j : Fin 256), X7 (ix3 g r j) =
    if r.val % 128 < j.val ∧ j.val ≤ 128 + r.val % 128 then (M.b (4 * g.val + r.val / 128) (r.val % 128) j.val : EReal) else ⊥
  s : ∀ h : Fin 16, X8 (ix1 h) = (M.s h.val : EReal)

section Loads

variable {X : Vec Ideal S128x1024 .f32} {Y : Vec Ideal S128x256 .f32} {x y : ℕ → ℕ → ℝ}

theorem cq_real (hX : ∀ r c, X (ix2 r c) = (x r.val c.val : EReal)) {o : ℕ}
    (h : ∀ a, (![0, o] : Fin 2 → ℕ) a + S128x64.size a ≤ S128x1024.size a) (r : Fin 128) (d : Fin 64) :
    cq X h (ix2 r d) = (x r.val (o + d.val) : EReal) := by
  have h1 : o + 64 ≤ 1024 := h 1
  refine (congrArg X ?_).trans (hX r ⟨o + d.val, by omega⟩)
  funext a
  fin_cases a <;> apply Fin.ext <;> simp [Rect.idx_unit_val]

theorem ck_real (hY : ∀ r c, Y (ix2 r c) = (y r.val c.val : EReal)) {o : ℕ}
    (h : ∀ a, (![0, o] : Fin 2 → ℕ) a + S128x64.size a ≤ S128x256.size a) (r : Fin 128) (d : Fin 64) :
    ck Y h (ix2 r d) = (y r.val (o + d.val) : EReal) := by
  have h1 : o + 64 ≤ 256 := h 1
  refine (congrArg Y ?_).trans (hY r ⟨o + d.val, by omega⟩)
  funext a
  fin_cases a <;> apply Fin.ext <;> simp [Rect.idx_unit_val]

theorem cb_at (X : Vec Ideal S4x512x256 .f32) {g o : ℕ} (h : ∀ a, (![g, o, 0] : Fin 3 → ℕ) a + S1x256x256.size a ≤ S4x512x256.size a)
    (hg : g < 4) (ho : o + 256 ≤ 512) (r j : Fin 256) : cb X h (ix3 0 r j) = X (ix3 ⟨g, hg⟩ ⟨o + r.val, by omega⟩ j) := by
  refine congrArg X ?_
  funext a
  fin_cases a <;> apply Fin.ext <;> simp [Rect.idx_unit_val]

theorem cs_at (X : Vec Ideal S16 .f32) {o : ℕ} (h : ∀ a, (![o] : Fin 1 → ℕ) a + S1.size a ≤ S16.size a) (ho : o < 16) :
    cs X h = X (ix1 ⟨o, ho⟩) := by
  refine congrArg X ?_
  funext a
  fin_cases a
  apply Fin.ext
  simp [Rect.idx_unit_val]

/-- Two heads' columns stacked. -/
theorem stk_cq (hX : ∀ r c, X (ix2 r c) = (x r.val c.val : EReal)) {k : ℕ}
    (ha : ∀ a, (![0, 128 * k] : Fin 2 → ℕ) a + S128x64.size a ≤ S128x1024.size a)
    (hb : ∀ a, (![0, 128 * k + 64] : Fin 2 → ℕ) a + S128x64.size a ≤ S128x1024.size a) (r : Fin 256) (d : Fin 64) :
    stk (cq X ha) (cq X hb) r d = (x (r.val % 128) (64 * (2 * k + r.val / 128) + d.val) : EReal) := by
  unfold stk
  by_cases h : r.val < 128
  · rw [dif_pos h, cq_real hX, Nat.mod_eq_of_lt h, Nat.div_eq_of_lt h]
    exact congrArg (fun c => (x r.val c : EReal)) (by show 128 * k + d.val = _; omega)
  · rw [dif_neg h, cq_real hX]
    exact congrArg₂ (fun a c => (x a c : EReal)) (by show r.val - 128 = _; omega) (by show 128 * k + 64 + d.val = _; omega)

/-- A group's two blocks of keys, or of values, stacked. -/
theorem gK_real {X1 X2 : Vec Ideal S128x256 .f32} {x1 x2 : ℕ → ℕ → ℝ} (h1 : ∀ r c, X1 (ix2 r c) = (x1 r.val c.val : EReal))
    (h2 : ∀ r c, X2 (ix2 r c) = (x2 r.val c.val : EReal)) {g : ℕ}
    (hk : ∀ a, (![0, 64 * g] : Fin 2 → ℕ) a + S128x64.size a ≤ S128x256.size a) (j : Fin 256) (d : Fin 64) :
    gK X1 X2 hk (ix2 j d) = ((if j.val < 128 then x1 j.val (64 * g + d.val) else x2 (j.val - 128) (64 * g + d.val) : ℝ) : EReal) := by
  unfold gK
  rw [p19]
  unfold stk
  by_cases h : j.val < 128
  · rw [dif_pos h, if_pos h, ck_real h1]
  · rw [dif_neg h, if_neg h, ck_real h2]

end Loads

section Entries

variable {M : Blk} {X0 : Vec Ideal S128x1024 .f32} {X1 X2 X3 X4 : Vec Ideal S128x256 .f32} {X5 D : Vec Ideal S128x1024 .f32}
  {X7 : Vec Ideal S4x512x256 .f32} {X8 : Vec Ideal S16 .f32} (H : IsBlk M X0 X1 X2 X3 X4 X5 D X7 X8) {n : ℕ} (hn : n < 64)

section OneTile

variable {k ok oa ob g o sa sb : ℕ} (hk8 : k < 8) (ek : ok = 64 * (k / 2)) (ea : oa = 128 * k) (eb : ob = 128 * k + 64) (eg : g = k / 2)
  (eo : o = 256 * (k % 2)) (esa : sa = 2 * k) (esb : sb = 2 * k + 1)
  (hk : ∀ a, (![0, ok] : Fin 2 → ℕ) a + S128x64.size a ≤ S128x256.size a)
  (ha : ∀ a, (![0, oa] : Fin 2 → ℕ) a + S128x64.size a ≤ S128x1024.size a) (hb : ∀ a, (![0, ob] : Fin 2 → ℕ) a + S128x64.size a ≤ S128x1024.size a)
  (hg : ∀ a, (![g, o, 0] : Fin 3 → ℕ) a + S1x256x256.size a ≤ S4x512x256.size a)
  (hsa : ∀ a, (![sa] : Fin 1 → ℕ) a + S1.size a ≤ S16.size a) (hsb : ∀ a, (![sb] : Fin 1 → ℕ) a + S1.size a ≤ S16.size a)

include H hk8 eg eo

theorem tile_b (r j : Fin 256) : cb X7 hg (ix3 0 r j) =
    if r.val % 128 < j.val ∧ j.val ≤ 128 + r.val % 128 then (M.b (2 * k + r.val / 128) (r.val % 128) j.val : EReal) else ⊥ := by
  subst eg eo
  rw [cb_at X7 hg (by omega) (by omega), H.b]
  have e1 : (256 * (k % 2) + r.val) % 128 = r.val % 128 := by omega
  have e2 : 4 * (k / 2) + (256 * (k % 2) + r.val) / 128 = 2 * k + r.val / 128 := by omega
  simp only [e1, e2]

omit eg eo
include esa esb

theorem tile_s (r : Fin 256) : (if r.val < 128 then cs X8 hsa else cs X8 hsb) = (M.s (2 * k + r.val / 128) : EReal) := by
  subst esa esb
  rw [cs_at X8 hsa (by omega), cs_at X8 hsb (by omega), H.s, H.s]
  by_cases h : r.val < 128
  · rw [if_pos h, Nat.div_eq_of_lt h]; rfl
  · rw [if_neg h, show r.val / 128 = 1 by omega]

include hn ek ea eb eg eo

theorem gP_real (r j : Fin 256) : gP (BitVec.ofNat 32 n) X0 X1 X2 X7 X8 hk ha hb hg hsa hsb (ix2 r j) = (M.P n (2 * k + r.val / 128) (r.val % 128) j : EReal) := by
  have eb' := tile_b H hk8 eg eo hg
  have es' := tile_s H hk8 esa esb hsa hsb
  subst ek ea eb
  refine (t30 hn (gK_real H.kp H.kc hk) (stk_cq H.q ha hb) eb' es' r j).trans ?_
  have e : (2 * k + r.val / 128) / 4 = k / 2 := by omega
  unfold Blk.P Blk.S Blk.K tS tW
  rw [e]

theorem gPS_real (r : Fin 256) : gPS (BitVec.ofNat 32 n) X0 X1 X2 X7 X8 hk ha hb hg hsa hsb (ix2 r 0) = (M.PS n (2 * k + r.val / 128) (r.val % 128) : EReal) := by
  have eb' := tile_b H hk8 eg eo hg
  have es' := tile_s H hk8 esa esb hsa hsb
  subst ek ea eb
  refine (t31 hn (gK_real H.kp H.kc hk) (stk_cq H.q ha hb) eb' es' r).trans ?_
  have e : (2 * k + r.val / 128) / 4 = k / 2 := by omega
  unfold Blk.PS Blk.S Blk.K tS tW
  rw [e]

theorem gDS_real (r j : Fin 256) : gDS (BitVec.ofNat 32 n) X0 X1 X2 X3 X4 X5 D X7 X8 hk ha hb hg hsa hsb (ix2 r j) = (M.DS n (2 * k + r.val / 128) (r.val % 128) j : EReal) := by
  have hP := gP_real H hn hk8 ek ea eb eg eo esa esb hk ha hb hg hsa hsb
  subst ek ea eb
  refine (t35 (gK_real H.vp H.vc hk) (stk_cq H.d ha hb) (stk_cq H.o ha hb) hP r j).trans ?_
  have e : (2 * k + r.val / 128) / 4 = k / 2 := by omega
  unfold Blk.DS Blk.dl Blk.V
  rw [e]

theorem gX_real (r : Fin 256) : gX (BitVec.ofNat 32 n) X0 X1 X2 X5 D X7 X8 hk ha hb hg hsa hsb (ix2 r 0)
    = ((M.PS n (2 * k + r.val / 128) (r.val % 128) * M.dl (2 * k + r.val / 128) (r.val % 128) : ℝ) : EReal) := by
  have hP := gPS_real H hn hk8 ek ea eb eg eo esa esb hk ha hb hg hsa hsb
  subst ek ea eb
  unfold gX
  pointwise [k0_pay37]
  rw [t33 (stk_cq H.d ha hb) (stk_cq H.o ha hb), hP, ← EReal.coe_mul]
  rfl

/-- The gradient of the queries, the tile's first head. -/
theorem dq_lo (x : S128x64.Idx) : k0_pay43 (F := Ideal) (gK X1 X2 hk) (gDS (BitVec.ofNat 32 n) X0 X1 X2 X3 X4 X5 D X7 X8 hk ha hb hg hsa hsb) x
    = (M.DQ n (2 * k) (x 0).val (x 1).val : EReal) := by
  have hD := gDS_real H hn hk8 ek ea eb eg eo esa esb hk ha hb hg hsa hsb
  subst ek ea eb
  obtain ⟨a, b, rfl⟩ : ∃ (a : Fin 128) (b : Fin 64), x = ix2 a b := ⟨x 0, x 1, eq_ix2 x⟩
  refine (t43 (n := n) (gK_real H.kp H.kc hk) hD a b).trans ?_
  unfold Blk.DQ Blk.K
  have e1 : 2 * k + a.val / 128 = 2 * k := by omega
  have e2 : a.val % 128 = a.val := by omega
  have e3 : 2 * k / 4 = k / 2 := by omega
  simp only [e1, e2, e3]
  rfl

/-- The gradient of the queries, the tile's second head. -/
theorem dq_hi (x : S128x64.Idx) : k0_pay44 (F := Ideal) (gK X1 X2 hk) (gDS (BitVec.ofNat 32 n) X0 X1 X2 X3 X4 X5 D X7 X8 hk ha hb hg hsa hsb) x
    = (M.DQ n (2 * k + 1) (x 0).val (x 1).val : EReal) := by
  have hD := gDS_real H hn hk8 ek ea eb eg eo esa esb hk ha hb hg hsa hsb
  subst ek ea eb
  obtain ⟨a, b, rfl⟩ : ∃ (a : Fin 128) (b : Fin 64), x = ix2 a b := ⟨x 0, x 1, eq_ix2 x⟩
  refine (t44 (n := n) (gK_real H.kp H.kc hk) hD a b).trans ?_
  unfold Blk.DQ Blk.K
  have e1 : 2 * k + (128 + a.val) / 128 = 2 * k + 1 := by omega
  have e2 : (128 + a.val) % 128 = a.val := by omega
  have e3 : (2 * k + 1) / 4 = k / 2 := by omega
  simp only [e1, e2, e3]
  rfl

/-- The gradient of the bias, the tile's rows. -/
theorem db_tile (old : Vec Ideal S1x256x256 .f32) (x : S1x256x256.Idx) :
    gAcc (F := Ideal) old (gDS (BitVec.ofNat 32 n) X0 X1 X2 X3 X4 X5 D X7 X8 hk ha hb hg hsa hsb) x
    = old x + (M.DS n (2 * k + (x 1).val / 128) ((x 1).val % 128) (x 2) : EReal) := by
  have hD := gDS_real H hn hk8 ek ea eb eg eo esa esb hk ha hb hg hsa hsb
  obtain ⟨z, a, b, rfl⟩ : ∃ (z : Fin 1) (a : Fin 256) (b : Fin 256), x = ix3 z a b := ⟨x 0, x 1, x 2, eq_ix3 x⟩
  obtain rfl : z = 0 := Subsingleton.elim _ _
  pointwise [gAcc]
  rw [hD]

/-- The tile's part of the gradient of the keys. -/
theorem dk_tile (acc : FVec Ideal S256x64 .f32) (j : Fin 256) (d : Fin 64) :
    gDK (BitVec.ofNat 32 n) X0 X1 X2 X3 X4 X5 D X7 X8 hk ha hb hg hsa hsb acc (ix2 j d) = acc (ix2 j d)
      + ((∑ r : Fin 256, M.DS n (2 * k + r.val / 128) (r.val % 128) j * (1 / 8) * M.q (r.val % 128) (64 * (2 * k + r.val / 128) + d.val) : ℝ) : EReal) := by
  have hD := gDS_real H hn hk8 ek ea eb eg eo esa esb hk ha hb hg hsa hsb
  subst ek ea eb
  exact t45 (stk_cq H.q ha hb) hD acc j d

/-- The tile's part of the gradient of the values. -/
theorem dv_tile (acc : FVec Ideal S256x64 .f32) (j : Fin 256) (d : Fin 64) :
    gDV (BitVec.ofNat 32 n) X0 X1 X2 D X7 X8 hk ha hb hg hsa hsb acc (ix2 j d) = acc (ix2 j d)
      + ((∑ r : Fin 256, M.P n (2 * k + r.val / 128) (r.val % 128) j * M.d (r.val % 128) (64 * (2 * k + r.val / 128) + d.val) : ℝ) : EReal) := by
  have hP := gP_real H hn hk8 ek ea eb eg eo esa esb hk ha hb hg hsa hsb
  subst ek ea eb
  exact t46 (stk_cq H.d ha hb) hP acc j d

end OneTile

/-- A head's column names the head and the column in it. -/
theorem dq_at {h a r c x : ℕ} (e0 : r = a) (e1 : c = 64 * h + x) (hx : x < 64) : (M.DQ n h a x : EReal) = (M.DQ n (c / 64) r (c % 64) : EReal) := by
  subst e0 e1
  rw [show (64 * h + x) / 64 = h by omega, show (64 * h + x) % 64 = x by omega]

/-- A tile's rows of the bias. -/
theorem db_at {k g o : ℕ} {hg : ∀ a, (![g, o, 0] : Fin 3 → ℕ) a + S1x256x256.size a ≤ S4x512x256.size a} (Y : Vec Ideal S4x512x256 .f32) (x : S1x256x256.Idx) (y : S4x512x256.Idx)
    (e0 : (y 0).val = g ∧ g = k / 2) (e1 : (y 1).val = o + (x 1).val ∧ o = 256 * (k % 2)) (e2 : (y 2).val = (x 2).val) :
    cb Y hg x + (M.DS n (2 * k + (x 1).val / 128) ((x 1).val % 128) (x 2) : EReal)
      = Y y + (M.DS n (4 * (y 0).val + (y 1).val / 128) ((y 1).val % 128) (y 2) : EReal) := by
  have hx : (x 0).val < 1 := (x 0).isLt
  have eY : cb Y hg x = Y y := by
    refine congrArg Y ?_
    funext a
    fin_cases a <;> apply Fin.ext
    · refine (Rect.idx_unit_val (s := S4x512x256) _ _ hg x (0 : Fin 3)).trans ?_
      show g + (x 0).val = (y 0).val
      omega
    · refine (Rect.idx_unit_val (s := S4x512x256) _ _ hg x (1 : Fin 3)).trans ?_
      show o + (x 1).val = (y 1).val
      omega
    · refine (Rect.idx_unit_val (s := S4x512x256) _ _ hg x (2 : Fin 3)).trans ?_
      show 0 + (x 2).val = (y 2).val
      omega
  have e3 : (x 2 : Fin 256) = y 2 := Fin.ext e2.symm
  rw [eY, e1.1, e0.1, e1.2, e0.2, e3]
  congr 3
  · omega
  · omega

include H hn

/-- The block of the gradient of the queries. -/
theorem gQ_real (y : S128x1024.Idx) : gQ (BitVec.ofNat 32 n) X0 X1 X2 X3 X4 X5 D X7 X8 y
    = (M.DQ n ((y 1).val / 64) (y 0).val ((y 1).val % 64) : EReal) := by
  unfold gQ
  canon_tiles x h
  · exact (dq_hi H hn (k := 7) (ok := 192) (oa := 896) (ob := 960) (g := 3) (o := 256) (sa := 14) (sb := 15) (by decide) rfl rfl rfl rfl rfl rfl rfl _ _ _ _ _ _ x).trans (dq_at h0 (by omega) x1_lt)
  · exact (dq_lo H hn (k := 7) (ok := 192) (oa := 896) (ob := 960) (g := 3) (o := 256) (sa := 14) (sb := 15) (by decide) rfl rfl rfl rfl rfl rfl rfl _ _ _ _ _ _ x).trans (dq_at h0 (by omega) x1_lt)
  · exact (dq_hi H hn (k := 6) (ok := 192) (oa := 768) (ob := 832) (g := 3) (o := 0) (sa := 12) (sb := 13) (by decide) rfl rfl rfl rfl rfl rfl rfl _ _ _ _ _ _ x).trans (dq_at h0 (by omega) x1_lt)
  · exact (dq_lo H hn (k := 6) (ok := 192) (oa := 768) (ob := 832) (g := 3) (o := 0) (sa := 12) (sb := 13) (by decide) rfl rfl rfl rfl rfl rfl rfl _ _ _ _ _ _ x).trans (dq_at h0 (by omega) x1_lt)
  · exact (dq_hi H hn (k := 5) (ok := 128) (oa := 640) (ob := 704) (g := 2) (o := 256) (sa := 10) (sb := 11) (by decide) rfl rfl rfl rfl rfl rfl rfl _ _ _ _ _ _ x).trans (dq_at h0 (by omega) x1_lt)
  · exact (dq_lo H hn (k := 5) (ok := 128) (oa := 640) (ob := 704) (g := 2) (o := 256) (sa := 10) (sb := 11) (by decide) rfl rfl rfl rfl rfl rfl rfl _ _ _ _ _ _ x).trans (dq_at h0 (by omega) x1_lt)
  · exact (dq_hi H hn (k := 4) (ok := 128) (oa := 512) (ob := 576) (g := 2) (o := 0) (sa := 8) (sb := 9) (by decide) rfl rfl rfl rfl rfl rfl rfl _ _ _ _ _ _ x).trans (dq_at h0 (by omega) x1_lt)
  · exact (dq_lo H hn (k := 4) (ok := 128) (oa := 512) (ob := 576) (g := 2) (o := 0) (sa := 8) (sb := 9) (by decide) rfl rfl rfl rfl rfl rfl rfl _ _ _ _ _ _ x).trans (dq_at h0 (by omega) x1_lt)
  · exact (dq_hi H hn (k := 3) (ok := 64) (oa := 384) (ob := 448) (g := 1) (o := 256) (sa := 6) (sb := 7) (by decide) rfl rfl rfl rfl rfl rfl rfl _ _ _ _ _ _ x).trans (dq_at h0 (by omega) x1_lt)
  · exact (dq_lo H hn (k := 3) (ok := 64) (oa := 384) (ob := 448) (g := 1) (o := 256) (sa := 6) (sb := 7) (by decide) rfl rfl rfl rfl rfl rfl rfl _ _ _ _ _ _ x).trans (dq_at h0 (by omega) x1_lt)
  · exact (dq_hi H hn (k := 2) (ok := 64) (oa := 256) (ob := 320) (g := 1) (o := 0) (sa := 4) (sb := 5) (by decide) rfl rfl rfl rfl rfl rfl rfl _ _ _ _ _ _ x).trans (dq_at h0 (by omega) x1_lt)
  · exact (dq_lo H hn (k := 2) (ok := 64) (oa := 256) (ob := 320) (g := 1) (o := 0) (sa := 4) (sb := 5) (by decide) rfl rfl rfl rfl rfl rfl rfl _ _ _ _ _ _ x).trans (dq_at h0 (by omega) x1_lt)
  · exact (dq_hi H hn (k := 1) (ok := 0) (oa := 128) (ob := 192) (g := 0) (o := 256) (sa := 2) (sb := 3) (by decide) rfl rfl rfl rfl rfl rfl rfl _ _ _ _ _ _ x).trans (dq_at h0 (by omega) x1_lt)
  · exact (dq_lo H hn (k := 1) (ok := 0) (oa := 128) (ob := 192) (g := 0) (o := 256) (sa := 2) (sb := 3) (by decide) rfl rfl rfl rfl rfl rfl rfl _ _ _ _ _ _ x).trans (dq_at h0 (by omega) x1_lt)
  · exact (dq_hi H hn (k := 0) (ok := 0) (oa := 0) (ob := 64) (g := 0) (o := 0) (sa := 0) (sb := 1) (by decide) rfl rfl rfl rfl rfl rfl rfl _ _ _ _ _ _ x).trans (dq_at h0 (by omega) x1_lt)
  · exact (dq_lo H hn (k := 0) (ok := 0) (oa := 0) (ob := 64) (g := 0) (o := 0) (sa := 0) (sb := 1) (by decide) rfl rfl rfl rfl rfl rfl rfl _ _ _ _ _ _ x).trans (dq_at h0 (by omega) x1_lt)

/-- The gradient of the bias after a block, over what was there. -/
theorem gB_real (Y : Vec Ideal S4x512x256 .f32) (y : S4x512x256.Idx) : gB (BitVec.ofNat 32 n) X0 X1 X2 X3 X4 X5 D X7 X8 Y y
    = Y y + (M.DS n (4 * (y 0).val + (y 1).val / 128) ((y 1).val % 128) (y 2) : EReal) := by
  unfold gB gBL
  canon_tiles x h using (gBL_cover (BitVec.ofNat 32 n) X0 X1 X2 X3 X4 X5 D X7 X8 Y y)
  · exact (db_tile H hn (k := 7) (ok := 192) (oa := 896) (ob := 960) (g := 3) (o := 256) (sa := 14) (sb := 15) (by decide) rfl rfl rfl rfl rfl rfl rfl _ _ _ _ _ _ _ x).trans (db_at (k := 7) Y x y (by omega) (by omega) (by omega))
  · exact (db_tile H hn (k := 6) (ok := 192) (oa := 768) (ob := 832) (g := 3) (o := 0) (sa := 12) (sb := 13) (by decide) rfl rfl rfl rfl rfl rfl rfl _ _ _ _ _ _ _ x).trans (db_at (k := 6) Y x y (by omega) (by omega) (by omega))
  · exact (db_tile H hn (k := 5) (ok := 128) (oa := 640) (ob := 704) (g := 2) (o := 256) (sa := 10) (sb := 11) (by decide) rfl rfl rfl rfl rfl rfl rfl _ _ _ _ _ _ _ x).trans (db_at (k := 5) Y x y (by omega) (by omega) (by omega))
  · exact (db_tile H hn (k := 4) (ok := 128) (oa := 512) (ob := 576) (g := 2) (o := 0) (sa := 8) (sb := 9) (by decide) rfl rfl rfl rfl rfl rfl rfl _ _ _ _ _ _ _ x).trans (db_at (k := 4) Y x y (by omega) (by omega) (by omega))
  · exact (db_tile H hn (k := 3) (ok := 64) (oa := 384) (ob := 448) (g := 1) (o := 256) (sa := 6) (sb := 7) (by decide) rfl rfl rfl rfl rfl rfl rfl _ _ _ _ _ _ _ x).trans (db_at (k := 3) Y x y (by omega) (by omega) (by omega))
  · exact (db_tile H hn (k := 2) (ok := 64) (oa := 256) (ob := 320) (g := 1) (o := 0) (sa := 4) (sb := 5) (by decide) rfl rfl rfl rfl rfl rfl rfl _ _ _ _ _ _ _ x).trans (db_at (k := 2) Y x y (by omega) (by omega) (by omega))
  · exact (db_tile H hn (k := 1) (ok := 0) (oa := 128) (ob := 192) (g := 0) (o := 256) (sa := 2) (sb := 3) (by decide) rfl rfl rfl rfl rfl rfl rfl _ _ _ _ _ _ _ x).trans (db_at (k := 1) Y x y (by omega) (by omega) (by omega))
  · exact (db_tile H hn (k := 0) (ok := 0) (oa := 0) (ob := 64) (g := 0) (o := 0) (sa := 0) (sb := 1) (by decide) rfl rfl rfl rfl rfl rfl rfl _ _ _ _ _ _ _ x).trans (db_at (k := 0) Y x y (by omega) (by omega) (by omega))

end Entries

end Cert.Attn
-- ==== Proof.AttnBlock2.lean ====
/-
  The rest of what the attention's gradient leaves for one block of queries: the gradients of the window's keys and
  values, of the sinks and of the gate, read at an entry as real numbers.
-/
module

public import proofs.«01_k».proof.Proof.AttnBlock

@[expose] public section

set_option maxRecDepth 16384

noncomputable section

namespace Cert.Attn

open Cert.AttnKernelIdeal Cert.AttnKernelIdeal.Gen Idealize.ShloMosaic

theorem lit0 : Ideal.ofBits FTy.f32 0#32 = 0 := by
  simp [Ideal.ofBits, Ideal.ieee]

/-- A head's column of the sinks' row. -/
theorem gLane_at (half l : BitVec 32) (X : FVec Ideal S256x1 .f32) (prev : FVec Ideal S1x128 .f32) (b : Fin 128) :
    gLane half l X prev (ix2 0 b) = Scalar.select (IntOp.cmpi CmpIPredicate.eq (BitVec.ofNat 32 b.val) l)
      (0 - ∑ r : Fin 256, Scalar.select (IntOp.cmpi CmpIPredicate.eq (BitVec.ofNat 32 (r.val / 128)) half) (X (ix2 r 0)) 0) (prev (ix2 0 b)) := by
  pointwise [gLane]
  simp only [lit0, p16, Finset.sum_const, Finset.card_univ, Fintype.card_fin, one_smul]

/-- A sum over the stacked rows is a sum over each head's rows. -/
theorem sum_stack (f : Fin 256 → EReal) : ∑ r : Fin 256, f r = ∑ q : Fin 128, f ⟨q.val, by omega⟩ + ∑ q : Fin 128, f ⟨128 + q.val, by omega⟩ :=
  Fin.sum_univ_add (a := 128) (b := 128) f

theorem sum_stackR (f : Fin 256 → ℝ) : ∑ r : Fin 256, f r = ∑ q : Fin 128, f ⟨q.val, by omega⟩ + ∑ q : Fin 128, f ⟨128 + q.val, by omega⟩ :=
  Fin.sum_univ_add (a := 128) (b := 128) f

/-- The gradient of a head's sink from one block. -/
def Blk.DSK (M : Blk) (n h : ℕ) : ℝ := -∑ q : Fin 128, M.PS n h q.val * M.dl h q.val

section Entries

variable {M : Blk} {X0 : Vec Ideal S128x1024 .f32} {X1 X2 X3 X4 : Vec Ideal S128x256 .f32} {X5 D : Vec Ideal S128x1024 .f32}
  {X7 : Vec Ideal S4x512x256 .f32} {X8 : Vec Ideal S16 .f32} (H : IsBlk M X0 X1 X2 X3 X4 X5 D X7 X8) {n : ℕ} (hn : n < 64)

theorem sel_eq (b : Fin 128) (m : ℕ) (hm : m < 16) (x y : EReal) :
    Scalar.select (IntOp.cmpi CmpIPredicate.eq (BitVec.ofNat 32 b.val) (BitVec.ofNat 32 m)) x y = if b.val = m then x else y := by
  have h : ∀ (b : Fin 128) (m : Fin 16), IntOp.cmpi CmpIPredicate.eq (BitVec.ofNat 32 b.val) (BitVec.ofNat 32 m.val) = if b.val = m.val then 1#1 else 0#1 := by
    decide +kernel
  rw [h b ⟨m, hm⟩]
  by_cases e : b.val = m
  · rw [if_pos e, if_pos e]; rfl
  · rw [if_neg e, if_neg e]; rfl

/-- The lane of a tile's first head. -/
theorem lane_lo {k : ℕ} {l : BitVec 32} (hl : l = BitVec.ofNat 32 (2 * k)) (hk : k < 8) {X : FVec Ideal S256x1 .f32}
    (hX : ∀ r : Fin 256, X (ix2 r 0) = ((M.PS n (2 * k + r.val / 128) (r.val % 128) * M.dl (2 * k + r.val / 128) (r.val % 128) : ℝ) : EReal))
    (prev : FVec Ideal S1x128 .f32) (b : Fin 128) :
    gLane 0#32 l X prev (ix2 0 b) = if b.val = 2 * k then (M.DSK n (2 * k) : EReal) else prev (ix2 0 b) := by
  rw [gLane_at, hl, sel_eq b (2 * k) (by omega)]
  refine if_congr Iff.rfl ?_ rfl
  have e : ∀ r : Fin 256, Scalar.select (IntOp.cmpi CmpIPredicate.eq (BitVec.ofNat 32 (r.val / 128)) 0#32) (X (ix2 r 0)) 0
      = (if r.val < 128 then X (ix2 r 0) else 0 : EReal) := fun r => by
    rw [eqlo]; by_cases h : r.val < 128 <;> simp only [h, if_true, if_false] <;> rfl
  simp only [e]
  rw [sum_stack]
  have e1 : ∀ q : Fin 128, (if (⟨q.val, by omega⟩ : Fin 256).val < 128 then X (ix2 ⟨q.val, by omega⟩ 0) else 0 : EReal)
      = ((M.PS n (2 * k) q.val * M.dl (2 * k) q.val : ℝ) : EReal) := fun q => by
    rw [if_pos q.isLt, hX]
    show ((M.PS n (2 * k + q.val / 128) (q.val % 128) * M.dl (2 * k + q.val / 128) (q.val % 128) : ℝ) : EReal) = _
    rw [Nat.div_eq_of_lt q.isLt, Nat.mod_eq_of_lt q.isLt]; rfl
  have e2 : ∀ q : Fin 128, (if (⟨128 + q.val, by omega⟩ : Fin 256).val < 128 then X (ix2 ⟨128 + q.val, by omega⟩ 0) else 0 : EReal) = 0 := fun q =>
    if_neg (by show ¬(128 + q.val < 128); omega)
  simp only [e1, e2]
  rw [Finset.sum_const_zero, add_zero, ← coe_sum, zero_sub, ← EReal.coe_neg]
  rfl

/-- The lane of a tile's second head. -/
theorem lane_hi {k : ℕ} {l : BitVec 32} (hl : l = BitVec.ofNat 32 (2 * k + 1)) (hk : k < 8) {X : FVec Ideal S256x1 .f32}
    (hX : ∀ r : Fin 256, X (ix2 r 0) = ((M.PS n (2 * k + r.val / 128) (r.val % 128) * M.dl (2 * k + r.val / 128) (r.val % 128) : ℝ) : EReal))
    (prev : FVec Ideal S1x128 .f32) (b : Fin 128) :
    gLane 1#32 l X prev (ix2 0 b) = if b.val = 2 * k + 1 then (M.DSK n (2 * k + 1) : EReal) else prev (ix2 0 b) := by
  rw [gLane_at, hl, sel_eq b (2 * k + 1) (by omega)]
  refine if_congr Iff.rfl ?_ rfl
  have e : ∀ r : Fin 256, Scalar.select (IntOp.cmpi CmpIPredicate.eq (BitVec.ofNat 32 (r.val / 128)) 1#32) (X (ix2 r 0)) 0
      = (if r.val < 128 then 0 else X (ix2 r 0) : EReal) := fun r => by
    rw [eqhi]; by_cases h : r.val < 128 <;> simp only [h, if_true, if_false] <;> rfl
  simp only [e]
  rw [sum_stack]
  have e1 : ∀ q : Fin 128, (if (⟨q.val, by omega⟩ : Fin 256).val < 128 then 0 else X (ix2 ⟨q.val, by omega⟩ 0) : EReal) = 0 := fun q => if_pos q.isLt
  have e2 : ∀ q : Fin 128, (if (⟨128 + q.val, by omega⟩ : Fin 256).val < 128 then 0 else X (ix2 ⟨128 + q.val, by omega⟩ 0) : EReal)
      = ((M.PS n (2 * k + 1) q.val * M.dl (2 * k + 1) q.val : ℝ) : EReal) := fun q => by
    rw [if_neg (by show ¬(128 + q.val < 128); omega), hX]
    show ((M.PS n (2 * k + (128 + q.val) / 128) ((128 + q.val) % 128) * M.dl (2 * k + (128 + q.val) / 128) ((128 + q.val) % 128) : ℝ) : EReal) = _
    rw [show (128 + q.val) / 128 = 1 by omega, show (128 + q.val) % 128 = q.val by omega]
  simp only [e1, e2]
  rw [Finset.sum_const_zero, zero_add, ← coe_sum, zero_sub, ← EReal.coe_neg]
  rfl

include H hn

/-- The gradient of the keys of group 0. -/
theorem gK0_real (j : Fin 256) (d : Fin 64) : gK0 (BitVec.ofNat 32 n) X0 X1 X2 X3 X4 X5 D X7 X8 (ix2 j d) = (M.DK n 0 j.val d.val : EReal) := by
  unfold gK0
  rw [dk_tile H hn (k := 1) (ok := 0) (oa := 128) (ob := 192) (g := 0) (o := 256) (sa := 2) (sb := 3) (by decide) rfl rfl rfl rfl rfl rfl rfl _ _ _ _ _ _, dk_tile H hn (k := 0) (ok := 0) (oa := 0) (ob := 64) (g := 0) (o := 0) (sa := 0) (sb := 1) (by decide) rfl rfl rfl rfl rfl rfl rfl _ _ _ _ _ _]
  rw [Blk.DK, dif_pos j.isLt, EReal.coe_add]
  refine congrArg₂ (· + ·) ?_ rfl
  refine (congrArg (· + _) ?_).trans (zero_add _)
  pointwise
  exact lit0

/-- The gradient of the values of group 0. -/
theorem gV0_real (j : Fin 256) (d : Fin 64) : gV0 (BitVec.ofNat 32 n) X0 X1 X2 D X7 X8 (ix2 j d) = (M.DV n 0 j.val d.val : EReal) := by
  unfold gV0
  rw [dv_tile H hn (k := 1) (ok := 0) (oa := 128) (ob := 192) (g := 0) (o := 256) (sa := 2) (sb := 3) (by decide) rfl rfl rfl rfl rfl rfl rfl _ _ _ _ _ _, dv_tile H hn (k := 0) (ok := 0) (oa := 0) (ob := 64) (g := 0) (o := 0) (sa := 0) (sb := 1) (by decide) rfl rfl rfl rfl rfl rfl rfl _ _ _ _ _ _]
  rw [Blk.DV, dif_pos j.isLt, EReal.coe_add]
  refine congrArg₂ (· + ·) ?_ rfl
  refine (congrArg (· + _) ?_).trans (zero_add _)
  pointwise
  exact lit0

/-- The gradient of the keys of group 1. -/
theorem gK1_real (j : Fin 256) (d : Fin 64) : gK1 (BitVec.ofNat 32 n) X0 X1 X2 X3 X4 X5 D X7 X8 (ix2 j d) = (M.DK n 1 j.val d.val : EReal) := by
  unfold gK1
  rw [dk_tile H hn (k := 3) (ok := 64) (oa := 384) (ob := 448) (g := 1) (o := 256) (sa := 6) (sb := 7) (by decide) rfl rfl rfl rfl rfl rfl rfl _ _ _ _ _ _, dk_tile H hn (k := 2) (ok := 64) (oa := 256) (ob := 320) (g := 1) (o := 0) (sa := 4) (sb := 5) (by decide) rfl rfl rfl rfl rfl rfl rfl _ _ _ _ _ _]
  rw [Blk.DK, dif_pos j.isLt, EReal.coe_add]
  refine congrArg₂ (· + ·) ?_ rfl
  refine (congrArg (· + _) ?_).trans (zero_add _)
  pointwise
  exact lit0

/-- The gradient of the values of group 1. -/
theorem gV1_real (j : Fin 256) (d : Fin 64) : gV1 (BitVec.ofNat 32 n) X0 X1 X2 D X7 X8 (ix2 j d) = (M.DV n 1 j.val d.val : EReal) := by
  unfold gV1
  rw [dv_tile H hn (k := 3) (ok := 64) (oa := 384) (ob := 448) (g := 1) (o := 256) (sa := 6) (sb := 7) (by decide) rfl rfl rfl rfl rfl rfl rfl _ _ _ _ _ _, dv_tile H hn (k := 2) (ok := 64) (oa := 256) (ob := 320) (g := 1) (o := 0) (sa := 4) (sb := 5) (by decide) rfl rfl rfl rfl rfl rfl rfl _ _ _ _ _ _]
  rw [Blk.DV, dif_pos j.isLt, EReal.coe_add]
  refine congrArg₂ (· + ·) ?_ rfl
  refine (congrArg (· + _) ?_).trans (zero_add _)
  pointwise
  exact lit0

/-- The gradient of the keys of group 2. -/
theorem gK2_real (j : Fin 256) (d : Fin 64) : gK2 (BitVec.ofNat 32 n) X0 X1 X2 X3 X4 X5 D X7 X8 (ix2 j d) = (M.DK n 2 j.val d.val : EReal) := by
  unfold gK2
  rw [dk_tile H hn (k := 5) (ok := 128) (oa := 640) (ob := 704) (g := 2) (o := 256) (sa := 10) (sb := 11) (by decide) rfl rfl rfl rfl rfl rfl rfl _ _ _ _ _ _, dk_tile H hn (k := 4) (ok := 128) (oa := 512) (ob := 576) (g := 2) (o := 0) (sa := 8) (sb := 9) (by decide) rfl rfl rfl rfl rfl rfl rfl _ _ _ _ _ _]
  rw [Blk.DK, dif_pos j.isLt, EReal.coe_add]
  refine congrArg₂ (· + ·) ?_ rfl
  refine (congrArg (· + _) ?_).trans (zero_add _)
  pointwise
  exact lit0

/-- The gradient of the values of group 2. -/
theorem gV2_real (j : Fin 256) (d : Fin 64) : gV2 (BitVec.ofNat 32 n) X0 X1 X2 D X7 X8 (ix2 j d) = (M.DV n 2 j.val d.val : EReal) := by
  unfold gV2
  rw [dv_tile H hn (k := 5) (ok := 128) (oa := 640) (ob := 704) (g := 2) (o := 256) (sa := 10) (sb := 11) (by decide) rfl rfl rfl rfl rfl rfl rfl _ _ _ _ _ _, dv_tile H hn (k := 4) (ok := 128) (oa := 512) (ob := 576) (g := 2) (o := 0) (sa := 8) (sb := 9) (by decide) rfl rfl rfl rfl rfl rfl rfl _ _ _ _ _ _]
  rw [Blk.DV, dif_pos j.isLt, EReal.coe_add]
  refine congrArg₂ (· + ·) ?_ rfl
  refine (congrArg (· + _) ?_).trans (zero_add _)
  pointwise
  exact lit0

/-- The gradient of the keys of group 3. -/
theorem gK3_real (j : Fin 256) (d : Fin 64) : gK3 (BitVec.ofNat 32 n) X0 X1 X2 X3 X4 X5 D X7 X8 (ix2 j d) = (M.DK n 3 j.val d.val : EReal) := by
  unfold gK3
  rw [dk_tile H hn (k := 7) (ok := 192) (oa := 896) (ob := 960) (g := 3) (o := 256) (sa := 14) (sb := 15) (by decide) rfl rfl rfl rfl rfl rfl rfl _ _ _ _ _ _, dk_tile H hn (k := 6) (ok := 192) (oa := 768) (ob := 832) (g := 3) (o := 0) (sa := 12) (sb := 13) (by decide) rfl rfl rfl rfl rfl rfl rfl _ _ _ _ _ _]
  rw [Blk.DK, dif_pos j.isLt, EReal.coe_add]
  refine congrArg₂ (· + ·) ?_ rfl
  refine (congrArg (· + _) ?_).trans (zero_add _)
  pointwise
  exact lit0

/-- The gradient of the values of group 3. -/
theorem gV3_real (j : Fin 256) (d : Fin 64) : gV3 (BitVec.ofNat 32 n) X0 X1 X2 D X7 X8 (ix2 j d) = (M.DV n 3 j.val d.val : EReal) := by
  unfold gV3
  rw [dv_tile H hn (k := 7) (ok := 192) (oa := 896) (ob := 960) (g := 3) (o := 256) (sa := 14) (sb := 15) (by decide) rfl rfl rfl rfl rfl rfl rfl _ _ _ _ _ _, dv_tile H hn (k := 6) (ok := 192) (oa := 768) (ob := 832) (g := 3) (o := 0) (sa := 12) (sb := 13) (by decide) rfl rfl rfl rfl rfl rfl rfl _ _ _ _ _ _]
  rw [Blk.DV, dif_pos j.isLt, EReal.coe_add]
  refine congrArg₂ (· + ·) ?_ rfl
  refine (congrArg (· + _) ?_).trans (zero_add _)
  pointwise
  exact lit0

omit H hn

theorem dkv_k {g r a c x : ℕ} (e0 : r = a) (e1 : c = 64 * g + x) (hx : x < 64) (hg : g < 4) : (M.DK n g a x : EReal) = (M.DKV n r c : EReal) := by
  subst e0 e1
  rw [Blk.DKV, if_pos (by omega), show (64 * g + x) / 64 = g by omega, show (64 * g + x) % 64 = x by omega]

theorem dkv_v {g r a c x : ℕ} (e0 : r = a) (e1 : c = 256 + 64 * g + x) (hx : x < 64) (hg : g < 4) : (M.DV n g a x : EReal) = (M.DKV n r c : EReal) := by
  subst e0 e1
  rw [Blk.DKV, if_neg (by omega), show (256 + 64 * g + x - 256) / 64 = g by omega, show (256 + 64 * g + x) % 64 = x by omega]

/-- The rows kept for the next block: the window's second half. -/
theorem keep5 {Z : FVec Ideal S256x64 .f32} {z : ℕ → ℕ → ℝ} (hZ : ∀ (j : Fin 256) (d : Fin 64), Z (ix2 j d) = (z j.val d.val : EReal)) (x : S128x64.Idx) :
    k0_pay5 (F := Ideal) Z x = (z (128 + (x 0).val) (x 1).val : EReal) := by
  obtain ⟨a, b, rfl⟩ : ∃ (a : Fin 128) (b : Fin 64), x = ix2 a b := ⟨x 0, x 1, eq_ix2 x⟩
  pointwise [k0_pay5]
  exact hZ _ _

theorem keep6 {Z : FVec Ideal S256x64 .f32} {z : ℕ → ℕ → ℝ} (hZ : ∀ (j : Fin 256) (d : Fin 64), Z (ix2 j d) = (z j.val d.val : EReal)) (x : S128x64.Idx) :
    k0_pay6 (F := Ideal) Z x = (z (128 + (x 0).val) (x 1).val : EReal) := by
  obtain ⟨a, b, rfl⟩ : ∃ (a : Fin 128) (b : Fin 64), x = ix2 a b := ⟨x 0, x 1, eq_ix2 x⟩
  pointwise [k0_pay6]
  exact hZ _ _

/-- The rows written for the block before: the window's first half on top of what was kept. -/
theorem give {Z : FVec Ideal S256x64 .f32} {z : ℕ → ℕ → ℝ} (hZ : ∀ (j : Fin 256) (d : Fin 64), Z (ix2 j d) = (z j.val d.val : EReal))
    (old : Vec Ideal S128x64 .f32) (x : S128x64.Idx) : gLo (F := Ideal) old Z x = old x + (z (x 0).val (x 1).val : EReal) := by
  obtain ⟨a, b, rfl⟩ : ∃ (a : Fin 128) (b : Fin 64), x = ix2 a b := ⟨x 0, x 1, eq_ix2 x⟩
  pointwise [gLo]
  exact congrArg (_ + ·) (hZ _ _)

theorem give_at {o : ℕ} {h : ∀ a, (![0, o] : Fin 2 → ℕ) a + S128x64.size a ≤ S128x512.size a} (C : Vec Ideal S128x512 .f32) (x : S128x64.Idx) (y : S128x512.Idx)
    (e0 : (y 0).val = (x 0).val) (e1 : (y 1).val = o + (x 1).val) {a b : EReal} (e : a = b) :
    View.ld C (Rect.unit (s := S128x512) ![0, o] S128x64.size h) x + a = C y + b := by
  rw [e]
  refine congrArg (· + b) (congrArg C ?_)
  funext a
  fin_cases a <;> apply Fin.ext
  · refine (Rect.idx_unit_val (s := S128x512) _ _ h x (0 : Fin 2)).trans ?_
    show 0 + (x 0).val = (y 0).val
    omega
  · refine (Rect.idx_unit_val (s := S128x512) _ _ h x (1 : Fin 2)).trans ?_
    show o + (x 1).val = (y 1).val
    omega

include H hn

/-- The carried rows. -/
theorem gC_real (y : S128x512.Idx) : gC (BitVec.ofNat 32 n) X0 X1 X2 X3 X4 X5 D X7 X8 y = (M.DKV n (128 + (y 0).val) (y 1).val : EReal) := by
  unfold gC gCL
  canon_tiles x h using (gCL_cover (BitVec.ofNat 32 n) X0 X1 X2 X3 X4 X5 D X7 X8 y)
  · exact (keep6 (gV3_real H hn) x).trans (dkv_v (g := 3) (by omega) (by omega) x1_lt (by decide))
  · exact (keep5 (gK3_real H hn) x).trans (dkv_k (g := 3) (by omega) (by omega) x1_lt (by decide))
  · exact (keep6 (gV2_real H hn) x).trans (dkv_v (g := 2) (by omega) (by omega) x1_lt (by decide))
  · exact (keep5 (gK2_real H hn) x).trans (dkv_k (g := 2) (by omega) (by omega) x1_lt (by decide))
  · exact (keep6 (gV1_real H hn) x).trans (dkv_v (g := 1) (by omega) (by omega) x1_lt (by decide))
  · exact (keep5 (gK1_real H hn) x).trans (dkv_k (g := 1) (by omega) (by omega) x1_lt (by decide))
  · exact (keep6 (gV0_real H hn) x).trans (dkv_v (g := 0) (by omega) (by omega) x1_lt (by decide))
  · exact (keep5 (gK0_real H hn) x).trans (dkv_k (g := 0) (by omega) (by omega) x1_lt (by decide))

/-- The block of the gradient of the keys and values. -/
theorem gKV_real (C : Vec Ideal S128x512 .f32) (y : S128x512.Idx) :
    gKV (BitVec.ofNat 32 n) X0 X1 X2 X3 X4 X5 D X7 X8 C y = C y + (M.DKV n (y 0).val (y 1).val : EReal) := by
  unfold gKV
  canon_tiles x h
  · exact (give (gV3_real H hn) _ x).trans (give_at C x y (by omega) (by omega) (dkv_v (g := 3) (by omega) (by omega) x1_lt (by decide)))
  · exact (give (gK3_real H hn) _ x).trans (give_at C x y (by omega) (by omega) (dkv_k (g := 3) (by omega) (by omega) x1_lt (by decide)))
  · exact (give (gV2_real H hn) _ x).trans (give_at C x y (by omega) (by omega) (dkv_v (g := 2) (by omega) (by omega) x1_lt (by decide)))
  · exact (give (gK2_real H hn) _ x).trans (give_at C x y (by omega) (by omega) (dkv_k (g := 2) (by omega) (by omega) x1_lt (by decide)))
  · exact (give (gV1_real H hn) _ x).trans (give_at C x y (by omega) (by omega) (dkv_v (g := 1) (by omega) (by omega) x1_lt (by decide)))
  · exact (give (gK1_real H hn) _ x).trans (give_at C x y (by omega) (by omega) (dkv_k (g := 1) (by omega) (by omega) x1_lt (by decide)))
  · exact (give (gV0_real H hn) _ x).trans (give_at C x y (by omega) (by omega) (dkv_v (g := 0) (by omega) (by omega) x1_lt (by decide)))
  · exact (give (gK0_real H hn) _ x).trans (give_at C x y (by omega) (by omega) (dkv_k (g := 0) (by omega) (by omega) x1_lt (by decide)))

/-- The row of the sinks' gradients. -/
theorem gS_real (b : Fin 128) : gS (BitVec.ofNat 32 n) X0 X1 X2 X5 D X7 X8 (ix2 0 b) = if b.val < 16 then (M.DSK n b.val : EReal) else 0 := by
  unfold gS
  rw [lane_hi (k := 7) rfl (by decide) (gX_real H hn (k := 7) (ok := 192) (oa := 896) (ob := 960) (g := 3) (o := 256) (sa := 14) (sb := 15) (by decide) rfl rfl rfl rfl rfl rfl rfl _ _ _ _ _ _)]
  rw [lane_lo (k := 7) rfl (by decide) (gX_real H hn (k := 7) (ok := 192) (oa := 896) (ob := 960) (g := 3) (o := 256) (sa := 14) (sb := 15) (by decide) rfl rfl rfl rfl rfl rfl rfl _ _ _ _ _ _)]
  rw [lane_hi (k := 6) rfl (by decide) (gX_real H hn (k := 6) (ok := 192) (oa := 768) (ob := 832) (g := 3) (o := 0) (sa := 12) (sb := 13) (by decide) rfl rfl rfl rfl rfl rfl rfl _ _ _ _ _ _)]
  rw [lane_lo (k := 6) rfl (by decide) (gX_real H hn (k := 6) (ok := 192) (oa := 768) (ob := 832) (g := 3) (o := 0) (sa := 12) (sb := 13) (by decide) rfl rfl rfl rfl rfl rfl rfl _ _ _ _ _ _)]
  rw [lane_hi (k := 5) rfl (by decide) (gX_real H hn (k := 5) (ok := 128) (oa := 640) (ob := 704) (g := 2) (o := 256) (sa := 10) (sb := 11) (by decide) rfl rfl rfl rfl rfl rfl rfl _ _ _ _ _ _)]
  rw [lane_lo (k := 5) rfl (by decide) (gX_real H hn (k := 5) (ok := 128) (oa := 640) (ob := 704) (g := 2) (o := 256) (sa := 10) (sb := 11) (by decide) rfl rfl rfl rfl rfl rfl rfl _ _ _ _ _ _)]
  rw [lane_hi (k := 4) rfl (by decide) (gX_real H hn (k := 4) (ok := 128) (oa := 512) (ob := 576) (g := 2) (o := 0) (sa := 8) (sb := 9) (by decide) rfl rfl rfl rfl rfl rfl rfl _ _ _ _ _ _)]
  rw [lane_lo (k := 4) rfl (by decide) (gX_real H hn (k := 4) (ok := 128) (oa := 512) (ob := 576) (g := 2) (o := 0) (sa := 8) (sb := 9) (by decide) rfl rfl rfl rfl rfl rfl rfl _ _ _ _ _ _)]
  rw [lane_hi (k := 3) rfl (by decide) (gX_real H hn (k := 3) (ok := 64) (oa := 384) (ob := 448) (g := 1) (o := 256) (sa := 6) (sb := 7) (by decide) rfl rfl rfl rfl rfl rfl rfl _ _ _ _ _ _)]
  rw [lane_lo (k := 3) rfl (by decide) (gX_real H hn (k := 3) (ok := 64) (oa := 384) (ob := 448) (g := 1) (o := 256) (sa := 6) (sb := 7) (by decide) rfl rfl rfl rfl rfl rfl rfl _ _ _ _ _ _)]
  rw [lane_hi (k := 2) rfl (by decide) (gX_real H hn (k := 2) (ok := 64) (oa := 256) (ob := 320) (g := 1) (o := 0) (sa := 4) (sb := 5) (by decide) rfl rfl rfl rfl rfl rfl rfl _ _ _ _ _ _)]
  rw [lane_lo (k := 2) rfl (by decide) (gX_real H hn (k := 2) (ok := 64) (oa := 256) (ob := 320) (g := 1) (o := 0) (sa := 4) (sb := 5) (by decide) rfl rfl rfl rfl rfl rfl rfl _ _ _ _ _ _)]
  rw [lane_hi (k := 1) rfl (by decide) (gX_real H hn (k := 1) (ok := 0) (oa := 128) (ob := 192) (g := 0) (o := 256) (sa := 2) (sb := 3) (by decide) rfl rfl rfl rfl rfl rfl rfl _ _ _ _ _ _)]
  rw [lane_lo (k := 1) rfl (by decide) (gX_real H hn (k := 1) (ok := 0) (oa := 128) (ob := 192) (g := 0) (o := 256) (sa := 2) (sb := 3) (by decide) rfl rfl rfl rfl rfl rfl rfl _ _ _ _ _ _)]
  rw [lane_hi (k := 0) rfl (by decide) (gX_real H hn (k := 0) (ok := 0) (oa := 0) (ob := 64) (g := 0) (o := 0) (sa := 0) (sb := 1) (by decide) rfl rfl rfl rfl rfl rfl rfl _ _ _ _ _ _)]
  rw [lane_lo (k := 0) rfl (by decide) (gX_real H hn (k := 0) (ok := 0) (oa := 0) (ob := 64) (g := 0) (o := 0) (sa := 0) (sb := 1) (by decide) rfl rfl rfl rfl rfl rfl rfl _ _ _ _ _ _)]
  have e : k0_pay17 (F := Ideal) (ix2 0 b) = 0 := by
    pointwise [k0_pay17]
  rw [e]
  have hb := b.isLt
  generalize hm : b.val = m at hb
  by_cases h : m < 16
  · rw [if_pos h]
    interval_cases m <;> rfl
  · rw [if_neg h]
    rw [if_neg (show ¬ m = 2 * 7 + 1 by omega)]
    rw [if_neg (show ¬ m = 2 * 7 by omega)]
    rw [if_neg (show ¬ m = 2 * 6 + 1 by omega)]
    rw [if_neg (show ¬ m = 2 * 6 by omega)]
    rw [if_neg (show ¬ m = 2 * 5 + 1 by omega)]
    rw [if_neg (show ¬ m = 2 * 5 by omega)]
    rw [if_neg (show ¬ m = 2 * 4 + 1 by omega)]
    rw [if_neg (show ¬ m = 2 * 4 by omega)]
    rw [if_neg (show ¬ m = 2 * 3 + 1 by omega)]
    rw [if_neg (show ¬ m = 2 * 3 by omega)]
    rw [if_neg (show ¬ m = 2 * 2 + 1 by omega)]
    rw [if_neg (show ¬ m = 2 * 2 by omega)]
    rw [if_neg (show ¬ m = 2 * 1 + 1 by omega)]
    rw [if_neg (show ¬ m = 2 * 1 by omega)]
    rw [if_neg (show ¬ m = 2 * 0 + 1 by omega)]
    rw [if_neg (show ¬ m = 2 * 0 by omega)]

end Entries

section Gate

/-- The logistic function. -/
def sig (x : ℝ) : ℝ := 1 / (1 + Real.exp (-x))

theorem sig_div (x : ℝ) : Ideal.div (1 : EReal) (1 + Ideal.exp (-(x : EReal))) = (sig x : EReal) := by
  rw [← EReal.coe_neg, Ideal.exp_coe, ← EReal.coe_one, ← EReal.coe_add, Ideal.div_coe (by positivity), ← EReal.coe_mul, one_mul]
  rfl

theorem sig_div' (x : ℝ) : Ideal.div (1 : EReal) (1 + Ideal.exp (0 - (x : EReal))) = (sig x : EReal) := by
  rw [zero_sub, sig_div]

variable {X5 X6 : Vec Ideal S128x1024 .f32} {X9 X10 : Vec Ideal S128x512 .f32} {o ct γ : ℕ → ℕ → ℝ}
  (h5 : ∀ r c, X5 (ix2 r c) = (o r.val c.val : EReal)) (h6 : ∀ r c, X6 (ix2 r c) = (ct r.val c.val : EReal))
  (h9 : ∀ r c, X9 (ix2 r c) = (γ r.val c.val : EReal)) (h10 : ∀ r c, X10 (ix2 r c) = (γ r.val (512 + c.val) : EReal))

theorem half_real {X : Vec Ideal S128x1024 .f32} {x : ℕ → ℕ → ℝ} (hX : ∀ r c, X (ix2 r c) = (x r.val c.val : EReal)) {o : ℕ}
    (h : ∀ a, (![0, o] : Fin 2 → ℕ) a + S128x512.size a ≤ S128x1024.size a) (r : Fin 128) (d : Fin 512) :
    View.ld X (Rect.unit (s := S128x1024) ![0, o] S128x512.size h) (ix2 r d) = (x r.val (o + d.val) : EReal) := by
  have h1 : o + 512 ≤ 1024 := h 1
  refine (congrArg X ?_).trans (hX r ⟨o + d.val, by omega⟩)
  funext a
  fin_cases a <;> apply Fin.ext <;> simp [Rect.idx_unit_val]

theorem whole_real (X : Vec Ideal S128x512 .f32) :
    View.ld X (Rect.unit (s := S128x512) ![0, 0] S128x512.size inb_S128x512_S128x512_0_0) = X :=
  View.ld_unit_lit (S := S128x512) _ _ (fun a => by fin_cases a <;> rfl)

theorem k9_real {a b : Vec Ideal S128x512 .f32} {x y : ℕ → ℕ → ℝ} (ha : ∀ r c, a (ix2 r c) = (x r.val c.val : EReal))
    (hb : ∀ r c, b (ix2 r c) = (y r.val c.val : EReal)) (r : Fin 128) (c : Fin 512) :
    k0_pay9 (F := Ideal) a b (ix2 r c) = ((y r.val c.val * (x r.val c.val * sig (x r.val c.val)) : ℝ) : EReal) := by
  pointwise [k0_pay9, k0_pay8]
  rw [ha, hb, sig_div', ← EReal.coe_mul, ← EReal.coe_mul]

theorem k14_real {a b : Vec Ideal S128x512 .f32} {x y : ℕ → ℕ → ℝ} (ha : ∀ r c, a (ix2 r c) = (x r.val c.val : EReal))
    (hb : ∀ r c, b (ix2 r c) = (y r.val c.val : EReal)) (r : Fin 128) (c : Fin 512) :
    k0_pay14 (F := Ideal) (k0_pay12 a) b (ix2 r c) = ((y r.val c.val * (x r.val c.val * sig (x r.val c.val)) : ℝ) : EReal) := by
  pointwise [k0_pay14, k0_pay12, k0_pay11]
  rw [ha, hb, sig_div', ← EReal.coe_mul, ← EReal.coe_mul]

theorem k10_real {a b z : Vec Ideal S128x512 .f32} {x y w : ℕ → ℕ → ℝ} (ha : ∀ r c, a (ix2 r c) = (x r.val c.val : EReal))
    (hb : ∀ r c, b (ix2 r c) = (y r.val c.val : EReal)) (hz : ∀ r c, z (ix2 r c) = (w r.val c.val : EReal)) (r : Fin 128) (c : Fin 512) :
    k0_pay10 (F := Ideal) a b z (ix2 r c)
      = ((y r.val c.val * w r.val c.val * (sig (x r.val c.val) + x r.val c.val * sig (x r.val c.val) * (1 - sig (x r.val c.val))) : ℝ) : EReal) := by
  pointwise [k0_pay10, k0_pay8]
  rw [ha, hb, hz, sig_div']
  simp only [← EReal.coe_mul, ← EReal.coe_one, ← EReal.coe_sub, ← EReal.coe_add]

theorem k15_real {a b z : Vec Ideal S128x512 .f32} {x y w : ℕ → ℕ → ℝ} (ha : ∀ r c, a (ix2 r c) = (x r.val c.val : EReal))
    (hb : ∀ r c, b (ix2 r c) = (y r.val c.val : EReal)) (hz : ∀ r c, z (ix2 r c) = (w r.val c.val : EReal)) (r : Fin 128) (c : Fin 512) :
    k0_pay15 (F := Ideal) (k0_pay11 a) (k0_pay13 a) b z (ix2 r c)
      = ((y r.val c.val * w r.val c.val * (sig (x r.val c.val) + x r.val c.val * sig (x r.val c.val) * (1 - sig (x r.val c.val))) : ℝ) : EReal) := by
  pointwise [k0_pay15, k0_pay13, k0_pay11]
  rw [ha, hb, hz, sig_div']
  simp only [← EReal.coe_mul, ← EReal.coe_one, ← EReal.coe_sub, ← EReal.coe_add]

include h6 h9 h10

/-- The gradient of the attention's output before the gate. -/
theorem gD_real (r : Fin 128) (c : Fin 1024) :
    gD X6 X9 X10 (ix2 r c) = ((ct r.val c.val * (γ r.val c.val * sig (γ r.val c.val)) : ℝ) : EReal) := by
  unfold gD
  canon_tiles x h
  · rw [whole_real]
    obtain ⟨a, b, rfl⟩ : ∃ (a : Fin 128) (b : Fin 512), x = ix2 a b := ⟨x 0, x 1, eq_ix2 x⟩
    refine (k14_real (x := fun r c => γ r (512 + c)) (y := fun r c => ct r (512 + c)) h10 (half_real h6 _) a b).trans ?_
    rw [show r.val = a.val from h0, show c.val = 512 + b.val from h1]
  · rw [whole_real]
    obtain ⟨a, b, rfl⟩ : ∃ (a : Fin 128) (b : Fin 512), x = ix2 a b := ⟨x 0, x 1, eq_ix2 x⟩
    refine (k9_real (y := fun r c => ct r (0 + c)) h9 (half_real (o := 0) h6 _) a b).trans ?_
    rw [show r.val = a.val from h0, show c.val = b.val from h1, Nat.zero_add]

include h5

/-- The gradient of the gate. -/
theorem gG_real (r : Fin 128) (c : Fin 1024) : gG X5 X6 X9 X10 (ix2 r c)
    = ((ct r.val c.val * o r.val c.val * (sig (γ r.val c.val) + γ r.val c.val * sig (γ r.val c.val) * (1 - sig (γ r.val c.val))) : ℝ) : EReal) := by
  unfold gG
  canon_tiles x h
  · rw [whole_real]
    obtain ⟨a, b, rfl⟩ : ∃ (a : Fin 128) (b : Fin 512), x = ix2 a b := ⟨x 0, x 1, eq_ix2 x⟩
    refine (k15_real (x := fun r c => γ r (512 + c)) (y := fun r c => ct r (512 + c)) (w := fun r c => o r (512 + c)) h10 (half_real h6 _) (half_real h5 _) a b).trans ?_
    rw [show r.val = a.val from h0, show c.val = 512 + b.val from h1]
  · rw [whole_real]
    obtain ⟨a, b, rfl⟩ : ∃ (a : Fin 128) (b : Fin 512), x = ix2 a b := ⟨x 0, x 1, eq_ix2 x⟩
    refine (k10_real (y := fun r c => ct r (0 + c)) (w := fun r c => o r (0 + c)) h9 (half_real (o := 0) h6 _) (half_real (o := 0) h5 _) a b).trans ?_
    rw [show r.val = a.val from h0, show c.val = b.val from h1, Nat.zero_add]

end Gate

end Cert.Attn
-- ==== Proof.AttnArgs.lean ====
/-
  The arguments of the attention's gradient as real numbers, what they make for each block of 128 queries, and the
  gradients' entries as sums over the blocks.
-/
module

public import proofs.«01_k».proof.Proof.AttnBlock2

@[expose] public section

noncomputable section

namespace Cert.Attn

/-- The arguments: the projected input, the cotangent, the bias by head, row and key, and the sinks. -/
structure Args where
  u : ℕ → ℕ → ℝ
  ct : ℕ → ℕ → ℝ
  b : ℕ → ℕ → ℕ → ℝ
  s : ℕ → ℝ

namespace Args

variable (A : Args)

/-- The gate's columns. -/
def γ (r c : ℕ) : ℝ := A.u r (5632 + c)

/-- Block `n` of the queries without the saved attention; at the first block the block before it is the first itself. -/
def pre (n : ℕ) : Blk where
  q r c := A.u (128 * n + r) (4096 + c)
  kp r c := A.u (128 * (n - 1) + r) (5120 + c)
  kc r c := A.u (128 * n + r) (5120 + c)
  vp r c := A.u (128 * (n - 1) + r) (5376 + c)
  vc r c := A.u (128 * n + r) (5376 + c)
  o _ _ := 0
  d r c := A.ct (128 * n + r) c * (A.γ (128 * n + r) c * sig (A.γ (128 * n + r) c))
  b := A.b
  s := A.s

/-- The attention's output. -/
def o (r c : ℕ) : ℝ :=
  ∑ j : Fin 256, (A.pre (r / 128)).P (r / 128) (c / 64) (r % 128) j * (A.pre (r / 128)).V (c / 256) j.val (c % 64)

/-- What the kernel reads for block `n` of the queries. -/
def blk (n : ℕ) : Blk := { A.pre n with o := fun r c => A.o (128 * n + r) c }

/-- The gradient of the queries. -/
def GQ (r c : ℕ) : ℝ := (A.blk (r / 128)).DQ (r / 128) (c / 64) (r % 128) (c % 64)

/-- The gradient of the gate. -/
def GG (r c : ℕ) : ℝ :=
  A.ct r c * A.o r c * (sig (A.γ r c) + A.γ r c * sig (A.γ r c) * (1 - sig (A.γ r c)))

/-- The gradient of the bias. -/
def GB (h q : ℕ) (j : Fin 256) : ℝ := ∑ n : Fin 64, (A.blk n.val).DS n.val h q j

/-- The gradient of the sinks. -/
def GS (h : ℕ) : ℝ := ∑ n : Fin 64, (A.blk n.val).DSK n.val h

/-- The gradients of the keys and values: the block's own window and the next block's. -/
def GKV (r c : ℕ) : ℝ :=
  (A.blk (r / 128)).DKV (r / 128) (128 + r % 128) c
    + if r / 128 < 63 then (A.blk (r / 128 + 1)).DKV (r / 128 + 1) (r % 128) c else 0

end Args

end Cert.Attn
-- ==== Proof.AttnVal2.lean ====
/-
  The blocks of the operands of the attention's gradient at a point of the grid, as real numbers, from real arguments.
-/
module

public import proofs.«01_k».proof.Proof.AttnArgs
public import proofs.«01_k».proof.Proof.AttnFrame
public import proofs.«01_k».proof.Proof.ConvSpec

@[expose] public section

set_option maxRecDepth 16384

noncomputable section

namespace Cert.Attn

open Cert.AttnKernelIdeal Cert.AttnKernelIdeal.Gen Idealize.ShloMosaic Idealize.ShloMosaic.TcCoe Idealize.SL.Sem
open Cert.Conv (ent eq_ent ent_of_lt)

variable (m : (ℓ : Loc nD τ Cert.AttnKernelIdeal.sig) → Buf (Elt Ideal) ℓ)

/-- The buffers that the call reads hold the real numbers `A`. -/
structure Holds (A : Args) (c : Dev nD) : Prop where
  u : ∀ r k, r < 8192 → k < 16896 → ent (m ((c : Thread nD τ).loc main_arg0)) r k = (A.u r k : EReal)
  ct : ∀ r k, r < 8192 → k < 1024 → ent (m ((c : Thread nD τ).loc main_arg1)) r k = (A.ct r k : EReal)
  s : ∀ h : Fin 16, (m ((c : Thread nD τ).loc main_arg3) : S16.Idx → EReal) (ix1 h) = (A.s h.val : EReal)
  o : ∀ r k, r < 8192 → k < 1024 → ent (V m c main_v73 : S8192x1024.Idx → EReal) r k = (A.o r k : EReal)
  b : ∀ (g : Fin 4) (r : Fin 512) (j : Fin 256), (V m c main_v96 : S4x512x256.Idx → EReal) (ix3 g r j) =
    if r.val % 128 < j.val ∧ j.val ≤ 128 + r.val % 128 then (A.b (4 * g.val + r.val / 128) (r.val % 128) j.val : EReal) else ⊥

/-- The block indices of the operands. -/
theorem idxIn : ∀ t : Fin cfg0.N, t.val < 64 →
    (win0_0.index t (0 : Fin 2) = t.val ∧ win0_0.index t (1 : Fin 2) = 4)
    ∧ (win0_1.index t (0 : Fin 2) = t.val - 1 ∧ win0_1.index t (1 : Fin 2) = 20)
    ∧ (win0_2.index t (0 : Fin 2) = t.val ∧ win0_2.index t (1 : Fin 2) = 20)
    ∧ (win0_3.index t (0 : Fin 2) = t.val - 1 ∧ win0_3.index t (1 : Fin 2) = 21)
    ∧ (win0_4.index t (0 : Fin 2) = t.val ∧ win0_4.index t (1 : Fin 2) = 21)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 3) = 0 ∧ win0_7.index t (1 : Fin 3) = 0 ∧ win0_7.index t (2 : Fin 3) = 0)
    ∧ (win0_8.index t (0 : Fin 1) = 0)
    ∧ (win0_9.index t (0 : Fin 2) = t.val ∧ win0_9.index t (1 : Fin 2) = 11)
    ∧ (win0_10.index t (0 : Fin 2) = t.val ∧ win0_10.index t (1 : Fin 2) = 12) :=
  (by decide +kernel : ∀ t : Fin grid0.N, t.val < 64 → _)

section Blocks

variable {m} {A : Args} {c : Dev nD} (H : Holds m A c) (t : Fin cfg0.N) (ht : t.val < 64)
include H ht

theorem blk1 (r : Fin 128) (k : Fin 256) : @Eq EReal (iblk m c 1 t (ix2 r k)) ((A.blk t.val).kp r.val k.val : EReal) := by
  obtain ⟨-, e, -⟩ := idxIn t ht
  refine Eq.trans ?_ (H.u (128 * (t.val - 1) + r.val) (5120 + k.val) (by omega) (by omega))
  unfold iblk
  rw [View.read_apply]
  show (V m c main_arg0 : S8192x16896.Idx → EReal) _ = _
  rw [V_main_arg0]
  refine eq_ent (n0 := 8192) (n1 := 16896) _ _ ?_ ?_
  · show win0_1.index t (0 : Fin 2) * 128 + 1 * r.val = _; rw [e.1]; omega
  · show win0_1.index t (1 : Fin 2) * 256 + 1 * k.val = _; rw [e.2]; omega

theorem blk2 (r : Fin 128) (k : Fin 256) : @Eq EReal (iblk m c 2 t (ix2 r k)) ((A.blk t.val).kc r.val k.val : EReal) := by
  obtain ⟨-, -, e, -⟩ := idxIn t ht
  refine Eq.trans ?_ (H.u (128 * t.val + r.val) (5120 + k.val) (by omega) (by omega))
  unfold iblk
  rw [View.read_apply]
  show (V m c main_arg0 : S8192x16896.Idx → EReal) _ = _
  rw [V_main_arg0]
  refine eq_ent (n0 := 8192) (n1 := 16896) _ _ ?_ ?_
  · show win0_2.index t (0 : Fin 2) * 128 + 1 * r.val = _; rw [e.1]; omega
  · show win0_2.index t (1 : Fin 2) * 256 + 1 * k.val = _; rw [e.2]; omega

theorem blk3 (r : Fin 128) (k : Fin 256) : @Eq EReal (iblk m c 3 t (ix2 r k)) ((A.blk t.val).vp r.val k.val : EReal) := by
  obtain ⟨-, -, -, e, -⟩ := idxIn t ht
  refine Eq.trans ?_ (H.u (128 * (t.val - 1) + r.val) (5376 + k.val) (by omega) (by omega))
  unfold iblk
  rw [View.read_apply]
  show (V m c main_arg0 : S8192x16896.Idx → EReal) _ = _
  rw [V_main_arg0]
  refine eq_ent (n0 := 8192) (n1 := 16896) _ _ ?_ ?_
  · show win0_3.index t (0 : Fin 2) * 128 + 1 * r.val = _; rw [e.1]; omega
  · show win0_3.index t (1 : Fin 2) * 256 + 1 * k.val = _; rw [e.2]; omega

theorem blk4 (r : Fin 128) (k : Fin 256) : @Eq EReal (iblk m c 4 t (ix2 r k)) ((A.blk t.val).vc r.val k.val : EReal) := by
  obtain ⟨-, -, -, -, e, -⟩ := idxIn t ht
  refine Eq.trans ?_ (H.u (128 * t.val + r.val) (5376 + k.val) (by omega) (by omega))
  unfold iblk
  rw [View.read_apply]
  show (V m c main_arg0 : S8192x16896.Idx → EReal) _ = _
  rw [V_main_arg0]
  refine eq_ent (n0 := 8192) (n1 := 16896) _ _ ?_ ?_
  · show win0_4.index t (0 : Fin 2) * 128 + 1 * r.val = _; rw [e.1]; omega
  · show win0_4.index t (1 : Fin 2) * 256 + 1 * k.val = _; rw [e.2]; omega

theorem blk5 (r : Fin 128) (k : Fin 1024) : @Eq EReal (iblk m c 5 t (ix2 r k)) ((A.blk t.val).o r.val k.val : EReal) := by
  obtain ⟨-, -, -, -, -, e, -⟩ := idxIn t ht
  refine Eq.trans ?_ (H.o (128 * t.val + r.val) k.val (by omega) (by omega))
  unfold iblk
  rw [View.read_apply]
  show (V m c main_v73 : S8192x1024.Idx → EReal) _ = _
  refine eq_ent (n0 := 8192) (n1 := 1024) _ _ ?_ ?_
  · show win0_5.index t (0 : Fin 2) * 128 + 1 * r.val = _; rw [e.1]; omega
  · show win0_5.index t (1 : Fin 2) * 1024 + 1 * k.val = _; rw [e.2]; omega

theorem blk6 (r : Fin 128) (k : Fin 1024) : @Eq EReal (iblk m c 6 t (ix2 r k)) (A.ct (128 * t.val + r.val) k.val : EReal) := by
  obtain ⟨-, -, -, -, -, -, e, -⟩ := idxIn t ht
  refine Eq.trans ?_ (H.ct (128 * t.val + r.val) k.val (by omega) (by omega))
  unfold iblk
  rw [View.read_apply]
  show (V m c main_arg1 : S8192x1024.Idx → EReal) _ = _
  rw [V_main_arg1]
  refine eq_ent (n0 := 8192) (n1 := 1024) _ _ ?_ ?_
  · show win0_6.index t (0 : Fin 2) * 128 + 1 * r.val = _; rw [e.1]; omega
  · show win0_6.index t (1 : Fin 2) * 1024 + 1 * k.val = _; rw [e.2]; omega

theorem blk7 (g : Fin 4) (r : Fin 512) (j : Fin 256) : @Eq EReal (iblk m c 7 t (ix3 g r j))
    (if r.val % 128 < j.val ∧ j.val ≤ 128 + r.val % 128 then (A.b (4 * g.val + r.val / 128) (r.val % 128) j.val : EReal) else ⊥) := by
  obtain ⟨-, -, -, -, -, -, -, e, -⟩ := idxIn t ht
  refine Eq.trans ?_ (H.b g r j)
  unfold iblk
  rw [View.read_apply]
  show (V m c main_v96 : S4x512x256.Idx → EReal) _ = _
  refine congrArg _ (funext fun a => Fin.ext ?_)
  match a with
  | ⟨0, _⟩ => show win0_7.index t (0 : Fin 3) * 4 + 1 * g.val = g.val; rw [e.1]; omega
  | ⟨1, _⟩ => show win0_7.index t (1 : Fin 3) * 512 + 1 * r.val = r.val; rw [e.2.1]; omega
  | ⟨2, _⟩ => show win0_7.index t (2 : Fin 3) * 256 + 1 * j.val = j.val; rw [e.2.2]; omega

theorem blk8 (h : Fin 16) : @Eq EReal (iblk m c 8 t (ix1 h)) (A.s h.val : EReal) := by
  obtain ⟨-, -, -, -, -, -, -, -, e, -⟩ := idxIn t ht
  refine Eq.trans ?_ (H.s h)
  unfold iblk
  rw [View.read_apply]
  show (V m c main_arg3 : S16.Idx → EReal) _ = _
  rw [V_main_arg3]
  refine congrArg _ (funext fun a => Fin.ext ?_)
  match a with
  | ⟨0, _⟩ => show win0_8.index t (0 : Fin 1) * 16 + 1 * h.val = h.val; rw [e]; omega

theorem blk9 (r : Fin 128) (k : Fin 512) : @Eq EReal (iblk m c 9 t (ix2 r k)) (A.γ (128 * t.val + r.val) k.val : EReal) := by
  obtain ⟨-, -, -, -, -, -, -, -, -, e, -⟩ := idxIn t ht
  refine Eq.trans ?_ (H.u (128 * t.val + r.val) (5632 + k.val) (by omega) (by omega))
  unfold iblk
  rw [View.read_apply]
  show (V m c main_arg0 : S8192x16896.Idx → EReal) _ = _
  rw [V_main_arg0]
  refine eq_ent (n0 := 8192) (n1 := 16896) _ _ ?_ ?_
  · show win0_9.index t (0 : Fin 2) * 128 + 1 * r.val = _; rw [e.1]; omega
  · show win0_9.index t (1 : Fin 2) * 512 + 1 * k.val = _; rw [e.2]; omega

theorem blk10 (r : Fin 128) (k : Fin 512) : @Eq EReal (iblk m c 10 t (ix2 r k)) (A.γ (128 * t.val + r.val) (512 + k.val) : EReal) := by
  obtain ⟨-, -, -, -, -, -, -, -, -, -, e⟩ := idxIn t ht
  refine Eq.trans ?_ (H.u (128 * t.val + r.val) (5632 + (512 + k.val)) (by omega) (by omega))
  unfold iblk
  rw [View.read_apply]
  show (V m c main_arg0 : S8192x16896.Idx → EReal) _ = _
  rw [V_main_arg0]
  refine eq_ent (n0 := 8192) (n1 := 16896) _ _ ?_ ?_
  · show win0_10.index t (0 : Fin 2) * 128 + 1 * r.val = _; rw [e.1]; omega
  · show win0_10.index t (1 : Fin 2) * 512 + 1 * k.val = _; rw [e.2]; omega

theorem blk0 (r : Fin 128) (k : Fin 1024) : @Eq EReal (X0_0 m c t (ix2 r k)) ((A.blk t.val).q r.val k.val : EReal) := by
  obtain ⟨e, -⟩ := idxIn t ht
  refine Eq.trans ?_ (H.u (128 * t.val + r.val) (4096 + k.val) (by omega) (by omega))
  unfold X0_0 Pipeline.Window.fill
  rw [dif_pos (moved0_0 t (ix2 r k))]
  unfold iblk
  rw [View.read_apply]
  show (V m c main_arg0 : S8192x16896.Idx → EReal) _ = _
  rw [V_main_arg0]
  refine eq_ent (n0 := 8192) (n1 := 16896) _ _ ?_ ?_
  · show win0_0.index t (0 : Fin 2) * 128 + 1 * r.val = _; rw [e.1]; omega
  · show win0_0.index t (1 : Fin 2) * 1024 + 1 * k.val = _; rw [e.2]; omega

/-- The operands' blocks at a point are the real numbers that block of the queries takes. -/
theorem isBlk : IsBlk (A.blk t.val) (X0_0 m c t) (iblk m c 1 t) (iblk m c 2 t) (iblk m c 3 t) (iblk m c 4 t) (iblk m c 5 t)
    (gD (iblk m c 6 t) (iblk m c 9 t) (iblk m c 10 t)) (iblk m c 7 t) (iblk m c 8 t) where
  q := blk0 H t ht
  kp := blk1 H t ht
  kc := blk2 H t ht
  vp := blk3 H t ht
  vc := blk4 H t ht
  o := blk5 H t ht
  d r k := gD_real (γ := fun r k => A.γ (128 * t.val + r) k) (ct := fun r k => A.ct (128 * t.val + r) k) (blk6 H t ht) (blk9 H t ht) (blk10 H t ht) r k
  b := blk7 H t ht
  s := blk8 H t ht

end Blocks

end Cert.Attn
-- ==== Proof.AttnVal3.lean ====
/-
  What the outputs' blocks of the attention's gradient hold after each point of the grid, as real numbers.
-/
module

public import proofs.«01_k».proof.Proof.AttnVal1
public import proofs.«01_k».proof.Proof.AttnVal2

@[expose] public section

set_option maxRecDepth 16384

noncomputable section

namespace Cert.Attn

open Cert.AttnKernelIdeal Cert.AttnKernelIdeal.Gen Idealize.ShloMosaic Idealize.ShloMosaic.TcCoe Idealize.SL.Sem

/-- The store of the sinks' gradient adds to what it reads. -/
theorem pay7_at (X : FVec Ideal S1x128 .f32) (Y : Vec Ideal S1x128 .f32) (i : S1x128.Idx) :
    @Eq EReal (k0_pay7 X Y i) ((Y i : EReal) + (X i : EReal)) := by
  unfold k0_pay7
  rw [shapeCast_id]
  rfl

section Blocks

variable {m : (ℓ : Loc nD τ Cert.AttnKernelIdeal.sig) → Buf (Elt Ideal) ℓ} {A : Args} {c : Dev nD} (H : Holds m A c)
include H

/-- The queries' gradient at a point before the last. -/
theorem v11 (t : Fin cfg0.N) (ht : t.val < 64) (a : Fin 128) (b : Fin 1024) :
    @Eq EReal ((outsAt0 m c t.val t.isLt).1 (ix2 a b)) (A.GQ (128 * t.val + a.val) b.val : EReal) := by
  rw [at11 m c t ht]
  refine (gQ_real (isBlk H t ht) ht (ix2 a b)).trans ?_
  show ((A.blk t.val).DQ t.val (b.val / 64) a.val (b.val % 64) : EReal) = _
  unfold Args.GQ
  rw [show (128 * t.val + a.val) / 128 = t.val from by omega, show (128 * t.val + a.val) % 128 = a.val from by omega]

/-- The gate's gradient at a point before the last. -/
theorem v15 (t : Fin cfg0.N) (ht : t.val < 64) (a : Fin 128) (b : Fin 1024) :
    @Eq EReal ((outsAt0 m c t.val t.isLt).2.2.2.2.1 (ix2 a b)) (A.GG (128 * t.val + a.val) b.val : EReal) := by
  rw [at15 m c t ht]
  exact gG_real (γ := fun r k => A.γ (128 * t.val + r) k) (ct := fun r k => A.ct (128 * t.val + r) k) (o := fun r k => A.o (128 * t.val + r) k)
    (blk5 H t ht) (blk6 H t ht) (blk9 H t ht) (blk10 H t ht) a b

/-- What a point keeps of the keys' and values' gradients for the next. -/
theorem vS (t : Fin cfg0.N) (ht : t.val < 64) (a : Fin 128) (b : Fin 512) :
    @Eq EReal ((outsAt0 m c t.val t.isLt).2.2.2.2.2 (ix2 a b)) ((A.blk t.val).DKV t.val (128 + a.val) b.val : EReal) := by
  rw [atS m c t ht]
  exact gC_real (isBlk H t ht) ht (ix2 a b)

/-- The keys' and values' gradients at a later point before the last: the block before it. -/
theorem v12 (n : ℕ) (hn : n + 1 < cfg0.N) (ht : n + 1 < 64) (a : Fin 128) (b : Fin 512) :
    @Eq EReal ((outsAt0 m c (n + 1) hn).2.1 (ix2 a b)) (A.GKV (128 * n + a.val) b.val : EReal) := by
  rw [at12 m c ⟨n + 1, hn⟩ (Nat.succ_ne_zero n) ht]
  refine (gKV_real (isBlk H ⟨n + 1, hn⟩ ht) ht _ (ix2 a b)).trans ?_
  refine (congrArg₂ (· + ·) (vS H ⟨n, Nat.lt_of_succ_lt hn⟩ (Nat.lt_of_succ_lt ht) a b) rfl).trans ?_
  show ((A.blk n).DKV n (128 + a.val) b.val : EReal) + ((A.blk (n + 1)).DKV (n + 1) a.val b.val : EReal) = _
  unfold Args.GKV
  rw [show (128 * n + a.val) / 128 = n from by omega, show (128 * n + a.val) % 128 = a.val from by omega, if_pos (by omega), EReal.coe_add]

/-- The bias' gradient after a point before the last. -/
theorem v13 (n : ℕ) (hn : n < cfg0.N) (ht : n < 64) (g : Fin 4) (r : Fin 512) (j : Fin 256) :
    @Eq EReal ((outsAt0 m c n hn).2.2.1 (ix3 g r j)) ((∑ k ∈ Finset.range (n + 1), (A.blk k).DS k (4 * g.val + r.val / 128) (r.val % 128) j : ℝ) : EReal) := by
  induction n with
  | zero =>
    rw [at13_zero m c ⟨0, hn⟩ rfl]
    refine (gB_real (isBlk H ⟨0, hn⟩ ht) ht _ (ix3 g r j)).trans ?_
    show Ideal.ofBits .f32 0#32 + ((A.blk 0).DS 0 (4 * g.val + r.val / 128) (r.val % 128) j : EReal) = _
    rw [lit0, zero_add, Finset.sum_range_one]
  | succ n ih =>
    rw [at13_succ m c ⟨n + 1, hn⟩ (Nat.succ_ne_zero n) ht]
    refine (gB_real (isBlk H ⟨n + 1, hn⟩ ht) ht _ (ix3 g r j)).trans ?_
    refine (congrArg₂ (· + ·) (ih (Nat.lt_of_succ_lt hn) (Nat.lt_of_succ_lt ht)) rfl).trans ?_
    rw [Finset.sum_range_succ _ (n + 1), EReal.coe_add]
    rfl

/-- The sinks' gradient after a point before the last. -/
theorem v14 (n : ℕ) (hn : n < cfg0.N) (ht : n < 64) (a : Fin 8) (b : Fin 128) :
    @Eq EReal ((outsAt0 m c n hn).2.2.2.1 (ix2 a b)) (if a.val < 1 ∧ b.val < 16 then ((∑ k ∈ Finset.range (n + 1), (A.blk k).DSK k b.val : ℝ) : EReal) else 0) := by
  induction n generalizing a with
  | zero =>
    rw [at14_zero m c ⟨0, hn⟩ rfl]
    by_cases ha : a.val = 0
    · rw [if_pos ha]
      show Ideal.ofBits .f32 0#32 + gS (BitVec.ofNat 32 0) _ _ _ _ _ _ _ (ix2 0 b) = _
      rw [lit0, zero_add, gS_real (isBlk H ⟨0, hn⟩ ht) ht b, Finset.sum_range_one]
      exact if_congr ⟨fun h => ⟨by omega, h⟩, fun h => h.2⟩ rfl rfl
    · rw [if_neg ha, if_neg (fun h => ha (by omega))]
      exact lit0
  | succ n ih =>
    rw [at14_succ m c ⟨n + 1, hn⟩ (Nat.succ_ne_zero n) ht]
    by_cases ha : a.val = 0
    · rw [if_pos ha]
      rw [pay7_at]
      have hl : View.ld (outsAt0 m c n (Nat.lt_of_succ_lt hn)).2.2.2.1 (Rect.unit (s := S8x128) ![0, 0] S1x128.size inb_S8x128_S1x128_0_0) (ix2 0 b)
          = (outsAt0 m c n (Nat.lt_of_succ_lt hn)).2.2.2.1 (ix2 0 b) := by
        refine congrArg (outsAt0 m c n (Nat.lt_of_succ_lt hn)).2.2.2.1 (funext fun a => Fin.ext ?_)
        match a with
        | ⟨0, _⟩ => rfl
        | ⟨1, _⟩ => show 0 + 1 * b.val = b.val; omega
      refine (congrArg₂ (· + ·) (hl.trans (ih (Nat.lt_of_succ_lt hn) (Nat.lt_of_succ_lt ht) 0)) (gS_real (isBlk H ⟨n + 1, hn⟩ ht) ht b)).trans ?_
      by_cases hb : b.val < 16
      · rw [if_pos ⟨by decide, hb⟩, if_pos hb, if_pos ⟨by omega, hb⟩, Finset.sum_range_succ _ (n + 1), EReal.coe_add]
      · rw [if_neg (fun h => hb h.2), if_neg hb, if_neg (fun h => hb h.2), add_zero]
    · rw [if_neg ha, if_neg (fun h => ha (by omega))]
      refine (ih (Nat.lt_of_succ_lt hn) (Nat.lt_of_succ_lt ht) a).trans ?_
      rw [if_neg (fun h => ha (by omega))]

end Blocks

end Cert.Attn
-- ==== Proof.AttnVal4.lean ====
/-
  The arrays that the attention's gradient returns, as real numbers.
-/
module

public import proofs.«01_k».proof.Proof.AttnVal3

@[expose] public section

set_option maxRecDepth 16384

noncomputable section

namespace Cert.Attn

open Cert.AttnKernelIdeal Cert.AttnKernelIdeal.Gen Idealize.ShloMosaic Idealize.ShloMosaic.TcCoe Idealize.SL.Sem

theorem N65 : cfg0.N = 65 := N_0

/-! ## The outputs' blocks -/

theorem out_idx11 : ∀ t : Fin cfg0.N, win0_11.index t (0 : Fin 2) = min t.val 63 ∧ win0_11.index t (1 : Fin 2) = 0 :=
  (by decide +kernel : ∀ t : Fin grid0.N, win0_11.index t (0 : Fin 2) = min t.val 63 ∧ win0_11.index t (1 : Fin 2) = 0)
theorem out_xs11 : ∀ t : Fin cfg0.N, win0_11.xsize (grid0.coords t) (0 : Fin 2) = 128 ∧ win0_11.xsize (grid0.coords t) (1 : Fin 2) = 1024 :=
  (by decide +kernel : ∀ t : Fin grid0.N, win0_11.xsize (grid0.coords t) (0 : Fin 2) = 128 ∧ win0_11.xsize (grid0.coords t) (1 : Fin 2) = 1024)
theorem out_idx12 : ∀ t : Fin cfg0.N, win0_12.index t (0 : Fin 2) = t.val - 1 ∧ win0_12.index t (1 : Fin 2) = 0 :=
  (by decide +kernel : ∀ t : Fin grid0.N, win0_12.index t (0 : Fin 2) = t.val - 1 ∧ win0_12.index t (1 : Fin 2) = 0)
theorem out_xs12 : ∀ t : Fin cfg0.N, win0_12.xsize (grid0.coords t) (0 : Fin 2) = 128 ∧ win0_12.xsize (grid0.coords t) (1 : Fin 2) = 512 :=
  (by decide +kernel : ∀ t : Fin grid0.N, win0_12.xsize (grid0.coords t) (0 : Fin 2) = 128 ∧ win0_12.xsize (grid0.coords t) (1 : Fin 2) = 512)
theorem out_idx13 : ∀ t : Fin cfg0.N, win0_13.index t (0 : Fin 3) = 0 ∧ win0_13.index t (1 : Fin 3) = 0 ∧ win0_13.index t (2 : Fin 3) = 0 :=
  (by decide +kernel : ∀ t : Fin grid0.N, win0_13.index t (0 : Fin 3) = 0 ∧ win0_13.index t (1 : Fin 3) = 0 ∧ win0_13.index t (2 : Fin 3) = 0)
theorem out_xs13 : ∀ t : Fin cfg0.N, win0_13.xsize (grid0.coords t) (0 : Fin 3) = 4 ∧ win0_13.xsize (grid0.coords t) (1 : Fin 3) = 512 ∧ win0_13.xsize (grid0.coords t) (2 : Fin 3) = 256 :=
  (by decide +kernel : ∀ t : Fin grid0.N, win0_13.xsize (grid0.coords t) (0 : Fin 3) = 4 ∧ win0_13.xsize (grid0.coords t) (1 : Fin 3) = 512 ∧ win0_13.xsize (grid0.coords t) (2 : Fin 3) = 256)
theorem out_idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem out_xs14 : ∀ t : Fin cfg0.N, win0_14.xsize (grid0.coords t) (0 : Fin 2) = 8 ∧ win0_14.xsize (grid0.coords t) (1 : Fin 2) = 128 :=
  (by decide +kernel : ∀ t : Fin grid0.N, win0_14.xsize (grid0.coords t) (0 : Fin 2) = 8 ∧ win0_14.xsize (grid0.coords t) (1 : Fin 2) = 128)
theorem out_idx15 : ∀ t : Fin cfg0.N, win0_15.index t (0 : Fin 2) = min t.val 63 ∧ win0_15.index t (1 : Fin 2) = 0 :=
  (by decide +kernel : ∀ t : Fin grid0.N, win0_15.index t (0 : Fin 2) = min t.val 63 ∧ win0_15.index t (1 : Fin 2) = 0)
theorem out_xs15 : ∀ t : Fin cfg0.N, win0_15.xsize (grid0.coords t) (0 : Fin 2) = 128 ∧ win0_15.xsize (grid0.coords t) (1 : Fin 2) = 1024 :=
  (by decide +kernel : ∀ t : Fin grid0.N, win0_15.xsize (grid0.coords t) (0 : Fin 2) = 128 ∧ win0_15.xsize (grid0.coords t) (1 : Fin 2) = 1024)

theorem flush_11 : ∀ t : Fin cfg0.N, t.val < 63 ∨ t.val = 64 → (cfg0.win 11).flush t = true :=
  (by decide +kernel : ∀ t : Fin grid0.N, t.val < 63 ∨ t.val = 64 → win0_11.flush t = true)
theorem flush_15 : ∀ t : Fin cfg0.N, t.val < 63 ∨ t.val = 64 → (cfg0.win 15).flush t = true :=
  (by decide +kernel : ∀ t : Fin grid0.N, t.val < 63 ∨ t.val = 64 → win0_15.flush t = true)
theorem flush_12 : ∀ t : Fin cfg0.N, (cfg0.win 12).flush t = true ↔ t.val ≠ 0 :=
  (by decide +kernel : ∀ t : Fin grid0.N, win0_12.flush t = true ↔ t.val ≠ 0)
theorem flush_13 : ∀ t : Fin cfg0.N, (cfg0.win 13).flush t = true ↔ t.val = 64 :=
  (by decide +kernel : ∀ t : Fin grid0.N, win0_13.flush t = true ↔ t.val = 64)
theorem flush_14 : ∀ t : Fin cfg0.N, (cfg0.win 14).flush t = true ↔ t.val = 64 :=
  (by decide +kernel : ∀ t : Fin grid0.N, win0_14.flush t = true ↔ t.val = 64)

section Arrays

variable {m : (ℓ : Loc nD τ Cert.AttnKernelIdeal.sig) → Buf (Elt Ideal) ℓ} {A : Args} {c : Dev nD} (H : Holds m A c)

/-- The queries' gradient. -/
def arr11 (A : Args) (c : Dev nD) : Buf (Elt Ideal) ((c : Thread nD τ).loc main_v97_0) := fun j => (A.GQ (j 0).val (j 1).val : EReal)

include H in
/-- The queries' gradient in the block that a point leaves. -/
theorem left11 (t : Fin cfg0.N) (a : Fin 128) (b : Fin 1024) :
    @Eq EReal ((outsAt0 m c t.val t.isLt).1 (ix2 a b)) (A.GQ (128 * min t.val 63 + a.val) b.val : EReal) := by
  have hN := lt_of_lt_of_eq t.isLt N65
  by_cases ht : t.val < 64
  · rw [show min t.val 63 = t.val from by omega]
    exact v11 H t ht a b
  · have h64 : t.val = 64 := by omega
    have e := (at_last m c t h64).1
    rw [e]
    have h := v11 H ⟨t.val - 1, Nat.lt_of_le_of_lt (Nat.sub_le _ _) t.isLt⟩ (by dsimp only; omega) a b
    rw [show min t.val 63 = t.val - 1 from by omega]
    exact h

/-- The gate's gradient. -/
def arr15 (A : Args) (c : Dev nD) : Buf (Elt Ideal) ((c : Thread nD τ).loc main_v97_4) := fun j => (A.GG (j 0).val (j 1).val : EReal)

include H in
/-- The gate's gradient in the block that a point leaves. -/
theorem left15 (t : Fin cfg0.N) (a : Fin 128) (b : Fin 1024) :
    @Eq EReal ((outsAt0 m c t.val t.isLt).2.2.2.2.1 (ix2 a b)) (A.GG (128 * min t.val 63 + a.val) b.val : EReal) := by
  have hN := lt_of_lt_of_eq t.isLt N65
  by_cases ht : t.val < 64
  · rw [show min t.val 63 = t.val from by omega]
    exact v15 H t ht a b
  · have h64 : t.val = 64 := by omega
    have e := (at_last m c t h64).2.2.2.2
    rw [e]
    have h := v15 H ⟨t.val - 1, Nat.lt_of_le_of_lt (Nat.sub_le _ _) t.isLt⟩ (by dsimp only; omega) a b
    rw [show min t.val 63 = t.val - 1 from by omega]
    exact h

/-- The keys' and values' gradient. -/
def arr12 (A : Args) (c : Dev nD) : Buf (Elt Ideal) ((c : Thread nD τ).loc main_v97_1) := fun j => (A.GKV (j 0).val (j 1).val : EReal)

/-- The store of the carried gradient only casts it. -/
theorem pay4_at (Y : Vec Ideal S128x512 .f32) (i : S128x512.Idx) : @Eq EReal (k0_pay4 (F := Ideal) Y i) (Y i) := rfl

include H in
/-- The keys' and values' gradient in the block that a point after the first leaves. -/
theorem left12 (t : Fin cfg0.N) (h : t.val ≠ 0) (a : Fin 128) (b : Fin 512) :
    @Eq EReal ((outsAt0 m c t.val t.isLt).2.1 (ix2 a b)) (A.GKV (128 * (t.val - 1) + a.val) b.val : EReal) := by
  obtain ⟨n, hn⟩ := t
  have hN := lt_of_lt_of_eq hn N65
  dsimp only at h
  obtain ⟨n, rfl⟩ := Nat.exists_eq_succ_of_ne_zero h
  by_cases ht : n + 1 < 64
  · exact v12 H n hn ht a b
  · have h63 : n < cfg0.N := Nat.lt_of_succ_lt hn
    have hlt : n < 64 := by omega
    have e : (outsAt0 m c (n + 1) hn).2.1 = k0_pay4 (F := Ideal) (outsAt0 m c n h63).2.2.2.2.2 := (at_last m c ⟨n + 1, hn⟩ (by dsimp only; omega)).2.1
    have v : @Eq EReal ((outsAt0 m c n h63).2.2.2.2.2 (ix2 a b)) ((A.blk n).DKV n (128 + a.val) b.val : EReal) := vS H ⟨n, h63⟩ hlt a b
    refine (congrFun e (ix2 a b)).trans ((pay4_at _ _).trans (v.trans ?_))
    show ((A.blk n).DKV n (128 + a.val) b.val : EReal) = (A.GKV (128 * n + a.val) b.val : EReal)
    unfold Args.GKV
    rw [show (128 * n + a.val) / 128 = n from by omega, show (128 * n + a.val) % 128 = a.val from by omega, if_neg (by omega), add_zero]

/-- The bias' gradient. -/
def arr13 (A : Args) (c : Dev nD) : Buf (Elt Ideal) ((c : Thread nD τ).loc main_v97_2) := fun j => (A.GB (4 * (j 0).val + (j 1).val / 128) ((j 1).val % 128) (j 2) : EReal)

include H in
/-- The bias' gradient at the last point. -/
theorem left13 (t : Fin cfg0.N) (h : t.val = 64) (g : Fin 4) (r : Fin 512) (j : Fin 256) :
    @Eq EReal ((outsAt0 m c t.val t.isLt).2.2.1 (ix3 g r j)) (A.GB (4 * g.val + r.val / 128) (r.val % 128) j : EReal) := by
  obtain ⟨n, hn⟩ := t
  dsimp only at h
  subst h
  have e := (at_last m c ⟨64, hn⟩ rfl).2.2.1
  refine (congrFun e (ix3 g r j)).trans ?_
  refine (v13 H 63 _ (by decide) g r j).trans ?_
  unfold Args.GB
  rw [Finset.sum_range (fun k => (A.blk k).DS k (4 * g.val + r.val / 128) (r.val % 128) j)]

/-- The sinks' gradient. -/
def arr14 (A : Args) (c : Dev nD) : Buf (Elt Ideal) ((c : Thread nD τ).loc main_v97_3) := fun j => (if (j 0).val < 1 ∧ (j 1).val < 16 then (A.GS (j 1).val : EReal) else 0 : EReal)

include H in
/-- The sinks' gradient at the last point. -/
theorem left14 (t : Fin cfg0.N) (h : t.val = 64) (a : Fin 8) (b : Fin 128) :
    @Eq EReal ((outsAt0 m c t.val t.isLt).2.2.2.1 (ix2 a b)) (if a.val < 1 ∧ b.val < 16 then (A.GS b.val : EReal) else 0) := by
  obtain ⟨n, hn⟩ := t
  dsimp only at h
  subst h
  have e := (at_last m c ⟨64, hn⟩ rfl).2.2.2.1
  refine (congrFun e (ix2 a b)).trans ?_
  refine (v14 H 63 _ (by decide) a b).trans ?_
  unfold Args.GS
  rw [Finset.sum_range (fun k => (A.blk k).DSK k b.val)]

include H in
/-- What a point writes back of the queries' gradient is its block of the array. -/
theorem wrote11 (t : Fin cfg0.N) (hf : (cfg0.win 11).flush t = true) :
    (dats m 0 c).flushed 11 t = ((cfg0.win 11).blk t).view.read (Elt Ideal) (arr11 A c) := by
  have key : (dats m 0 c).flushed 11 t = (cfg0.win 11).cut (grid0.coords t) (outsAt0 m c t.val t.isLt).1 := by
    show (cfg0.win 11).cut (grid0.coords t) ((dats m 0 c).after 11 t) = _
    rw [after0_11]
  rw [key]
  funext j
  have h0 : (j 0).val < 128 := (out_xs11 t).1 ▸ (j 0).isLt
  have h1 : (j 1).val < 1024 := (out_xs11 t).2 ▸ (j 1).isLt
  refine Eq.trans (?_ : _ = (outsAt0 m c t.val t.isLt).1 (ix2 ⟨(j 0).val, h0⟩ ⟨(j 1).val, h1⟩)) ?_
  · refine congrArg (outsAt0 m c t.val t.isLt).1 (funext fun a => ?_)
    match a with
      | ⟨0, _⟩ => rfl
      | ⟨1, _⟩ => rfl
  refine (left11 H t ⟨(j 0).val, h0⟩ ⟨(j 1).val, h1⟩).trans ?_
  rw [View.read_apply]
  show _ = (A.GQ (win0_11.index t (0 : Fin 2) * 128 + 1 * (j 0).val) (win0_11.index t (1 : Fin 2) * 1024 + 1 * (j 1).val) : EReal)
  refine congrArg _ ?_
  rw [(out_idx11 t).1, (out_idx11 t).2]
  congr 1 <;> (dsimp only; omega)

theorem in11 (t : Fin cfg0.N) (j : S8192x1024.Idx) (h0 : (min t.val 63) * 128 ≤ (j 0).val ∧ (j 0).val < (min t.val 63) * 128 + 128) (h1 : (0) * 1024 ≤ (j 1).val ∧ (j 1).val < (0) * 1024 + 1024) : j ∈ ((cfg0.win 11).blk t).view.set := by
  show j ∈ ((View.whole main_v97_0).slice (win0_11.rect t)).set
  rw [View.set_slice_whole, Rect.mem_set_unit]
  show ∀ a : Fin 2, win0_11.index t a * win0_11.size a ≤ (j a).val ∧ (j a).val < win0_11.index t a * win0_11.size a + win0_11.xsize (grid0.coords t) a
  intro a
  match a with
  | ⟨0, _⟩ =>
    show win0_11.index t (0 : Fin 2) * 128 ≤ (j 0).val ∧ (j 0).val < win0_11.index t (0 : Fin 2) * 128 + win0_11.xsize (grid0.coords t) (0 : Fin 2)
    rw [(out_idx11 t).1, (out_xs11 t).1]
    exact h0
  | ⟨1, _⟩ =>
    show win0_11.index t (1 : Fin 2) * 1024 ≤ (j 1).val ∧ (j 1).val < win0_11.index t (1 : Fin 2) * 1024 + win0_11.xsize (grid0.coords t) (1 : Fin 2)
    rw [(out_idx11 t).2, (out_xs11 t).2]
    exact h1

include H in
/-- After the run the array is the queries' gradient. -/
theorem final11 : (dats m 0 c).arrAt 11 cfg0.N = arr11 A c :=
  (dats m 0 c).arrAt_eq_of_cover 11 (arr11 A c) (wrote11 H) fun j => by
    have h0 : (j 0).val < 8192 := (j 0).isLt
    have h1 : (j 1).val < 1024 := (j 1).isLt
    exact ⟨⟨(if (j 0).val / 128 = 63 then 64 else (j 0).val / 128), by rw [N65]; split <;> omega⟩, flush_11 _ (by dsimp only; split <;> omega), in11 _ j (by dsimp only; split <;> omega) (by dsimp only; omega)⟩

include H in
/-- What a point writes back of the keys' and values' gradient is its block of the array. -/
theorem wrote12 (t : Fin cfg0.N) (hf : (cfg0.win 12).flush t = true) :
    (dats m 0 c).flushed 12 t = ((cfg0.win 12).blk t).view.read (Elt Ideal) (arr12 A c) := by
  have key : (dats m 0 c).flushed 12 t = (cfg0.win 12).cut (grid0.coords t) (outsAt0 m c t.val t.isLt).2.1 := by
    show (cfg0.win 12).cut (grid0.coords t) ((dats m 0 c).after 12 t) = _
    rw [after0_12]
  rw [key]
  funext j
  have h0 : (j 0).val < 128 := (out_xs12 t).1 ▸ (j 0).isLt
  have h1 : (j 1).val < 512 := (out_xs12 t).2 ▸ (j 1).isLt
  refine Eq.trans (?_ : _ = (outsAt0 m c t.val t.isLt).2.1 (ix2 ⟨(j 0).val, h0⟩ ⟨(j 1).val, h1⟩)) ?_
  · refine congrArg (outsAt0 m c t.val t.isLt).2.1 (funext fun a => ?_)
    match a with
      | ⟨0, _⟩ => rfl
      | ⟨1, _⟩ => rfl
  refine (left12 H t ((flush_12 t).1 hf) ⟨(j 0).val, h0⟩ ⟨(j 1).val, h1⟩).trans ?_
  rw [View.read_apply]
  show _ = (A.GKV (win0_12.index t (0 : Fin 2) * 128 + 1 * (j 0).val) (win0_12.index t (1 : Fin 2) * 512 + 1 * (j 1).val) : EReal)
  refine congrArg _ ?_
  rw [(out_idx12 t).1, (out_idx12 t).2]
  congr 1 <;> (dsimp only; omega)

theorem in12 (t : Fin cfg0.N) (j : S8192x512.Idx) (h0 : (t.val - 1) * 128 ≤ (j 0).val ∧ (j 0).val < (t.val - 1) * 128 + 128) (h1 : (0) * 512 ≤ (j 1).val ∧ (j 1).val < (0) * 512 + 512) : j ∈ ((cfg0.win 12).blk t).view.set := by
  show j ∈ ((View.whole main_v97_1).slice (win0_12.rect t)).set
  rw [View.set_slice_whole, Rect.mem_set_unit]
  show ∀ a : Fin 2, win0_12.index t a * win0_12.size a ≤ (j a).val ∧ (j a).val < win0_12.index t a * win0_12.size a + win0_12.xsize (grid0.coords t) a
  intro a
  match a with
  | ⟨0, _⟩ =>
    show win0_12.index t (0 : Fin 2) * 128 ≤ (j 0).val ∧ (j 0).val < win0_12.index t (0 : Fin 2) * 128 + win0_12.xsize (grid0.coords t) (0 : Fin 2)
    rw [(out_idx12 t).1, (out_xs12 t).1]
    exact h0
  | ⟨1, _⟩ =>
    show win0_12.index t (1 : Fin 2) * 512 ≤ (j 1).val ∧ (j 1).val < win0_12.index t (1 : Fin 2) * 512 + win0_12.xsize (grid0.coords t) (1 : Fin 2)
    rw [(out_idx12 t).2, (out_xs12 t).2]
    exact h1

include H in
/-- After the run the array is the keys' and values' gradient. -/
theorem final12 : (dats m 0 c).arrAt 12 cfg0.N = arr12 A c :=
  (dats m 0 c).arrAt_eq_of_cover 12 (arr12 A c) (wrote12 H) fun j => by
    have h0 : (j 0).val < 8192 := (j 0).isLt
    have h1 : (j 1).val < 512 := (j 1).isLt
    exact ⟨⟨(j 0).val / 128 + 1, by rw [N65]; omega⟩, (flush_12 _).2 (Nat.succ_ne_zero _), in12 _ j (by dsimp only; omega) (by dsimp only; omega)⟩

include H in
/-- What a point writes back of the bias' gradient is its block of the array. -/
theorem wrote13 (t : Fin cfg0.N) (hf : (cfg0.win 13).flush t = true) :
    (dats m 0 c).flushed 13 t = ((cfg0.win 13).blk t).view.read (Elt Ideal) (arr13 A c) := by
  have key : (dats m 0 c).flushed 13 t = (cfg0.win 13).cut (grid0.coords t) (outsAt0 m c t.val t.isLt).2.2.1 := by
    show (cfg0.win 13).cut (grid0.coords t) ((dats m 0 c).after 13 t) = _
    rw [after0_13]
  rw [key]
  funext j
  have h0 : (j 0).val < 4 := (out_xs13 t).1 ▸ (j 0).isLt
  have h1 : (j 1).val < 512 := (out_xs13 t).2.1 ▸ (j 1).isLt
  have h2 : (j 2).val < 256 := (out_xs13 t).2.2 ▸ (j 2).isLt
  refine Eq.trans (?_ : _ = (outsAt0 m c t.val t.isLt).2.2.1 (ix3 ⟨(j 0).val, h0⟩ ⟨(j 1).val, h1⟩ ⟨(j 2).val, h2⟩)) ?_
  · refine congrArg (outsAt0 m c t.val t.isLt).2.2.1 (funext fun a => ?_)
    match a with
      | ⟨0, _⟩ => rfl
      | ⟨1, _⟩ => rfl
      | ⟨2, _⟩ => rfl
  refine (left13 H t ((flush_13 t).1 hf) ⟨(j 0).val, h0⟩ ⟨(j 1).val, h1⟩ ⟨(j 2).val, h2⟩).trans ?_
  rw [View.read_apply]
  show _ = (A.GB (4 * (win0_13.index t (0 : Fin 3) * 4 + 1 * (j 0).val) + (win0_13.index t (1 : Fin 3) * 512 + 1 * (j 1).val) / 128) ((win0_13.index t (1 : Fin 3) * 512 + 1 * (j 1).val) % 128) ⟨win0_13.index t (2 : Fin 3) * 256 + 1 * (j 2).val, by rw [(out_idx13 t).2.2]; omega⟩ : EReal)
  have e0 : win0_13.index t (0 : Fin 3) * 4 + 1 * (j 0).val = (j 0).val := by rw [(out_idx13 t).1]; omega
  have e1 : win0_13.index t (1 : Fin 3) * 512 + 1 * (j 1).val = (j 1).val := by rw [(out_idx13 t).2.1]; omega
  have e2 : win0_13.index t (2 : Fin 3) * 256 + 1 * (j 2).val = (j 2).val := by rw [(out_idx13 t).2.2]; omega
  simp only [e0, e1, e2]

theorem in13 (t : Fin cfg0.N) (j : S4x512x256.Idx) (h0 : (0) * 4 ≤ (j 0).val ∧ (j 0).val < (0) * 4 + 4) (h1 : (0) * 512 ≤ (j 1).val ∧ (j 1).val < (0) * 512 + 512) (h2 : (0) * 256 ≤ (j 2).val ∧ (j 2).val < (0) * 256 + 256) : j ∈ ((cfg0.win 13).blk t).view.set := by
  show j ∈ ((View.whole main_v97_2).slice (win0_13.rect t)).set
  rw [View.set_slice_whole, Rect.mem_set_unit]
  show ∀ a : Fin 3, win0_13.index t a * win0_13.size a ≤ (j a).val ∧ (j a).val < win0_13.index t a * win0_13.size a + win0_13.xsize (grid0.coords t) a
  intro a
  match a with
  | ⟨0, _⟩ =>
    show win0_13.index t (0 : Fin 3) * 4 ≤ (j 0).val ∧ (j 0).val < win0_13.index t (0 : Fin 3) * 4 + win0_13.xsize (grid0.coords t) (0 : Fin 3)
    rw [(out_idx13 t).1, (out_xs13 t).1]
    exact h0
  | ⟨1, _⟩ =>
    show win0_13.index t (1 : Fin 3) * 512 ≤ (j 1).val ∧ (j 1).val < win0_13.index t (1 : Fin 3) * 512 + win0_13.xsize (grid0.coords t) (1 : Fin 3)
    rw [(out_idx13 t).2.1, (out_xs13 t).2.1]
    exact h1
  | ⟨2, _⟩ =>
    show win0_13.index t (2 : Fin 3) * 256 ≤ (j 2).val ∧ (j 2).val < win0_13.index t (2 : Fin 3) * 256 + win0_13.xsize (grid0.coords t) (2 : Fin 3)
    rw [(out_idx13 t).2.2, (out_xs13 t).2.2]
    exact h2

include H in
/-- After the run the array is the bias' gradient. -/
theorem final13 : (dats m 0 c).arrAt 13 cfg0.N = arr13 A c :=
  (dats m 0 c).arrAt_eq_of_cover 13 (arr13 A c) (wrote13 H) fun j => by
    have h0 : (j 0).val < 4 := (j 0).isLt
    have h1 : (j 1).val < 512 := (j 1).isLt
    have h2 : (j 2).val < 256 := (j 2).isLt
    exact ⟨⟨64, by rw [N65]; omega⟩, (flush_13 _).2 rfl, in13 _ j (by dsimp only; omega) (by dsimp only; omega) (by dsimp only; omega)⟩

include H in
/-- What a point writes back of the sinks' gradient is its block of the array. -/
theorem wrote14 (t : Fin cfg0.N) (hf : (cfg0.win 14).flush t = true) :
    (dats m 0 c).flushed 14 t = ((cfg0.win 14).blk t).view.read (Elt Ideal) (arr14 A c) := by
  have key : (dats m 0 c).flushed 14 t = (cfg0.win 14).cut (grid0.coords t) (outsAt0 m c t.val t.isLt).2.2.2.1 := by
    show (cfg0.win 14).cut (grid0.coords t) ((dats m 0 c).after 14 t) = _
    rw [after0_14]
  rw [key]
  funext j
  have h0 : (j 0).val < 8 := (out_xs14 t).1 ▸ (j 0).isLt
  have h1 : (j 1).val < 128 := (out_xs14 t).2 ▸ (j 1).isLt
  refine Eq.trans (?_ : _ = (outsAt0 m c t.val t.isLt).2.2.2.1 (ix2 ⟨(j 0).val, h0⟩ ⟨(j 1).val, h1⟩)) ?_
  · refine congrArg (outsAt0 m c t.val t.isLt).2.2.2.1 (funext fun a => ?_)
    match a with
      | ⟨0, _⟩ => rfl
      | ⟨1, _⟩ => rfl
  refine (left14 H t ((flush_14 t).1 hf) ⟨(j 0).val, h0⟩ ⟨(j 1).val, h1⟩).trans ?_
  rw [View.read_apply]
  show _ = (if (win0_14.index t (0 : Fin 2) * 8 + 1 * (j 0).val) < 1 ∧ (win0_14.index t (1 : Fin 2) * 128 + 1 * (j 1).val) < 16 then (A.GS (win0_14.index t (1 : Fin 2) * 128 + 1 * (j 1).val) : EReal) else 0 : EReal)
  have e0 : win0_14.index t (0 : Fin 2) * 8 + 1 * (j 0).val = (j 0).val := by rw [(out_idx14 t).1]; omega
  have e1 : win0_14.index t (1 : Fin 2) * 128 + 1 * (j 1).val = (j 1).val := by rw [(out_idx14 t).2]; omega
  rw [e0, e1]

theorem in14 (t : Fin cfg0.N) (j : S8x128.Idx) (h0 : (0) * 8 ≤ (j 0).val ∧ (j 0).val < (0) * 8 + 8) (h1 : (0) * 128 ≤ (j 1).val ∧ (j 1).val < (0) * 128 + 128) : j ∈ ((cfg0.win 14).blk t).view.set := by
  show j ∈ ((View.whole main_v97_3).slice (win0_14.rect t)).set
  rw [View.set_slice_whole, Rect.mem_set_unit]
  show ∀ a : Fin 2, win0_14.index t a * win0_14.size a ≤ (j a).val ∧ (j a).val < win0_14.index t a * win0_14.size a + win0_14.xsize (grid0.coords t) a
  intro a
  match a with
  | ⟨0, _⟩ =>
    show win0_14.index t (0 : Fin 2) * 8 ≤ (j 0).val ∧ (j 0).val < win0_14.index t (0 : Fin 2) * 8 + win0_14.xsize (grid0.coords t) (0 : Fin 2)
    rw [(out_idx14 t).1, (out_xs14 t).1]
    exact h0
  | ⟨1, _⟩ =>
    show win0_14.index t (1 : Fin 2) * 128 ≤ (j 1).val ∧ (j 1).val < win0_14.index t (1 : Fin 2) * 128 + win0_14.xsize (grid0.coords t) (1 : Fin 2)
    rw [(out_idx14 t).2, (out_xs14 t).2]
    exact h1

include H in
/-- After the run the array is the sinks' gradient. -/
theorem final14 : (dats m 0 c).arrAt 14 cfg0.N = arr14 A c :=
  (dats m 0 c).arrAt_eq_of_cover 14 (arr14 A c) (wrote14 H) fun j => by
    have h0 : (j 0).val < 8 := (j 0).isLt
    have h1 : (j 1).val < 128 := (j 1).isLt
    exact ⟨⟨64, by rw [N65]; omega⟩, (flush_14 _).2 rfl, in14 _ j (by dsimp only; omega) (by dsimp only; omega)⟩

include H in
/-- What a point writes back of the gate's gradient is its block of the array. -/
theorem wrote15 (t : Fin cfg0.N) (hf : (cfg0.win 15).flush t = true) :
    (dats m 0 c).flushed 15 t = ((cfg0.win 15).blk t).view.read (Elt Ideal) (arr15 A c) := by
  have key : (dats m 0 c).flushed 15 t = (cfg0.win 15).cut (grid0.coords t) (outsAt0 m c t.val t.isLt).2.2.2.2.1 := by
    show (cfg0.win 15).cut (grid0.coords t) ((dats m 0 c).after 15 t) = _
    rw [after0_15]
  rw [key]
  funext j
  have h0 : (j 0).val < 128 := (out_xs15 t).1 ▸ (j 0).isLt
  have h1 : (j 1).val < 1024 := (out_xs15 t).2 ▸ (j 1).isLt
  refine Eq.trans (?_ : _ = (outsAt0 m c t.val t.isLt).2.2.2.2.1 (ix2 ⟨(j 0).val, h0⟩ ⟨(j 1).val, h1⟩)) ?_
  · refine congrArg (outsAt0 m c t.val t.isLt).2.2.2.2.1 (funext fun a => ?_)
    match a with
      | ⟨0, _⟩ => rfl
      | ⟨1, _⟩ => rfl
  refine (left15 H t ⟨(j 0).val, h0⟩ ⟨(j 1).val, h1⟩).trans ?_
  rw [View.read_apply]
  show _ = (A.GG (win0_15.index t (0 : Fin 2) * 128 + 1 * (j 0).val) (win0_15.index t (1 : Fin 2) * 1024 + 1 * (j 1).val) : EReal)
  refine congrArg _ ?_
  rw [(out_idx15 t).1, (out_idx15 t).2]
  congr 1 <;> (dsimp only; omega)

theorem in15 (t : Fin cfg0.N) (j : S8192x1024.Idx) (h0 : (min t.val 63) * 128 ≤ (j 0).val ∧ (j 0).val < (min t.val 63) * 128 + 128) (h1 : (0) * 1024 ≤ (j 1).val ∧ (j 1).val < (0) * 1024 + 1024) : j ∈ ((cfg0.win 15).blk t).view.set := by
  show j ∈ ((View.whole main_v97_4).slice (win0_15.rect t)).set
  rw [View.set_slice_whole, Rect.mem_set_unit]
  show ∀ a : Fin 2, win0_15.index t a * win0_15.size a ≤ (j a).val ∧ (j a).val < win0_15.index t a * win0_15.size a + win0_15.xsize (grid0.coords t) a
  intro a
  match a with
  | ⟨0, _⟩ =>
    show win0_15.index t (0 : Fin 2) * 128 ≤ (j 0).val ∧ (j 0).val < win0_15.index t (0 : Fin 2) * 128 + win0_15.xsize (grid0.coords t) (0 : Fin 2)
    rw [(out_idx15 t).1, (out_xs15 t).1]
    exact h0
  | ⟨1, _⟩ =>
    show win0_15.index t (1 : Fin 2) * 1024 ≤ (j 1).val ∧ (j 1).val < win0_15.index t (1 : Fin 2) * 1024 + win0_15.xsize (grid0.coords t) (1 : Fin 2)
    rw [(out_idx15 t).2, (out_xs15 t).2]
    exact h1

include H in
/-- After the run the array is the gate's gradient. -/
theorem final15 : (dats m 0 c).arrAt 15 cfg0.N = arr15 A c :=
  (dats m 0 c).arrAt_eq_of_cover 15 (arr15 A c) (wrote15 H) fun j => by
    have h0 : (j 0).val < 8192 := (j 0).isLt
    have h1 : (j 1).val < 1024 := (j 1).isLt
    exact ⟨⟨(if (j 0).val / 128 = 63 then 64 else (j 0).val / 128), by rw [N65]; split <;> omega⟩, flush_15 _ (by dsimp only; split <;> omega), in15 _ j (by dsimp only; split <;> omega) (by dsimp only; omega)⟩

end Arrays

end Cert.Attn
-- ==== Proof.AttnMask.lean ====
/-
  The mask of the reference's attention selects the keys that a row sees.
-/
module

public import proofs.«01_k».proof.Proof.AttnArgs
public import proofs.«01_k».proof.Proof.Gen.AttnRefIdeal.Read
public import Idealize.ShloMosaic.Lib.Pointwise

@[expose] public section

set_option maxRecDepth 16384

noncomputable section

namespace Cert.Attn

open Cert.AttnRefIdeal Cert.AttnRefIdeal.Read Idealize.ShloMosaic Idealize.ShloMosaic.TcCoe Idealize.SL.Sem

theorem band : ∀ (q : Fin 128) (j : Fin 256), IntOp.andi
      (IntOp.cmpi CmpIPredicate.sge (IntOp.subi (IntOp.addi (128#32) (BitVec.ofNat 32 q.val)) (BitVec.ofNat 32 j.val)) 0#32)
      (IntOp.cmpi CmpIPredicate.slt (IntOp.subi (IntOp.addi (128#32) (BitVec.ofNat 32 q.val)) (BitVec.ofNat 32 j.val)) 128#32)
      = if q.val < j.val ∧ j.val ≤ 128 + q.val then 1#1 else 0#1 := by
  decide +kernel

theorem inside : ∀ (n : Fin 64) (j : Fin 256), IntOp.cmpi CmpIPredicate.sge
      (IntOp.addi (IntOp.subi (IntOp.muli (BitVec.ofNat 32 n.val) 128#32) 128#32) (BitVec.ofNat 32 j.val)) 0#32
      = if 128 ≤ n.val * 128 + j.val then 1#1 else 0#1 := by
  decide +kernel

theorem m39 (q : Fin 128) (j : Fin 256) : @Eq (BitVec 1) (val_main_v39 (F := Ideal) (ix2 q j)) (if q.val < j.val ∧ j.val ≤ 128 + q.val then 1#1 else 0#1) := by
  pointwise [val_main_v39, val_main_v38, val_main_v37, val_main_v36, val_main_v35, val_main_v34, val_main_v33, val_main_v32, val_main_v31, val_main_v30, val_main_v29, val_main_v28, val_main_v27, val_main_v26, val_main_c, val_main_c_4, val_main_c_5]
  exact band q j

theorem m52 (n : Fin 64) (j : Fin 256) : @Eq (BitVec 1) (val_main_v52 (F := Ideal) (ix3 n 0 j)) (if 128 ≤ n.val * 128 + j.val then 1#1 else 0#1) := by
  pointwise [val_main_v52, val_main_v51, val_main_v49, val_main_v48, val_main_v47, val_main_v46, val_main_v45, val_main_v44, val_main_v43, val_main_v42, val_main_v41, val_main_v40, val_main_v29, val_main_v28, val_main_c_6, val_main_c_7, val_main_c_8]
  exact inside n j

/-- The mask selects the keys that the row sees. -/
theorem sel_vis {α : Type} (n : Fin 64) (q : Fin 128) (j : Fin 256) (a b : α) :
    Scalar.select (IntOp.andi (val_main_v39 (F := Ideal) (ix2 q j)) (val_main_v52 (F := Ideal) (ix3 n 0 j))) a b = if vis n.val q.val j.val then a else b := by
  rw [m39, m52]
  unfold vis
  by_cases h1 : q.val < j.val ∧ j.val ≤ 128 + q.val <;> by_cases h2 : 128 ≤ n.val * 128 + j.val <;>
    simp only [h1, h2, if_true, if_false, and_true, and_false, true_and, false_and] <;> rfl

end Cert.Attn
-- ==== Proof.AttnRef1.lean ====
/-
  The attention's forward lines of the reference read at an entry, as real numbers, from real arguments.
-/
module

public import proofs.«01_k».proof.Proof.AttnArgs
public import proofs.«01_k».proof.Proof.AttnMask
public import Idealize.ShloMosaic.Lib.Pointwise

@[expose] public section

set_option maxRecDepth 16384

noncomputable section

namespace Cert.Attn

open Cert.AttnRefIdeal Cert.AttnRefIdeal.Read Idealize.ShloMosaic Idealize.ShloMosaic.TcCoe Idealize.SL.Sem

/-- The reference's arguments are the real numbers `A`. -/
structure HoldsR (A : Args) (x0 : (⟨S8192x16896, .f32⟩ : BufTy).Contents (Elt Ideal)) (x1 : (⟨S8192x1024, .f32⟩ : BufTy).Contents (Elt Ideal))
    (x2 : (⟨S16x128x256, .f32⟩ : BufTy).Contents (Elt Ideal)) (x3 : (⟨S16, .f32⟩ : BufTy).Contents (Elt Ideal)) : Prop where
  u : ∀ (r : Fin 8192) (k : Fin 16896), x0 (ix2 r k) = (A.u r.val k.val : EReal)
  ct : ∀ (r : Fin 8192) (k : Fin 1024), x1 (ix2 r k) = (A.ct r.val k.val : EReal)
  b : ∀ (h : Fin 16) (q : Fin 128) (j : Fin 256), x2 (ix3 h q j) = (A.b h.val q.val j.val : EReal)
  s : ∀ h : Fin 16, x3 (ix1 h) = (A.s h.val : EReal)

/-- The keys that row `q` of block `n` sees. -/
abbrev seen (n q : ℕ) (j : Fin 256) : Prop := vis n q j.val

namespace Args

variable (A : Args)

/-- The reference's window of keys: zeros before the first block. -/
def RK (n g j d : ℕ) : ℝ := if j < 128 ∧ n = 0 then 0 else (A.blk n).K g j d
/-- The reference's window of values. -/
def RV (n g j d : ℕ) : ℝ := if j < 128 ∧ n = 0 then 0 else (A.blk n).V g j d
/-- The reference's scores of head `h` at row `q`. -/
def RS (n h q : ℕ) (j : Fin 256) : ℝ := (∑ d : Fin 64, (A.blk n).q q (64 * h + d.val) * A.RK n (h / 4) j.val d.val) * (1 / 8) + A.b h q j.val

theorem RK_vis {n q j : ℕ} (h : vis n q j) (g d : ℕ) : A.RK n g j d = (A.blk n).K g j d := by
  rw [RK, if_neg]; rintro ⟨h1, rfl⟩; have := h.2; omega
theorem RV_vis {n q j : ℕ} (h : vis n q j) (g d : ℕ) : A.RV n g j d = (A.blk n).V g j d := by
  rw [RV, if_neg]; rintro ⟨h1, rfl⟩; have := h.2; omega
theorem RK_prev {n j : ℕ} (h1 : j < 128) (h2 : n ≠ 0) (g d : ℕ) : A.RK n g j d = A.u (128 * (n - 1) + j) (5120 + (64 * g + d)) := by
  rw [RK, if_neg (fun h => h2 h.2), Blk.K, if_pos h1]; rfl
theorem RK_cur {n j : ℕ} (h1 : ¬ j < 128) (g d : ℕ) : A.RK n g j d = A.u (128 * n + (j - 128)) (5120 + (64 * g + d)) := by
  rw [RK, if_neg (fun h => h1 h.1), Blk.K, if_neg h1]; rfl
theorem RV_prev {n j : ℕ} (h1 : j < 128) (h2 : n ≠ 0) (g d : ℕ) : A.RV n g j d = A.u (128 * (n - 1) + j) (5376 + (64 * g + d)) := by
  rw [RV, if_neg (fun h => h2 h.2), Blk.V, if_pos h1]; rfl
theorem RV_cur {n j : ℕ} (h1 : ¬ j < 128) (g d : ℕ) : A.RV n g j d = A.u (128 * n + (j - 128)) (5376 + (64 * g + d)) := by
  rw [RV, if_neg (fun h => h1 h.1), Blk.V, if_neg h1]; rfl
theorem RS_vis {n q : ℕ} {j : Fin 256} (h : vis n q j.val) (hd : ℕ) : A.RS n hd q j = (A.blk n).S hd q j := by
  unfold RS Blk.S; simp only [A.RK_vis h]; rfl

/-- The reference's probabilities are the block's. -/
theorem RP (n h q : ℕ) : rowP (seen n q) (A.RS n h q) (A.s h) = (A.blk n).P n h q := by
  funext j
  exact congrFun (rowP_congr _ _ (fun j hj => A.RS_vis hj h)) j

theorem RPS (n h q : ℕ) : rowPS (seen n q) (A.RS n h q) (A.s h) = (A.blk n).PS n h q :=
  rowPS_congr _ _ (fun j hj => A.RS_vis hj h)

end Args

/-- A probability times the reference's value is the probability times the block's. -/
theorem P_RV (A : Args) (n h q : ℕ) (j : Fin 256) (g d : ℕ) : (A.blk n).P n h q j * A.RV n g j.val d = (A.blk n).P n h q j * (A.blk n).V g j.val d := by
  by_cases hv : vis n q j.val
  · rw [A.RV_vis hv]
  · have e : (A.blk n).P n h q j = 0 := rowP_hidden (fun j : Fin 256 => vis n q j.val) _ _ hv
    rw [e, zero_mul, zero_mul]

section Reads

variable {A : Args} {x0 : (⟨S8192x16896, .f32⟩ : BufTy).Contents (Elt Ideal)} {x1 : (⟨S8192x1024, .f32⟩ : BufTy).Contents (Elt Ideal)}
  {x2 : (⟨S16x128x256, .f32⟩ : BufTy).Contents (Elt Ideal)} {x3 : (⟨S16, .f32⟩ : BufTy).Contents (Elt Ideal)} (H : HoldsR A x0 x1 x2 x3)
include H

theorem HoldsR.u' {r k r' k' : ℕ} (hr : r < 8192) (hk : k < 16896) (er : r = r') (ek : k = k') : x0 (ix2 ⟨r, hr⟩ ⟨k, hk⟩) = (A.u r' k' : EReal) := by
  subst er ek; exact H.u ⟨r, hr⟩ ⟨k, hk⟩
theorem HoldsR.ct' {r k r' k' : ℕ} (hr : r < 8192) (hk : k < 1024) (er : r = r') (ek : k = k') : x1 (ix2 ⟨r, hr⟩ ⟨k, hk⟩) = (A.ct r' k' : EReal) := by
  subst er ek; exact H.ct ⟨r, hr⟩ ⟨k, hk⟩
theorem HoldsR.b' {h h' : ℕ} (hh : h < 16) (e : h = h') (q : Fin 128) (j : Fin 256) : x2 (ix3 ⟨h, hh⟩ q j) = (A.b h' q.val j.val : EReal) := by
  subst e; exact H.b ⟨h, hh⟩ q j
theorem HoldsR.s' {h h' : ℕ} (hh : h < 16) (e : h = h') : x3 (ix1 ⟨h, hh⟩) = (A.s h' : EReal) := by
  subst e; exact H.s ⟨h, hh⟩

theorem r4 (n : Fin 64) (q : Fin 128) (g e : Fin 4) (d : Fin 64) :
    val_main_v4 (F := Ideal) x0 (ix5 n q g e d) = ((A.blk n.val).q q.val (64 * (4 * g.val + e.val) + d.val) : EReal) := by
  pointwise [val_main_v4, val_main_v0]
  exact H.u' _ _ (by omega) (by omega)

theorem r12 (n : Fin 64) (j : Fin 256) (g : Fin 4) (d : Fin 64) :
    val_main_v12 (F := Ideal) x0 (ix4 n j g d) = (A.RK n.val g.val j.val d.val : EReal) := by
  pointwise [val_main_v12, val_main_v10, val_main_v9, val_main_v8, val_main_v5, val_main_v1, val_main_cst]
  by_cases h1 : j.val < 128
  · by_cases h2 : n.val = 0
    · rw [dif_pos h1, dif_pos (by omega), Args.RK, if_pos ⟨h1, h2⟩]; rfl
    · rw [dif_pos h1, dif_neg (by omega), A.RK_prev h1 h2]
      exact H.u' _ _ (by omega) (by omega)
  · rw [dif_neg h1, A.RK_cur h1]
    exact H.u' _ _ (by omega) (by omega)

theorem r18 (n : Fin 64) (j : Fin 256) (g : Fin 4) (d : Fin 64) :
    val_main_v18 (F := Ideal) x0 (ix4 n j g d) = (A.RV n.val g.val j.val d.val : EReal) := by
  pointwise [val_main_v18, val_main_v16, val_main_v15, val_main_v14, val_main_v6, val_main_v2, val_main_cst_1]
  by_cases h1 : j.val < 128
  · by_cases h2 : n.val = 0
    · rw [dif_pos h1, dif_pos (by omega), Args.RV, if_pos ⟨h1, h2⟩]; rfl
    · rw [dif_pos h1, dif_neg (by omega), A.RV_prev h1 h2]
      exact H.u' _ _ (by omega) (by omega)
  · rw [dif_neg h1, A.RV_cur h1]
    exact H.u' _ _ (by omega) (by omega)

theorem r25 (n : Fin 64) (q : Fin 128) (j : Fin 256) (g e : Fin 4) :
    val_main_v25 (F := Ideal) x0 x2 (ix5 g e n q j) = (A.RS n.val (4 * g.val + e.val) q.val j : EReal) := by
  pointwise [val_main_v25, val_main_v22, val_main_v21, val_main_v20, val_main_v19, val_main_v24, val_main_v23, val_main_cst_3]
  rw [H.b' (h' := 4 * g.val + e.val) _ (by omega), lit8]
  simp only [r12 H, r4 H, ← EReal.coe_mul, ← coe_sum, ← EReal.coe_add]
  unfold Args.RS
  rw [show (4 * g.val + e.val) / 4 = g.val from by omega]
  simp only [mul_comm (A.RK _ _ _ _)]

theorem r56 (n : Fin 64) (q : Fin 128) (j : Fin 256) (g e : Fin 4) :
    val_main_v56_0 (F := Ideal) x0 x2 (ix5 g e n q j) = rowS (seen n.val q.val) (A.RS n.val (4 * g.val + e.val) q.val) j := by
  pointwise [val_main_v56_0, val_main_v56_1, val_main_v55, val_main_v54, val_main_v53, val_main_v50, val_main_call0_v2, val_main_call0_v0, val_main_cst_9]
  rw [sel_vis, r25 H]
  unfold rowS
  refine if_congr Iff.rfl rfl ?_
  exact litbot

theorem r58 (n : Fin 64) (q : Fin 128) (g e : Fin 4) :
    val_main_v58 (F := Ideal) x0 x2 (ix4 g e n q) = Finset.univ.fold max ⊥ (rowS (seen n.val q.val) (A.RS n.val (4 * g.val + e.val) q.val)) := by
  pointwise [val_main_v58, val_main_cst_10]
  rw [litbot]
  simp only [r56 H]

theorem r57 (n : Fin 64) (q : Fin 128) (g e : Fin 4) :
    val_main_v65 (F := Ideal) x3 (ix5 g e n q 0) = (A.s (4 * g.val + e.val) : EReal) := by
  pointwise [val_main_v65, val_main_v57]
  exact H.s' _ (by omega)

theorem r64 (n : Fin 64) (q : Fin 128) (g e : Fin 4) :
    val_main_v64 (F := Ideal) x0 x2 (ix5 g e n q 0) = Finset.univ.fold max ⊥ (rowS (seen n.val q.val) (A.RS n.val (4 * g.val + e.val) q.val)) := by
  pointwise [val_main_v64]
  exact r58 H n q g e

theorem r66 (n : Fin 64) (q : Fin 128) (g e : Fin 4) :
    val_main_v66 (F := Ideal) x0 x2 x3 (ix5 g e n q 0) = rowM (seen n.val q.val) (A.RS n.val (4 * g.val + e.val) q.val) (A.s (4 * g.val + e.val)) := by
  rw [val_main_v66_apply, r57 H, r64 H]
  rfl

theorem r87 (n : Fin 64) (q : Fin 128) (j : Fin 256) (g e : Fin 4) :
    val_main_v87 (F := Ideal) x0 x2 x3 (ix5 g e n q j) = (rowE (seen n.val q.val) (A.RS n.val (4 * g.val + e.val) q.val) (A.s (4 * g.val + e.val)) j : EReal) := by
  pointwise [val_main_v87, val_main_v86, val_main_v85]
  rw [r56 H, r66 H, exp_rowS]

theorem r92 (n : Fin 64) (q : Fin 128) (g e : Fin 4) :
    val_main_v92 (F := Ideal) x0 x2 x3 (ix5 g e n q 0) = (rowX (seen n.val q.val) (A.RS n.val (4 * g.val + e.val) q.val) (A.s (4 * g.val + e.val)) : EReal) := by
  pointwise [val_main_v92, val_main_v91, val_main_v90, val_main_v57]
  rw [r66 H, H.s' (h' := 4 * g.val + e.val) _ (by omega), exp_sink]

theorem r93 (n : Fin 64) (q : Fin 128) (g e : Fin 4) :
    val_main_v93 (F := Ideal) x0 x2 x3 (ix5 g e n q 0) = (rowD (seen n.val q.val) (A.RS n.val (4 * g.val + e.val) q.val) (A.s (4 * g.val + e.val)) : EReal) := by
  pointwise [val_main_v93, val_main_v89, val_main_v88, val_main_cst_18]
  simp only [r87 H, r92 H, ← coe_sum, ← EReal.coe_add]
  rfl

theorem r95 (n : Fin 64) (q : Fin 128) (j : Fin 256) (g e : Fin 4) :
    val_main_v95 (F := Ideal) x0 x2 x3 (ix5 g e n q j) = ((A.blk n.val).P n.val (4 * g.val + e.val) q.val j : EReal) := by
  pointwise [val_main_v95, val_main_v94]
  rw [r87 H, r93 H, Ideal.div_coe (rowD_pos _ _ _).ne', ← EReal.coe_mul, mul_one_div]
  exact congrArg _ (congrFun (A.RP n.val (4 * g.val + e.val) q.val) j)

theorem r98 (n : Fin 64) (q : Fin 128) (g e : Fin 4) :
    val_main_v98 (F := Ideal) x0 x2 x3 (ix5 g e n q 0) = ((1 / (rowD (seen n.val q.val) (A.RS n.val (4 * g.val + e.val) q.val) (A.s (4 * g.val + e.val))
      * rowD (seen n.val q.val) (A.RS n.val (4 * g.val + e.val) q.val) (A.s (4 * g.val + e.val))) : ℝ) : EReal) := by
  pointwise [val_main_v98, val_main_v97, val_main_v96, val_main_cst_19]
  rw [r93 H, ← EReal.coe_mul, Ideal.div_coe (mul_pos (rowD_pos _ _ _) (rowD_pos _ _ _)).ne', one_mul]

/-- The attention's output. -/
theorem r101 (r : Fin 8192) (k : Fin 1024) : val_main_v101 (F := Ideal) x0 x2 x3 (ix2 r k) = (A.o r.val k.val : EReal) := by
  pointwise [val_main_v101, val_main_v100, val_main_v99]
  simp only [r18 H, r95 H, ← EReal.coe_mul, ← coe_sum]
  unfold Args.o
  refine congrArg _ (Finset.sum_congr rfl fun j _ => ?_)
  rw [show 4 * (k.val / 256) + k.val / 64 % 4 = k.val / 64 from by omega, mul_comm, P_RV]
  rfl

end Reads

end Cert.Attn
-- ==== Proof.AttnHost.lean ====
/-
  The attention's output and masked bias that the kernel's host code prepares.
-/
module

public import proofs.«01_k».proof.Proof.AttnFrame
public import proofs.«01_k».proof.Proof.AttnRef1

@[expose] public section

set_option maxRecDepth 16384

noncomputable section

namespace Cert.Attn

open Cert.AttnKernelIdeal Cert.AttnKernelIdeal.Gen Idealize.ShloMosaic Idealize.ShloMosaic.TcCoe Idealize.SL.Sem

section Any

variable {F : FTy → Type} [FloatOps F] (m : (ℓ : Loc nD τ Cert.AttnKernelIdeal.sig) → Buf (Elt F) ℓ)

/-- The attention's output that the call reads is the reference's. -/
theorem host_o (c : Dev nD) : V m c main_v73 = Cert.AttnRefIdeal.Read.val_main_v101 (F := F)
    (m ((c : Thread nD τ).loc main_arg0)) (m ((c : Thread nD τ).loc main_arg2)) (m ((c : Thread nD τ).loc main_arg3)) := by
  show StableHlo.after (List.flatten [hostOps0, hostOps0_1, hostOps0_2, hostOps0_3, hostOps0_4]) _ _ = _
  simp only [List.flatten_cons, List.flatten_nil, List.append_nil, List.cons_append, List.nil_append]
  after_results
  rfl

/-- The window's mask. -/
def hmask : S128x256.Idx → BitVec 1 :=
  ori (andi (broadcastInDim S128x256 ![0, 1] bcast_S1x256_S128x256_0_1 (cmpi CmpIPredicate.sge
      (broadcastInDim S1x256 ![1] bcast_S256_S1x256_1 (iotaInDim S256 32 0)) (broadcastInDim S1x256 ![] bcast_S_S1x256 (constantI S_ 32 128#32))))
    (cmpi CmpIPredicate.sle (broadcastInDim S128x256 ![0, 1] bcast_S1x256_S128x256_0_1 (subi (broadcastInDim S1x256 ![1] bcast_S256_S1x256_1 (iotaInDim S256 32 0))
        (broadcastInDim S1x256 ![] bcast_S_S1x256 (constantI S_ 32 128#32))))
      (broadcastInDim S128x256 ![0, 1] bcast_S128x1_S128x256_0_1 (broadcastInDim S128x1 ![0] bcast_S128_S128x1_0 (iotaInDim S128 32 0)))))
  (andi (broadcastInDim S128x256 ![0, 1] bcast_S1x256_S128x256_0_1 (cmpi CmpIPredicate.slt
      (broadcastInDim S1x256 ![1] bcast_S256_S1x256_1 (iotaInDim S256 32 0)) (broadcastInDim S1x256 ![] bcast_S_S1x256 (constantI S_ 32 128#32))))
    (cmpi CmpIPredicate.sgt (broadcastInDim S128x256 ![0, 1] bcast_S1x256_S128x256_0_1 (broadcastInDim S1x256 ![1] bcast_S256_S1x256_1 (iotaInDim S256 32 0)))
      (broadcastInDim S128x256 ![0, 1] bcast_S128x1_S128x256_0_1 (broadcastInDim S128x1 ![0] bcast_S128_S128x1_0 (iotaInDim S128 32 0)))))

/-- The bias with the hidden keys' entries at −∞, by groups of heads. -/
def hbias (x2 : Vec F S16x128x256 .f32) : Vec F S4x512x256 .f32 :=
  shapeCast S4x512x256 (select (broadcastInDim S16x128x256 ![1, 2] bcast_S128x256_S16x128x256_1_2 hmask) x2
    (broadcastInDim S16x128x256 ![] bcast_S_S16x128x256 (constant S_ .f32 4286578688#32))) shapeCasts_S16x128x256_S4x512x256

theorem host_b (c : Dev nD) : V m c main_v96 = hbias (F := F) (m ((c : Thread nD τ).loc main_arg2)) := by
  show StableHlo.after (List.flatten [hostOps0, hostOps0_1, hostOps0_2, hostOps0_3, hostOps0_4]) _ _ = _
  simp only [List.flatten_cons, List.flatten_nil, List.append_nil, List.cons_append, List.nil_append]
  after_results
  rfl

end Any

theorem hband : ∀ (q : Fin 128) (j : Fin 256), IntOp.ori
      (IntOp.andi (IntOp.cmpi CmpIPredicate.sge (BitVec.ofNat 32 j.val) 128#32) (IntOp.cmpi CmpIPredicate.sle (IntOp.subi (BitVec.ofNat 32 j.val) 128#32) (BitVec.ofNat 32 q.val)))
      (IntOp.andi (IntOp.cmpi CmpIPredicate.slt (BitVec.ofNat 32 j.val) 128#32) (IntOp.cmpi CmpIPredicate.sgt (BitVec.ofNat 32 j.val) (BitVec.ofNat 32 q.val)))
      = if q.val < j.val ∧ j.val ≤ 128 + q.val then 1#1 else 0#1 := by
  decide +kernel

theorem hmask_at (q : Fin 128) (j : Fin 256) : @Eq (BitVec 1) (hmask (ix2 q j)) (if q.val < j.val ∧ j.val ≤ 128 + q.val then 1#1 else 0#1) := by
  pointwise [hmask]
  exact hband q j

/-- The masked bias at an entry. -/
theorem hbias_at (x2 : Vec Ideal S16x128x256 .f32) (g : Fin 4) (r : Fin 512) (j : Fin 256) :
    @Eq EReal (hbias (F := Ideal) x2 (ix3 g r j)) (if r.val % 128 < j.val ∧ j.val ≤ 128 + r.val % 128 then x2 (ix3 ⟨g.val * 4 + r.val / 128, by omega⟩ ⟨r.val % 128, by omega⟩ j) else ⊥) := by
  pointwise [hbias]
  rw [hmask_at, litbot]
  by_cases h : r.val % 128 < j.val ∧ j.val ≤ 128 + r.val % 128
  · rw [if_pos h, if_pos h]; rfl
  · rw [if_neg h, if_neg h]; rfl

end Cert.Attn
-- ==== Proof.AttnRef2.lean ====
/-
  The attention's backward lines of the reference read at an entry, as real numbers, from real arguments.
-/
module

public import proofs.«01_k».proof.Proof.AttnRef1

@[expose] public section

set_option maxRecDepth 16384

noncomputable section

namespace Cert.Attn

open Cert.AttnRefIdeal Cert.AttnRefIdeal.Read Idealize.ShloMosaic Idealize.ShloMosaic.TcCoe Idealize.SL.Sem

namespace Args

variable (A : Args)

/-- The gradients of the reference's probabilities. -/
def Rdp (n h q : ℕ) (j : Fin 256) : ℝ := ∑ d : Fin 64, (A.blk n).d q (64 * h + d.val) * A.RV n (h / 4) j.val d.val

/-- The softmax's denominator in the reference. -/
def RD (n h q : ℕ) : ℝ := rowD (seen n q) (A.RS n h q) (A.s h)

/-- The gradient of the softmax's denominator. -/
def RR (n h q : ℕ) : ℝ := ∑ j, -(A.Rdp n h q j * (1 / (rowD (seen n q) (A.RS n h q) (A.s h) * rowD (seen n q) (A.RS n h q) (A.s h))) * rowE (seen n q) (A.RS n h q) (A.s h) j)

theorem P_Rdp (n h q : ℕ) (j : Fin 256) : (A.blk n).P n h q j * A.Rdp n h q j
    = (A.blk n).P n h q j * ∑ d : Fin 64, (A.blk n).d q (64 * h + d.val) * (A.blk n).V (h / 4) j.val d.val := by
  unfold Rdp
  rw [Finset.mul_sum, Finset.mul_sum]
  refine Finset.sum_congr rfl fun d _ => ?_
  rw [mul_left_comm, P_RV, mul_left_comm]

/-- The sum of the probabilities times their gradients is the row sum of the output times its gradient. -/
theorem delta_eq (n h q : ℕ) (hq : q < 128) : rowDelta (seen n q) (A.RS n h q) (A.s h) (A.Rdp n h q) = (A.blk n).dl h q := by
  unfold rowDelta
  rw [A.RP]
  simp only [P_Rdp, Finset.mul_sum]
  rw [Finset.sum_comm]
  unfold Blk.dl
  refine Finset.sum_congr rfl fun d _ => ?_
  have e : (A.blk n).o q (64 * h + d.val) = ∑ j : Fin 256, (A.blk n).P n h q j * (A.blk n).V (h / 4) j.val d.val := by
    show A.o (128 * n + q) (64 * h + d.val) = _
    unfold Args.o
    rw [show (128 * n + q) / 128 = n from by omega, show (64 * h + d.val) / 64 = h from by omega, show (128 * n + q) % 128 = q from by omega,
      show (64 * h + d.val) / 256 = h / 4 from by omega, show (64 * h + d.val) % 64 = d.val from by omega]
    rfl
  rw [e, Finset.mul_sum]
  exact Finset.sum_congr rfl fun j _ => by ring

theorem DS_eq (n h q : ℕ) (hq : q < 128) (j : Fin 256) : rowDS (seen n q) (A.RS n h q) (A.s h) (A.Rdp n h q) j = (A.blk n).DS n h q j := by
  unfold rowDS
  rw [A.delta_eq n h q hq, A.RP, mul_sub, P_Rdp, ← mul_sub]
  rfl

theorem RR_X (n h q : ℕ) (hq : q < 128) : A.RR n h q * rowX (seen n q) (A.RS n h q) (A.s h) = -((A.blk n).PS n h q * (A.blk n).dl h q) := by
  unfold RR
  rw [row_sink, A.delta_eq n h q hq, A.RPS]

theorem DS_hidden (n h q : ℕ) (hq : q < 128) {j : Fin 256} (hv : ¬ vis n q j.val) : (A.blk n).DS n h q j = 0 := by
  rw [← A.DS_eq n h q hq]
  exact rowDS_hidden _ _ _ _ hv

end Args

/-- A number of maxima is not zero. -/
theorem count_ne (f : Fin 256 → EReal) (M : EReal) (h : M = Finset.univ.fold max ⊥ f) (g : Fin 256 → EReal)
    (hg : ∀ j, g j = if f j = M then 1 else 0) : ∑ j, g j ≠ 0 := by
  obtain ⟨i, -, hi⟩ := Finset.exists_mem_eq_sup Finset.univ Finset.univ_nonempty f
  have hM : f i = M := by rw [h, ← hi]; rfl
  have h0 : ∀ j, 0 ≤ g j := fun j => by rw [hg]; split <;> norm_num
  have h1 : g i ≤ ∑ j, g j := Finset.single_le_sum (fun j _ => h0 j) (Finset.mem_univ i)
  rw [hg, if_pos hM] at h1
  intro e
  rw [e] at h1
  exact absurd h1 (by norm_num)

theorem div_zero_left {y : EReal} (h : y ≠ 0) : Ideal.div 0 y = 0 := by
  rw [Ideal.div, if_neg h, zero_mul]

/-- The four heads of a group, two stacked pairs. -/
theorem sum_heads (f : ℕ → ℕ → ℝ) : ∑ e : Fin 4, ∑ q : Fin 128, f e.val q.val
    = ∑ r : Fin 256, f (r.val / 128) (r.val % 128) + ∑ r : Fin 256, f (2 + r.val / 128) (r.val % 128) := by
  have h (k : ℕ) : ∑ r : Fin 256, f (k + r.val / 128) (r.val % 128) = ∑ q : Fin 128, f k q.val + ∑ q : Fin 128, f (k + 1) q.val := by
    rw [sum_stackR]
    refine congrArg₂ _ (Finset.sum_congr rfl fun q _ => ?_) (Finset.sum_congr rfl fun q _ => ?_)
    · show f (k + q.val / 128) (q.val % 128) = _
      rw [show k + q.val / 128 = k from by omega, show q.val % 128 = q.val from by omega]
    · show f (k + (128 + q.val) / 128) ((128 + q.val) % 128) = _
      rw [show k + (128 + q.val) / 128 = k + 1 from by omega, show (128 + q.val) % 128 = q.val from by omega]
  have h0 := h 0
  simp only [Nat.zero_add] at h0
  rw [h0, h 2, Fin.sum_univ_four]
  simp only [Fin.val_zero, Fin.val_one, Fin.val_two, add_assoc]
  rfl

section Reads

variable {A : Args} {x0 : (⟨S8192x16896, .f32⟩ : BufTy).Contents (Elt Ideal)} {x1 : (⟨S8192x1024, .f32⟩ : BufTy).Contents (Elt Ideal)}
  {x2 : (⟨S16x128x256, .f32⟩ : BufTy).Contents (Elt Ideal)} {x3 : (⟨S16, .f32⟩ : BufTy).Contents (Elt Ideal)} (H : HoldsR A x0 x1 x2 x3)
include H

theorem r176 (r : Fin 8192) (k : Fin 1024) : val_main_v176 (F := Ideal) x0 x1 x2 x3 (ix2 r k) = (A.GG r.val k.val : EReal) := by
  pointwise [val_main_v176, val_main_v106, val_main_v104, val_main_call2_v0, val_main_call2_v1, val_main_call2_v2, val_main_v102_1, val_main_v102_2, val_main_call1_v7, val_main_call1_v6, val_main_call1_v4, val_main_call1_v3, val_main_call1_v2, val_main_call1_v1, val_main_call1_v0, val_main_v3, val_main_call1_cst, val_main_call1_cst_0, val_main_call1_cst_1]
  rw [H.u' (r' := r.val) (k' := 5632 + k.val) _ _ rfl rfl, r101 H, H.ct r k, sig_div]
  simp only [← EReal.coe_mul, ← EReal.coe_add, ← EReal.coe_sub, ← EReal.coe_one]
  refine congrArg _ ?_
  unfold Args.GG Args.γ
  ring

theorem r108 (n : Fin 64) (q : Fin 128) (g e : Fin 4) (d : Fin 64) :
    val_main_v108 (F := Ideal) x0 x1 (ix5 n g d e q) = ((A.blk n.val).d q.val (64 * (4 * g.val + e.val) + d.val) : EReal) := by
  pointwise [val_main_v108, val_main_v107, val_main_v105, val_main_v102_0, val_main_v102_2, val_main_call1_v4, val_main_call1_v3, val_main_call1_v2, val_main_call1_v1, val_main_call1_v0, val_main_v3, val_main_call1_cst, val_main_call1_cst_0]
  rw [H.u' (r' := 128 * n.val + q.val) (k' := 5632 + (64 * (4 * g.val + e.val) + d.val)) _ _ (by omega) (by omega),
    H.ct' (r' := 128 * n.val + q.val) (k' := 64 * (4 * g.val + e.val) + d.val) _ _ (by omega) (by omega), sig_div]
  simp only [← EReal.coe_mul]
  rfl

theorem r110 (n : Fin 64) (q : Fin 128) (j : Fin 256) (g e : Fin 4) :
    val_main_v110 (F := Ideal) x0 x1 (ix5 g e n q j) = (A.Rdp n.val (4 * g.val + e.val) q.val j : EReal) := by
  pointwise [val_main_v110, val_main_v109]
  simp only [r108 H, r18 H, ← EReal.coe_mul, ← coe_sum]
  unfold Args.Rdp
  rw [show (4 * g.val + e.val) / 4 = g.val from by omega]

theorem r118 (n : Fin 64) (q : Fin 128) (g e : Fin 4) :
    val_main_v118 (F := Ideal) x0 x1 x2 x3 (ix5 g e n q 0) = (A.RR n.val (4 * g.val + e.val) q.val : EReal) := by
  pointwise [val_main_v118, val_main_v117, val_main_v116, val_main_v115, val_main_v114, val_main_v113, val_main_cst_20]
  simp only [r110 H, r98 H, r87 H, ← EReal.coe_mul, ← EReal.coe_neg, ← coe_sum]
  rw [Args.RR, Finset.sum_neg_distrib]

theorem r121 (n : Fin 64) (q : Fin 128) (g e : Fin 4) :
    val_main_v121 (F := Ideal) x0 x1 x2 x3 (ix5 g e n q 0)
      = ((A.RR n.val (4 * g.val + e.val) q.val * rowX (seen n.val q.val) (A.RS n.val (4 * g.val + e.val) q.val) (A.s (4 * g.val + e.val)) : ℝ) : EReal) := by
  pointwise [val_main_v121]
  rw [r118 H, r92 H, ← EReal.coe_mul]

theorem r128' (n : Fin 64) (q : Fin 128) (j : Fin 256) (g e : Fin 4) :
    val_main_v128 (F := Ideal) x0 x1 x2 x3 (ix5 g e n q j)
      = (((A.Rdp n.val (4 * g.val + e.val) q.val j / rowD (seen n.val q.val) (A.RS n.val (4 * g.val + e.val) q.val) (A.s (4 * g.val + e.val)) + A.RR n.val (4 * g.val + e.val) q.val)
        * rowE (seen n.val q.val) (A.RS n.val (4 * g.val + e.val) q.val) (A.s (4 * g.val + e.val)) j : ℝ) : EReal) := by
  pointwise [val_main_v128, val_main_v127, val_main_v126, val_main_v125, val_main_v120, val_main_v119, val_main_cst_22]
  simp only [Fin.sum_univ_one, Fin.isValue, r110 H, r93 H, r87 H, r118 H, Ideal.div_coe (rowD_pos _ _ _).ne', ← EReal.coe_mul, ← EReal.coe_add, mul_one_div]

theorem r128 (n : Fin 64) (q : Fin 128) (j : Fin 256) (g e : Fin 4) :
    val_main_v128 (F := Ideal) x0 x1 x2 x3 (ix5 g e n q j) = ((A.blk n.val).DS n.val (4 * g.val + e.val) q.val j : EReal) := by
  rw [r128' H, Args.RR, row_ds, A.DS_eq _ _ _ q.isLt]

theorem r132 (n : Fin 64) (q : Fin 128) (g e : Fin 4) : val_main_v132 (F := Ideal) x0 x1 x2 x3 (ix5 g e n q 0) = 0 := by
  pointwise [val_main_v132, val_main_v131, val_main_v130, val_main_v129, val_main_v124, val_main_cst_23]
  simp only [r121 H, r128' H, ← EReal.coe_neg, ← coe_sum, ← EReal.coe_add]
  refine (congrArg _ ?_).trans EReal.coe_zero
  unfold Args.RR
  exact row_max_ct _ _ _ _

theorem r63 (n : Fin 64) (q : Fin 128) (g e : Fin 4) : @Ne EReal (val_main_v63 (F := Ideal) x0 x2 (ix4 g e n q)) 0 := by
  pointwise [val_main_v63, val_main_v62, val_main_v61, val_main_v60, val_main_v59, val_main_cst_11]
  refine count_ne (fun j => val_main_v56_0 (F := Ideal) x0 x2 (ix5 g e n q j)) (val_main_v58 (F := Ideal) x0 x2 (ix4 g e n q)) ?_ _ (fun j => ?_)
  · rw [r58 H]; simp only [r56 H]
  · show ((((BitVec.ofBool (decide _)).toNat : ℕ) : ℝ) : EReal) = _
    split
    · rename_i h; rw [decide_eq_true h]; simp
    · rename_i h; rw [decide_eq_false h]; simp

theorem r138 (n : Fin 64) (q : Fin 128) (g e : Fin 4) : val_main_v138 (F := Ideal) x0 x1 x2 x3 (ix4 g e n q) = 0 := by
  have hi : idx_main_v138 (ix4 g e n q) 0 = ix5 g e n q 0 := by
    funext a; match a with
    | ⟨0, _⟩ => rfl
    | ⟨1, _⟩ => rfl
    | ⟨2, _⟩ => rfl
    | ⟨3, _⟩ => rfl
    | ⟨4, _⟩ => rfl
  rw [val_main_v138_apply, Fin.sum_univ_one, hi, val_main_v137_apply, r132 H]
  show Ideal.ofBits .f32 0#32 + 0 * _ = _
  rw [lit0, zero_mul, add_zero]

theorem r141 (n : Fin 64) (q : Fin 128) (j : Fin 256) (g e : Fin 4) : val_main_v141 (F := Ideal) x0 x1 x2 x3 (ix5 g e n q j) = 0 := by
  have hi : idx_main_v140 (ix5 g e n q j) = ix4 g e n q := by
    funext a; match a with
    | ⟨0, _⟩ => rfl
    | ⟨1, _⟩ => rfl
    | ⟨2, _⟩ => rfl
    | ⟨3, _⟩ => rfl
  rw [val_main_v141_apply, val_main_v140_apply, hi, val_main_v139_apply, r138 H]
  show Ideal.div 0 _ * _ = _
  rw [div_zero_left (r63 H n q g e), zero_mul]

theorem r144 (n : Fin 64) (q : Fin 128) (j : Fin 256) (g e : Fin 4) :
    val_main_v144 (F := Ideal) x0 x1 x2 x3 (ix5 g e n q j) = ((A.blk n.val).DS n.val (4 * g.val + e.val) q.val j : EReal) := by
  pointwise [val_main_v144, val_main_v142, val_main_v56_1, val_main_v55, val_main_v54, val_main_v53, val_main_v50, val_main_call3_v0, val_main_call3_cst]
  rw [sel_vis, r128 H, r141 H, add_zero]
  by_cases hv : vis n.val q.val j.val
  · rw [if_pos hv]
  · rw [if_neg hv, A.DS_hidden _ _ _ q.isLt hv, EReal.coe_zero]

theorem r173 (g : Fin 4) (r : Fin 512) (j : Fin 256) :
    val_main_v173 (F := Ideal) x0 x1 x2 x3 (ix3 g r j) = (A.GB (4 * g.val + r.val / 128) (r.val % 128) j : EReal) := by
  pointwise [val_main_v173, val_main_v147, val_main_v146, val_main_v145, val_main_cst_26]
  simp only [r144 H, ← coe_sum]
  unfold Args.GB
  refine congrArg _ (Finset.sum_congr rfl fun n _ => ?_)
  rw [show 4 * g.val + (g.val * 4 + r.val / 128) % 4 = 4 * g.val + r.val / 128 from by omega]

theorem r170 (r : Fin 8192) (k : Fin 1024) : val_main_v170 (F := Ideal) x0 x1 x2 x3 (ix2 r k) = (A.GQ r.val k.val : EReal) := by
  pointwise [val_main_v170, val_main_v169, val_main_v152, val_main_v151, val_main_v150, val_main_v149, val_main_v148, val_main_cst_27]
  rw [lit8]
  simp only [r144 H, r12 H, ← EReal.coe_mul, ← coe_sum]
  unfold Args.GQ Blk.DQ
  refine congrArg _ (Finset.sum_congr rfl fun j _ => ?_)
  rw [show 4 * (k.val / 256) + k.val / 64 % 4 = k.val / 64 from by omega, show k.val / 64 / 4 = k.val / 256 from by omega]
  by_cases hv : vis (r.val / 128) (r.val % 128) j.val
  · rw [A.RK_vis hv]
  · rw [A.DS_hidden _ _ _ (by omega) hv]; ring

theorem r143 (h : Fin 16) : val_main_v143 (F := Ideal) x0 x1 x2 x3 (ix1 h) = (A.GS h.val : EReal) := by
  pointwise [val_main_v143, val_main_v136, val_main_v135, val_main_v134, val_main_v133, val_main_v123, val_main_v122, val_main_cst_21, val_main_cst_24]
  simp only [r121 H, r132 H, zero_mul, Finset.sum_const_zero, add_zero, ← coe_sum]
  unfold Args.GS Blk.DSK
  refine congrArg _ (Finset.sum_congr rfl fun n _ => ?_)
  rw [← Finset.sum_neg_distrib]
  refine Finset.sum_congr rfl fun q _ => ?_
  rw [show 4 * (h.val / 4) + h.val % 4 = h.val from by omega, A.RR_X _ _ _ q.isLt]

theorem r175 (a : Fin 8) (b : Fin 128) : @Eq EReal (val_main_v175 (F := Ideal) x0 x1 x2 x3 (ix2 a b)) (if a.val < 1 ∧ b.val < 16 then (A.GS b.val : EReal) else 0) := by
  pointwise [val_main_v175, val_main_v174, val_main_call4_v0, val_main_c_30]
  by_cases h : a.val < 1 ∧ b.val < 16
  · rw [dif_pos h, if_pos h]
    exact r143 H ⟨b.val, h.2⟩
  · rw [dif_neg h, if_neg h]
    show (((0#32).toInt : ℝ) : EReal) = 0
    norm_num

theorem r112 (n : Fin 64) (j : Fin 256) (g : Fin 4) (d : Fin 64) : val_main_v112 (F := Ideal) x0 x1 x2 x3 (ix4 n j g d) = ((A.blk n.val).DV n.val g.val j.val d.val : EReal) := by
  pointwise [val_main_v112, val_main_v111]
  simp only [r108 H, r95 H, ← EReal.coe_mul, ← coe_sum]
  unfold Blk.DV
  rw [dif_pos j.isLt]
  refine congrArg _ ?_
  refine (sum_heads fun e q => (A.blk n.val).d q (64 * (4 * g.val + e) + d.val) * (A.blk n.val).P n.val (4 * g.val + e) q j).trans ?_
  refine congrArg₂ (· + ·) (Finset.sum_congr rfl fun r _ => mul_comm _ _) (Finset.sum_congr rfl fun r _ => ?_)
  rw [← Nat.add_assoc, mul_comm]

theorem r154 (n : Fin 64) (j : Fin 256) (g : Fin 4) (d : Fin 64) : val_main_v154 (F := Ideal) x0 x1 x2 x3 (ix4 n j g d) = ((A.blk n.val).DK n.val g.val j.val d.val : EReal) := by
  pointwise [val_main_v154, val_main_v153, val_main_v150, val_main_v149, val_main_v148, val_main_cst_27]
  rw [lit8]
  simp only [r144 H, r4 H, ← EReal.coe_mul, ← coe_sum]
  unfold Blk.DK
  rw [dif_pos j.isLt, Finset.sum_comm]
  refine congrArg _ ?_
  refine (sum_heads fun e q => (A.blk n.val).DS n.val (4 * g.val + e) q j * (1 / 8) * (A.blk n.val).q q (64 * (4 * g.val + e) + d.val)).trans ?_
  refine congrArg₂ (· + ·) rfl (Finset.sum_congr rfl fun r _ => ?_)
  rw [← Nat.add_assoc]

omit H in
theorem GKV_coe (r k : ℕ) : (A.GKV r k : EReal) = (((A.blk (r / 128)).DKV (r / 128) (128 + r % 128) k : ℝ) : EReal)
    + ((if r / 128 < 63 then (A.blk (r / 128 + 1)).DKV (r / 128 + 1) (r % 128) k else 0 : ℝ) : EReal) := by
  unfold Args.GKV
  exact EReal.coe_add _ _

omit H in
theorem DKV_lo (n j c : ℕ) (hc : c < 256) : (A.blk n).DKV n j c = (A.blk n).DK n (c / 64) j (c % 64) := if_pos hc

omit H in
theorem DKV_hi (n j c : ℕ) (hc : ¬ c < 256) : (A.blk n).DKV n j c = (A.blk n).DV n ((c - 256) / 64) j ((c - 256) % 64) := by
  rw [show (c - 256) % 64 = c % 64 from by omega]
  exact if_neg hc

omit H in
theorem next_lo (r k n : ℕ) (hr : r / 128 < 63) (hk : k < 256) (hn : r / 128 + 1 = n) :
    (if r / 128 < 63 then (A.blk (r / 128 + 1)).DKV (r / 128 + 1) (r % 128) k else 0) = (A.blk n).DK n (k / 64) (r % 128) (k % 64) := by
  subst hn
  exact (if_pos hr).trans (DKV_lo _ _ _ hk)

omit H in
theorem next_hi (r k n : ℕ) (hr : r / 128 < 63) (hk : ¬ k < 256) (hn : r / 128 + 1 = n) :
    (if r / 128 < 63 then (A.blk (r / 128 + 1)).DKV (r / 128 + 1) (r % 128) k else 0) = (A.blk n).DV n ((k - 256) / 64) (r % 128) ((k - 256) % 64) := by
  subst hn
  exact (if_pos hr).trans (DKV_hi _ _ _ hk)

theorem r172 (r : Fin 8192) (k : Fin 512) : val_main_v172 (F := Ideal) x0 x1 x2 x3 (ix2 r k) = (A.GKV r.val k.val : EReal) := by
  pointwise [val_main_v172, val_main_v171, val_main_v168, val_main_v167, val_main_v166, val_main_v165, val_main_v164, val_main_v162, val_main_v161, val_main_v160, val_main_v159, val_main_v158, val_main_v156, val_main_v155, val_main_cst_28, val_main_cst_29]
  refine Eq.trans ?_ (GKV_coe r.val k.val).symm
  have h4 : r.val / 128 < 64 := by omega
  by_cases hk : k.val < 256
  · refine (dif_pos hk).trans ?_
    refine congrArg₂ (· + ·) ?_ ?_
    · rw [DKV_lo _ _ _ hk]
      exact r154 H ⟨r.val / 128, h4⟩ ⟨128 + r.val % 128, by omega⟩ ⟨k.val / 64, by omega⟩ ⟨k.val % 64, by omega⟩
    · by_cases hr : r.val / 128 < 63
      · refine (dif_pos (⟨hr, by omega, by omega, by omega⟩ : _ ∧ _ ∧ _ ∧ _)).trans ?_
        exact (r154 H ⟨1 + r.val / 128, by omega⟩ ⟨r.val % 128, by omega⟩ ⟨k.val / 64, by omega⟩ ⟨k.val % 64, by omega⟩).trans (congrArg Real.toEReal (next_lo r.val k.val (1 + r.val / 128) hr hk (Nat.add_comm _ _)).symm)
      · refine (dif_neg fun h => hr h.1).trans ?_
        rw [if_neg hr, EReal.coe_zero]
  · refine (dif_neg hk).trans ?_
    refine congrArg₂ (· + ·) ?_ ?_
    · rw [DKV_hi _ _ _ hk]
      exact r112 H ⟨r.val / 128, h4⟩ ⟨128 + r.val % 128, by omega⟩ ⟨(k.val - 256) / 64, by omega⟩ ⟨(k.val - 256) % 64, by omega⟩
    · by_cases hr : r.val / 128 < 63
      · refine (dif_pos (⟨hr, by omega, by omega, by omega⟩ : _ ∧ _ ∧ _ ∧ _)).trans ?_
        exact (r112 H ⟨1 + r.val / 128, by omega⟩ ⟨r.val % 128, by omega⟩ ⟨(k.val - 256) / 64, by omega⟩ ⟨(k.val - 256) % 64, by omega⟩).trans (congrArg Real.toEReal (next_hi r.val k.val (1 + r.val / 128) hr hk (Nat.add_comm _ _)).symm)
      · refine (dif_neg fun h => hr h.1).trans ?_
        rw [if_neg hr, EReal.coe_zero]

end Reads

end Cert.Attn
-- ==== Proof.AttnClaim.lean ====
/-
  The claim about the attention's gradient: kernel and reference end with equal results, entry by entry the real numbers
  of `AttnArgs`, for finite arguments.
-/
module

public import proofs.«01_k».proof.Defs
public import proofs.«01_k».proof.Proof.AttnVal4
public import proofs.«01_k».proof.Proof.AttnHost
public import proofs.«01_k».proof.Proof.AttnRef2
public import proofs.«01_k».proof.Proof.ConvClaim
public import proofs.«01_k».proof.Proof.Gen.AttnKernelIdeal
public import proofs.«01_k».proof.Proof.Gen.AttnRefIdeal.Run
public import proofs.«01_k».proof.Proof.Gen.AttnRefIdeal.Read
public import proofs.«01_k».proof.Proof.Gen.Pre_attn_finite

@[expose] public section

set_option maxRecDepth 16384

noncomputable section

namespace Cert.Attn

open Cert.AttnKernelIdeal Cert.AttnKernelIdeal.Gen Idealize.ShloMosaic Idealize.ShloMosaic.TcCoe Idealize.SL.Sem
open Cert.Conv (fin_of_abs ext2 ent ent_of_lt)

section Finite

variable {x0 : FVec Ideal Cert.Pre_attn_finite.S8192x16896 .f32} {x1 : FVec Ideal Cert.Pre_attn_finite.S8192x1024 .f32}
  {x2 : FVec Ideal Cert.Pre_attn_finite.S16x128x256 .f32} {x3 : FVec Ideal Cert.Pre_attn_finite.S16 .f32}

/-- The precondition says that every entry of argument 0 is finite. -/
theorem fin0 (h : (Cert.Pre_attn_finite.fn (F := Ideal) x0 x1 x2 x3).1 = fun _ => 1#1) (a : Fin 8192) (b : Fin 16896) : ∃ r : ℝ, x0 (ix2 a b) = r := by
  have h := congrFun h (ix2 a b)
  unfold Cert.Pre_attn_finite.fn at h
  dsimp only at h
  revert h
  pointwise []
  exact fin_of_abs

/-- The precondition says that every entry of argument 1 is finite. -/
theorem fin1 (h : (Cert.Pre_attn_finite.fn (F := Ideal) x0 x1 x2 x3).2.1 = fun _ => 1#1) (a : Fin 8192) (b : Fin 1024) : ∃ r : ℝ, x1 (ix2 a b) = r := by
  have h := congrFun h (ix2 a b)
  unfold Cert.Pre_attn_finite.fn at h
  dsimp only at h
  revert h
  pointwise []
  exact fin_of_abs

/-- The precondition says that every entry of argument 2 is finite. -/
theorem fin2 (h : (Cert.Pre_attn_finite.fn (F := Ideal) x0 x1 x2 x3).2.2.1 = fun _ => 1#1) (a : Fin 16) (b : Fin 128) (j : Fin 256) : ∃ r : ℝ, x2 (ix3 a b j) = r := by
  have h := congrFun h (ix3 a b j)
  unfold Cert.Pre_attn_finite.fn at h
  dsimp only at h
  revert h
  pointwise []
  exact fin_of_abs

/-- The precondition says that every entry of argument 3 is finite. -/
theorem fin3 (h : (Cert.Pre_attn_finite.fn (F := Ideal) x0 x1 x2 x3).2.2.2 = fun _ => 1#1) (a : Fin 16) : ∃ r : ℝ, x3 (ix1 a) = r := by
  have h := congrFun h (ix1 a)
  unfold Cert.Pre_attn_finite.fn at h
  dsimp only at h
  revert h
  pointwise []
  exact fin_of_abs

end Finite

/-- The arguments as real numbers. -/
def real (x0 : Vec Ideal S8192x16896 .f32) (x1 : Vec Ideal S8192x1024 .f32) (x2 : Vec Ideal S16x128x256 .f32) (x3 : Vec Ideal S16 .f32) : Args where
  u r k := (ent (x0 : S8192x16896.Idx → EReal) r k).toReal
  ct r k := (ent (x1 : S8192x1024.Idx → EReal) r k).toReal
  b h q j := if hh : h < 16 ∧ q < 128 ∧ j < 256 then EReal.toReal (x2 (ix3 ⟨h, hh.1⟩ ⟨q, hh.2.1⟩ ⟨j, hh.2.2⟩)) else 0
  s h := if hh : h < 16 then EReal.toReal (x3 (ix1 ⟨h, hh⟩)) else 0

/-- Finite arguments are those real numbers. -/
theorem holdsR {x0 : Vec Ideal S8192x16896 .f32} {x1 : Vec Ideal S8192x1024 .f32} {x2 : Vec Ideal S16x128x256 .f32} {x3 : Vec Ideal S16 .f32}
    (h0 : ∀ a b, ∃ r : ℝ, @Eq EReal (x0 (ix2 a b)) r) (h1 : ∀ a b, ∃ r : ℝ, @Eq EReal (x1 (ix2 a b)) r)
    (h2 : ∀ a b j, ∃ r : ℝ, @Eq EReal (x2 (ix3 a b j)) r) (h3 : ∀ a, ∃ r : ℝ, @Eq EReal (x3 (ix1 a)) r) :
    HoldsR (real x0 x1 x2 x3) x0 x1 x2 x3 where
  u r k := by
    obtain ⟨v, hv⟩ := h0 r k
    show x0 (ix2 r k) = ((ent (x0 : S8192x16896.Idx → EReal) r.val k.val).toReal : EReal)
    rw [ent_of_lt _ r.isLt k.isLt]
    exact hv.trans (congrArg (fun e : EReal => (e.toReal : EReal)) hv).symm
  ct r k := by
    obtain ⟨v, hv⟩ := h1 r k
    show x1 (ix2 r k) = ((ent (x1 : S8192x1024.Idx → EReal) r.val k.val).toReal : EReal)
    rw [ent_of_lt _ r.isLt k.isLt]
    exact hv.trans (congrArg (fun e : EReal => (e.toReal : EReal)) hv).symm
  b h q j := by
    obtain ⟨v, hv⟩ := h2 h q j
    show x2 (ix3 h q j) = ((dite _ _ _ : ℝ) : EReal)
    rw [dif_pos ⟨h.isLt, q.isLt, j.isLt⟩]
    exact hv.trans (congrArg (fun e : EReal => (e.toReal : EReal)) hv).symm
  s h := by
    obtain ⟨v, hv⟩ := h3 h
    show x3 (ix1 h) = ((dite _ _ _ : ℝ) : EReal)
    rw [dif_pos h.isLt]
    exact hv.trans (congrArg (fun e : EReal => (e.toReal : EReal)) hv).symm

variable (m : (ℓ : Loc nD τ Cert.AttnKernelIdeal.sig) → Buf (Elt Ideal) ℓ)

/-- A device's arguments as real numbers. -/
def realAt (c : Dev nD) : Args :=
  real (m ((c : Thread nD τ).loc main_arg0)) (m ((c : Thread nD τ).loc main_arg1)) (m ((c : Thread nD τ).loc main_arg2)) (m ((c : Thread nD τ).loc main_arg3))

/-- The arrays that the call reads are those real numbers. -/
theorem holds {A : Args} {c : Dev nD} (H : HoldsR A (m ((c : Thread nD τ).loc main_arg0)) (m ((c : Thread nD τ).loc main_arg1))
    (m ((c : Thread nD τ).loc main_arg2)) (m ((c : Thread nD τ).loc main_arg3))) : Holds m A c where
  u r k hr hk := (ent_of_lt _ hr hk).trans (H.u ⟨r, hr⟩ ⟨k, hk⟩)
  ct r k hr hk := (ent_of_lt _ hr hk).trans (H.ct ⟨r, hr⟩ ⟨k, hk⟩)
  s h := H.s h
  o r k hr hk := by
    rw [host_o m c]
    exact (ent_of_lt _ hr hk).trans (r101 H ⟨r, hr⟩ ⟨k, hk⟩)
  b g r j := by
    rw [host_b m c]
    refine (hbias_at _ g r j).trans ?_
    by_cases hj : r.val % 128 < j.val ∧ j.val ≤ 128 + r.val % 128
    · rw [if_pos hj, if_pos hj, Nat.mul_comm 4 g.val]
      exact H.b ⟨g.val * 4 + r.val / 128, by omega⟩ ⟨r.val % 128, by omega⟩ j
    · rw [if_neg hj, if_neg hj]

/-- Two arrays agree when they agree at every entry. -/
theorem ext3 {n0 n1 n2 : ℕ} {α : Type} {x y : (⟨3, ![n0, n1, n2]⟩ : Shape).Idx → α} (h : ∀ a b c, x (ix3 a b c) = y (ix3 a b c)) : x = y := by
  funext j
  obtain ⟨a, b, c, rfl⟩ : ∃ (a : Fin n0) (b : Fin n1) (c : Fin n2), j = ix3 a b c :=
    ⟨j 0, j 1, j 2, funext fun a => by match a with | ⟨0, _⟩ => rfl | ⟨1, _⟩ => rfl | ⟨2, _⟩ => rfl⟩
  exact h a b c

set_option maxHeartbeats 4000000 in
/-- Kernel and reference end with the same five arrays. -/
theorem algebraic : Cert.algebraic_AttnKernelIdeal_AttnRefIdeal_pre_attn_finite := by
  intro m g m' g' hpre hag
  have HR (c : Dev nD) : HoldsR (realAt m c) (m ((c : Thread nD τ).loc main_arg0)) (m ((c : Thread nD τ).loc main_arg1))
      (m ((c : Thread nD τ).loc main_arg2)) (m ((c : Thread nD τ).loc main_arg3)) :=
    holdsR (fin0 (hpre c).1) (fin1 (hpre c).2.1) (fin2 (hpre c).2.2.1) (fin3 (hpre c).2.2.2)
  refine ⟨fun c => arr11 (realAt m c) c, fun c => arr12 (realAt m c) c, fun c => arr13 (realAt m c) c, fun c => arr14 (realAt m c) c,
    fun c => arr15 (realAt m c) c, ?_, ?_⟩
  · refine (θ_run defs _ _).mono (fun r h c => ?_) (θ_run_and (run_main m g) (unchanged m g))
    have H := holds m (HR c)
    have e11 : r.2.mem ((c : Thread nD τ).loc main_v97_0) = arr11 (realAt m c) c := ((h.1 c).1 11).trans (final11 H)
    have e12 : r.2.mem ((c : Thread nD τ).loc main_v97_1) = arr12 (realAt m c) c := ((h.1 c).1 12).trans (final12 H)
    have e13 : r.2.mem ((c : Thread nD τ).loc main_v97_2) = arr13 (realAt m c) c := ((h.1 c).1 13).trans (final13 H)
    have e14 : r.2.mem ((c : Thread nD τ).loc main_v97_3) = arr14 (realAt m c) c := ((h.1 c).1 14).trans (final14 H)
    have e15 : r.2.mem ((c : Thread nD τ).loc main_v97_4) = arr15 (realAt m c) c := ((h.1 c).1 15).trans (final15 H)
    exact ⟨e11, e12, e13, e14, e15, h.2 c⟩
  · refine (θ_run Cert.AttnRefIdeal.defs _ _).mono (fun r h c => ?_) (Cert.AttnRefIdeal.Value.run m' g')
    obtain ⟨ha0, ha1, ha2, ha3⟩ := hag c
    obtain ⟨h0, h1, h2, h3, h4, hk⟩ := h c
    rw [Cert.AttnRefIdeal.Read.val_main_v170_eq] at h0
    rw [Cert.AttnRefIdeal.Read.val_main_v172_eq] at h1
    rw [Cert.AttnRefIdeal.Read.val_main_v173_eq] at h2
    rw [Cert.AttnRefIdeal.Read.val_main_v175_eq] at h3
    rw [Cert.AttnRefIdeal.Read.val_main_v176_eq] at h4
    have k0 : r.2.mem ((c.tc : Thread Cert.AttnRefIdeal.nD Cert.AttnRefIdeal.τ).loc Cert.AttnRefIdeal.main_v170) = Cert.AttnRefIdeal.Read.val_main_v170 (F := Ideal)
        (m ((c : Thread nD τ).loc main_arg0)) (m ((c : Thread nD τ).loc main_arg1)) (m ((c : Thread nD τ).loc main_arg2)) (m ((c : Thread nD τ).loc main_arg3)) := by
      rw [← ha0, ← ha1, ← ha2, ← ha3]; exact h0
    have k1 : r.2.mem ((c.tc : Thread Cert.AttnRefIdeal.nD Cert.AttnRefIdeal.τ).loc Cert.AttnRefIdeal.main_v172) = Cert.AttnRefIdeal.Read.val_main_v172 (F := Ideal)
        (m ((c : Thread nD τ).loc main_arg0)) (m ((c : Thread nD τ).loc main_arg1)) (m ((c : Thread nD τ).loc main_arg2)) (m ((c : Thread nD τ).loc main_arg3)) := by
      rw [← ha0, ← ha1, ← ha2, ← ha3]; exact h1
    have k2 : r.2.mem ((c.tc : Thread Cert.AttnRefIdeal.nD Cert.AttnRefIdeal.τ).loc Cert.AttnRefIdeal.main_v173) = Cert.AttnRefIdeal.Read.val_main_v173 (F := Ideal)
        (m ((c : Thread nD τ).loc main_arg0)) (m ((c : Thread nD τ).loc main_arg1)) (m ((c : Thread nD τ).loc main_arg2)) (m ((c : Thread nD τ).loc main_arg3)) := by
      rw [← ha0, ← ha1, ← ha2, ← ha3]; exact h2
    have k3 : r.2.mem ((c.tc : Thread Cert.AttnRefIdeal.nD Cert.AttnRefIdeal.τ).loc Cert.AttnRefIdeal.main_v175) = Cert.AttnRefIdeal.Read.val_main_v175 (F := Ideal)
        (m ((c : Thread nD τ).loc main_arg0)) (m ((c : Thread nD τ).loc main_arg1)) (m ((c : Thread nD τ).loc main_arg2)) (m ((c : Thread nD τ).loc main_arg3)) := by
      rw [← ha0, ← ha1, ← ha2, ← ha3]; exact h3
    have k4 : r.2.mem ((c.tc : Thread Cert.AttnRefIdeal.nD Cert.AttnRefIdeal.τ).loc Cert.AttnRefIdeal.main_v176) = Cert.AttnRefIdeal.Read.val_main_v176 (F := Ideal)
        (m ((c : Thread nD τ).loc main_arg0)) (m ((c : Thread nD τ).loc main_arg1)) (m ((c : Thread nD τ).loc main_arg2)) (m ((c : Thread nD τ).loc main_arg3)) := by
      rw [← ha0, ← ha1, ← ha2, ← ha3]; exact h4
    refine ⟨k0.trans (ext2 fun a b => r170 (HR c) a b), k1.trans (ext2 fun a b => r172 (HR c) a b), k2.trans (ext3 fun a b j => r173 (HR c) a b j),
      k3.trans (ext2 fun a b => r175 (HR c) a b), k4.trans (ext2 fun a b => r176 (HR c) a b), hk⟩

end Cert.Attn

end
-- ==== Proof.lean ====
/- The proof of every claim about the step's calls: each kernel's frame is the generated one, each reference's is read off
   its run, and the equality of kernel and reference is the last theorem of its own module. -/
module

public import proofs.«01_k».proof.Defs
public import proofs.«01_k».proof.Proof.Gen.ConvKernel.Frame
public import proofs.«01_k».proof.Proof.Gen.ConvKernelIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.WgradKernel.Frame
public import proofs.«01_k».proof.Proof.Gen.WgradKernelIdeal.Value
public import proofs.«01_k».proof.Proof.Gen.WgradRefIdeal
public import proofs.«01_k».proof.Proof.Gen.WgradRefIdeal.Run
public import proofs.«01_k».proof.Proof.Gen.WgradRefIdeal.Read
public import proofs.«01_k».proof.Proof.Gen.XgradKernel.Frame
public import proofs.«01_k».proof.Proof.Gen.XgradKernelIdeal.Value
public import proofs.«01_k».proof.Proof.Gen.XgradRefIdeal
public import proofs.«01_k».proof.Proof.Gen.XgradRefIdeal.Run
public import proofs.«01_k».proof.Proof.Gen.XgradRefIdeal.Read
public import proofs.«01_k».proof.Proof.Gen.ProjKernel.Frame
public import proofs.«01_k».proof.Proof.Gen.ProjKernelIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.GoutKernel.Frame
public import proofs.«01_k».proof.Proof.Gen.GoutKernelIdeal.Value
public import proofs.«01_k».proof.Proof.Gen.GoutRefIdeal
public import proofs.«01_k».proof.Proof.Gen.GoutRefIdeal.Run
public import proofs.«01_k».proof.Proof.Gen.GoutRefIdeal.Read
public import proofs.«01_k».proof.Proof.Gen.GprojKernel.Frame
public import proofs.«01_k».proof.Proof.Gen.GprojKernelIdeal.Value
public import proofs.«01_k».proof.Proof.Gen.GprojRefIdeal
public import proofs.«01_k».proof.Proof.Gen.GprojRefIdeal.Run
public import proofs.«01_k».proof.Proof.Gen.GprojRefIdeal.Read
public import proofs.«01_k».proof.Proof.Gen.DpKernel.Frame
public import proofs.«01_k».proof.Proof.Gen.DpKernelIdeal.Value
public import proofs.«01_k».proof.Proof.Gen.DpRefIdeal
public import proofs.«01_k».proof.Proof.Gen.DpRefIdeal.Run
public import proofs.«01_k».proof.Proof.Gen.DpRefIdeal.Read
public import proofs.«01_k».proof.Proof.Gen.BranchKernel.Frame
public import proofs.«01_k».proof.Proof.Gen.BranchKernelIdeal.Value
public import proofs.«01_k».proof.Proof.Gen.BranchRefIdeal
public import proofs.«01_k».proof.Proof.Gen.BranchRefIdeal.Run
public import proofs.«01_k».proof.Proof.Gen.BranchRefIdeal.Read
public import proofs.«01_k».proof.Proof.Gen.AttnKernel.Skeleton
public import proofs.«01_k».proof.Proof.AttnBitsFrame
public import proofs.«01_k».proof.Proof.Gen.AttnKernel.Frame
public import proofs.«01_k».proof.Proof.Gen.AttnKernelIdeal.Skeleton
public import proofs.«01_k».proof.Proof.Gen.AttnKernelIdeal.Frame
public import proofs.«01_k».proof.Proof.AttnFrame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_conv_finite
public import proofs.«01_k».proof.Proof.Gen.Pre_attn_finite
public import proofs.«01_k».proof.Proof.ConvClaim
public import proofs.«01_k».proof.Proof.Wgrad
public import proofs.«01_k».proof.Proof.Xgrad
public import proofs.«01_k».proof.Proof.Proj
public import proofs.«01_k».proof.Proof.Gout
public import proofs.«01_k».proof.Proof.Gproj
public import proofs.«01_k».proof.Proof.Dp
public import proofs.«01_k».proof.Proof.Branch
public import proofs.«01_k».proof.Proof.AttnClaim
public import Idealize.ShloMosaic.Lib.Quiescent
public import Idealize.ShloMosaic.Adequacy
public import Idealize.ShloMosaic.Init

@[expose] public section

noncomputable section

namespace Cert.Proof

open Idealize.ShloMosaic Idealize.SL.Sem

/-- The reference `ConvRefIdeal` leaves its arguments, and has no semaphore. -/
theorem frame_conv_ref (m : (ℓ : Loc Cert.ConvRefIdeal.nD Cert.ConvRefIdeal.τ Cert.ConvRefIdeal.sig) → Buf (Elt Ideal) ℓ) (g : Dev Cert.ConvRefIdeal.nD → PrngReg) :
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0) :=
  (θ_run Cert.ConvRefIdeal.defs _ _).mono (fun r h => ⟨fun c => (h c).2.2.2.2.2, sem_eq_zero_of_no_sems (by decide) r.2⟩)
    (Cert.ConvRefIdeal.Value.run (F := Ideal) m g)

/-- The reference `WgradRefIdeal` leaves its arguments, and has no semaphore. -/
theorem frame_wgrad_ref (m : (ℓ : Loc Cert.WgradRefIdeal.nD Cert.WgradRefIdeal.τ Cert.WgradRefIdeal.sig) → Buf (Elt Ideal) ℓ) (g : Dev Cert.WgradRefIdeal.nD → PrngReg) :
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0) :=
  (θ_run Cert.WgradRefIdeal.defs _ _).mono (fun r h => ⟨fun c => (h c).2, sem_eq_zero_of_no_sems (by decide) r.2⟩)
    (Cert.WgradRefIdeal.Value.run (F := Ideal) m g)

/-- The reference `XgradRefIdeal` leaves its arguments, and has no semaphore. -/
theorem frame_xgrad_ref (m : (ℓ : Loc Cert.XgradRefIdeal.nD Cert.XgradRefIdeal.τ Cert.XgradRefIdeal.sig) → Buf (Elt Ideal) ℓ) (g : Dev Cert.XgradRefIdeal.nD → PrngReg) :
    θ_run (Cert.XgradRefIdeal.defs (F := Ideal)) (onTc (τ := Cert.XgradRefIdeal.τ) (Cert.XgradRefIdeal.main (F := Ideal))) ⟨m, fun _ => 0, g⟩ (fun r => (∀ c : Dev Cert.XgradRefIdeal.nD,
      r.2.mem ((c.tc : Thread Cert.XgradRefIdeal.nD Cert.XgradRefIdeal.τ).loc Cert.XgradRefIdeal.main_arg0) = m ((c.tc : Thread Cert.XgradRefIdeal.nD Cert.XgradRefIdeal.τ).loc Cert.XgradRefIdeal.main_arg0)
      ∧ r.2.mem ((c.tc : Thread Cert.XgradRefIdeal.nD Cert.XgradRefIdeal.τ).loc Cert.XgradRefIdeal.main_arg1) = m ((c.tc : Thread Cert.XgradRefIdeal.nD Cert.XgradRefIdeal.τ).loc Cert.XgradRefIdeal.main_arg1)
      ∧ r.2.mem ((c.tc : Thread Cert.XgradRefIdeal.nD Cert.XgradRefIdeal.τ).loc Cert.XgradRefIdeal.main_arg2) = m ((c.tc : Thread Cert.XgradRefIdeal.nD Cert.XgradRefIdeal.τ).loc Cert.XgradRefIdeal.main_arg2))
      ∧ r.2.sem = fun _ => 0) :=
  (θ_run Cert.XgradRefIdeal.defs _ _).mono (fun r h => ⟨fun c => (h c).2, sem_eq_zero_of_no_sems (by decide) r.2⟩)
    (Cert.XgradRefIdeal.Value.run (F := Ideal) m g)

/-- The reference `ProjRefIdeal` leaves its arguments, and has no semaphore. -/
theorem frame_proj_ref (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0) :=
  (θ_run Cert.ProjRefIdeal.defs _ _).mono (fun r h => ⟨fun c => (h c).2, sem_eq_zero_of_no_sems (by decide) r.2⟩)
    (Cert.ProjRefIdeal.Value.run (F := Ideal) m g)

/-- The reference `GoutRefIdeal` leaves its arguments, and has no semaphore. -/
theorem frame_gout_ref (m : (ℓ : Loc Cert.GoutRefIdeal.nD Cert.GoutRefIdeal.τ Cert.GoutRefIdeal.sig) → Buf (Elt Ideal) ℓ) (g : Dev Cert.GoutRefIdeal.nD → PrngReg) :
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0) :=
  (θ_run Cert.GoutRefIdeal.defs _ _).mono (fun r h => ⟨fun c => (h c).2, sem_eq_zero_of_no_sems (by decide) r.2⟩)
    (Cert.GoutRefIdeal.Value.run (F := Ideal) m g)

/-- The reference `GprojRefIdeal` leaves its arguments, and has no semaphore. -/
theorem frame_gproj_ref (m : (ℓ : Loc Cert.GprojRefIdeal.nD Cert.GprojRefIdeal.τ Cert.GprojRefIdeal.sig) → Buf (Elt Ideal) ℓ) (g : Dev Cert.GprojRefIdeal.nD → PrngReg) :
    θ_run (Cert.GprojRefIdeal.defs (F := Ideal)) (onTc (τ := Cert.GprojRefIdeal.τ) (Cert.GprojRefIdeal.main (F := Ideal))) ⟨m, fun _ => 0, g⟩ (fun r => (∀ c : Dev Cert.GprojRefIdeal.nD,
      r.2.mem ((c.tc : Thread Cert.GprojRefIdeal.nD Cert.GprojRefIdeal.τ).loc Cert.GprojRefIdeal.main_arg0) = m ((c.tc : Thread Cert.GprojRefIdeal.nD Cert.GprojRefIdeal.τ).loc Cert.GprojRefIdeal.main_arg0)
      ∧ r.2.mem ((c.tc : Thread Cert.GprojRefIdeal.nD Cert.GprojRefIdeal.τ).loc Cert.GprojRefIdeal.main_arg1) = m ((c.tc : Thread Cert.GprojRefIdeal.nD Cert.GprojRefIdeal.τ).loc Cert.GprojRefIdeal.main_arg1))
      ∧ r.2.sem = fun _ => 0) :=
  (θ_run Cert.GprojRefIdeal.defs _ _).mono (fun r h => ⟨fun c => (h c).2, sem_eq_zero_of_no_sems (by decide) r.2⟩)
    (Cert.GprojRefIdeal.Value.run (F := Ideal) m g)

/-- The reference `DpRefIdeal` leaves its arguments, and has no semaphore. -/
theorem frame_dp_ref (m : (ℓ : Loc Cert.DpRefIdeal.nD Cert.DpRefIdeal.τ Cert.DpRefIdeal.sig) → Buf (Elt Ideal) ℓ) (g : Dev Cert.DpRefIdeal.nD → PrngReg) :
    θ_run (Cert.DpRefIdeal.defs (F := Ideal)) (onTc (τ := Cert.DpRefIdeal.τ) (Cert.DpRefIdeal.main (F := Ideal))) ⟨m, fun _ => 0, g⟩ (fun r => (∀ c : Dev Cert.DpRefIdeal.nD,
      r.2.mem ((c.tc : Thread Cert.DpRefIdeal.nD Cert.DpRefIdeal.τ).loc Cert.DpRefIdeal.main_arg0) = m ((c.tc : Thread Cert.DpRefIdeal.nD Cert.DpRefIdeal.τ).loc Cert.DpRefIdeal.main_arg0)
      ∧ r.2.mem ((c.tc : Thread Cert.DpRefIdeal.nD Cert.DpRefIdeal.τ).loc Cert.DpRefIdeal.main_arg1) = m ((c.tc : Thread Cert.DpRefIdeal.nD Cert.DpRefIdeal.τ).loc Cert.DpRefIdeal.main_arg1))
      ∧ r.2.sem = fun _ => 0) :=
  (θ_run Cert.DpRefIdeal.defs _ _).mono (fun r h => ⟨fun c => (h c).2, sem_eq_zero_of_no_sems (by decide) r.2⟩)
    (Cert.DpRefIdeal.Value.run (F := Ideal) m g)

/-- The reference `BranchRefIdeal` leaves its arguments, and has no semaphore. -/
theorem frame_branch_ref (m : (ℓ : Loc Cert.BranchRefIdeal.nD Cert.BranchRefIdeal.τ Cert.BranchRefIdeal.sig) → Buf (Elt Ideal) ℓ) (g : Dev Cert.BranchRefIdeal.nD → PrngReg) :
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0) :=
  (θ_run Cert.BranchRefIdeal.defs _ _).mono (fun r h => ⟨fun c => (h c).2, sem_eq_zero_of_no_sems (by decide) r.2⟩)
    (Cert.BranchRefIdeal.Value.run (F := Ideal) m g)

/-- The reference `AttnRefIdeal` leaves its arguments, and has no semaphore. -/
theorem frame_attn_ref (m : (ℓ : Loc Cert.AttnRefIdeal.nD Cert.AttnRefIdeal.τ Cert.AttnRefIdeal.sig) → Buf (Elt Ideal) ℓ) (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0) :=
  (θ_run Cert.AttnRefIdeal.defs _ _).mono (fun r h => ⟨fun c => (h c).2.2.2.2.2, sem_eq_zero_of_no_sems (by decide) r.2⟩)
    (Cert.AttnRefIdeal.Value.run (F := Ideal) m g)

/-- All claims. -/
theorem claim : Cert.Claim := ⟨Cert.ConvKernel.Gen.facts, Cert.ConvKernelIdeal.Gen.facts, Cert.ConvRefIdeal.Gen.facts, Cert.WgradKernel.Gen.facts, Cert.WgradKernelIdeal.Gen.facts, Cert.WgradRefIdeal.Gen.facts, Cert.XgradKernel.Gen.facts, Cert.XgradKernelIdeal.Gen.facts, Cert.XgradRefIdeal.Gen.facts, Cert.ProjKernel.Gen.facts, Cert.ProjKernelIdeal.Gen.facts, Cert.ProjRefIdeal.Gen.facts, Cert.GoutKernel.Gen.facts, Cert.GoutKernelIdeal.Gen.facts, Cert.GoutRefIdeal.Gen.facts, Cert.GprojKernel.Gen.facts, Cert.GprojKernelIdeal.Gen.facts, Cert.GprojRefIdeal.Gen.facts, Cert.DpKernel.Gen.facts, Cert.DpKernelIdeal.Gen.facts, Cert.DpRefIdeal.Gen.facts, Cert.BranchKernel.Gen.facts, Cert.BranchKernelIdeal.Gen.facts, Cert.BranchRefIdeal.Gen.facts, Cert.AttnKernel.Gen.facts, Cert.AttnKernelIdeal.Gen.facts, Cert.AttnRefIdeal.Gen.facts, Cert.Pre_conv_finite.Gen.facts, Cert.Pre_attn_finite.Gen.facts,
  fun m g _ => Cert.ConvKernel.Gen.frame m g,
  fun m g _ => Cert.ConvKernelIdeal.Gen.frame m g,
  fun m g _ => Cert.ConvKernelIdeal.Gen.frame m g,
  fun m g _ => frame_conv_ref m g,
  fun m g _ => frame_conv_ref m g,
  fun m g _ => Cert.WgradKernel.Gen.frame m g,
  fun m g _ => Cert.WgradKernelIdeal.Gen.frame m g,
  fun m g _ => frame_wgrad_ref m g,
  fun m g _ => Cert.XgradKernel.Gen.frame m g,
  fun m g _ => Cert.XgradKernelIdeal.Gen.frame m g,
  fun m g _ => frame_xgrad_ref m g,
  fun m g _ => Cert.ProjKernel.Gen.frame m g,
  fun m g _ => Cert.ProjKernelIdeal.Gen.frame m g,
  fun m g _ => frame_proj_ref m g,
  fun m g _ => Cert.GoutKernel.Gen.frame m g,
  fun m g _ => Cert.GoutKernelIdeal.Gen.frame m g,
  fun m g _ => frame_gout_ref m g,
  fun m g _ => Cert.GprojKernel.Gen.frame m g,
  fun m g _ => Cert.GprojKernelIdeal.Gen.frame m g,
  fun m g _ => frame_gproj_ref m g,
  fun m g _ => Cert.DpKernel.Gen.frame m g,
  fun m g _ => Cert.DpKernelIdeal.Gen.frame m g,
  fun m g _ => frame_dp_ref m g,
  fun m g _ => Cert.BranchKernel.Gen.frame m g,
  fun m g _ => Cert.BranchKernelIdeal.Gen.frame m g,
  fun m g _ => frame_branch_ref m g,
  fun m g _ => Cert.AttnKernel.Gen.frame m g,
  fun m g _ => Cert.AttnKernelIdeal.Gen.frame m g,
  fun m g _ => Cert.AttnKernelIdeal.Gen.frame m g,
  fun m g _ => frame_attn_ref m g,
  fun m g _ => frame_attn_ref m g,
  trivial,
  Cert.Conv.algebraic,
  trivial,
  Cert.Wgrad.algebraic,
  trivial,
  Cert.Xgrad.algebraic,
  trivial,
  Cert.Proj.algebraic,
  trivial,
  Cert.Gout.algebraic,
  trivial,
  Cert.Gproj.algebraic,
  trivial,
  Cert.Dp.algebraic,
  trivial,
  Cert.Branch.algebraic,
  trivial,
  Cert.Attn.algebraic⟩

end Cert.Proof

end
